-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_scales2_in_range [hPre_scales2_in_range : Cert.Pre_scales2_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scales2_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scales2_in_range [hPre_scales2_in_range : Cert.Pre_scales2_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scales2_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_scales2_in_range [hKernel2Ideal : Cert.Kernel2Ideal.Facts] [hPre_scales2_in_range : Cert.Pre_scales2_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_scales2_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_scales2_in_range [hReference2Ideal : Cert.Reference2Ideal.Facts] [hPre_scales2_in_range : Cert.Pre_scales2_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scales2_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  IdealRules.bf16_pair.BufferStatement Cert.KernelIdeal.S16x2x3072 Cert.KernelIdeal.S16x1x3072
  ∧ IdealRules.bf16_pair.PackStatement Cert.KernelIdeal.S16x128
  ∧ IdealRules.bf16_pair.Statement Cert.KernelIdeal.S16x2x128 Cert.KernelIdeal.S16x1x128
  ∧ IdealRules.bf16_pair.Statement Cert.KernelIdeal.S16x2x256 Cert.KernelIdeal.S16x1x256
  ∧ IdealRules.bf16_pair.Statement Cert.KernelIdeal.S32x256 Cert.KernelIdeal.S16x256
  ∧ IdealRules.named_const.Statement Cert.KernelIdeal.κ "inv_sqrt2" .f32 0x3F3504F3#32 (((Real.sqrt 2)⁻¹ : ℝ) : EReal)
  ∧ IdealRules.named_const.Statement Cert.KernelIdeal.κ "inv_fp8_max" .f32 0x3B124925#32 ((1 / 448 : ℝ) : EReal)
  ∧ IdealRules.bf16_pair.Statement Cert.KernelIdeal.S32x128 Cert.KernelIdeal.S16x128

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.bf16_pair.BufferStatement Cert.Kernel2Ideal.S16x2x5120 Cert.Kernel2Ideal.S16x1x5120
  ∧ IdealRules.bf16_pair.PackStatement Cert.Kernel2Ideal.S16x128
  ∧ IdealRules.bf16_pair.Statement Cert.Kernel2Ideal.S16x2x128 Cert.Kernel2Ideal.S16x1x128
  ∧ IdealRules.bf16_pair.Statement Cert.Kernel2Ideal.S16x2x256 Cert.Kernel2Ideal.S16x1x256
  ∧ IdealRules.bf16_pair.Statement Cert.Kernel2Ideal.S32x256 Cert.Kernel2Ideal.S16x256

def algebraic_Kernel2Ideal_Reference2Ideal_pre_scales2_in_range [hKernel2Ideal : Cert.Kernel2Ideal.Facts] [hReference2Ideal : Cert.Reference2Ideal.Facts] [hPre_scales2_in_range : Cert.Pre_scales2_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_scales2_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v97) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_scales_in_range : Cert.Pre_scales_in_range.Facts) (hPre_scales2_in_range : Cert.Pre_scales2_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ quiescent_Kernel2 (hKernel2 := hKernel2)
    ∧ quiescent_Kernel2Ideal (hKernel2Ideal := hKernel2Ideal)
    ∧ quiescent_Kernel2Ideal_pre_scales2_in_range (hKernel2Ideal := hKernel2Ideal) (hPre_scales2_in_range := hPre_scales2_in_range)
    ∧ quiescent_Reference2Ideal (hReference2Ideal := hReference2Ideal)
    ∧ quiescent_Reference2Ideal_pre_scales2_in_range (hReference2Ideal := hReference2Ideal) (hPre_scales2_in_range := hPre_scales2_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
    ∧ preserves_Kernel2_Kernel2Ideal
    ∧ algebraic_Kernel2Ideal_Reference2Ideal_pre_scales2_in_range (hKernel2Ideal := hKernel2Ideal) (hReference2Ideal := hReference2Ideal) (hPre_scales2_in_range := hPre_scales2_in_range)
-- ==== Pre_scales2_in_range.lean ====
abbrev S16x16x4x2560 : Shape := ⟨4, ![16, 16, 4, 2560]⟩
abbrev S16x16x4 : Shape := ⟨3, ![16, 16, 4]⟩
abbrev S16x4x2560x768 : Shape := ⟨4, ![16, 4, 2560, 768]⟩
abbrev S16x4x80x1536 : Shape := ⟨4, ![16, 4, 80, 1536]⟩
abbrev S_ : Shape := ⟨0, ![]⟩

class Facts : Prop where
  bcast_S_S16x4x80x1536 : S_.BroadcastsInDim S16x4x80x1536 (![] : Fin 0 → Fin S16x4x80x1536.rank)
  reducesTo_S16x4x80x1536_S_d0_1_2_3 : S16x4x80x1536.ReducesTo [0, 1, 2, 3] S_
  h_S_ : 0 < S_.numel

variable [Facts]

def fn {F : FTy → Type} [FloatOps F] (main_arg0 : FVec F S16x16x4x2560 .f32) (main_arg1 : FVec F S16x16x4 .f32) (main_arg2 : IVec S16x4x2560x768 8) (main_arg3 : IVec S16x4x80x1536 8) : IVec S_ 1 :=
  let main_c : IVec S_ 8 := constantI S_ 8 250#8
  let main_v0 : IVec S16x4x80x1536 8 := broadcastInDim S16x4x80x1536 ![] bcast_S_S16x4x80x1536 main_c
  let main_v1 : IVec S16x4x80x1536 1 := cmpi .ult main_arg3 main_v0
  let main_c_0 : IVec S_ 1 := constantI S_ 1 1#1
  let main_v2 : IVec S_ 1 := (fun x v => Host.reduce IntOp.andi x v reducesTo_S16x4x80x1536_S_d0_1_2_3 h_S_) main_v1 main_c_0
  main_v2
-- ==== Pre_scales_in_range.lean ====
abbrev S16x16x1536 : Shape := ⟨3, ![16, 16, 1536]⟩
abbrev S16x16 : Shape := ⟨2, ![16, 16]⟩
abbrev S16x4x16 : Shape := ⟨3, ![16, 4, 16]⟩
abbrev S16x4x1536x1280 : Shape := ⟨4, ![16, 4, 1536, 1280]⟩
abbrev S16x4x48x2560 : Shape := ⟨4, ![16, 4, 48, 2560]⟩
abbrev S16x4x2560 : Shape := ⟨3, ![16, 4, 2560]⟩
abbrev S_ : Shape := ⟨0, ![]⟩

class Facts : Prop where
  bcast_S_S16x4x48x2560 : S_.BroadcastsInDim S16x4x48x2560 (![] : Fin 0 → Fin S16x4x48x2560.rank)
  reducesTo_S16x4x48x2560_S_d0_1_2_3 : S16x4x48x2560.ReducesTo [0, 1, 2, 3] S_
  h_S_ : 0 < S_.numel

variable [Facts]

def fn {F : FTy → Type} [FloatOps F] (main_arg0 : FVec F S16x16x1536 .f32) (main_arg1 : FVec F S16x16 .f32) (main_arg2 : FVec F S16x4x16 .f32) (main_arg3 : IVec S16x4x1536x1280 8) (main_arg4 : IVec S16x4x48x2560 8) (main_arg5 : FVec F S16x4x2560 .f32) : IVec S_ 1 :=
  let main_c : IVec S_ 8 := constantI S_ 8 250#8
  let main_v0 : IVec S16x4x48x2560 8 := broadcastInDim S16x4x48x2560 ![] bcast_S_S16x4x48x2560 main_c
  let main_v1 : IVec S16x4x48x2560 1 := cmpi .ult main_arg4 main_v0
  let main_c_0 : IVec S_ 1 := constantI S_ 1 1#1
  let main_v2 : IVec S_ 1 := (fun x v => Host.reduce IntOp.andi x v reducesTo_S16x4x48x2560_S_d0_1_2_3 h_S_) main_v1 main_c_0
  main_v2
-- ==== Kernel.lean ====
abbrev S16x16x1536 : Shape := ⟨3, ![16, 16, 1536]⟩
abbrev S16x16 : Shape := ⟨2, ![16, 16]⟩
abbrev S16x4x16 : Shape := ⟨3, ![16, 4, 16]⟩
abbrev S16x4x1536x1280 : Shape := ⟨4, ![16, 4, 1536, 1280]⟩
abbrev S16x4x48x2560 : Shape := ⟨4, ![16, 4, 48, 2560]⟩
abbrev S16x4x2560 : Shape := ⟨3, ![16, 4, 2560]⟩
abbrev S16x16x12x128 : Shape := ⟨4, ![16, 16, 12, 128]⟩
abbrev S16x12x16x128 : Shape := ⟨4, ![16, 12, 16, 128]⟩
abbrev S16x16x1x1 : Shape := ⟨4, ![16, 16, 1, 1]⟩
abbrev S16x16x2x128 : Shape := ⟨4, ![16, 16, 2, 128]⟩
abbrev S16x32x128 : Shape := ⟨3, ![16, 32, 128]⟩
abbrev S16x4x16x1x1 : Shape := ⟨5, ![16, 4, 16, 1, 1]⟩
abbrev S16x4x16x2x128 : Shape := ⟨5, ![16, 4, 16, 2, 128]⟩
abbrev S16x4x32x128 : Shape := ⟨4, ![16, 4, 32, 128]⟩
abbrev S16x4x1x1280x2 : Shape := ⟨5, ![16, 4, 1, 1280, 2]⟩
abbrev S16x4x1x2x1280 : Shape := ⟨5, ![16, 4, 1, 2, 1280]⟩
abbrev S16x4x4x2x1280 : Shape := ⟨5, ![16, 4, 4, 2, 1280]⟩
abbrev S16x4x8x1280 : Shape := ⟨4, ![16, 4, 8, 1280]⟩
abbrev S16x4x16x128 : Shape := ⟨4, ![16, 4, 16, 128]⟩
abbrev S16x4x20x16x128 : Shape := ⟨5, ![16, 4, 20, 16, 128]⟩
abbrev S1x12x16x128 : Shape := ⟨4, ![1, 12, 16, 128]⟩
abbrev S1x32x128 : Shape := ⟨3, ![1, 32, 128]⟩
abbrev S1x1x32x128 : Shape := ⟨4, ![1, 1, 32, 128]⟩
abbrev S1x1x1536x1280 : Shape := ⟨4, ![1, 1, 1536, 1280]⟩
abbrev S1x1x48x2560 : Shape := ⟨4, ![1, 1, 48, 2560]⟩
abbrev S1x1x8x1280 : Shape := ⟨4, ![1, 1, 8, 1280]⟩
abbrev S1x1x16x128 : Shape := ⟨4, ![1, 1, 16, 128]⟩
abbrev S1x1x20x16x128 : Shape := ⟨5, ![1, 1, 20, 16, 128]⟩
abbrev S16x3072 : Shape := ⟨2, ![16, 3072]⟩
abbrev S4x12x1280 : Shape := ⟨3, ![4, 12, 1280]⟩
abbrev S10x32x128 : Shape := ⟨3, ![10, 32, 128]⟩
abbrev S32x128 : Shape := ⟨2, ![32, 128]⟩
abbrev S16x128 : Shape := ⟨2, ![16, 128]⟩
abbrev S16x128x1 : Shape := ⟨3, ![16, 128, 1]⟩
abbrev S48x2560 : Shape := ⟨2, ![48, 2560]⟩
abbrev S12x2560 : Shape := ⟨2, ![12, 2560]⟩
abbrev S12x128 : Shape := ⟨2, ![12, 128]⟩
abbrev S12x128x1 : Shape := ⟨3, ![12, 128, 1]⟩
abbrev S1x12x128 : Shape := ⟨3, ![1, 12, 128]⟩
abbrev S1x1x128x256 : Shape := ⟨4, ![1, 1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S32x256 : Shape := ⟨2, ![32, 256]⟩
abbrev S64x256 : Shape := ⟨2, ![64, 256]⟩
abbrev S16x256 : Shape := ⟨2, ![16, 256]⟩
abbrev S1x1x8x128 : Shape := ⟨4, ![1, 1, 8, 128]⟩
abbrev S8x128 : Shape := ⟨2, ![8, 128]⟩
abbrev S32 : Shape := ⟨1, ![32]⟩
abbrev S32x1 : Shape := ⟨2, ![32, 1]⟩
abbrev S32x128x1 : Shape := ⟨3, ![32, 128, 1]⟩
abbrev S1x1x1x16x128 : Shape := ⟨5, ![1, 1, 1, 16, 128]⟩

abbrev nBuf : Space → Nat
  | .hbm => 23
  | .vmem => 22
  | .smem => 0
  | _ => 0

abbrev bufTy : (tb : Table) → Fin (tcTables nBuf tb) → BufTy
  | .hbm, ⟨0, _⟩ => ⟨S16x16x1536, .f32⟩
  | .hbm, ⟨1, _⟩ => ⟨S16x16, .f32⟩
  | .hbm, ⟨2, _⟩ => ⟨S16x4x16, .f32⟩
  | .hbm, ⟨3, _⟩ => ⟨S16x4x1536x1280, .i8⟩
  | .hbm, ⟨4, _⟩ => ⟨S16x4x48x2560, .i8⟩
  | .hbm, ⟨5, _⟩ => ⟨S16x4x2560, .f32⟩
  | .hbm, ⟨6, _⟩ => ⟨S16x16x12x128, .f32⟩
  | .hbm, ⟨7, _⟩ => ⟨S16x12x16x128, .f32⟩
  | .hbm, ⟨8, _⟩ => ⟨S16x16, .f32⟩
  | .hbm, ⟨9, _⟩ => ⟨S16x16x1x1, .f32⟩
  | .hbm, ⟨10, _⟩ => ⟨S16x16x2x128, .f32⟩
  | .hbm, ⟨11, _⟩ => ⟨S16x32x128, .f32⟩
  | .hbm, ⟨12, _⟩ => ⟨S16x4x16, .f32⟩
  | .hbm, ⟨13, _⟩ => ⟨S16x4x16x1x1, .f32⟩
  | .hbm, ⟨14, _⟩ => ⟨S16x4x16x2x128, .f32⟩
  | .hbm, ⟨15, _⟩ => ⟨S16x4x32x128, .f32⟩
  | .hbm, ⟨16, _⟩ => ⟨S16x4x1x1280x2, .f32⟩
  | .hbm, ⟨17, _⟩ => ⟨S16x4x1x2x1280, .f32⟩
  | .hbm, ⟨18, _⟩ => ⟨S16x4x4x2x1280, .f32⟩
  | .hbm, ⟨19, _⟩ => ⟨S16x4x8x1280, .f32⟩
  | .hbm, ⟨20, _⟩ => ⟨S16x4x16x128, .f32⟩
  | .hbm, ⟨21, _⟩ => ⟨S16x4x16x128, .f32⟩
  | .hbm, ⟨22, _⟩ => ⟨S16x4x20x16x128, .f32⟩
  | .local _ .vmem, ⟨0, _⟩ => ⟨S1x12x16x128, .f32⟩
  | .local _ .vmem, ⟨1, _⟩ => ⟨S1x12x16x128, .f32⟩
  | .local _ .vmem, ⟨2, _⟩ => ⟨S1x32x128, .f32⟩
  | .local _ .vmem, ⟨3, _⟩ => ⟨S1x32x128, .f32⟩
  | .local _ .vmem, ⟨4, _⟩ => ⟨S1x1x32x128, .f32⟩
  | .local _ .vmem, ⟨5, _⟩ => ⟨S1x1x32x128, .f32⟩
  | .local _ .vmem, ⟨6, _⟩ => ⟨S1x1x1536x1280, .i8⟩
  | .local _ .vmem, ⟨7, _⟩ => ⟨S1x1x1536x1280, .i8⟩
  | .local _ .vmem, ⟨8, _⟩ => ⟨S1x1x48x2560, .i8⟩
  | .local _ .vmem, ⟨9, _⟩ => ⟨S1x1x48x2560, .i8⟩
  | .local _ .vmem, ⟨10, _⟩ => ⟨S1x1x8x1280, .f32⟩
  | .local _ .vmem, ⟨11, _⟩ => ⟨S1x1x8x1280, .f32⟩
  | .local _ .vmem, ⟨12, _⟩ => ⟨S1x1x16x128, .f32⟩
  | .local _ .vmem, ⟨13, _⟩ => ⟨S1x1x16x128, .f32⟩
  | .local _ .vmem, ⟨14, _⟩ => ⟨S1x1x16x128, .f32⟩
  | .local _ .vmem, ⟨15, _⟩ => ⟨S1x1x16x128, .f32⟩
  | .local _ .vmem, ⟨16, _⟩ => ⟨S1x1x20x16x128, .f32⟩
  | .local _ .vmem, ⟨17, _⟩ => ⟨S1x1x20x16x128, .f32⟩
  | .local _ .vmem, ⟨18, _⟩ => ⟨S16x3072, .i32⟩
  | .local _ .vmem, ⟨19, _⟩ => ⟨S4x12x1280, .i32⟩
  | .local _ .vmem, ⟨20, _⟩ => ⟨S10x32x128, .f32⟩
  | .local _ .vmem, ⟨21, _⟩ => ⟨S32x128, .f32⟩
  | _, _ => ⟨S16x16x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨1, ![64], ![false]⟩

def cc0_transform_0 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_8 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

abbrev stage0_0 : Fin 2 → Memref sig .tc .vmem S1x12x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x48x2560 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x20x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S16x2x3072 : Shape := ⟨3, ![16, 2, 3072]⟩
abbrev S16x1x3072 : Shape := ⟨3, ![16, 1, 3072]⟩
abbrev S16x2x128 : Shape := ⟨3, ![16, 2, 128]⟩
abbrev S16x1x128 : Shape := ⟨3, ![16, 1, 128]⟩
abbrev S16x2x256 : Shape := ⟨3, ![16, 2, 256]⟩
abbrev S16x1x256 : Shape := ⟨3, ![16, 1, 256]⟩
  | .local _ .vmem, ⟨18, _⟩ => ⟨S16x2x3072, .bf16⟩
variable {F : FTy → Type} [FloatOps F] [Named F]
def κ : String → Option EReal := fun
  | "inv_fp8_max" => some ((1 / 448 : ℝ) : EReal)
  | "inv_sqrt2" => some (((Real.sqrt 2)⁻¹ : ℝ) : EReal)
  | _ => none
-- ==== ReferenceIdeal.lean ====
abbrev S16x16x1536 : Shape := ⟨3, ![16, 16, 1536]⟩
abbrev S16x16 : Shape := ⟨2, ![16, 16]⟩
abbrev S16x4x16 : Shape := ⟨3, ![16, 4, 16]⟩
abbrev S16x4x1536x1280 : Shape := ⟨4, ![16, 4, 1536, 1280]⟩
abbrev S16x4x48x2560 : Shape := ⟨4, ![16, 4, 48, 2560]⟩
abbrev S16x4x2560 : Shape := ⟨3, ![16, 4, 2560]⟩
abbrev S_ : Shape := ⟨0, ![]⟩
abbrev S16x4x48x1280 : Shape := ⟨4, ![16, 4, 48, 1280]⟩
abbrev S16x4x48x32x1280 : Shape := ⟨5, ![16, 4, 48, 32, 1280]⟩
abbrev S16x4x48x1x1280 : Shape := ⟨5, ![16, 4, 48, 1, 1280]⟩
abbrev S16x4x1280x16 : Shape := ⟨4, ![16, 4, 1280, 16]⟩
abbrev S16x4x16x1280 : Shape := ⟨4, ![16, 4, 16, 1280]⟩
abbrev S16x4x16x1280x1 : Shape := ⟨5, ![16, 4, 16, 1280, 1]⟩
abbrev S16x4x16x1280x2 : Shape := ⟨5, ![16, 4, 16, 1280, 2]⟩
abbrev S16x4x16x2560 : Shape := ⟨4, ![16, 4, 16, 2560]⟩
abbrev S16x1x16x1 : Shape := ⟨4, ![16, 1, 16, 1]⟩
abbrev S16x4x1x2560 : Shape := ⟨4, ![16, 4, 1, 2560]⟩
abbrev S16x4x16x1 : Shape := ⟨4, ![16, 4, 16, 1]⟩
abbrev S16x4x16x20x128 : Shape := ⟨5, ![16, 4, 16, 20, 128]⟩
abbrev S16x4x20x16x128 : Shape := ⟨5, ![16, 4, 20, 16, 128]⟩
abbrev S16x4x16x128 : Shape := ⟨4, ![16, 4, 16, 128]⟩

abbrev nBuf : Space → Nat
  | .hbm => 178
  | .vmem => 0
  | .smem => 0
  | _ => 0

abbrev hbmTy0_0 (i : Nat) : BufTy := match i % 128 with
  | 0 => ⟨S16x16x1536, .f32⟩
  | 1 => ⟨S16x16, .f32⟩
  | 2 => ⟨S16x4x16, .f32⟩
  | 3 => ⟨S16x4x1536x1280, .i8⟩
  | 4 => ⟨S16x4x48x2560, .i8⟩
  | 5 => ⟨S16x4x2560, .f32⟩
  | 6 => ⟨S16x4x1536x1280, .i32⟩
  | 7 => ⟨S16x16x1536, .f32⟩
  | 8 => ⟨S16x16x1536, .bf16⟩
  | 9 => ⟨S_, .i32⟩
  | 10 => ⟨S16x4x1536x1280, .i32⟩
  | 11 => ⟨S16x4x1536x1280, .i32⟩
  | 12 => ⟨S16x4x48x1280, .i8⟩
  | 13 => ⟨S_, .i32⟩
  | 14 => ⟨S16x4x1536x1280, .i32⟩
  | 15 => ⟨S16x4x1536x1280, .i32⟩
  | 16 => ⟨S_, .i32⟩
  | 17 => ⟨S16x4x1536x1280, .i32⟩
  | 18 => ⟨S16x4x1536x1280, .i32⟩
  | 19 => ⟨S_, .i32⟩
  | 20 => ⟨S16x4x1536x1280, .i32⟩
  | 21 => ⟨S16x4x1536x1280, .i32⟩
  | 22 => ⟨S_, .i32⟩
  | 23 => ⟨S16x4x1536x1280, .i32⟩
  | 24 => ⟨S16x4x1536x1280, .i1⟩
  | 25 => ⟨S_, .i32⟩
  | 26 => ⟨S16x4x1536x1280, .i32⟩
  | 27 => ⟨S16x4x1536x1280, .i32⟩
  | 28 => ⟨S16x4x1536x1280, .i32⟩
  | 29 => ⟨S_, .i32⟩
  | 30 => ⟨S16x4x1536x1280, .i32⟩
  | 31 => ⟨S16x4x1536x1280, .i32⟩
  | 32 => ⟨S16x4x1536x1280, .i32⟩
  | 33 => ⟨S16x4x1536x1280, .f32⟩
  | 34 => ⟨S_, .f32⟩
  | 35 => ⟨S16x4x1536x1280, .f32⟩
  | 36 => ⟨S16x4x1536x1280, .f32⟩
  | 37 => ⟨S_, .i32⟩
  | 38 => ⟨S16x4x1536x1280, .i32⟩
  | 39 => ⟨S16x4x1536x1280, .i32⟩
  | 40 => ⟨S_, .i32⟩
  | 41 => ⟨S16x4x1536x1280, .i32⟩
  | 42 => ⟨S16x4x1536x1280, .i1⟩
  | 43 => ⟨S16x4x1536x1280, .f32⟩
  | 44 => ⟨S16x4x1536x1280, .f32⟩
  | 45 => ⟨S_, .f32⟩
  | 46 => ⟨S16x4x1536x1280, .f32⟩
  | 47 => ⟨S16x4x1536x1280, .f32⟩
  | 48 => ⟨S16x4x1536x1280, .bf16⟩
  | 49 => ⟨S16x4x48x32x1280, .bf16⟩
  | 50 => ⟨S16x4x48x1280, .i32⟩
  | 51 => ⟨S_, .i32⟩
  | 52 => ⟨S16x4x48x1280, .i32⟩
  | 53 => ⟨S16x4x48x1280, .i32⟩
  | 54 => ⟨S_, .i32⟩
  | 55 => ⟨S16x4x48x1280, .i32⟩
  | 56 => ⟨S16x4x48x1280, .i32⟩
  | 57 => ⟨S16x4x48x1280, .f32⟩
  | 58 => ⟨S16x4x48x1280, .bf16⟩
  | 59 => ⟨S16x4x48x1x1280, .bf16⟩
  | 60 => ⟨S16x4x48x32x1280, .bf16⟩
  | 61 => ⟨S16x4x48x32x1280, .bf16⟩
  | 62 => ⟨S16x4x1536x1280, .bf16⟩
  | 63 => ⟨S16x4x1280x16, .f32⟩
  | 64 => ⟨S16x4x16x1280, .f32⟩
  | 65 => ⟨S_, .i32⟩
  | 66 => ⟨S16x4x1536x1280, .i32⟩
  | 67 => ⟨S16x4x1536x1280, .i32⟩
  | 68 => ⟨S16x4x48x1280, .i8⟩
  | 69 => ⟨S_, .i32⟩
  | 70 => ⟨S16x4x1536x1280, .i32⟩
  | 71 => ⟨S16x4x1536x1280, .i32⟩
  | 72 => ⟨S_, .i32⟩
  | 73 => ⟨S16x4x1536x1280, .i32⟩
  | 74 => ⟨S16x4x1536x1280, .i32⟩
  | 75 => ⟨S_, .i32⟩
  | 76 => ⟨S16x4x1536x1280, .i32⟩
  | 77 => ⟨S16x4x1536x1280, .i32⟩
  | 78 => ⟨S_, .i32⟩
  | 79 => ⟨S16x4x1536x1280, .i32⟩
  | 80 => ⟨S16x4x1536x1280, .i1⟩
  | 81 => ⟨S_, .i32⟩
  | 82 => ⟨S16x4x1536x1280, .i32⟩
  | 83 => ⟨S16x4x1536x1280, .i32⟩
  | 84 => ⟨S16x4x1536x1280, .i32⟩
  | 85 => ⟨S_, .i32⟩
  | 86 => ⟨S16x4x1536x1280, .i32⟩
  | 87 => ⟨S16x4x1536x1280, .i32⟩
  | 88 => ⟨S16x4x1536x1280, .i32⟩
  | 89 => ⟨S16x4x1536x1280, .f32⟩
  | 90 => ⟨S_, .f32⟩
  | 91 => ⟨S16x4x1536x1280, .f32⟩
  | 92 => ⟨S16x4x1536x1280, .f32⟩
  | 93 => ⟨S_, .i32⟩
  | 94 => ⟨S16x4x1536x1280, .i32⟩
  | 95 => ⟨S16x4x1536x1280, .i32⟩
  | 96 => ⟨S_, .i32⟩
  | 97 => ⟨S16x4x1536x1280, .i32⟩
  | 98 => ⟨S16x4x1536x1280, .i1⟩
  | 99 => ⟨S16x4x1536x1280, .f32⟩
  | 100 => ⟨S16x4x1536x1280, .f32⟩
  | 101 => ⟨S_, .f32⟩
  | 102 => ⟨S16x4x1536x1280, .f32⟩
  | 103 => ⟨S16x4x1536x1280, .f32⟩
  | 104 => ⟨S16x4x1536x1280, .bf16⟩
  | 105 => ⟨S16x4x48x32x1280, .bf16⟩
  | 106 => ⟨S16x4x48x1280, .i32⟩
  | 107 => ⟨S_, .i32⟩
  | 108 => ⟨S16x4x48x1280, .i32⟩
  | 109 => ⟨S16x4x48x1280, .i32⟩
  | 110 => ⟨S_, .i32⟩
  | 111 => ⟨S16x4x48x1280, .i32⟩
  | 112 => ⟨S16x4x48x1280, .i32⟩
  | 113 => ⟨S16x4x48x1280, .f32⟩
  | 114 => ⟨S16x4x48x1280, .bf16⟩
  | 115 => ⟨S16x4x48x1x1280, .bf16⟩
  | 116 => ⟨S16x4x48x32x1280, .bf16⟩
  | 117 => ⟨S16x4x48x32x1280, .bf16⟩
  | 118 => ⟨S16x4x1536x1280, .bf16⟩
  | 119 => ⟨S16x4x1280x16, .f32⟩
  | 120 => ⟨S16x4x16x1280, .f32⟩
  | 121 => ⟨S16x4x16x1280x1, .f32⟩
  | 122 => ⟨S16x4x16x1280x1, .f32⟩
  | 123 => ⟨S16x4x16x1280x2, .f32⟩
  | 124 => ⟨S16x4x16x2560, .f32⟩
  | 125 => ⟨S16x16, .f32⟩
  | 126 => ⟨S16x1x16x1, .f32⟩
  | 127 => ⟨S16x4x16x2560, .f32⟩
  | _ => ⟨S16x16x1536, .f32⟩

abbrev hbmTy0_1 (i : Nat) : BufTy := match i % 128 with
  | 0 => ⟨S16x4x16x2560, .f32⟩
  | 1 => ⟨S16x4x1x2560, .f32⟩
  | 2 => ⟨S16x4x16x2560, .f32⟩
  | 3 => ⟨S16x4x16x2560, .f32⟩
  | 4 => ⟨S_, .f32⟩
  | 5 => ⟨S16x4x16x2560, .f32⟩
  | 6 => ⟨S16x4x16x2560, .f32⟩
  | 7 => ⟨S_, .f32⟩
  | 8 => ⟨S_, .f32⟩
  | 9 => ⟨S16x4x16x2560, .f32⟩
  | 10 => ⟨S16x4x16x2560, .f32⟩
  | 11 => ⟨S16x4x16x2560, .f32⟩
  | 12 => ⟨S_, .f32⟩
  | 13 => ⟨S16x4x16x2560, .f32⟩
  | 14 => ⟨S16x4x16x2560, .f32⟩
  | 15 => ⟨S16x4x16x2560, .f32⟩
  | 16 => ⟨S16x4x16, .f32⟩
  | 17 => ⟨S16x4x16x1, .f32⟩
  | 18 => ⟨S16x4x16x2560, .f32⟩
  | 19 => ⟨S16x4x16x2560, .f32⟩
  | 20 => ⟨S16x4x16x2560, .f32⟩
  | 21 => ⟨S_, .f32⟩
  | 22 => ⟨S16x4x16, .f32⟩
  | 23 => ⟨S_, .f32⟩
  | 24 => ⟨S16x4x16, .f32⟩
  | 25 => ⟨S16x4x16, .i1⟩
  | 26 => ⟨S_, .f32⟩
  | 27 => ⟨S16x4x16, .f32⟩
  | 28 => ⟨S16x4x16, .f32⟩
  | 29 => ⟨S_, .f32⟩
  | 30 => ⟨S_, .f32⟩
  | 31 => ⟨S16x4x16, .f32⟩
  | 32 => ⟨S16x4x16, .f32⟩
  | 33 => ⟨S16x4x16x1, .f32⟩
  | 34 => ⟨S16x4x16x2560, .f32⟩
  | 35 => ⟨S16x4x16x2560, .f32⟩
  | 36 => ⟨S_, .f32⟩
  | 37 => ⟨S_, .f32⟩
  | 38 => ⟨S_, .f32⟩
  | 39 => ⟨S16x4x16x2560, .f32⟩
  | 40 => ⟨S16x4x16x2560, .f32⟩
  | 41 => ⟨S_, .f32⟩
  | 42 => ⟨S16x4x16x2560, .f32⟩
  | 43 => ⟨S16x4x16x2560, .f32⟩
  | 44 => ⟨S16x4x16x20x128, .f32⟩
  | 45 => ⟨S16x4x20x16x128, .f32⟩
  | 46 => ⟨S16x4x16x1, .f32⟩
  | 47 => ⟨S16x4x16x128, .f32⟩
  | 48 => ⟨S16x4x16x1, .f32⟩
  | 49 => ⟨S16x4x16x128, .f32⟩
  | _ => ⟨S16x16x1536, .f32⟩

abbrev hbmTy (i : Nat) : BufTy := match i / 128 with
  | 0 => hbmTy0_0 i
  | 1 => hbmTy0_1 i
  | _ => ⟨S16x16x1536, .f32⟩

abbrev bufTy : (tb : Table) → Fin (tcTables nBuf tb) → BufTy
  | .hbm, ⟨i, _⟩ => hbmTy i
  | _, _ => ⟨S16x16x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_c_15 : Ref sig .tc := ⟨.hbm, 78, rfl⟩
abbrev main_v55 : Ref sig .tc := ⟨.hbm, 79, rfl⟩
abbrev main_v56 : Ref sig .tc := ⟨.hbm, 80, rfl⟩
abbrev main_c_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_c_19 : Ref sig .tc := ⟨.hbm, 93, rfl⟩
abbrev main_v66 : Ref sig .tc := ⟨.hbm, 94, rfl⟩
abbrev main_v67 : Ref sig .tc := ⟨.hbm, 95, rfl⟩
abbrev main_c_20 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_21 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_22 : Ref sig .tc := ⟨.hbm, 107, rfl⟩
abbrev main_v77 : Ref sig .tc := ⟨.hbm, 108, rfl⟩
abbrev main_v78 : Ref sig .tc := ⟨.hbm, 109, rfl⟩
abbrev main_c_23 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_24 : Ref sig .tc := ⟨.hbm, 132, rfl⟩
abbrev main_v100 : Ref sig .tc := ⟨.hbm, 133, rfl⟩
abbrev main_v101 : Ref sig .tc := ⟨.hbm, 134, rfl⟩
abbrev main_cst_25 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_26 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_27 : Ref sig .tc := ⟨.hbm, 149, rfl⟩
abbrev main_v114 : Ref sig .tc := ⟨.hbm, 150, rfl⟩
abbrev main_cst_28 : Ref sig .tc := ⟨.hbm, 151, rfl⟩
abbrev main_v115 : Ref sig .tc := ⟨.hbm, 152, rfl⟩
abbrev main_v116 : Ref sig .tc := ⟨.hbm, 153, rfl⟩
abbrev main_cst_29 : Ref sig .tc := ⟨.hbm, 154, rfl⟩
abbrev main_v117 : Ref sig .tc := ⟨.hbm, 155, rfl⟩
abbrev main_v118 : Ref sig .tc := ⟨.hbm, 156, rfl⟩
abbrev main_cst_30 : Ref sig .tc := ⟨.hbm, 157, rfl⟩
abbrev main_call4_v0 : Ref sig .tc := ⟨.hbm, 158, rfl⟩
abbrev main_call4_v1 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_31 : Ref sig .tc := ⟨.hbm, 164, rfl⟩
abbrev main_cst_32 : Ref sig .tc := ⟨.hbm, 165, rfl⟩
abbrev main_call5_v0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩

abbrev nD : Nat := 1
abbrev τ : Topo := Topo.v7x

variable {F : FTy → Type} [FloatOps F]
-- ==== Kernel2.lean ====
abbrev S16x16x4x2560 : Shape := ⟨4, ![16, 16, 4, 2560]⟩
abbrev S16x16x4 : Shape := ⟨3, ![16, 16, 4]⟩
abbrev S16x4x2560x768 : Shape := ⟨4, ![16, 4, 2560, 768]⟩
abbrev S16x4x80x1536 : Shape := ⟨4, ![16, 4, 80, 1536]⟩
abbrev S16x16x4x10x128x2 : Shape := ⟨6, ![16, 16, 4, 10, 128, 2]⟩
abbrev S16x4x10x16x2x128 : Shape := ⟨6, ![16, 4, 10, 16, 2, 128]⟩
abbrev S16x4x10x32x128 : Shape := ⟨5, ![16, 4, 10, 32, 128]⟩
abbrev S16x4x16 : Shape := ⟨3, ![16, 4, 16]⟩
abbrev S16x4x16x1x1 : Shape := ⟨5, ![16, 4, 16, 1, 1]⟩
abbrev S16x4x16x2x128 : Shape := ⟨5, ![16, 4, 16, 2, 128]⟩
abbrev S16x4x32x128 : Shape := ⟨4, ![16, 4, 32, 128]⟩
abbrev S16x12x16x128 : Shape := ⟨4, ![16, 12, 16, 128]⟩
abbrev S1x1x10x32x128 : Shape := ⟨5, ![1, 1, 10, 32, 128]⟩
abbrev S1x1x32x128 : Shape := ⟨4, ![1, 1, 32, 128]⟩
abbrev S1x1x2560x768 : Shape := ⟨4, ![1, 1, 2560, 768]⟩
abbrev S1x1x80x1536 : Shape := ⟨4, ![1, 1, 80, 1536]⟩
abbrev S1x12x16x128 : Shape := ⟨4, ![1, 12, 16, 128]⟩
abbrev S4x20x768 : Shape := ⟨3, ![4, 20, 768]⟩
abbrev S16x5120 : Shape := ⟨2, ![16, 5120]⟩
abbrev S6x32x128 : Shape := ⟨3, ![6, 32, 128]⟩
abbrev S16x128 : Shape := ⟨2, ![16, 128]⟩
abbrev S80x1536 : Shape := ⟨2, ![80, 1536]⟩
abbrev S20x1536 : Shape := ⟨2, ![20, 1536]⟩
abbrev S20x128 : Shape := ⟨2, ![20, 128]⟩
abbrev S20x128x1 : Shape := ⟨3, ![20, 128, 1]⟩
abbrev S1x20x128 : Shape := ⟨3, ![1, 20, 128]⟩
abbrev S1x1x1x16x128 : Shape := ⟨5, ![1, 1, 1, 16, 128]⟩
abbrev S16x128x1 : Shape := ⟨3, ![16, 128, 1]⟩
abbrev S32x128 : Shape := ⟨2, ![32, 128]⟩
abbrev S1x1x128x256 : Shape := ⟨4, ![1, 1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S32x256 : Shape := ⟨2, ![32, 256]⟩
abbrev S64x256 : Shape := ⟨2, ![64, 256]⟩
abbrev S16x256 : Shape := ⟨2, ![16, 256]⟩
abbrev S1x32x128 : Shape := ⟨3, ![1, 32, 128]⟩
abbrev S1x16x128 : Shape := ⟨3, ![1, 16, 128]⟩
abbrev S1x1x16x128 : Shape := ⟨4, ![1, 1, 16, 128]⟩

abbrev nBuf : Space → Nat
  | .hbm => 12
  | .vmem => 13
  | .smem => 0
  | _ => 0

abbrev bufTy : (tb : Table) → Fin (tcTables nBuf tb) → BufTy
  | .hbm, ⟨0, _⟩ => ⟨S16x16x4x2560, .f32⟩
  | .hbm, ⟨1, _⟩ => ⟨S16x16x4, .f32⟩
  | .hbm, ⟨2, _⟩ => ⟨S16x4x2560x768, .i8⟩
  | .hbm, ⟨3, _⟩ => ⟨S16x4x80x1536, .i8⟩
  | .hbm, ⟨4, _⟩ => ⟨S16x16x4x10x128x2, .f32⟩
  | .hbm, ⟨5, _⟩ => ⟨S16x4x10x16x2x128, .f32⟩
  | .hbm, ⟨6, _⟩ => ⟨S16x4x10x32x128, .f32⟩
  | .hbm, ⟨7, _⟩ => ⟨S16x4x16, .f32⟩
  | .hbm, ⟨8, _⟩ => ⟨S16x4x16x1x1, .f32⟩
  | .hbm, ⟨9, _⟩ => ⟨S16x4x16x2x128, .f32⟩
  | .hbm, ⟨10, _⟩ => ⟨S16x4x32x128, .f32⟩
  | .hbm, ⟨11, _⟩ => ⟨S16x12x16x128, .f32⟩
  | .local _ .vmem, ⟨0, _⟩ => ⟨S1x1x10x32x128, .f32⟩
  | .local _ .vmem, ⟨1, _⟩ => ⟨S1x1x10x32x128, .f32⟩
  | .local _ .vmem, ⟨2, _⟩ => ⟨S1x1x32x128, .f32⟩
  | .local _ .vmem, ⟨3, _⟩ => ⟨S1x1x32x128, .f32⟩
  | .local _ .vmem, ⟨4, _⟩ => ⟨S1x1x2560x768, .i8⟩
  | .local _ .vmem, ⟨5, _⟩ => ⟨S1x1x2560x768, .i8⟩
  | .local _ .vmem, ⟨6, _⟩ => ⟨S1x1x80x1536, .i8⟩
  | .local _ .vmem, ⟨7, _⟩ => ⟨S1x1x80x1536, .i8⟩
  | .local _ .vmem, ⟨8, _⟩ => ⟨S1x12x16x128, .f32⟩
  | .local _ .vmem, ⟨9, _⟩ => ⟨S1x12x16x128, .f32⟩
  | .local _ .vmem, ⟨10, _⟩ => ⟨S4x20x768, .i32⟩
  | .local _ .vmem, ⟨11, _⟩ => ⟨S16x5120, .i32⟩
  | .local _ .vmem, ⟨12, _⟩ => ⟨S6x32x128, .f32⟩
  | _, _ => ⟨S16x16x4x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨1, ![64], ![false]⟩

def k0_cond2 (i : grid0.Coords) : BitVec 1 :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_3805 : BitVec 32 := 3#32
  let v8316 : BitVec 1 := Scalar.cmpi .eq v9 c3_i32_3805
  let v8317 : BitVec 32 := Scalar.extui v8316
  let c0_i32_3806 : BitVec 32 := 0#32
  let v8318 : BitVec 1 := Scalar.cmpi .ne v8317 c0_i32_3806
  v8318

def cc0_transform_0 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, v26.toNat, c0_i32_10.toNat, c0_i32_11.toNat, c0_i32_12.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 2 → Memref sig .tc .vmem S1x1x10x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2560x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x80x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x12x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
abbrev S16x2x5120 : Shape := ⟨3, ![16, 2, 5120]⟩
abbrev S16x1x5120 : Shape := ⟨3, ![16, 1, 5120]⟩
abbrev S16x2x128 : Shape := ⟨3, ![16, 2, 128]⟩
abbrev S16x1x128 : Shape := ⟨3, ![16, 1, 128]⟩
abbrev S16x2x256 : Shape := ⟨3, ![16, 2, 256]⟩
abbrev S16x1x256 : Shape := ⟨3, ![16, 1, 256]⟩
  | .local _ .vmem, ⟨11, _⟩ => ⟨S16x2x5120, .bf16⟩
variable {F : FTy → Type} [FloatOps F]
-- ==== Reference2Ideal.lean ====
abbrev S16x16x4x2560 : Shape := ⟨4, ![16, 16, 4, 2560]⟩
abbrev S16x16x4 : Shape := ⟨3, ![16, 16, 4]⟩
abbrev S16x4x2560x768 : Shape := ⟨4, ![16, 4, 2560, 768]⟩
abbrev S16x4x80x1536 : Shape := ⟨4, ![16, 4, 80, 1536]⟩
abbrev S16x4x16x2560 : Shape := ⟨4, ![16, 4, 16, 2560]⟩
abbrev S_ : Shape := ⟨0, ![]⟩
abbrev S16x4x80x768 : Shape := ⟨4, ![16, 4, 80, 768]⟩
abbrev S16x4x80x32x768 : Shape := ⟨5, ![16, 4, 80, 32, 768]⟩
abbrev S16x4x80x1x768 : Shape := ⟨5, ![16, 4, 80, 1, 768]⟩
abbrev S16x4x16x768 : Shape := ⟨4, ![16, 4, 16, 768]⟩
abbrev S16x4x16x768x1 : Shape := ⟨5, ![16, 4, 16, 768, 1]⟩
abbrev S16x4x16x768x2 : Shape := ⟨5, ![16, 4, 16, 768, 2]⟩
abbrev S16x4x16x1536 : Shape := ⟨4, ![16, 4, 16, 1536]⟩
abbrev S16x4x16 : Shape := ⟨3, ![16, 4, 16]⟩
abbrev S16x4x16x1 : Shape := ⟨4, ![16, 4, 16, 1]⟩
abbrev S16x16x1536 : Shape := ⟨3, ![16, 16, 1536]⟩
abbrev S16x16x12x128 : Shape := ⟨4, ![16, 16, 12, 128]⟩
abbrev S16x12x16x128 : Shape := ⟨4, ![16, 12, 16, 128]⟩

abbrev nBuf : Space → Nat
  | .hbm => 129
  | .vmem => 0
  | .smem => 0
  | _ => 0

abbrev hbmTy0_0 (i : Nat) : BufTy := match i % 128 with
  | 0 => ⟨S16x16x4x2560, .f32⟩
  | 1 => ⟨S16x16x4, .f32⟩
  | 2 => ⟨S16x4x2560x768, .i8⟩
  | 3 => ⟨S16x4x80x1536, .i8⟩
  | 4 => ⟨S16x4x2560x768, .i32⟩
  | 5 => ⟨S16x4x16x2560, .f32⟩
  | 6 => ⟨S16x4x16x2560, .bf16⟩
  | 7 => ⟨S_, .i32⟩
  | 8 => ⟨S16x4x2560x768, .i32⟩
  | 9 => ⟨S16x4x2560x768, .i32⟩
  | 10 => ⟨S16x4x80x768, .i8⟩
  | 11 => ⟨S_, .i32⟩
  | 12 => ⟨S16x4x2560x768, .i32⟩
  | 13 => ⟨S16x4x2560x768, .i32⟩
  | 14 => ⟨S_, .i32⟩
  | 15 => ⟨S16x4x2560x768, .i32⟩
  | 16 => ⟨S16x4x2560x768, .i32⟩
  | 17 => ⟨S_, .i32⟩
  | 18 => ⟨S16x4x2560x768, .i32⟩
  | 19 => ⟨S16x4x2560x768, .i32⟩
  | 20 => ⟨S_, .i32⟩
  | 21 => ⟨S16x4x2560x768, .i32⟩
  | 22 => ⟨S16x4x2560x768, .i1⟩
  | 23 => ⟨S_, .i32⟩
  | 24 => ⟨S16x4x2560x768, .i32⟩
  | 25 => ⟨S16x4x2560x768, .i32⟩
  | 26 => ⟨S16x4x2560x768, .i32⟩
  | 27 => ⟨S_, .i32⟩
  | 28 => ⟨S16x4x2560x768, .i32⟩
  | 29 => ⟨S16x4x2560x768, .i32⟩
  | 30 => ⟨S16x4x2560x768, .i32⟩
  | 31 => ⟨S16x4x2560x768, .f32⟩
  | 32 => ⟨S_, .f32⟩
  | 33 => ⟨S16x4x2560x768, .f32⟩
  | 34 => ⟨S16x4x2560x768, .f32⟩
  | 35 => ⟨S_, .i32⟩
  | 36 => ⟨S16x4x2560x768, .i32⟩
  | 37 => ⟨S16x4x2560x768, .i32⟩
  | 38 => ⟨S_, .i32⟩
  | 39 => ⟨S16x4x2560x768, .i32⟩
  | 40 => ⟨S16x4x2560x768, .i1⟩
  | 41 => ⟨S16x4x2560x768, .f32⟩
  | 42 => ⟨S16x4x2560x768, .f32⟩
  | 43 => ⟨S_, .f32⟩
  | 44 => ⟨S16x4x2560x768, .f32⟩
  | 45 => ⟨S16x4x2560x768, .f32⟩
  | 46 => ⟨S16x4x2560x768, .bf16⟩
  | 47 => ⟨S16x4x80x32x768, .bf16⟩
  | 48 => ⟨S16x4x80x768, .i32⟩
  | 49 => ⟨S_, .i32⟩
  | 50 => ⟨S16x4x80x768, .i32⟩
  | 51 => ⟨S16x4x80x768, .i32⟩
  | 52 => ⟨S_, .i32⟩
  | 53 => ⟨S16x4x80x768, .i32⟩
  | 54 => ⟨S16x4x80x768, .i32⟩
  | 55 => ⟨S16x4x80x768, .f32⟩
  | 56 => ⟨S16x4x80x768, .bf16⟩
  | 57 => ⟨S16x4x80x1x768, .bf16⟩
  | 58 => ⟨S16x4x80x32x768, .bf16⟩
  | 59 => ⟨S16x4x80x32x768, .bf16⟩
  | 60 => ⟨S16x4x2560x768, .bf16⟩
  | 61 => ⟨S16x4x16x768, .f32⟩
  | 62 => ⟨S_, .i32⟩
  | 63 => ⟨S16x4x2560x768, .i32⟩
  | 64 => ⟨S16x4x2560x768, .i32⟩
  | 65 => ⟨S16x4x80x768, .i8⟩
  | 66 => ⟨S_, .i32⟩
  | 67 => ⟨S16x4x2560x768, .i32⟩
  | 68 => ⟨S16x4x2560x768, .i32⟩
  | 69 => ⟨S_, .i32⟩
  | 70 => ⟨S16x4x2560x768, .i32⟩
  | 71 => ⟨S16x4x2560x768, .i32⟩
  | 72 => ⟨S_, .i32⟩
  | 73 => ⟨S16x4x2560x768, .i32⟩
  | 74 => ⟨S16x4x2560x768, .i32⟩
  | 75 => ⟨S_, .i32⟩
  | 76 => ⟨S16x4x2560x768, .i32⟩
  | 77 => ⟨S16x4x2560x768, .i1⟩
  | 78 => ⟨S_, .i32⟩
  | 79 => ⟨S16x4x2560x768, .i32⟩
  | 80 => ⟨S16x4x2560x768, .i32⟩
  | 81 => ⟨S16x4x2560x768, .i32⟩
  | 82 => ⟨S_, .i32⟩
  | 83 => ⟨S16x4x2560x768, .i32⟩
  | 84 => ⟨S16x4x2560x768, .i32⟩
  | 85 => ⟨S16x4x2560x768, .i32⟩
  | 86 => ⟨S16x4x2560x768, .f32⟩
  | 87 => ⟨S_, .f32⟩
  | 88 => ⟨S16x4x2560x768, .f32⟩
  | 89 => ⟨S16x4x2560x768, .f32⟩
  | 90 => ⟨S_, .i32⟩
  | 91 => ⟨S16x4x2560x768, .i32⟩
  | 92 => ⟨S16x4x2560x768, .i32⟩
  | 93 => ⟨S_, .i32⟩
  | 94 => ⟨S16x4x2560x768, .i32⟩
  | 95 => ⟨S16x4x2560x768, .i1⟩
  | 96 => ⟨S16x4x2560x768, .f32⟩
  | 97 => ⟨S16x4x2560x768, .f32⟩
  | 98 => ⟨S_, .f32⟩
  | 99 => ⟨S16x4x2560x768, .f32⟩
  | 100 => ⟨S16x4x2560x768, .f32⟩
  | 101 => ⟨S16x4x2560x768, .bf16⟩
  | 102 => ⟨S16x4x80x32x768, .bf16⟩
  | 103 => ⟨S16x4x80x768, .i32⟩
  | 104 => ⟨S_, .i32⟩
  | 105 => ⟨S16x4x80x768, .i32⟩
  | 106 => ⟨S16x4x80x768, .i32⟩
  | 107 => ⟨S_, .i32⟩
  | 108 => ⟨S16x4x80x768, .i32⟩
  | 109 => ⟨S16x4x80x768, .i32⟩
  | 110 => ⟨S16x4x80x768, .f32⟩
  | 111 => ⟨S16x4x80x768, .bf16⟩
  | 112 => ⟨S16x4x80x1x768, .bf16⟩
  | 113 => ⟨S16x4x80x32x768, .bf16⟩
  | 114 => ⟨S16x4x80x32x768, .bf16⟩
  | 115 => ⟨S16x4x2560x768, .bf16⟩
  | 116 => ⟨S16x4x16x768, .f32⟩
  | 117 => ⟨S16x4x16x768x1, .f32⟩
  | 118 => ⟨S16x4x16x768x1, .f32⟩
  | 119 => ⟨S16x4x16x768x2, .f32⟩
  | 120 => ⟨S16x4x16x1536, .f32⟩
  | 121 => ⟨S16x4x16, .f32⟩
  | 122 => ⟨S16x4x16x1, .f32⟩
  | 123 => ⟨S16x4x16x1536, .f32⟩
  | 124 => ⟨S16x4x16x1536, .f32⟩
  | 125 => ⟨S_, .f32⟩
  | 126 => ⟨S16x16x1536, .f32⟩
  | 127 => ⟨S16x16x12x128, .f32⟩
  | _ => ⟨S16x16x4x2560, .f32⟩

abbrev hbmTy0_1 (i : Nat) : BufTy := match i % 128 with
  | 0 => ⟨S16x12x16x128, .f32⟩
  | _ => ⟨S16x16x4x2560, .f32⟩

abbrev hbmTy (i : Nat) : BufTy := match i / 128 with
  | 0 => hbmTy0_0 i
  | 1 => hbmTy0_1 i
  | _ => ⟨S16x16x4x2560, .f32⟩

abbrev bufTy : (tb : Table) → Fin (tcTables nBuf tb) → BufTy
  | .hbm, ⟨i, _⟩ => hbmTy i
  | _, _ => ⟨S16x16x4x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_c_14 : Ref sig .tc := ⟨.hbm, 72, rfl⟩
abbrev main_v52 : Ref sig .tc := ⟨.hbm, 73, rfl⟩
abbrev main_v53 : Ref sig .tc := ⟨.hbm, 74, rfl⟩
abbrev main_c_15 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_c_19 : Ref sig .tc := ⟨.hbm, 90, rfl⟩
abbrev main_v65 : Ref sig .tc := ⟨.hbm, 91, rfl⟩
abbrev main_v66 : Ref sig .tc := ⟨.hbm, 92, rfl⟩
abbrev main_c_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_21 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_22 : Ref sig .tc := ⟨.hbm, 104, rfl⟩
abbrev main_v76 : Ref sig .tc := ⟨.hbm, 105, rfl⟩
abbrev main_v77 : Ref sig .tc := ⟨.hbm, 106, rfl⟩
abbrev main_c_23 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_24 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Proof.Preserves.lean ====
/-
  The ideal program is the kernel over the extended reals: each rewrite is its rule's statement.
-/
module

public import proofs.«01_k».proof.Defs
public import Idealize.ShloMosaic.Lib.Bf16Pair
public import Idealize.ShloMosaic.Lib.Bf16PairInverse

@[expose] public section

noncomputable section

namespace Cert.Proof

open Idealize.ShloMosaic

theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _, IdealRules.named_const.statement _ _ _ _ _ rfl,
    IdealRules.named_const.statement _ _ _ _ _ rfl, IdealRules.bf16_pair.statement _ _⟩

theorem preserves2 : Cert.preserves_Kernel2_Kernel2Ideal :=
  ⟨IdealRules.bf16_pair.bufferStatement _ _, IdealRules.bf16_pair.packStatement _, IdealRules.bf16_pair.statement _ _,
    IdealRules.bf16_pair.statement _ _, IdealRules.bf16_pair.statement _ _⟩

end Cert.Proof
-- ==== Proof.Tile.lean ====
/-
  One 256-wide step of the expert matrix product, read at an index over the extended reals.
-/
module

public import proofs.«01_k».proof.Proof.Gen.KernelIdeal
public import Idealize.ShloMosaic.Lib.Pointwise
public import Idealize.ShloMosaic.Lib.BitcastPair
public import Idealize.ShloMosaic.Lib.Bf16PairInverse

@[expose] public section

noncomputable section

namespace Cert.KernelIdeal.Tile

open Cert.KernelIdeal Cert.KernelIdeal.Gen Idealize.ShloMosaic Idealize.ShloMosaic.TcCoe

variable {F : FTy → Type} [FloatOps F] [Named F]

/-- The bfloat16 bits of the nibble at bit `k` of every byte, as the kernel builds them. -/
def nibbleBits (x : IVec S128x256 32) (k : BitVec 32) : IVec S128x256 32 :=
  ori (select (cmpi .ult (andi (shrui x (broadcast S128x256 k)) (broadcast S128x256 7#32)) (broadcast S128x256 2#32))
      (muli (andi (shrui x (broadcast S128x256 k)) (broadcast S128x256 7#32)) (broadcast S128x256 16128#32))
      (addi (shli (andi (shrui x (broadcast S128x256 k)) (broadcast S128x256 7#32)) (broadcast S128x256 6#32)) (broadcast S128x256 16128#32)))
    (shli (andi (shrui x (broadcast S128x256 k)) (broadcast S128x256 8#32)) (broadcast S128x256 12#32))

/-- The words of a 128×256 block of weight bytes: the low nibble's bits under the high nibble's. -/
def words (x : Vec F S1x1x128x256 .i8) : IVec S128x256 32 :=
  ori (nibbleBits (extui 32 (shapeCast S128x256 x shapeCasts_S1x1x128x256_S128x256) natLt_8_32) 0#32)
    (shli (nibbleBits (extui 32 (shapeCast S128x256 x shapeCasts_S1x1x128x256_S128x256) natLt_8_32) 4#32) (broadcast S128x256 16#32))

/-- The 256×256 decoded weights of a block. -/
def weights (x : Vec F S1x1x128x256 .i8) : FVec F S256x256 .bf16 :=
  bitcastToFloat .bf16 (bitcast S256x256 16 (words x) bitcasts_S128x256_w32_S256x256_w16)

/-- One row of scale words, spread over the 64 rows it scales. -/
def scaleRows (s : Vec F S1x1x256 .i32) : FVec F S64x256 .bf16 :=
  bitcastToFloat .bf16 (bitcast S64x256 16 (broadcastTo S32x256 (shapeCast S1x256 (shapeCast S1x256 s shapeCasts_S1x1x256_S1x256) shapeCasts_S1x256_S1x256) broadcasts_S1x256_S32x256) bitcasts_S32x256_w32_S64x256_w16)

/-- The left operand: the two halves of every word as alternating rows. -/
def left (raw : Vec F S16x2x256 .bf16) : FVec F S32x256 .bf16 :=
  interleaveRows S32x256 (shapeCast S16x256 (rowsOfParity 0 S16x1x256 raw bitcasts_S16x2x256_w16_S16x1x256_w32) shapeCasts_S16x1x256_S16x256)
    (shapeCast S16x256 (rowsOfParity 1 S16x1x256 raw bitcasts_S16x2x256_w16_S16x1x256_w32) shapeCasts_S16x1x256_S16x256) bitcasts_S32x256_w16_S16x256_w32

/-- The scaled weights of a block. -/
def scaled (x : Vec F S1x1x128x256 .i8) (s0 s1 s2 s3 : Vec F S1x1x256 .i32) : FVec F S256x256 .bf16 :=
  concatenate S256x256 0 [⟨S64x256, mulf (extractStridedSlice S64x256 ![0, 0] (weights x) slices_S256x256_o0_0_S64x256) (scaleRows s0)⟩,
    ⟨S64x256, mulf (extractStridedSlice S64x256 ![64, 0] (weights x) slices_S256x256_o64_0_S64x256) (scaleRows s1)⟩,
    ⟨S64x256, mulf (extractStridedSlice S64x256 ![128, 0] (weights x) slices_S256x256_o128_0_S64x256) (scaleRows s2)⟩,
    ⟨S64x256, mulf (extractStridedSlice S64x256 ![192, 0] (weights x) slices_S256x256_o192_0_S64x256) (scaleRows s3)⟩]
    concatenates_S64x256_S64x256_S64x256_S64x256_S256x256_d0

/-- One step of the matrix product. -/
def step (x : Vec F S1x1x128x256 .i8) (s0 s1 s2 s3 : Vec F S1x1x256 .i32) (raw : Vec F S16x2x256 .bf16) : FVec F S32x256 .f32 :=
  matmul dot_S32x256_S256x256_S32x256_1_0_0_1_n_n none (left raw) (scaled x s0 s1 s2 s3) (constant S32x256 .f32 0x00000000#32)

/-! ## At an index -/

/-- The word of one byte. -/
def word (b : BitVec 8) : BitVec 32 :=
  let nib (k : BitVec 32) : BitVec 32 :=
    IntOp.ori
        (Scalar.select
          (IntOp.cmpi CmpIPredicate.ult
            (IntOp.andi (IntOp.shrui ArithUnit.vector (BitVec.setWidth 32 b) k) 7#32) 2#32)
          (IntOp.muli (IntOp.andi (IntOp.shrui ArithUnit.vector (BitVec.setWidth 32 b) k) 7#32)
            16128#32)
          (IntOp.addi
            (IntOp.shli ArithUnit.vector
              (IntOp.andi (IntOp.shrui ArithUnit.vector (BitVec.setWidth 32 b) k) 7#32) 6#32)
            16128#32))
        (IntOp.shli ArithUnit.vector
          (IntOp.andi (IntOp.shrui ArithUnit.vector (BitVec.setWidth 32 b) k) 8#32) 12#32)
  IntOp.ori (nib 0#32) (IntOp.shli ArithUnit.vector (nib 4#32) 16#32)

/-- Nibble `p` of a byte. -/
def nibble (b : BitVec 8) (p : Nat) : BitVec 4 := b.extractLsb' (4 * p) 4

/-- The bfloat16 bits of a four-bit code. -/
def bits4 (n : BitVec 4) : BitVec 16 := (word (BitVec.setWidth 8 n)).setWidth 16

theorem word_half : ∀ (b : BitVec 8) (p : Fin 2), (word b).extractLsb' (16 * p.val) 16 = bits4 (nibble b p.val) := by
  decide +kernel

theorem words_apply (x : Vec F S1x1x128x256 .i8) (r : Fin 128) (c : Fin 256) : words x (ix2 r c) = word (x (ix4 0 0 r c)) := by
  unfold words nibbleBits word
  pointwise

theorem left_apply (raw : Vec Ideal S16x2x256 .bf16) (r : Fin 32) (k : Fin 256) :
    left raw (ix2 r k) = raw (ix3 (⟨r / 2, by omega⟩ : Fin 16) (⟨r % 2, by omega⟩ : Fin 2) k) := by
  unfold left
  pointwise
  split
  · rename_i h; congr 2; exact Fin.ext h.symm
  · rename_i h; congr 2; exact Fin.ext (by show 1 = r.val % 2; omega)

theorem srcIdx_128 (r : Fin 256) (c : Fin 256) (p : Nat) (hp) : Shape.Bitcasts.srcIdx (s := S128x256) (t := S256x256) bitcasts_S128x256_w32_S256x256_w16 (ix2 r c) p hp
    = ix2 (⟨p, hp 0 rfl⟩ : Fin 128) c := by
  funext a
  match a with
  | ⟨0, _⟩ => exact Fin.ext (Shape.Bitcasts.srcIdx_row _ _ _ _ _ rfl)
  | ⟨1, _⟩ => exact Fin.ext (Shape.Bitcasts.srcIdx_other _ _ _ _ _ (by show ¬(1 + 2 = 2); decide))

/-- A decoded weight is the value of the bits of its nibble. -/
theorem weights_apply (x : Vec Ideal S1x1x128x256 .i8) (r : Fin 256) (c : Fin 256) :
    weights x (ix2 r c) = Ideal.ofBits .bf16 (bits4 (nibble (x (ix4 0 0 (⟨r / 2, by omega⟩ : Fin 128) c)) (r % 2))) := by
  unfold weights
  pointwise
  rw [bitcast_32_16, srcIdx_128, words_apply]
  exact congrArg _ (word_half _ ⟨r % 2, by omega⟩)

theorem srcIdx_32 (r : Fin 64) (c : Fin 256) (p : Nat) (hp) : Shape.Bitcasts.srcIdx (s := S32x256) (t := S64x256) bitcasts_S32x256_w32_S64x256_w16 (ix2 r c) p hp
    = ix2 (⟨p, hp 0 rfl⟩ : Fin 32) c := by
  funext a
  match a with
  | ⟨0, _⟩ => exact Fin.ext (Shape.Bitcasts.srcIdx_row _ _ _ _ _ rfl)
  | ⟨1, _⟩ => exact Fin.ext (Shape.Bitcasts.srcIdx_other _ _ _ _ _ (by show ¬(1 + 2 = 2); decide))

theorem scaleRows_apply (s : Vec Ideal S1x1x256 .i32) (r : Fin 64) (c : Fin 256) :
    scaleRows s (ix2 r c) = Ideal.ofBits .bf16 ((s (ix3 0 0 c)).extractLsb' (16 * (r % 2)) 16) := by
  unfold scaleRows
  pointwise
  rw [bitcast_32_16, srcIdx_32]
  pointwise

/-- Row `r` of the scaled weights: the weight times its scale. -/
theorem scaled_apply (x : Vec Ideal S1x1x128x256 .i8) (s : Fin 4 → Vec Ideal S1x1x256 .i32) (r : Fin 256) (c : Fin 256) :
    scaled x (s 0) (s 1) (s 2) (s 3) (ix2 r c)
      = Ideal.ofBits .bf16 (bits4 (nibble (x (ix4 0 0 (⟨r / 2, by omega⟩ : Fin 128) c)) (r % 2)))
        * Ideal.ofBits .bf16 ((s ⟨r / 64, by omega⟩ (ix3 0 0 c)).extractLsb' (16 * (r % 2)) 16) := by
  unfold scaled
  pointwise
  have key : ∀ (a : Fin 256) (b : Fin 64) (q : Fin 4), a = r → r.val = 64 * q.val + b.val →
      weights x (ix2 a c) * scaleRows (s q) (ix2 b c) =
      Ideal.ofBits .bf16 (bits4 (nibble (x (ix4 0 0 (⟨r / 2, by omega⟩ : Fin 128) c)) (r % 2)))
        * Ideal.ofBits .bf16 ((s ⟨r / 64, by omega⟩ (ix3 0 0 c)).extractLsb' (16 * (r % 2)) 16) := by
    intro a b q ha hb
    subst ha
    rw [weights_apply, scaleRows_apply]
    have hq : (⟨a.val / 64, by omega⟩ : Fin 4) = q := Fin.ext (by show a.val / 64 = q.val; omega)
    have hp : a.val % 2 = b.val % 2 := by omega
    rw [hq, hp]
  split
  · exact key _ _ 0 rfl (by show r.val = 64 * 0 + r.val; omega)
  split
  · exact key _ _ 1 (Fin.ext (by show 64 + (r.val - 64) = r.val; omega)) (by show r.val = 64 * 1 + (r.val - 64); omega)
  split
  · exact key _ _ 2 (Fin.ext (by show 128 + (r.val - 64 - 64) = r.val; omega)) (by show r.val = 64 * 2 + (r.val - 64 - 64); omega)
  · exact key _ _ 3 (Fin.ext (by show 192 + (r.val - 64 - 64 - 64) = r.val; omega)) (by show r.val = 64 * 3 + (r.val - 64 - 64 - 64); omega)

/-- One step at an index: the sum over its 256 rows. -/
theorem step_apply (x : Vec Ideal S1x1x128x256 .i8) (s : Fin 4 → Vec Ideal S1x1x256 .i32) (raw : Vec Ideal S16x2x256 .bf16) (r : Fin 32) (c : Fin 256) :
    step x (s 0) (s 1) (s 2) (s 3) raw (ix2 r c) = ∑ k : Fin 256,
      raw (ix3 (⟨r / 2, by omega⟩ : Fin 16) (⟨r % 2, by omega⟩ : Fin 2) k)
       * (Ideal.ofBits .bf16 (bits4 (nibble (x (ix4 0 0 (⟨k / 2, by omega⟩ : Fin 128) c)) (k % 2)))
        * Ideal.ofBits .bf16 ((s ⟨k / 64, by omega⟩ (ix3 0 0 c)).extractLsb' (16 * (k % 2)) 16)) := by
  unfold step
  pointwise
  exact Finset.sum_congr rfl fun k _ => by rw [left_apply, scaled_apply x s]

end Cert.KernelIdeal.Tile
-- ==== Proof.Body.lean ====
/-
  The other parts of the body: the packed left operand, the activation, the row maximum, the scale and the codes,
  as functions of what they read, with each read at an index over the extended reals.
-/
module

public import proofs.«01_k».proof.Proof.Tile

@[expose] public section

noncomputable section

namespace Cert.KernelIdeal.Body

open Cert.KernelIdeal Cert.KernelIdeal.Gen Idealize.ShloMosaic Idealize.ShloMosaic.TcCoe

variable {F : FTy → Type} [FloatOps F] [Named F]

/-- The sign test by which the kernel rounds a quotient by two downwards. -/
def twoSign : BitVec 32 := Scalar.subi (Scalar.extui (Scalar.cmpi .sgt 2#32 0#32)) (Scalar.extui (Scalar.cmpi .slt 2#32 0#32))

/-- Two, as the divisor of a remainder. -/
def two : BitVec 32 := Scalar.select (Scalar.cmpi .eq 2#32 0#32) 1#32 2#32

/-- The lane numbers of sixteen rows. -/
def lane16 : IVec S16x128 32 := iota .tc S16x128 32 [1] iota_S16x128_d1_w32

/-- The lane numbers of thirty-two rows. -/
def lane32 : IVec S32x128 32 := iota .tc S32x128 32 [1] iota_S32x128_d1_w32

/-- Half the lane number plus `off`, on sixteen rows. -/
def spread16 (off : BitVec 32) : IVec S16x128 32 :=
  addi (broadcast S16x128 off)
    (select (andi (cmpi .ne (subi (extui 32 (cmpi .sgt lane16 (broadcast S16x128 0#32)) natLt_1_32) (extui 32 (cmpi .slt lane16 (broadcast S16x128 0#32)) natLt_1_32)) (broadcast S16x128 twoSign))
        (cmpi .ne (remsi lane16 (broadcast S16x128 2#32)) (broadcast S16x128 0#32)))
      (subi (divsi lane16 (broadcast S16x128 2#32)) (broadcast S16x128 1#32)) (divsi lane16 (broadcast S16x128 2#32)))

/-- Half the lane number plus `off`, on thirty-two rows. -/
def spread32 (off : BitVec 32) : IVec S32x128 32 :=
  addi (broadcast S32x128 off)
    (select (andi (cmpi .ne (subi (extui 32 (cmpi .sgt lane32 (broadcast S32x128 0#32)) natLt_1_32) (extui 32 (cmpi .slt lane32 (broadcast S32x128 0#32)) natLt_1_32)) (broadcast S32x128 twoSign))
        (cmpi .ne (remsi lane32 (broadcast S32x128 2#32)) (broadcast S32x128 0#32)))
      (subi (divsi lane32 (broadcast S32x128 2#32)) (broadcast S32x128 1#32)) (divsi lane32 (broadcast S32x128 2#32)))

/-- A lane index, negative ones counted from the end, on sixteen rows. -/
def wrap16 (i : IVec S16x128 32) : IVec S16x128 32 :=
  shapeCast S16x128 (shapeCast S16x128x1 (select (cmpi .slt i (broadcast S16x128 0#32)) (addi i (broadcast S16x128 128#32)) i) shapeCasts_S16x128_S16x128x1) shapeCasts_S16x128x1_S16x128

/-- A lane index, negative ones counted from the end, on thirty-two rows. -/
def wrap32 (i : IVec S32x128 32) : IVec S32x128 32 :=
  shapeCast S32x128 (shapeCast S32x128x1 (select (cmpi .slt i (broadcast S32x128 0#32)) (addi i (broadcast S32x128 128#32)) i) shapeCasts_S32x128_S32x128x1) shapeCasts_S32x128x1_S32x128

/-- Whether the lane is even. -/
def evenLane : IVec S16x128 1 :=
  let r : IVec S16x128 32 := remsi lane16 (broadcast S16x128 two)
  cmpi .eq (select (andi (xori (cmpi .slt r (broadcast S16x128 0#32)) (broadcastTo S16x128 (broadcast S16x128 (Scalar.cmpi .slt two 0#32)) broadcasts_S16x128_S16x128)) (cmpi .ne r (broadcast S16x128 0#32)))
    (addi r (broadcast S16x128 two)) r) (broadcast S16x128 0#32)

/-- One 128-wide block of the left operand: each value next to a zero, in the half its lane says. -/
def block (off : BitVec 32) (v : Vec F S1x1x16x128 .f32) : Vec F S16x2x128 .bf16 :=
  let g : FVec F S16x128 .f32 := dynamicGather 1 (shapeCast S16x128 v shapeCasts_S1x1x16x128_S16x128) (wrap16 (spread16 off))
  let z : FVec F S16x128 .f32 := broadcast S16x128 (Scalar.ofBits .f32 0x00000000#32)
  interleaveRows S16x2x128 (shapeCast S16x1x128 (truncf .bf16 (select evenLane g z) bitsLt_bf16_f32) shapeCasts_S16x128_S16x1x128)
    (shapeCast S16x1x128 (truncf .bf16 (select evenLane z g) bitsLt_bf16_f32) shapeCasts_S16x128_S16x1x128) bitcasts_S16x2x128_w16_S16x1x128_w32

/-- The scaled and biased product's activation, times the gate. -/
def act (p xs gate : FVec F S32x128 .f32) (b : Vec F S1x1x8x128 .f32) : FVec F S1x32x128 .f32 :=
  let b8 : FVec F S8x128 .f32 := shapeCast S8x128 b shapeCasts_S1x1x8x128_S8x128
  let h : FVec F S32x128 .f32 := addf (mulf p xs) (concatenate S32x128 0 [⟨S8x128, b8⟩, ⟨S8x128, b8⟩, ⟨S8x128, b8⟩, ⟨S8x128, b8⟩] concatenates_S8x128_S8x128_S8x128_S8x128_S32x128_d0)
  shapeCast S1x32x128 (mulf (mulf (mulf h (broadcast S32x128 (Scalar.ofBits .f32 0x3F000000#32)))
    (addf (erf (mulf h (broadcast S32x128 (Named.named κ "inv_sqrt2" 0x3F3504F3#32)))) (broadcast S32x128 (Scalar.ofBits .f32 0x3F800000#32)))) gate) shapeCasts_S32x128_S1x32x128

/-- The activation of the left half of a product. -/
def act0 (acc : FVec F S32x256 .f32) (xs gate : FVec F S32x128 .f32) (b : Vec F S1x1x8x128 .f32) : FVec F S1x32x128 .f32 :=
  act (extractStridedSlice S32x128 ![0, 0] acc slices_S32x256_o0_0_S32x128) xs gate b

/-- The activation of the right half of a product. -/
def act1 (acc : FVec F S32x256 .f32) (xs gate : FVec F S32x128 .f32) (b : Vec F S1x1x8x128 .f32) : FVec F S1x32x128 .f32 :=
  act (extractStridedSlice S32x128 ![0, 128] acc slices_S32x256_o0_128_S32x128) xs gate b

/-- The row scale of the left operand. -/
def rowScale (x : Vec F S1x32x128 .f32) : FVec F S32x128 .f32 :=
  mulf (shapeCast S32x128 x shapeCasts_S1x32x128_S32x128) (broadcast S32x128 (Scalar.ofBits .f32 0x3C800000#32))

/-- The gate. -/
def gate (x : Vec F S1x1x32x128 .f32) : FVec F S32x128 .f32 := shapeCast S32x128 x shapeCasts_S1x1x32x128_S32x128

/-- The magnitudes of a plane. -/
def mag (p : Vec F S1x32x128 .f32) : FVec F S32x128 .f32 := absf (shapeCast S32x128 p shapeCasts_S1x32x128_S32x128)

/-- The largest magnitude of each row over ten planes, on every lane. -/
def rowMax (p0 p1 p2 p3 p4 p5 p6 p7 p8 p9 : Vec F S1x32x128 .f32) : FVec F S32x128 .f32 :=
  shapeCast S32x128 (broadcastTo S32x128 (shapeCast S32x1 (shapeCast S32x1 (multiReduction .maximumf [1] S32
    (maximumf (maximumf (maximumf (maximumf (maximumf (maximumf (maximumf (maximumf (maximumf (mag p0) (mag p1)) (mag p2)) (mag p3)) (mag p4)) (mag p5)) (mag p6)) (mag p7)) (mag p8)) (mag p9))
    0xFF800000#32 reduces_S32x128_S32 (.inl rfl) rfl) shapeCasts_S32_S32x1) shapeCasts_S32x1_S32x1) broadcasts_S32x1_S32x128) shapeCasts_S32x128_S32x128

/-- The scale of a largest magnitude: a 448th of it, one where it is zero. -/
def scaleOf (a : FVec F S16x128 .f32) : FVec F S16x128 .f32 :=
  select (cmpf .oeq a (broadcast S16x128 (Scalar.ofBits .f32 0x00000000#32))) (broadcast S16x128 (Scalar.ofBits .f32 0x3F800000#32))
    (mulf a (broadcast S16x128 (Named.named κ "inv_fp8_max" 0x3B124925#32)))

/-- The reciprocals of the row scales. -/
def recip (s : Vec F S32x128 .f32) : FVec F S32x128 .f32 := divf (broadcast S32x128 (Scalar.ofBits .f32 0x3F800000#32)) s

/-- A plane divided by its row scales and clipped to the range of the code. -/
def codes (inv : FVec F S32x128 .f32) (p : Vec F S1x32x128 .f32) : FVec F S32x128 .f32 :=
  extf .f32 (truncf .fp8e4m3 (minimumf (broadcast S32x128 (Scalar.ofBits .f32 0x43E00000#32))
    (maximumf (broadcast S32x128 (Scalar.ofBits .f32 0xC3E00000#32)) (mulf (shapeCast S32x128 p shapeCasts_S1x32x128_S32x128) inv))) bitsLt_fp8e4m3_f32) bitsLt_fp8e4m3_f32

/-- The codes of 64 pairs of lanes, the two rows of a pair side by side. -/
def unpack (off : BitVec 32) (q : FVec F S32x128 .f32) : FVec F S1x1x1x16x128 .f32 :=
  let g : FVec F S32x128 .bf16 := truncf .bf16 (dynamicGather 1 q (wrap32 (spread32 off))) bitsLt_bf16_f32
  shapeCast S1x1x1x16x128 (extf .f32 (select evenLane (rowsOfParity 0 S16x128 g bitcasts_S32x128_w16_S16x128_w32) (rowsOfParity 1 S16x128 g bitcasts_S32x128_w16_S16x128_w32)) bitsLt_bf16_f32) shapeCasts_S16x128_S1x1x1x16x128

/-! ## The matrix product as 12 steps -/

theorem inb_bytes (n : Fin 5) (k : Fin 12) : ∀ a, (![0, 0, 128 * k.val, 256 * n.val] : Fin 4 → Nat) a + S1x1x128x256.size a ≤ S1x1x1536x1280.size a := by
  revert n k; decide
theorem inb_words (q : Fin 4) (n : Fin 5) (k : Fin 12) : ∀ a, (![q.val, k.val, 256 * n.val] : Fin 3 → Nat) a + S1x1x256.size a ≤ S4x12x1280.size a := by
  revert q n k; decide
theorem inb_left (k : Fin 12) : ∀ a, (![0, 0, 256 * k.val] : Fin 3 → Nat) a + S16x2x256.size a ≤ S16x2x3072.size a := by
  revert k; decide

/-- The weight bytes of step `k` of column tile `n`. -/
abbrev rBytes (n : Fin 5) (k : Fin 12) : Rect S1x1x1536x1280 := Rect.unit ![0, 0, 128 * k.val, 256 * n.val] S1x1x128x256.size (inb_bytes n k)
/-- Its scale words of byte `q`. -/
abbrev rWords (q : Fin 4) (n : Fin 5) (k : Fin 12) : Rect S4x12x1280 := Rect.unit ![q.val, k.val, 256 * n.val] S1x1x256.size (inb_words q n k)
/-- Its part of the left operand. -/
abbrev rLeft (k : Fin 12) : Rect S16x2x3072 := Rect.unit ![0, 0, 256 * k.val] S16x2x256.size (inb_left k)

/-- Step `k` of column tile `n`: a product of 256 columns of the left operand and 256 rows of the weights. -/
def stepAt (w : Vec F S1x1x1536x1280 .i8) (S : Vec F S4x12x1280 .i32) (X : Vec F S16x2x3072 .bf16) (n : Fin 5) (k : Fin 12) : FVec F S32x256 .f32 :=
  Tile.step (View.ld (Val := Elt F) w (rBytes n k)) (View.ld (Val := Elt F) S (rWords 0 n k)) (View.ld (Val := Elt F) S (rWords 1 n k))
    (View.ld (Val := Elt F) S (rWords 2 n k)) (View.ld (Val := Elt F) S (rWords 3 n k)) (View.ld (Val := Elt F) X (rLeft k))

/-- The first `k + 1` steps of column tile `n`, added up from the first. -/
def acc (w : Vec F S1x1x1536x1280 .i8) (S : Vec F S4x12x1280 .i32) (X : Vec F S16x2x3072 .bf16) (n : Fin 5) : (k : Nat) → k < 12 → FVec F S32x256 .f32
  | 0, h => stepAt w S X n ⟨0, h⟩
  | k + 1, h => addf (acc w S X n k (by omega)) (stepAt w S X n ⟨k + 1, h⟩)

end Cert.KernelIdeal.Body
-- ==== Proof.Scales.lean ====
/-
  The scale words: the exponent bytes of a block, spread over pairs of bfloat16 bit patterns.
-/
module

public import proofs.«01_k».proof.Proof.Gen.KernelIdeal
public import Idealize.ShloMosaic.Lib.Pointwise
public import Idealize.ShloMosaic.Lib.BitcastFour

@[expose] public section

noncomputable section

namespace Cert.KernelIdeal.Scales

open Cert.KernelIdeal Cert.KernelIdeal.Gen Idealize.ShloMosaic Idealize.ShloMosaic.TcCoe

variable {F : FTy → Type} [FloatOps F] [Named F]

/-- The lane number of a 12×128 vector. -/
def lane : IVec S12x128 32 := iota .tc S12x128 32 [1] iota_S12x128_d1_w32

/-- Twice the lane number, modulo 128. -/
def base : IVec S12x128 32 :=
  let b : BitVec 32 := Scalar.select (Scalar.cmpi .eq 128#32 0#32) 1#32 128#32
  let r : IVec S12x128 32 := remsi (muli (broadcast S12x128 2#32) lane) (broadcast S12x128 b)
  select (andi (xori (cmpi .slt r (broadcast S12x128 0#32)) (broadcastTo S12x128 (broadcast S12x128 (Scalar.cmpi .slt b 0#32)) broadcasts_S12x128_S12x128)) (cmpi .ne r (broadcast S12x128 0#32)))
    (addi r (broadcast S12x128 b)) r

/-- A lane index, negative ones counted from the end. -/
def wrap (i : IVec S12x128 32) : IVec S12x128 32 :=
  shapeCast S12x128 (shapeCast S12x128x1 (select (cmpi .slt i (broadcast S12x128 0#32)) (addi i (broadcast S12x128 128#32)) i) shapeCasts_S12x128_S12x128x1) shapeCasts_S12x128x1_S12x128

/-- The lanes `i` of `a` in the low half, of `b` in the high half. -/
def pick (a b i : IVec S12x128 32) : IVec S12x128 32 :=
  select (cmpi .slt lane (broadcast S12x128 64#32)) (dynamicGather 1 a (wrap i)) (dynamicGather 1 b (wrap i))

/-- Six added to each byte of the even lanes. -/
def even (a b : IVec S12x128 32) : IVec S12x128 32 := addi (pick a b base) (broadcast S12x128 101058054#32)

/-- Six added to each byte of the odd lanes. -/
def odd (a b : IVec S12x128 32) : IVec S12x128 32 := addi (pick a b (addi base (broadcast S12x128 1#32))) (broadcast S12x128 101058054#32)

/-- The two masked halves as one word. -/
def join (e o : IVec S12x128 32) : IVec S1x12x128 32 :=
  shapeCast S1x12x128 (ori (andi e (broadcast S12x128 32640#32)) (andi o (broadcast S12x128 2139095040#32))) shapeCasts_S12x128_S1x12x128

/-- The words of byte 0. -/
def row0 (e o : IVec S12x128 32) : IVec S1x12x128 32 := join (shli e (broadcast S12x128 7#32)) (shli o (broadcast S12x128 23#32))
/-- The words of byte 1. -/
def row1 (e o : IVec S12x128 32) : IVec S1x12x128 32 := join (shrui e (broadcast S12x128 1#32)) (shli o (broadcast S12x128 15#32))
/-- The words of byte 2. -/
def row2 (e o : IVec S12x128 32) : IVec S1x12x128 32 := join (shrui e (broadcast S12x128 9#32)) (shli o (broadcast S12x128 7#32))
/-- The words of byte 3. -/
def row3 (e o : IVec S12x128 32) : IVec S1x12x128 32 := join (shrui e (broadcast S12x128 17#32)) (shrui o (broadcast S12x128 1#32))

theorem base_apply (k : Fin 12) (l : Fin 128) : base (ix2 k l) = BitVec.ofNat 32 (2 * l.val % 128) := by
  unfold base lane
  pointwise
  revert l
  decide +kernel

theorem pick_apply (a b i : IVec S12x128 32) (k : Fin 12) (l n : Fin 128) (h : i (ix2 k l) = BitVec.ofNat 32 n) :
    pick a b i (ix2 k l) = if l.val < 64 then a (ix2 k n) else b (ix2 k n) := by
  unfold pick wrap lane
  pointwise
  have e : ∀ n : Fin 128, (Scalar.select (IntOp.cmpi CmpIPredicate.slt (BitVec.ofNat 32 n.val) 0#32) (IntOp.addi (BitVec.ofNat 32 n.val) 128#32)
                  (BitVec.ofNat 32 n.val)).toNat % 128 = n.val := by decide +kernel
  have f : ∀ l : Fin 128, IntOp.cmpi CmpIPredicate.slt (BitVec.ofNat 32 l.val) 64#32 = if l.val < 64 then 1#1 else 0#1 := by decide +kernel
  have g : ∀ y : Fin 128, y.val = (Scalar.select (IntOp.cmpi CmpIPredicate.slt (i (ix2 k l)) 0#32) (IntOp.addi (i (ix2 k l)) 128#32) (i (ix2 k l))).toNat % 128 →
      y = n := fun y hy => Fin.ext (by rw [hy, h]; exact e n)
  rw [f l]
  by_cases hl : l.val < 64
  · rw [if_pos hl, if_pos hl]
    exact (if_pos rfl).trans (congrArg a (congrArg (ix2 k) (g _ rfl)))
  · rw [if_neg hl, if_neg hl]
    exact (if_neg (by decide)).trans (congrArg b (congrArg (ix2 k) (g _ rfl)))

/-- The exponent bytes as words of four rows. -/
def dwords (x : Vec F S1x1x48x2560 .i8) : IVec S12x2560 32 :=
  bitcast S12x2560 32 (shapeCast S48x2560 x shapeCasts_S1x1x48x2560_S48x2560) bitcasts_S48x2560_w8_S12x2560_w32

/-- The 128 columns from `off` on. -/
def cut (w : IVec S12x2560 32) (off : Nat) (h : S12x2560.Slices ![0, off] S12x128) : IVec S12x128 32 :=
  extractStridedSlice S12x128 ![0, off] w h

theorem cut_apply (w : IVec S12x2560 32) (off : Nat) (h : S12x2560.Slices ![0, off] S12x128) (k : Fin 12) (l : Fin 128) (ho : off + l.val < 2560) :
    cut w off h (ix2 k l) = w (ix2 k ⟨off + l.val, ho⟩) := by
  unfold cut
  pointwise

/-- Six added to each byte of a word. -/
def bump (w : BitVec 32) : BitVec 32 := IntOp.addi w 101058054#32

/-- The word of byte `q` of two words. -/
def join1 (q : Fin 4) (e o : BitVec 32) : BitVec 32 :=
  match q with
  | 0 => IntOp.ori (IntOp.andi (IntOp.shli .vector e 7#32) 32640#32) (IntOp.andi (IntOp.shli .vector o 23#32) 2139095040#32)
  | 1 => IntOp.ori (IntOp.andi (IntOp.shrui .vector e 1#32) 32640#32) (IntOp.andi (IntOp.shli .vector o 15#32) 2139095040#32)
  | 2 => IntOp.ori (IntOp.andi (IntOp.shrui .vector e 9#32) 32640#32) (IntOp.andi (IntOp.shli .vector o 7#32) 2139095040#32)
  | 3 => IntOp.ori (IntOp.andi (IntOp.shrui .vector e 17#32) 32640#32) (IntOp.andi (IntOp.shrui .vector o 1#32) 2139095040#32)

theorem even_apply (a b : IVec S12x128 32) (k : Fin 12) (l : Fin 128) :
    even a b (ix2 k l) = bump (if l.val < 64 then a (ix2 k ⟨2 * l.val % 128, by omega⟩) else b (ix2 k ⟨2 * l.val % 128, by omega⟩)) := by
  unfold even bump
  pointwise
  rw [pick_apply a b base k l ⟨2 * l.val % 128, by omega⟩ (base_apply k l)]

theorem odd_apply (a b : IVec S12x128 32) (k : Fin 12) (l : Fin 128) :
    odd a b (ix2 k l) = bump (if l.val < 64 then a (ix2 k ⟨2 * l.val % 128 + 1, by omega⟩) else b (ix2 k ⟨2 * l.val % 128 + 1, by omega⟩)) := by
  unfold odd bump
  pointwise
  rw [pick_apply a b _ k l ⟨2 * l.val % 128 + 1, by omega⟩]
  pointwise
  rw [base_apply]
  revert l
  decide +kernel

/-- The scale word of byte row `q`, word row `k` and word column `c`. -/
def sword (w : IVec S12x2560 32) (q : Fin 4) (k : Fin 12) (c : Fin 1280) : BitVec 32 :=
  join1 q (bump (w (ix2 k ⟨2 * c.val, by omega⟩))) (bump (w (ix2 k ⟨2 * c.val + 1, by omega⟩)))

section
variable (w : IVec S12x2560 32) (off off' : Nat) (h : S12x2560.Slices ![0, off] S12x128) (h' : S12x2560.Slices ![0, off'] S12x128)
  (k : Fin 12) (l : Fin 128) (c : Fin 1280)

theorem evenCut (ho : off' = off + 128) (hc : off + 2 * l.val = 2 * c.val) :
    even (cut w off h) (cut w off' h') (ix2 k l) = bump (w (ix2 k ⟨2 * c.val, by omega⟩)) := by
  rw [even_apply, cut_apply w off h _ _ (by show off + 2 * l.val % 128 < 2560; omega)]
  by_cases hl : l.val < 64
  · rw [if_pos hl]; congr 3; exact Fin.ext (by show off + 2 * l.val % 128 = 2 * c.val; omega)
  · rw [if_neg hl, cut_apply w off' h' _ _ (by show off' + 2 * l.val % 128 < 2560; omega)]
    congr 3; exact Fin.ext (by show off' + 2 * l.val % 128 = 2 * c.val; omega)

theorem oddCut (ho : off' = off + 128) (hc : off + 2 * l.val = 2 * c.val) :
    odd (cut w off h) (cut w off' h') (ix2 k l) = bump (w (ix2 k ⟨2 * c.val + 1, by omega⟩)) := by
  rw [odd_apply, cut_apply w off h _ _ (by show off + (2 * l.val % 128 + 1) < 2560; omega)]
  by_cases hl : l.val < 64
  · rw [if_pos hl]; congr 3; exact Fin.ext (by show off + (2 * l.val % 128 + 1) = 2 * c.val + 1; omega)
  · rw [if_neg hl, cut_apply w off' h' _ _ (by show off' + (2 * l.val % 128 + 1) < 2560; omega)]
    congr 3; exact Fin.ext (by show off' + (2 * l.val % 128 + 1) = 2 * c.val + 1; omega)

theorem row0_apply (ho : off' = off + 128) (hc : off + 2 * l.val = 2 * c.val) :
    row0 (even (cut w off h) (cut w off' h')) (odd (cut w off h) (cut w off' h')) (ix3 0 k l) = sword w 0 k c := by
  unfold row0 join
  pointwise
  rw [evenCut w off off' h h' k l c ho hc, oddCut w off off' h h' k l c ho hc]
  rfl

theorem row1_apply (ho : off' = off + 128) (hc : off + 2 * l.val = 2 * c.val) :
    row1 (even (cut w off h) (cut w off' h')) (odd (cut w off h) (cut w off' h')) (ix3 0 k l) = sword w 1 k c := by
  unfold row1 join
  pointwise
  rw [evenCut w off off' h h' k l c ho hc, oddCut w off off' h h' k l c ho hc]
  rfl

theorem row2_apply (ho : off' = off + 128) (hc : off + 2 * l.val = 2 * c.val) :
    row2 (even (cut w off h) (cut w off' h')) (odd (cut w off h) (cut w off' h')) (ix3 0 k l) = sword w 2 k c := by
  unfold row2 join
  pointwise
  rw [evenCut w off off' h h' k l c ho hc, oddCut w off off' h h' k l c ho hc]
  rfl

theorem row3_apply (ho : off' = off + 128) (hc : off + 2 * l.val = 2 * c.val) :
    row3 (even (cut w off h) (cut w off' h')) (odd (cut w off h) (cut w off' h')) (ix3 0 k l) = sword w 3 k c := by
  unfold row3 join
  pointwise
  rw [evenCut w off off' h h' k l c ho hc, oddCut w off off' h h' k l c ho hc]
  rfl

end

/-! ## The halves of a scale word -/

/-- The bfloat16 bits of an exponent byte: the byte plus six, in the exponent field. -/
def scaleBits (b : BitVec 8) : BitVec 16 := (b + 6#8).setWidth 16 <<< 7

/-- Four bytes as a word. -/
def four (e : Fin 4 → BitVec 8) : BitVec 32 := e 3 ++ e 2 ++ e 1 ++ e 0

theorem four_getLsbD (e : Fin 4 → BitVec 8) (i : Nat) (hi : i < 32) : (four e).getLsbD i = (e ⟨i / 8, by omega⟩).getLsbD (i % 8) := by
  unfold four
  simp only [BitVec.getLsbD_append]
  by_cases h1 : i < 8
  · have : i / 8 = 0 := by omega
    have h' : i % 8 = i := by omega
    simp [h1, this, h']
  by_cases h2 : i < 16
  · have : i / 8 = 1 := by omega
    have h' : i % 8 = i - 8 := by omega
    have h'' : i - 8 < 8 := by omega
    simp [h1, this, h', h'']
  by_cases h3 : i < 24
  · have : i / 8 = 2 := by omega
    have h' : i % 8 = i - 8 - 8 := by omega
    have h'' : i - 8 - 8 < 8 := by omega
    have h4 : ¬ i - 8 < 8 := by omega
    simp [h1, this, h', h'', h4]
  · have : i / 8 = 3 := by omega
    have h' : i % 8 = i - 8 - 8 - 8 := by omega
    have h'' : ¬ i - 8 - 8 < 8 := by omega
    have h4 : ¬ i - 8 < 8 := by omega
    simp [h1, this, h', h'', h4]

theorem four_getElem (e : Fin 4 → BitVec 8) (i : Nat) (hi : i < 32) : (four e)[i] = (e ⟨i / 8, by omega⟩).getLsbD (i % 8) :=
  (BitVec.getLsbD_eq_getElem hi).symm.trans (four_getLsbD e i hi)

theorem dwords_apply (x : Vec F S1x1x48x2560 .i8) (k : Fin 12) (c : Fin 2560) :
    dwords x (ix2 k c) = four fun q => x (ix4 0 0 (⟨4 * k.val + q.val, by omega⟩ : Fin 48) c) := by
  apply BitVec.eq_of_getLsbD_eq
  intro i hi
  rw [four_getLsbD _ _ hi]
  unfold dwords
  refine (bitcast_8_32_getLsbD_ix2 (shapeCast S48x2560 x shapeCasts_S1x1x48x2560_S48x2560) bitcasts_S48x2560_w8_S12x2560_w32 k c i hi ⟨4 * k.val + i / 8, by omega⟩ rfl).trans ?_
  exact congrArg (fun b : BitVec 8 => b.getLsbD (i % 8)) (by pointwise)

theorem toNat_append8 {n : Nat} (x : BitVec n) (y : BitVec 8) : (x ++ y).toNat = x.toNat * 256 + y.toNat := by
  rw [BitVec.toNat_append, ← Nat.shiftLeft_add_eq_or_of_lt y.isLt, Nat.shiftLeft_eq]

theorem bump_append (b3 b2 b1 b0 : BitVec 8) (h2 : b2.toNat < 250) (h1 : b1.toNat < 250) (h0 : b0.toNat < 250) :
    bump (b3 ++ b2 ++ b1 ++ b0) = (b3 + 6#8) ++ (b2 + 6#8) ++ (b1 + 6#8) ++ (b0 + 6#8) := by
  apply BitVec.eq_of_toNat_eq
  have hb : (bump (b3 ++ b2 ++ b1 ++ b0)).toNat = (((b3.toNat * 256 + b2.toNat) * 256 + b1.toNat) * 256 + b0.toNat + 101058054) % 4294967296 := by
    refine (BitVec.toNat_add _ _).trans ?_
    rw [toNat_append8, toNat_append8, toNat_append8]
    rfl
  have ha : ∀ b : BitVec 8, (b + 6#8).toNat = (b.toNat + 6) % 256 := fun b => BitVec.toNat_add _ _
  rw [hb, toNat_append8, toNat_append8, toNat_append8, ha, ha, ha, ha]
  have := b3.isLt
  omega

theorem join1_half (q : Fin 4) (e o : Fin 4 → BitVec 8) (p : Fin 2) :
    (join1 q (four e) (four o)).extractLsb' (16 * p.val) 16 = (if p = 0 then e q else o q).setWidth 16 <<< 7 := by
  apply BitVec.eq_of_getLsbD_eq
  intro i hi
  match q, p with
  | 0, 0 => interval_cases i <;> simp [join1, IntOp.ori, IntOp.andi, IntOp.shli, IntOp.shrui, four_getElem]
  | 0, 1 => interval_cases i <;> simp [join1, IntOp.ori, IntOp.andi, IntOp.shli, IntOp.shrui, four_getElem]
  | 1, 0 => interval_cases i <;> simp [join1, IntOp.ori, IntOp.andi, IntOp.shli, IntOp.shrui, four_getElem]
  | 1, 1 => interval_cases i <;> simp [join1, IntOp.ori, IntOp.andi, IntOp.shli, IntOp.shrui, four_getElem]
  | 2, 0 => interval_cases i <;> simp [join1, IntOp.ori, IntOp.andi, IntOp.shli, IntOp.shrui, four_getElem]
  | 2, 1 => interval_cases i <;> simp [join1, IntOp.ori, IntOp.andi, IntOp.shli, IntOp.shrui, four_getElem]
  | 3, 0 => interval_cases i <;> simp [join1, IntOp.ori, IntOp.andi, IntOp.shli, IntOp.shrui, four_getElem]
  | 3, 1 => interval_cases i <;> simp [join1, IntOp.ori, IntOp.andi, IntOp.shli, IntOp.shrui, four_getElem]

/-- Half `p` of a scale word: the bits of the exponent byte of its row and column, where no byte is 250 or more. -/
theorem sword_half (x : Vec F S1x1x48x2560 .i8) (hx : ∀ i, (x i).toNat < 250) (q : Fin 4) (k : Fin 12) (c : Fin 1280) (p : Fin 2) :
    (sword (dwords x) q k c).extractLsb' (16 * p.val) 16
      = scaleBits (x (ix4 0 0 (⟨4 * k.val + q.val, by omega⟩ : Fin 48) (⟨2 * c.val + p.val, by omega⟩ : Fin 2560))) := by
  have key : ∀ d : Fin 2560, bump (dwords x (ix2 k d)) =
      four (fun q : Fin 4 => x (ix4 0 0 (⟨4 * k.val + q.val, by omega⟩ : Fin 48) d) + 6#8) := fun d => by
    rw [dwords_apply]; unfold four; rw [bump_append _ _ _ _ (hx _) (hx _) (hx _)]
  unfold sword
  rw [key, key, join1_half]
  unfold scaleBits
  match p with
  | 0 => rfl
  | 1 => rfl

end Cert.KernelIdeal.Scales
-- ==== Proof.Parts.lean ====
/-
  The rectangles the body stores through, and what a list of stores over them holds: each buffer is written in
  disjoint pieces of one shape, so an element of a piece is what that piece wrote.
-/
module

public import proofs.«01_k».proof.Proof.Body
public import proofs.«01_k».proof.Proof.Scales
public import Idealize.ShloMosaic.Lib.Pipeline.ValueKit.Tiles

@[expose] public section

set_option maxRecDepth 4096

noncomputable section

namespace Cert.KernelIdeal.Body

open Cert.KernelIdeal Cert.KernelIdeal.Gen Idealize.ShloMosaic Idealize.ShloMosaic.TcCoe

/-- The list of `f`, last first. -/
def down {α : Type} : (n : Nat) → (Fin n → α) → List α
  | 0, _ => []
  | n + 1, f => f (Fin.last n) :: down n (fun i => f i.castSucc)

theorem mem_down {α : Type} : ∀ (n : Nat) (f : Fin n → α) (x : α), x ∈ down n f ↔ ∃ i, x = f i := by
  intro n
  induction n with
  | zero => intro f x; constructor
            · intro h; cases h
            · rintro ⟨i, _⟩; exact i.elim0
  | succ n ih =>
    intro f x
    rw [down, List.mem_cons, ih]
    constructor
    · rintro (h | ⟨i, h⟩)
      · exact ⟨_, h⟩
      · exact ⟨_, h⟩
    · rintro ⟨i, h⟩
      by_cases hi : i.val < n
      · exact .inr ⟨⟨i.val, hi⟩, h⟩
      · exact .inl (h.trans (congrArg f (Fin.ext (by simp only [Fin.val_last]; omega))))

/-- An element of a piece no other piece overlaps is what the piece wrote. -/
theorem canon_down_at {Val : EltTy → Type} [∀ e, Nonempty (Val e)] {S : Shape} {e : EltTy} {n : Nat} (R : Fin n → Rect S)
    (P : (k : Fin n) → (R k).shape.Idx → Val e) (i : Fin n) (x : (R i).shape.Idx)
    (hu : ∀ (j : Fin n) (y : (R j).shape.Idx), (R j).emb y = (R i).emb x → j = i) :
    View.canon (down n fun k => (⟨R k, P k⟩ : View.Piece Val S e)) ((R i).emb x) = P i x := by
  refine View.canon_eq_of_allAt _ _ _ ⟨⟨R i, P i⟩, (mem_down n _ _).mpr ⟨i, rfl⟩, (R i).idx_mem x⟩ ?_
  intro p hp y hy
  obtain ⟨j, rfl⟩ := (mem_down n _ p).mp hp
  obtain rfl := hu j y hy
  rw [(R j).emb.injective hy]

/-! ## The planes of activations -/

theorem inb_plane (p : Fin 10) : ∀ a, (![p.val, 0, 0] : Fin 3 → Nat) a + S1x32x128.size a ≤ S10x32x128.size a := by
  revert p; decide
abbrev rPlane (p : Fin 10) : Rect S10x32x128 := Rect.unit ![p.val, 0, 0] S1x32x128.size (inb_plane p)

theorem rPlane_inj (i j : Fin 10) (x : (rPlane i).shape.Idx) (y : (rPlane j).shape.Idx) (h : (rPlane j).emb y = (rPlane i).emb x) : j = i := by
  have h0 := congrArg (fun z : S10x32x128.Idx => (z 0).val) h
  have hx : (x 0).val = 0 := Nat.lt_one_iff.mp (x 0).isLt
  have hy : (y 0).val = 0 := Nat.lt_one_iff.mp (y 0).isLt
  have h1 : j.val + 1 * (y 0).val = i.val + 1 * (x 0).val := h0
  exact Fin.ext (by omega)

section
variable {F : FTy → Type} [FloatOps F] [Named F]

/-- The stores of the planes. -/
abbrev planePieces (P : Fin 10 → Vec F S1x32x128 .f32) : List (View.Piece (Elt F) S10x32x128 .f32) :=
  down 10 fun p => ⟨rPlane p, P p⟩

/-- Reading a plane back. -/
theorem planes_read {sig} {κ} {sp} (v : View sig κ sp S10x32x128 .f32) (P : Fin 10 → Vec F S1x32x128 .f32) (p : Fin 10) :
    v.readCov (planePieces P) (rPlane p).toLoadRect = P p := by
  rw [View.readCov_eq_canon']
  funext j
  exact canon_down_at rPlane P p j fun k y h => rPlane_inj p k j y h

/-! ## The scale words -/

theorem inb_row (t : Fin 40) : ∀ a, (![t.val % 4, 0, 128 * (t.val / 4)] : Fin 3 → Nat) a + S1x12x128.size a ≤ S4x12x1280.size a := by
  revert t; decide
abbrev rRow (t : Fin 40) : Rect S4x12x1280 := Rect.unit ![t.val % 4, 0, 128 * (t.val / 4)] S1x12x128.size (inb_row t)

theorem rRow_inj (i j : Fin 40) (x : (rRow i).shape.Idx) (y : (rRow j).shape.Idx) (h : (rRow j).emb y = (rRow i).emb x) : j = i := by
  have h0 := congrArg (fun z : S4x12x1280.Idx => (z 0).val) h
  have h2 := congrArg (fun z : S4x12x1280.Idx => (z 2).val) h
  have hx : (x 0).val = 0 := Nat.lt_one_iff.mp (x 0).isLt
  have hy : (y 0).val = 0 := Nat.lt_one_iff.mp (y 0).isLt
  have hx2 : (x 2).val < 128 := (x 2).isLt
  have hy2 : (y 2).val < 128 := (y 2).isLt
  have h1 : j.val % 4 + 1 * (y 0).val = i.val % 4 + 1 * (x 0).val := h0
  have h3 : 128 * (j.val / 4) + 1 * (y 2).val = 128 * (i.val / 4) + 1 * (x 2).val := h2
  exact Fin.ext (by omega)

theorem slices_cut (j : Fin 10) : S12x2560.Slices ![0, 256 * j.val] S12x128 := by revert j; decide
theorem slices_cut' (j : Fin 10) : S12x2560.Slices ![0, 256 * j.val + 128] S12x128 := by revert j; decide

/-- The row of scale words of byte `q`. -/
def rowSel (q : Nat) (e o : IVec S12x128 32) : IVec S1x12x128 32 :=
  match q with
  | 0 => Scales.row0 e o
  | 1 => Scales.row1 e o
  | 2 => Scales.row2 e o
  | _ => Scales.row3 e o

/-- The row of scale words store `t` writes. -/
def rowAt (w : IVec S12x2560 32) (t : Fin 40) : IVec S1x12x128 32 :=
  rowSel (t.val % 4)
    (Scales.even (Scales.cut w (256 * (t.val / 4)) (slices_cut ⟨t.val / 4, by omega⟩)) (Scales.cut w (256 * (t.val / 4) + 128) (slices_cut' ⟨t.val / 4, by omega⟩)))
    (Scales.odd (Scales.cut w (256 * (t.val / 4)) (slices_cut ⟨t.val / 4, by omega⟩)) (Scales.cut w (256 * (t.val / 4) + 128) (slices_cut' ⟨t.val / 4, by omega⟩)))

/-- The stores of the scale words. -/
abbrev wordPieces (w : IVec S12x2560 32) : List (View.Piece (Elt F) S4x12x1280 .i32) :=
  down 40 fun t => ⟨rRow t, rowAt w t⟩

/-- The scale words of every step and column. -/
def words (x : Vec F S1x1x48x2560 .i8) : Vec F S4x12x1280 .i32 := fun i => Scales.sword (Scales.dwords x) (i 0) (i 1) (i 2)

theorem rowAt_apply (w : IVec S12x2560 32) (t : Fin 40) (k : Fin 12) (l : Fin 128) (q : Fin 4) (c : Fin 1280)
    (hq : q.val = t.val % 4) (hc : c.val = 128 * (t.val / 4) + l.val) : rowAt w t (ix3 0 k l) = Scales.sword w q k c := by
  unfold rowAt
  have hoff : 256 * (t.val / 4) + 2 * l.val = 2 * c.val := by omega
  rcases (show t.val % 4 = 0 ∨ t.val % 4 = 1 ∨ t.val % 4 = 2 ∨ t.val % 4 = 3 by omega) with h | h | h | h <;> rw [h]
  · obtain rfl : q = 0 := Fin.ext (by show q.val = 0; omega)
    exact Scales.row0_apply _ _ _ _ _ k l c rfl hoff
  · obtain rfl : q = 1 := Fin.ext (by show q.val = 1; omega)
    exact Scales.row1_apply _ _ _ _ _ k l c rfl hoff
  · obtain rfl : q = 2 := Fin.ext (by show q.val = 2; omega)
    exact Scales.row2_apply _ _ _ _ _ k l c rfl hoff
  · obtain rfl : q = 3 := Fin.ext (by show q.val = 3; omega)
    exact Scales.row3_apply _ _ _ _ _ k l c rfl hoff

theorem canon_words (x : Vec F S1x1x48x2560 .i8) : View.canon (wordPieces (F := F) (Scales.dwords x)) = words x := by
  funext i
  obtain ⟨q, k, c, rfl⟩ : ∃ (q : Fin 4) (k : Fin 12) (c : Fin 1280), i = ix3 q k c := ⟨i 0, i 1, i 2, eq_ix3 i⟩
  have ht : 4 * (c.val / 128) + q.val < 40 := by omega
  have e : ix3 q k c = (rRow ⟨4 * (c.val / 128) + q.val, ht⟩).emb (ix3 (0 : Fin 1) k (⟨c.val % 128, by omega⟩ : Fin 128)) := by
    funext a
    apply Fin.ext
    match a with
    | ⟨0, _⟩ => show q.val = (4 * (c.val / 128) + q.val) % 4 + 1 * 0; omega
    | ⟨1, _⟩ => show k.val = 0 + 1 * k.val; omega
    | ⟨2, _⟩ => show c.val = 128 * ((4 * (c.val / 128) + q.val) / 4) + 1 * (c.val % 128); omega
  rw [e, canon_down_at (Val := Elt F) (e := .i32) rRow (fun t => rowAt (Scales.dwords x) t) _ _ fun j y h => rRow_inj _ j _ y h, ← e]
  exact rowAt_apply _ _ k _ q c (by show q.val = (4 * (c.val / 128) + q.val) % 4; omega)
    (by show c.val = 128 * ((4 * (c.val / 128) + q.val) / 4) + (c.val % 128); omega)

/-! ## The left operand -/

theorem inb_block (t : Fin 24) : ∀ a, (![0, 0, 128 * t.val] : Fin 3 → Nat) a + S16x2x128.size a ≤ S16x2x3072.size a := by
  revert t; decide
abbrev rBlock (t : Fin 24) : Rect S16x2x3072 := Rect.unit ![0, 0, 128 * t.val] S16x2x128.size (inb_block t)

theorem inb_piece (g : Fin 12) : ∀ a, (![0, g.val, 0, 0] : Fin 4 → Nat) a + S1x1x16x128.size a ≤ S1x12x16x128.size a := by
  revert g; decide
abbrev rPiece (g : Fin 12) : Rect S1x12x16x128 := Rect.unit ![0, g.val, 0, 0] S1x1x16x128.size (inb_piece g)

theorem rBlock_inj (i j : Fin 24) (x : (rBlock i).shape.Idx) (y : (rBlock j).shape.Idx) (h : (rBlock j).emb y = (rBlock i).emb x) : j = i := by
  have h2 := congrArg (fun z : S16x2x3072.Idx => (z 2).val) h
  have hx2 : (x 2).val < 128 := (x 2).isLt
  have hy2 : (y 2).val < 128 := (y 2).isLt
  have h3 : 128 * j.val + 1 * (y 2).val = 128 * i.val + 1 * (x 2).val := h2
  exact Fin.ext (by omega)

/-- The block store `t` writes. -/
def blockAt (x : Vec F S1x12x16x128 .f32) (t : Fin 24) : Vec F S16x2x128 .bf16 :=
  block (match t.val % 2 with | 0 => 0#32 | _ => 64#32) (View.ld (Val := Elt F) x (rPiece ⟨t.val / 2, by omega⟩))

/-- The stores of the left operand. -/
abbrev leftPieces (x : Vec F S1x12x16x128 .f32) : List (View.Piece (Elt F) S16x2x3072 .bf16) :=
  down 24 fun t => ⟨rBlock t, blockAt x t⟩

/-- The left operand. -/
def left (x : Vec F S1x12x16x128 .f32) : Vec F S16x2x3072 .bf16 := fun i =>
  blockAt x ⟨(i 2).val / 128, by have : (i 2).val < 3072 := (i 2).isLt; omega⟩ (ix3 (i 0) (i 1) (⟨(i 2).val % 128, by omega⟩ : Fin 128))

theorem canon_left (x : Vec F S1x12x16x128 .f32) : View.canon (leftPieces x) = left x := by
  funext i
  obtain ⟨q, k, c, rfl⟩ : ∃ (q : Fin 16) (k : Fin 2) (c : Fin 3072), i = ix3 q k c := ⟨i 0, i 1, i 2, eq_ix3 i⟩
  have ht : c.val / 128 < 24 := by omega
  have e : ix3 q k c = (rBlock ⟨c.val / 128, ht⟩).emb (ix3 q k (⟨c.val % 128, by omega⟩ : Fin 128)) := by
    funext a
    apply Fin.ext
    match a with
    | ⟨0, _⟩ => show q.val = 0 + 1 * q.val; omega
    | ⟨1, _⟩ => show k.val = 0 + 1 * k.val; omega
    | ⟨2, _⟩ => show c.val = 128 * (c.val / 128) + 1 * (c.val % 128); omega
  rw [e, canon_down_at rBlock (fun t => blockAt x t) _ _ fun j y h => rBlock_inj _ j _ y h, ← e]
  rfl

/-! ## The row maxima and the scales -/

/-- The even rows. -/
abbrev rEven : Rect S32x128 := { off := ![0, 0], size := S16x128.size, stride := ![2, 1], inb := inb_S32x128_S16x128_0_0_s_2_1, stride_pos := spos_2_1 }
/-- The odd rows. -/
abbrev rOdd : Rect S32x128 := { off := ![1, 0], size := S16x128.size, stride := ![2, 1], inb := inb_S32x128_S16x128_1_0_s_2_1, stride_pos := spos_2_1 }
/-- All rows. -/
abbrev rAll : Rect S32x128 := Rect.unit ![0, 0] S32x128.size inb_S32x128_S32x128_0_0

/-- The larger of the two rows of each pair. -/
def pairMax (r : Vec F S32x128 .f32) : FVec F S16x128 .f32 :=
  maximumf (fun i => r (ix2 (⟨2 * (i 0).val, by have : (i 0).val < 16 := (i 0).isLt; omega⟩ : Fin 32) (i 1)))
    (fun i => r (ix2 (⟨2 * (i 0).val + 1, by have : (i 0).val < 16 := (i 0).isLt; omega⟩ : Fin 32) (i 1)))

/-- Each row twice. -/
def twice (s : FVec F S16x128 .f32) : FVec F S32x128 .f32 :=
  fun i => s (ix2 (⟨(i 0).val / 2, by have : (i 0).val < 32 := (i 0).isLt; omega⟩ : Fin 16) (i 1))

theorem all_emb (x : S32x128.Idx) : rAll.emb x = x := by
  funext a
  apply Fin.ext
  match a with
  | ⟨0, _⟩ => show 0 + 1 * (x 0).val = (x 0).val; omega
  | ⟨1, _⟩ => show 0 + 1 * (x 1).val = (x 1).val; omega

theorem read_even {sig} {κ} {sp} (v : View sig κ sp S32x128 .f32) (r : Vec F S32x128 .f32) :
    v.readCov [(⟨rAll, r⟩ : View.Piece (Elt F) S32x128 .f32)] rEven.toLoadRect =
      fun i => r (ix2 (⟨2 * (i 0).val, by have : (i 0).val < 16 := (i 0).isLt; omega⟩ : Fin 32) (i 1)) := by
  rw [View.readCov_eq_canon']
  funext j
  refine Eq.trans (congrArg _ (all_emb _).symm) ((View.canon_cons_emb rAll r [] (rEven.emb j)).trans (congrArg r ?_))
  funext a
  apply Fin.ext
  match a with
  | ⟨0, _⟩ => show 0 + 2 * (j 0).val = 2 * (j 0).val; omega
  | ⟨1, _⟩ => show 0 + 1 * (j 1).val = (j 1).val; omega

theorem read_odd {sig} {κ} {sp} (v : View sig κ sp S32x128 .f32) (r : Vec F S32x128 .f32) :
    v.readCov [(⟨rAll, r⟩ : View.Piece (Elt F) S32x128 .f32)] rOdd.toLoadRect =
      fun i => r (ix2 (⟨2 * (i 0).val + 1, by have : (i 0).val < 16 := (i 0).isLt; omega⟩ : Fin 32) (i 1)) := by
  rw [View.readCov_eq_canon']
  funext j
  refine Eq.trans (congrArg _ (all_emb _).symm) ((View.canon_cons_emb rAll r [] (rOdd.emb j)).trans (congrArg r ?_))
  funext a
  apply Fin.ext
  match a with
  | ⟨0, _⟩ => show 1 + 2 * (j 0).val = 2 * (j 0).val + 1; omega
  | ⟨1, _⟩ => show 0 + 1 * (j 1).val = (j 1).val; omega

theorem read_twice {sig} {κ} {sp} (v : View sig κ sp S32x128 .f32) (s : FVec F S16x128 .f32) (L : List (View.Piece (Elt F) S32x128 .f32)) :
    v.readCov ((⟨rOdd, s⟩ : View.Piece (Elt F) S32x128 .f32) :: (⟨rEven, s⟩ : View.Piece (Elt F) S32x128 .f32) :: L) rAll.toLoadRect = twice s := by
  rw [View.readCov_eq_canon']
  funext j
  obtain ⟨r, l, rfl⟩ : ∃ (r : Fin 32) (l : Fin 128), j = ix2 r l := ⟨j 0, j 1, eq_ix2 j⟩
  refine (congrArg _ (all_emb _)).trans ?_
  show View.canon (Val := Elt F) (e := .f32) _ (ix2 r l) = s (ix2 (⟨r.val / 2, _⟩ : Fin 16) l)
  by_cases h : r.val % 2 = 1
  · have e : ix2 r l = rOdd.emb (ix2 (⟨r.val / 2, by omega⟩ : Fin 16) l) := by
      funext a
      apply Fin.ext
      match a with
      | ⟨0, _⟩ => show r.val = 1 + 2 * (r.val / 2); omega
      | ⟨1, _⟩ => show l.val = 0 + 1 * l.val; omega
    exact (congrArg _ e).trans (View.canon_cons_emb _ _ _ _)
  · have e : ix2 r l = rEven.emb (ix2 (⟨r.val / 2, by omega⟩ : Fin 16) l) := by
      funext a
      apply Fin.ext
      match a with
      | ⟨0, _⟩ => show r.val = 0 + 2 * (r.val / 2); omega
      | ⟨1, _⟩ => show l.val = 0 + 1 * l.val; omega
    refine (View.canon_cons_of_not_mem _ _ ?_).trans ((congrArg _ e).trans (View.canon_cons_emb _ _ _ _))
    intro hm
    obtain ⟨x, hx⟩ := LoadRect.exists_idx_of_mem _ hm
    have h0 := congrArg (fun z : S32x128.Idx => (z 0).val) hx
    have h1 : 1 + 2 * (x 0).val = r.val := h0
    omega

/-! ## The results of one point -/

theorem inb_out (p : Fin 20) : ∀ a, (![0, 0, p.val, 0, 0] : Fin 5 → Nat) a + S1x1x1x16x128.size a ≤ S1x1x20x16x128.size a := by
  revert p; decide
abbrev rOut (p : Fin 20) : Rect S1x1x20x16x128 := Rect.unit ![0, 0, p.val, 0, 0] S1x1x1x16x128.size (inb_out p)
theorem inb_bias (p : Fin 10) : ∀ a, (![0, 0, 0, 128 * p.val] : Fin 4 → Nat) a + S1x1x8x128.size a ≤ S1x1x8x1280.size a := by
  revert p; decide
abbrev rBias (p : Fin 10) : Rect S1x1x8x1280 := Rect.unit ![0, 0, 0, 128 * p.val] S1x1x8x128.size (inb_bias p)

/-- The activations of plane `p`, from the left operand. -/
def plane (w : Vec F S1x1x1536x1280 .i8) (S : Vec F S4x12x1280 .i32) (X : Vec F S16x2x3072 .bf16) (x1 : Vec F S1x32x128 .f32) (x2 : Vec F S1x1x32x128 .f32)
    (x5 : Vec F S1x1x8x1280 .f32) (p : Fin 10) : Vec F S1x32x128 .f32 :=
  match p.val % 2 with
  | 0 => act0 (acc w S X ⟨p.val / 2, by omega⟩ 11 (by omega)) (rowScale x1) (gate x2) (View.ld (Val := Elt F) x5 (rBias p))
  | _ => act1 (acc w S X ⟨p.val / 2, by omega⟩ 11 (by omega)) (rowScale x1) (gate x2) (View.ld (Val := Elt F) x5 (rBias p))

/-- The row maxima over all planes. -/
def rowMaxOf (P : Fin 10 → Vec F S1x32x128 .f32) : Vec F S32x128 .f32 := rowMax (P 0) (P 1) (P 2) (P 3) (P 4) (P 5) (P 6) (P 7) (P 8) (P 9)

/-- The largest magnitudes, the first result. -/
def out6 (P : Fin 10 → Vec F S1x32x128 .f32) : Vec F S1x1x16x128 .f32 := shapeCast S1x1x16x128 (pairMax (rowMaxOf P)) shapeCasts_S16x128_S1x1x16x128
/-- The scales, the second result. -/
def out7 (P : Fin 10 → Vec F S1x32x128 .f32) : Vec F S1x1x16x128 .f32 := shapeCast S1x1x16x128 (scaleOf (pairMax (rowMaxOf P))) shapeCasts_S16x128_S1x1x16x128
/-- Output plane `p` of the codes. -/
def outAt (P : Fin 10 → Vec F S1x32x128 .f32) (p : Fin 20) : Vec F S1x1x1x16x128 .f32 :=
  unpack (match p.val % 2 with | 0 => 0#32 | _ => 64#32) (codes (recip (twice (scaleOf (pairMax (rowMaxOf P))))) (P ⟨p.val / 2, by omega⟩))
/-- The stores of the codes. -/
abbrev outPieces (P : Fin 10 → Vec F S1x32x128 .f32) : List (View.Piece (Elt F) S1x1x20x16x128 .f32) :=
  down 20 fun p => ⟨rOut p, outAt P p⟩
/-- The codes, the third result. -/
def out8 (P : Fin 10 → Vec F S1x32x128 .f32) : Vec F S1x1x20x16x128 .f32 := fun i => outAt P (i 2) (ix5 (0 : Fin 1) (0 : Fin 1) (0 : Fin 1) (i 3) (i 4))

theorem rOut_inj (i j : Fin 20) (x : (rOut i).shape.Idx) (y : (rOut j).shape.Idx) (h : (rOut j).emb y = (rOut i).emb x) : j = i := by
  have h0 := congrArg (fun z : S1x1x20x16x128.Idx => (z 2).val) h
  have hx : (x 2).val = 0 := Nat.lt_one_iff.mp (x 2).isLt
  have hy : (y 2).val = 0 := Nat.lt_one_iff.mp (y 2).isLt
  have h1 : j.val + 1 * (y 2).val = i.val + 1 * (x 2).val := h0
  exact Fin.ext (by omega)

theorem canon_out (P : Fin 10 → Vec F S1x32x128 .f32) : View.canon (outPieces P) = out8 P := by
  funext i
  obtain ⟨a0, a1, p, b, l, rfl⟩ : ∃ (a0 : Fin 1) (a1 : Fin 1) (p : Fin 20) (b : Fin 16) (l : Fin 128), i = ix5 a0 a1 p b l :=
    ⟨i 0, i 1, i 2, i 3, i 4, eq_ix5 i⟩
  have e : ix5 a0 a1 p b l = (rOut p).emb (ix5 (0 : Fin 1) (0 : Fin 1) (0 : Fin 1) b l) := by
    funext a
    apply Fin.ext
    match a with
    | ⟨0, _⟩ => show a0.val = 0 + 1 * 0; omega
    | ⟨1, _⟩ => show a1.val = 0 + 1 * 0; omega
    | ⟨2, _⟩ => show p.val = p.val + 1 * 0; omega
    | ⟨3, _⟩ => show b.val = 0 + 1 * b.val; omega
    | ⟨4, _⟩ => show l.val = 0 + 1 * l.val; omega
  rw [e, canon_down_at rOut (fun t => outAt P t) _ _ fun j y h => rOut_inj _ j _ y h, ← e]
  rfl

end
end Cert.KernelIdeal.Body
-- ==== Proof.CaseA.lean ====
module

public import proofs.«01_k».proof.Proof.Gen.KernelIdeal.Value
public import proofs.«01_k».proof.Proof.Parts
public import proofs.«01_k».proof.Proof.Scales

@[expose] public section

set_option maxRecDepth 16384

noncomputable section

namespace Cert.KernelIdeal.CaseA

open Cert.KernelIdeal Cert.KernelIdeal.Gen Idealize.ShloMosaic Idealize.ShloMosaic.TcCoe
open Cert.KernelIdeal.Body

variable {F : FTy → Type} [FloatOps F] [Named F]

variable (c : Dev nD) (arg1 : Memref sig .tc .vmem S1x12x16x128 .f32) (harg1 : arg1.IsWhole) (arg2 : Memref sig .tc .vmem S1x32x128 .f32) (harg2 : arg2.IsWhole) (arg3 : Memref sig .tc .vmem S1x1x32x128 .f32) (harg3 : arg3.IsWhole) (arg4 : Memref sig .tc .vmem S1x1x1536x1280 .i8) (harg4 : arg4.IsWhole) (arg5 : Memref sig .tc .vmem S1x1x48x2560 .i8) (harg5 : arg5.IsWhole) (arg6 : Memref sig .tc .vmem S1x1x8x1280 .f32) (harg6 : arg6.IsWhole) (arg10 : Memref sig .tc .vmem S16x2x3072 .bf16) (harg10 : arg10.IsWhole) (arg11 : Memref sig .tc .vmem S4x12x1280 .i32) (harg11 : arg11.IsWhole) (arg12 : Memref sig .tc .vmem S10x32x128 .f32) (harg12 : arg12.IsWhole) (arg13 : Memref sig .tc .vmem S32x128 .f32) (harg13 : arg13.IsWhole)
  (x0 : Vec F S1x12x16x128 .f32) (x1 : Vec F S1x32x128 .f32) (x2 : Vec F S1x1x32x128 .f32) (x3 : Vec F S1x1x1536x1280 .i8) (x4 : Vec F S1x1x48x2560 .i8) (x5 : Vec F S1x1x8x1280 .f32) (xs0 : Vec F S16x2x3072 .bf16)
/-- The stores of the scale words. -/
theorem wordsList : (kernelRun0_A.sl.HS1_40 c arg5 harg5 x4) = wordPieces (F := F) (Scales.dwords (View.ld (Val := Elt F) x4 (Rect.unit ![0, 0, 0, 0] S1x1x48x2560.size inb_S1x1x48x2560_S1x1x48x2560_0_0_0_0))) := by
  rw [← harg5.read_unread (Val := Elt F) x4, ← View.readAt_eq_ld, harg5.read_unread]
  rfl

theorem wordsCanon : View.canon (kernelRun0_A.sl.HS1_40 c arg5 harg5 x4) = (words x4) := by
  rw [wordsList, canon_words, View.ld_unit_lit _ _ (by decide)]

/-- The stores of the left operand. -/
theorem leftList : (kernelRun0_A.sl.HS0_24 c arg1 harg1 x0) = leftPieces x0 := by
  refine Eq.trans (b := leftPieces (arg1.view.read (Elt F) (harg1.unread x0))) rfl ?_
  rw [harg1.read_unread]

theorem leftCanon : View.canon (kernelRun0_A.sl.HS0_24 c arg1 harg1 x0) = left x0 := by
  rw [leftList, canon_left]

theorem rowScaleWord : (kernelRun0_A.sl.v1152 c arg2 harg2 x1) = rowScale x1 := by
  refine Eq.trans (b := rowScale (View.ld (Val := Elt F) (arg2.view.read (Elt F) (harg2.unread x1)) (Rect.unit ![0, 0, 0] S1x32x128.size inb_S1x32x128_S1x32x128_0_0_0))) rfl ?_
  rw [harg2.read_unread, View.ld_unit_lit _ _ (by decide)]

theorem gateWord : (kernelRun0_A.sl.v1148 c arg3 harg3 x2) = gate x2 := by
  refine Eq.trans (b := gate (View.ld (Val := Elt F) (arg3.view.read (Elt F) (harg3.unread x2)) (Rect.unit ![0, 0, 0, 0] S1x1x32x128.size inb_S1x1x32x128_S1x1x32x128_0_0_0_0))) rfl ?_
  rw [harg3.read_unread, View.ld_unit_lit _ _ (by decide)]

theorem step_0_0 : Tile.step (View.readAt (Elt F) arg4.view (rBytes 0 0).toLoadRect (harg4.unread x3)) (arg11.view.readCov (kernelRun0_A.sl.HS1_40 c arg5 harg5 x4) (rWords 0 0 0).toLoadRect) (arg11.view.readCov (kernelRun0_A.sl.HS1_40 c arg5 harg5 x4) (rWords 1 0 0).toLoadRect) (arg11.view.readCov (kernelRun0_A.sl.HS1_40 c arg5 harg5 x4) (rWords 2 0 0).toLoadRect) (arg11.view.readCov (kernelRun0_A.sl.HS1_40 c arg5 harg5 x4) (rWords 3 0 0).toLoadRect) (arg10.view.readCov (kernelRun0_A.sl.HS0_24 c arg1 harg1 x0) (rLeft 0).toLoadRect) = stepAt x3 (words x4) (left x0) 0 0 := by
  rw [View.readAt_eq_ld, harg4.read_unread, View.readCov_eq_canon', View.readCov_eq_canon', View.readCov_eq_canon', View.readCov_eq_canon', View.readCov_eq_canon', wordsCanon, leftCanon]
  rfl

theorem acc_0_0 : (kernelRun0_A.sl.v1231 c arg1 harg1 arg4 harg4 arg5 harg5 arg10 arg11 x0 x3 x4) = acc x3 (words x4) (left x0) 0 0 (by omega) :=
  (show (kernelRun0_A.sl.v1231 c arg1 harg1 arg4 harg4 arg5 harg5 arg10 arg11 x0 x3 x4) = Tile.step (View.readAt (Elt F) arg4.view (rBytes 0 0).toLoadRect (harg4.unread x3)) (arg11.view.readCov (kernelRun0_A.sl.HS1_40 c arg5 harg5 x4) (rWords 0 0 0).toLoadRect) (arg11.view.readCov (kernelRun0_A.sl.HS1_40 c arg5 harg5 x4) (rWords 1 0 0).toLoadRect) (arg11.view.readCov (kernelRun0_A.sl.HS1_40 c arg5 harg5 x4) (rWords 2 0 0).toLoadRect) (arg11.view.readCov (kernelRun0_A.sl.HS1_40 c arg5 harg5 x4) (rWords 3 0 0).toLoadRect) (arg10.view.readCov (kernelRun0_A.sl.HS0_24 c arg1 harg1 x0) (rLeft 0).toLoadRect) from rfl).trans (step_0_0 ..)

theorem step_0_1 : Tile.step (View.readAt (Elt F) arg4.view (rBytes 0 1).toLoadRect (harg4.unread x3)) (arg11.view.readCov (kernelRun0_A.sl.HS1_40 c arg5 harg5 x4) (rWords 0 0 1).toLoadRect) (arg11.view.readCov (kernelRun0_A.sl.HS1_40 c arg5 harg5 x4) (rWords 1 0 1).toLoadRect) (arg11.view.readCov (kernelRun0_A.sl.HS1_40 c arg5 harg5 x4) (rWords 2 0 1).toLoadRect) (arg11.view.readCov (kernelRun0_A.sl.HS1_40 c arg5 harg5 x4) (rWords 3 0 1).toLoadRect) (arg10.view.readCov (kernelRun0_A.sl.HS0_24 c arg1 harg1 x0) (rLeft 1).toLoadRect) = stepAt x3 (words x4) (left x0) 0 1 := by
  rw [View.readAt_eq_ld, harg4.read_unread, View.readCov_eq_canon', View.readCov_eq_canon', View.readCov_eq_canon', View.readCov_eq_canon', View.readCov_eq_canon', wordsCanon, leftCanon]
  rfl

theorem acc_0_1 : (kernelRun0_A.sl.v1311 c arg1 harg1 arg4 harg4 arg5 harg5 arg10 arg11 x0 x3 x4) = acc x3 (words x4) (left x0) 0 1 (by omega) :=
  (show (kernelRun0_A.sl.v1311 c arg1 harg1 arg4 harg4 arg5 harg5 arg10 arg11 x0 x3 x4) = addf (kernelRun0_A.sl.v1231 c arg1 harg1 arg4 harg4 arg5 harg5 arg10 arg11 x0 x3 x4) (Tile.step (View.readAt (Elt F) arg4.view (rBytes 0 1).toLoadRect (harg4.unread x3)) (arg11.view.readCov (kernelRun0_A.sl.HS1_40 c arg5 harg5 x4) (rWords 0 0 1).toLoadRect) (arg11.view.readCov (kernelRun0_A.sl.HS1_40 c arg5 harg5 x4) (rWords 1 0 1).toLoadRect) (arg11.view.readCov (kernelRun0_A.sl.HS1_40 c arg5 harg5 x4) (rWords 2 0 1).toLoadRect) (arg11.view.readCov (kernelRun0_A.sl.HS1_40 c arg5 harg5 x4) (rWords 3 0 1).toLoadRect) (arg10.view.readCov (kernelRun0_A.sl.HS0_24 c arg1 harg1 x0) (rLeft 1).toLoadRect)) from rfl).trans (congrArg₂ addf (acc_0_0 ..) (step_0_1 ..))

theorem step_0_2 : Tile.step (View.readAt (Elt F) arg4.view (rBytes 0 2).toLoadRect (harg4.unread x3)) (arg11.view.readCov (kernelRun0_A.sl.HS1_40 c arg5 harg5 x4) (rWords 0 0 2).toLoadRect) (arg11.view.readCov (kernelRun0_A.sl.HS1_40 c arg5 harg5 x4) (rWords 1 0 2).toLoadRect) (arg11.view.readCov (kernelRun0_A.sl.HS1_40 c arg5 harg5 x4) (rWords 2 0 2).toLoadRect) (arg11.view.readCov (kernelRun0_A.sl.HS1_40 c arg5 harg5 x4) (rWords 3 0 2).toLoadRect) (arg10.view.readCov (kernelRun0_A.sl.HS0_24 c arg1 harg1 x0) (rLeft 2).toLoadRect) = stepAt x3 (words x4) (left x0) 0 2 := by
  rw [View.readAt_eq_ld, harg4.read_unread, View.readCov_eq_canon', View.readCov_eq_canon', View.readCov_eq_canon', View.readCov_eq_canon', View.readCov_eq_canon', wordsCanon, leftCanon]
  rfl

theorem acc_0_2 : (kernelRun0_A.sl.v1391 c arg1 harg1 arg4 harg4 arg5 harg5 arg10 arg11 x0 x3 x4) = acc x3 (words x4) (left x0) 0 2 (by omega) :=
  (show (kernelRun0_A.sl.v1391 c arg1 harg1 arg4 harg4 arg5 harg5 arg10 arg11 x0 x3 x4) = addf (kernelRun0_A.sl.v1311 c arg1 harg1 arg4 harg4 arg5 harg5 arg10 arg11 x0 x3 x4) (Tile.step (View.readAt (Elt F) arg4.view (rBytes 0 2).toLoadRect (harg4.unread x3)) (arg11.view.readCov (kernelRun0_A.sl.HS1_40 c arg5 harg5 x4) (rWords 0 0 2).toLoadRect) (arg11.view.readCov (kernelRun0_A.sl.HS1_40 c arg5 harg5 x4) (rWords 1 0 2).toLoadRect) (arg11.view.readCov (kernelRun0_A.sl.HS1_40 c arg5 harg5 x4) (rWords 2 0 2).toLoadRect) (arg11.view.readCov (kernelRun0_A.sl.HS1_40 c arg5 harg5 x4) (rWords 3 0 2).toLoadRect) (arg10.view.readCov (kernelRun0_A.sl.HS0_24 c arg1 harg1 x0) (rLeft 2).toLoadRect)) from rfl).trans (congrArg₂ addf (acc_0_1 ..) (step_0_2 ..))

theorem step_0_3 : Tile.step (View.readAt (Elt F) arg4.view (rBytes 0 3).toLoadRect (harg4.unread x3)) (arg11.view.readCov (kernelRun0_A.sl.HS1_40 c arg5 harg5 x4) (rWords 0 0 3).toLoadRect) (arg11.view.readCov (kernelRun0_A.sl.HS1_40 c arg5 harg5 x4) (rWords 1 0 3).toLoadRect) (arg11.view.readCov (kernelRun0_A.sl.HS1_40 c arg5 harg5 x4) (rWords 2 0 3).toLoadRect) (arg11.view.readCov (kernelRun0_A.sl.HS1_40 c arg5 harg5 x4) (rWords 3 0 3).toLoadRect) (arg10.view.readCov (kernelRun0_A.sl.HS0_24 c arg1 harg1 x0) (rLeft 3).toLoadRect) = stepAt x3 (words x4) (left x0) 0 3 := by
  rw [View.readAt_eq_ld, harg4.read_unread, View.readCov_eq_canon', View.readCov_eq_canon', View.readCov_eq_canon', View.readCov_eq_canon', View.readCov_eq_canon', wordsCanon, leftCanon]
  rfl

theorem acc_0_3 : (kernelRun0_A.sl.v1471 c arg1 harg1 arg4 harg4 arg5 harg5 arg10 arg11 x0 x3 x4) = acc x3 (words x4) (left x0) 0 3 (by omega) :=
  (show (kernelRun0_A.sl.v1471 c arg1 harg1 arg4 harg4 arg5 harg5 arg10 arg11 x0 x3 x4) = addf (kernelRun0_A.sl.v1391 c arg1 harg1 arg4 harg4 arg5 harg5 arg10 arg11 x0 x3 x4) (Tile.step (View.readAt (Elt F) arg4.view (rBytes 0 3).toLoadRect (harg4.unread x3)) (arg11.view.readCov (kernelRun0_A.sl.HS1_40 c arg5 harg5 x4) (rWords 0 0 3).toLoadRect) (arg11.view.readCov (kernelRun0_A.sl.HS1_40 c arg5 harg5 x4) (rWords 1 0 3).toLoadRect) (arg11.view.readCov (kernelRun0_A.sl.HS1_40 c arg5 harg5 x4) (rWords 2 0 3).toLoadRect) (arg11.view.readCov (kernelRun0_A.sl.HS1_40 c arg5 harg5 x4) (rWords 3 0 3).toLoadRect) (arg10.view.readCov (kernelRun0_A.sl.HS0_24 c arg1 harg1 x0) (rLeft 3).toLoadRect)) from rfl).trans (congrArg₂ addf (acc_0_2 ..) (step_0_3 ..))

theorem step_0_4 : Tile.step (View.readAt (Elt F) arg4.view (rBytes 0 4).toLoadRect (harg4.unread x3)) (arg11.view.readCov (kernelRun0_A.sl.HS1_40 c arg5 harg5 x4) (rWords 0 0 4).toLoadRect) (arg11.view.readCov (kernelRun0_A.sl.HS1_40 c arg5 harg5 x4) (rWords 1 0 4).toLoadRect) (arg11.view.readCov (kernelRun0_A.sl.HS1_40 c arg5 harg5 x4) (rWords 2 0 4).toLoadRect) (arg11.view.readCov (kernelRun0_A.sl.HS1_40 c arg5 harg5 x4) (rWords 3 0 4).toLoadRect) (arg10.view.readCov (kernelRun0_A.sl.HS0_24 c arg1 harg1 x0) (rLeft 4).toLoadRect) = stepAt x3 (words x4) (left x0) 0 4 := by
  rw [View.readAt_eq_ld, harg4.read_unread, View.readCov_eq_canon', View.readCov_eq_canon', View.readCov_eq_canon', View.readCov_eq_canon', View.readCov_eq_canon', wordsCanon, leftCanon]
  rfl

theorem acc_0_4 : (kernelRun0_A.sl.v1551 c arg1 harg1 arg4 harg4 arg5 harg5 arg10 arg11 x0 x3 x4) = acc x3 (words x4) (left x0) 0 4 (by omega) :=
  (show (kernelRun0_A.sl.v1551 c arg1 harg1 arg4 harg4 arg5 harg5 arg10 arg11 x0 x3 x4) = addf (kernelRun0_A.sl.v1471 c arg1 harg1 arg4 harg4 arg5 harg5 arg10 arg11 x0 x3 x4) (Tile.step (View.readAt (Elt F) arg4.view (rBytes 0 4).toLoadRect (harg4.unread x3)) (arg11.view.readCov (kernelRun0_A.sl.HS1_40 c arg5 harg5 x4) (rWords 0 0 4).toLoadRect) (arg11.view.readCov (kernelRun0_A.sl.HS1_40 c arg5 harg5 x4) (rWords 1 0 4).toLoadRect) (arg11.view.readCov (kernelRun0_A.sl.HS1_40 c arg5 harg5 x4) (rWords 2 0 4).toLoadRect) (arg11.view.readCov (kernelRun0_A.sl.HS1_40 c arg5 harg5 x4) (rWords 3 0 4).toLoadRect) (arg10.view.readCov (kernelRun0_A.sl.HS0_24 c arg1 harg1 x0) (rLeft 4).toLoadRect)) from rfl).trans (congrArg₂ addf (acc_0_3 ..) (step_0_4 ..))

theorem step_0_5 : Tile.step (View.readAt (Elt F) arg4.view (rBytes 0 5).toLoadRect (harg4.unread x3)) (arg11.view.readCov (kernelRun0_A.sl.HS1_40 c arg5 harg5 x4) (rWords 0 0 5).toLoadRect) (arg11.view.readCov (kernelRun0_A.sl.HS1_40 c arg5 harg5 x4) (rWords 1 0 5).toLoadRect) (arg11.view.readCov (kernelRun0_A.sl.HS1_40 c arg5 harg5 x4) (rWords 2 0 5).toLoadRect) (arg11.view.readCov (kernelRun0_A.sl.HS1_40 c arg5 harg5 x4) (rWords 3 0 5).toLoadRect) (arg10.view.readCov (kernelRun0_A.sl.HS0_24 c arg1 harg1 x0) (rLeft 5).toLoadRect) = stepAt x3 (words x4) (left x0) 0 5 := by
  rw [View.readAt_eq_ld, harg4.read_unread, View.readCov_eq_canon', View.readCov_eq_canon', View.readCov_eq_canon', View.readCov_eq_canon', View.readCov_eq_canon', wordsCanon, leftCanon]
  rfl

theorem acc_0_5 : (kernelRun0_A.sl.v1631 c arg1 harg1 arg4 harg4 arg5 harg5 arg10 arg11 x0 x3 x4) = acc x3 (words x4) (left x0) 0 5 (by omega) :=
  (show (kernelRun0_A.sl.v1631 c arg1 harg1 arg4 harg4 arg5 harg5 arg10 arg11 x0 x3 x4) = addf (kernelRun0_A.sl.v1551 c arg1 harg1 arg4 harg4 arg5 harg5 arg10 arg11 x0 x3 x4) (Tile.step (View.readAt (Elt F) arg4.view (rBytes 0 5).toLoadRect (harg4.unread x3)) (arg11.view.readCov (kernelRun0_A.sl.HS1_40 c arg5 harg5 x4) (rWords 0 0 5).toLoadRect) (arg11.view.readCov (kernelRun0_A.sl.HS1_40 c arg5 harg5 x4) (rWords 1 0 5).toLoadRect) (arg11.view.readCov (kernelRun0_A.sl.HS1_40 c arg5 harg5 x4) (rWords 2 0 5).toLoadRect) (arg11.view.readCov (kernelRun0_A.sl.HS1_40 c arg5 harg5 x4) (rWords 3 0 5).toLoadRect) (arg10.view.readCov (kernelRun0_A.sl.HS0_24 c arg1 harg1 x0) (rLeft 5).toLoadRect)) from rfl).trans (congrArg₂ addf (acc_0_4 ..) (step_0_5 ..))

theorem step_0_6 : Tile.step (View.readAt (Elt F) arg4.view (rBytes 0 6).toLoadRect (harg4.unread x3)) (arg11.view.readCov (kernelRun0_A.sl.HS1_40 c arg5 harg5 x4) (rWords 0 0 6).toLoadRect) (arg11.view.readCov (kernelRun0_A.sl.HS1_40 c arg5 harg5 x4) (rWords 1 0 6).toLoadRect) (arg11.view.readCov (kernelRun0_A.sl.HS1_40 c arg5 harg5 x4) (rWords 2 0 6).toLoadRect) (arg11.view.readCov (kernelRun0_A.sl.HS1_40 c arg5 harg5 x4) (rWords 3 0 6).toLoadRect) (arg10.view.readCov (kernelRun0_A.sl.HS0_24 c arg1 harg1 x0) (rLeft 6).toLoadRect) = stepAt x3 (words x4) (left x0) 0 6 := by
  rw [View.readAt_eq_ld, harg4.read_unread, View.readCov_eq_canon', View.readCov_eq_canon', View.readCov_eq_canon', View.readCov_eq_canon', View.readCov_eq_canon', wordsCanon, leftCanon]
  rfl

theorem acc_0_6 : (kernelRun0_A.sl.v1711 c arg1 harg1 arg4 harg4 arg5 harg5 arg10 arg11 x0 x3 x4) = acc x3 (words x4) (left x0) 0 6 (by omega) :=
  (show (kernelRun0_A.sl.v1711 c arg1 harg1 arg4 harg4 arg5 harg5 arg10 arg11 x0 x3 x4) = addf (kernelRun0_A.sl.v1631 c arg1 harg1 arg4 harg4 arg5 harg5 arg10 arg11 x0 x3 x4) (Tile.step (View.readAt (Elt F) arg4.view (rBytes 0 6).toLoadRect (harg4.unread x3)) (arg11.view.readCov (kernelRun0_A.sl.HS1_40 c arg5 harg5 x4) (rWords 0 0 6).toLoadRect) (arg11.view.readCov (kernelRun0_A.sl.HS1_40 c arg5 harg5 x4) (rWords 1 0 6).toLoadRect) (arg11.view.readCov (kernelRun0_A.sl.HS1_40 c arg5 harg5 x4) (rWords 2 0 6).toLoadRect) (arg11.view.readCov (kernelRun0_A.sl.HS1_40 c arg5 harg5 x4) (rWords 3 0 6).toLoadRect) (arg10.view.readCov (kernelRun0_A.sl.HS0_24 c arg1 harg1 x0) (rLeft 6).toLoadRect)) from rfl).trans (congrArg₂ addf (acc_0_5 ..) (step_0_6 ..))

theorem step_0_7 : Tile.step (View.readAt (Elt F) arg4.view (rBytes 0 7).toLoadRect (harg4.unread x3)) (arg11.view.readCov (kernelRun0_A.sl.HS1_40 c arg5 harg5 x4) (rWords 0 0 7).toLoadRect) (arg11.view.readCov (kernelRun0_A.sl.HS1_40 c arg5 harg5 x4) (rWords 1 0 7).toLoadRect) (arg11.view.readCov (kernelRun0_A.sl.HS1_40 c arg5 harg5 x4) (rWords 2 0 7).toLoadRect) (arg11.view.readCov (kernelRun0_A.sl.HS1_40 c arg5 harg5 x4) (rWords 3 0 7).toLoadRect) (arg10.view.readCov (kernelRun0_A.sl.HS0_24 c arg1 harg1 x0) (rLeft 7).toLoadRect) = stepAt x3 (words x4) (left x0) 0 7 := by
  rw [View.readAt_eq_ld, harg4.read_unread, View.readCov_eq_canon', View.readCov_eq_canon', View.readCov_eq_canon', View.readCov_eq_canon', View.readCov_eq_canon', wordsCanon, leftCanon]
  rfl

theorem acc_0_7 : (kernelRun0_A.sl.v1791 c arg1 harg1 arg4 harg4 arg5 harg5 arg10 arg11 x0 x3 x4) = acc x3 (words x4) (left x0) 0 7 (by omega) :=
  (show (kernelRun0_A.sl.v1791 c arg1 harg1 arg4 harg4 arg5 harg5 arg10 arg11 x0 x3 x4) = addf (kernelRun0_A.sl.v1711 c arg1 harg1 arg4 harg4 arg5 harg5 arg10 arg11 x0 x3 x4) (Tile.step (View.readAt (Elt F) arg4.view (rBytes 0 7).toLoadRect (harg4.unread x3)) (arg11.view.readCov (kernelRun0_A.sl.HS1_40 c arg5 harg5 x4) (rWords 0 0 7).toLoadRect) (arg11.view.readCov (kernelRun0_A.sl.HS1_40 c arg5 harg5 x4) (rWords 1 0 7).toLoadRect) (arg11.view.readCov (kernelRun0_A.sl.HS1_40 c arg5 harg5 x4) (rWords 2 0 7).toLoadRect) (arg11.view.readCov (kernelRun0_A.sl.HS1_40 c arg5 harg5 x4) (rWords 3 0 7).toLoadRect) (arg10.view.readCov (kernelRun0_A.sl.HS0_24 c arg1 harg1 x0) (rLeft 7).toLoadRect)) from rfl).trans (congrArg₂ addf (acc_0_6 ..) (step_0_7 ..))

theorem step_0_8 : Tile.step (View.readAt (Elt F) arg4.view (rBytes 0 8).toLoadRect (harg4.unread x3)) (arg11.view.readCov (kernelRun0_A.sl.HS1_40 c arg5 harg5 x4) (rWords 0 0 8).toLoadRect) (arg11.view.readCov (kernelRun0_A.sl.HS1_40 c arg5 harg5 x4) (rWords 1 0 8).toLoadRect) (arg11.view.readCov (kernelRun0_A.sl.HS1_40 c arg5 harg5 x4) (rWords 2 0 8).toLoadRect) (arg11.view.readCov (kernelRun0_A.sl.HS1_40 c arg5 harg5 x4) (rWords 3 0 8).toLoadRect) (arg10.view.readCov (kernelRun0_A.sl.HS0_24 c arg1 harg1 x0) (rLeft 8).toLoadRect) = stepAt x3 (words x4) (left x0) 0 8 := by
  rw [View.readAt_eq_ld, harg4.read_unread, View.readCov_eq_canon', View.readCov_eq_canon', View.readCov_eq_canon', View.readCov_eq_canon', View.readCov_eq_canon', wordsCanon, leftCanon]
  rfl

theorem acc_0_8 : (kernelRun0_A.sl.v1871 c arg1 harg1 arg4 harg4 arg5 harg5 arg10 arg11 x0 x3 x4) = acc x3 (words x4) (left x0) 0 8 (by omega) :=
  (show (kernelRun0_A.sl.v1871 c arg1 harg1 arg4 harg4 arg5 harg5 arg10 arg11 x0 x3 x4) = addf (kernelRun0_A.sl.v1791 c arg1 harg1 arg4 harg4 arg5 harg5 arg10 arg11 x0 x3 x4) (Tile.step (View.readAt (Elt F) arg4.view (rBytes 0 8).toLoadRect (harg4.unread x3)) (arg11.view.readCov (kernelRun0_A.sl.HS1_40 c arg5 harg5 x4) (rWords 0 0 8).toLoadRect) (arg11.view.readCov (kernelRun0_A.sl.HS1_40 c arg5 harg5 x4) (rWords 1 0 8).toLoadRect) (arg11.view.readCov (kernelRun0_A.sl.HS1_40 c arg5 harg5 x4) (rWords 2 0 8).toLoadRect) (arg11.view.readCov (kernelRun0_A.sl.HS1_40 c arg5 harg5 x4) (rWords 3 0 8).toLoadRect) (arg10.view.readCov (kernelRun0_A.sl.HS0_24 c arg1 harg1 x0) (rLeft 8).toLoadRect)) from rfl).trans (congrArg₂ addf (acc_0_7 ..) (step_0_8 ..))

theorem step_0_9 : Tile.step (View.readAt (Elt F) arg4.view (rBytes 0 9).toLoadRect (harg4.unread x3)) (arg11.view.readCov (kernelRun0_A.sl.HS1_40 c arg5 harg5 x4) (rWords 0 0 9).toLoadRect) (arg11.view.readCov (kernelRun0_A.sl.HS1_40 c arg5 harg5 x4) (rWords 1 0 9).toLoadRect) (arg11.view.readCov (kernelRun0_A.sl.HS1_40 c arg5 harg5 x4) (rWords 2 0 9).toLoadRect) (arg11.view.readCov (kernelRun0_A.sl.HS1_40 c arg5 harg5 x4) (rWords 3 0 9).toLoadRect) (arg10.view.readCov (kernelRun0_A.sl.HS0_24 c arg1 harg1 x0) (rLeft 9).toLoadRect) = stepAt x3 (words x4) (left x0) 0 9 := by
  rw [View.readAt_eq_ld, harg4.read_unread, View.readCov_eq_canon', View.readCov_eq_canon', View.readCov_eq_canon', View.readCov_eq_canon', View.readCov_eq_canon', wordsCanon, leftCanon]
  rfl

theorem acc_0_9 : (kernelRun0_A.sl.v1951 c arg1 harg1 arg4 harg4 arg5 harg5 arg10 arg11 x0 x3 x4) = acc x3 (words x4) (left x0) 0 9 (by omega) :=
  (show (kernelRun0_A.sl.v1951 c arg1 harg1 arg4 harg4 arg5 harg5 arg10 arg11 x0 x3 x4) = addf (kernelRun0_A.sl.v1871 c arg1 harg1 arg4 harg4 arg5 harg5 arg10 arg11 x0 x3 x4) (Tile.step (View.readAt (Elt F) arg4.view (rBytes 0 9).toLoadRect (harg4.unread x3)) (arg11.view.readCov (kernelRun0_A.sl.HS1_40 c arg5 harg5 x4) (rWords 0 0 9).toLoadRect) (arg11.view.readCov (kernelRun0_A.sl.HS1_40 c arg5 harg5 x4) (rWords 1 0 9).toLoadRect) (arg11.view.readCov (kernelRun0_A.sl.HS1_40 c arg5 harg5 x4) (rWords 2 0 9).toLoadRect) (arg11.view.readCov (kernelRun0_A.sl.HS1_40 c arg5 harg5 x4) (rWords 3 0 9).toLoadRect) (arg10.view.readCov (kernelRun0_A.sl.HS0_24 c arg1 harg1 x0) (rLeft 9).toLoadRect)) from rfl).trans (congrArg₂ addf (acc_0_8 ..) (step_0_9 ..))

theorem step_0_10 : Tile.step (View.readAt (Elt F) arg4.view (rBytes 0 10).toLoadRect (harg4.unread x3)) (arg11.view.readCov (kernelRun0_A.sl.HS1_40 c arg5 harg5 x4) (rWords 0 0 10).toLoadRect) (arg11.view.readCov (kernelRun0_A.sl.HS1_40 c arg5 harg5 x4) (rWords 1 0 10).toLoadRect) (arg11.view.readCov (kernelRun0_A.sl.HS1_40 c arg5 harg5 x4) (rWords 2 0 10).toLoadRect) (arg11.view.readCov (kernelRun0_A.sl.HS1_40 c arg5 harg5 x4) (rWords 3 0 10).toLoadRect) (arg10.view.readCov (kernelRun0_A.sl.HS0_24 c arg1 harg1 x0) (rLeft 10).toLoadRect) = stepAt x3 (words x4) (left x0) 0 10 := by
  rw [View.readAt_eq_ld, harg4.read_unread, View.readCov_eq_canon', View.readCov_eq_canon', View.readCov_eq_canon', View.readCov_eq_canon', View.readCov_eq_canon', wordsCanon, leftCanon]
  rfl

theorem acc_0_10 : (kernelRun0_A.sl.v2031 c arg1 harg1 arg4 harg4 arg5 harg5 arg10 arg11 x0 x3 x4) = acc x3 (words x4) (left x0) 0 10 (by omega) :=
  (show (kernelRun0_A.sl.v2031 c arg1 harg1 arg4 harg4 arg5 harg5 arg10 arg11 x0 x3 x4) = addf (kernelRun0_A.sl.v1951 c arg1 harg1 arg4 harg4 arg5 harg5 arg10 arg11 x0 x3 x4) (Tile.step (View.readAt (Elt F) arg4.view (rBytes 0 10).toLoadRect (harg4.unread x3)) (arg11.view.readCov (kernelRun0_A.sl.HS1_40 c arg5 harg5 x4) (rWords 0 0 10).toLoadRect) (arg11.view.readCov (kernelRun0_A.sl.HS1_40 c arg5 harg5 x4) (rWords 1 0 10).toLoadRect) (arg11.view.readCov (kernelRun0_A.sl.HS1_40 c arg5 harg5 x4) (rWords 2 0 10).toLoadRect) (arg11.view.readCov (kernelRun0_A.sl.HS1_40 c arg5 harg5 x4) (rWords 3 0 10).toLoadRect) (arg10.view.readCov (kernelRun0_A.sl.HS0_24 c arg1 harg1 x0) (rLeft 10).toLoadRect)) from rfl).trans (congrArg₂ addf (acc_0_9 ..) (step_0_10 ..))

theorem step_0_11 : Tile.step (View.readAt (Elt F) arg4.view (rBytes 0 11).toLoadRect (harg4.unread x3)) (arg11.view.readCov (kernelRun0_A.sl.HS1_40 c arg5 harg5 x4) (rWords 0 0 11).toLoadRect) (arg11.view.readCov (kernelRun0_A.sl.HS1_40 c arg5 harg5 x4) (rWords 1 0 11).toLoadRect) (arg11.view.readCov (kernelRun0_A.sl.HS1_40 c arg5 harg5 x4) (rWords 2 0 11).toLoadRect) (arg11.view.readCov (kernelRun0_A.sl.HS1_40 c arg5 harg5 x4) (rWords 3 0 11).toLoadRect) (arg10.view.readCov (kernelRun0_A.sl.HS0_24 c arg1 harg1 x0) (rLeft 11).toLoadRect) = stepAt x3 (words x4) (left x0) 0 11 := by
  rw [View.readAt_eq_ld, harg4.read_unread, View.readCov_eq_canon', View.readCov_eq_canon', View.readCov_eq_canon', View.readCov_eq_canon', View.readCov_eq_canon', wordsCanon, leftCanon]
  rfl

theorem plane_0 : act0 (addf (kernelRun0_A.sl.v2031 c arg1 harg1 arg4 harg4 arg5 harg5 arg10 arg11 x0 x3 x4) (Tile.step (View.readAt (Elt F) arg4.view (rBytes 0 11).toLoadRect (harg4.unread x3)) (arg11.view.readCov (kernelRun0_A.sl.HS1_40 c arg5 harg5 x4) (rWords 0 0 11).toLoadRect) (arg11.view.readCov (kernelRun0_A.sl.HS1_40 c arg5 harg5 x4) (rWords 1 0 11).toLoadRect) (arg11.view.readCov (kernelRun0_A.sl.HS1_40 c arg5 harg5 x4) (rWords 2 0 11).toLoadRect) (arg11.view.readCov (kernelRun0_A.sl.HS1_40 c arg5 harg5 x4) (rWords 3 0 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 0).toLoadRect (harg6.unread x5)) = plane x3 (words x4) (left x0) x1 x2 x5 0 := by
  rw [acc_0_10, step_0_11, rowScaleWord, gateWord, View.readAt_eq_ld, harg6.read_unread]
  rfl

theorem plane_1 : act1 (addf (kernelRun0_A.sl.v2031 c arg1 harg1 arg4 harg4 arg5 harg5 arg10 arg11 x0 x3 x4) (Tile.step (View.readAt (Elt F) arg4.view (rBytes 0 11).toLoadRect (harg4.unread x3)) (arg11.view.readCov (kernelRun0_A.sl.HS1_40 c arg5 harg5 x4) (rWords 0 0 11).toLoadRect) (arg11.view.readCov (kernelRun0_A.sl.HS1_40 c arg5 harg5 x4) (rWords 1 0 11).toLoadRect) (arg11.view.readCov (kernelRun0_A.sl.HS1_40 c arg5 harg5 x4) (rWords 2 0 11).toLoadRect) (arg11.view.readCov (kernelRun0_A.sl.HS1_40 c arg5 harg5 x4) (rWords 3 0 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 1).toLoadRect (harg6.unread x5)) = plane x3 (words x4) (left x0) x1 x2 x5 1 := by
  rw [acc_0_10, step_0_11, rowScaleWord, gateWord, View.readAt_eq_ld, harg6.read_unread]
  rfl

theorem step_1_0 : Tile.step (View.readAt (Elt F) arg4.view (rBytes 1 0).toLoadRect (harg4.unread x3)) (arg11.view.readCov (kernelRun0_A.sl.HS1_40 c arg5 harg5 x4) (rWords 0 1 0).toLoadRect) (arg11.view.readCov (kernelRun0_A.sl.HS1_40 c arg5 harg5 x4) (rWords 1 1 0).toLoadRect) (arg11.view.readCov (kernelRun0_A.sl.HS1_40 c arg5 harg5 x4) (rWords 2 1 0).toLoadRect) (arg11.view.readCov (kernelRun0_A.sl.HS1_40 c arg5 harg5 x4) (rWords 3 1 0).toLoadRect) (arg10.view.readCov (kernelRun0_A.sl.HS0_24 c arg1 harg1 x0) (rLeft 0).toLoadRect) = stepAt x3 (words x4) (left x0) 1 0 := by
  rw [View.readAt_eq_ld, harg4.read_unread, View.readCov_eq_canon', View.readCov_eq_canon', View.readCov_eq_canon', View.readCov_eq_canon', View.readCov_eq_canon', wordsCanon, leftCanon]
  rfl

theorem acc_1_0 : (kernelRun0_A.sl.v2226 c arg1 harg1 arg4 harg4 arg5 harg5 arg10 arg11 x0 x3 x4) = acc x3 (words x4) (left x0) 1 0 (by omega) :=
  (show (kernelRun0_A.sl.v2226 c arg1 harg1 arg4 harg4 arg5 harg5 arg10 arg11 x0 x3 x4) = Tile.step (View.readAt (Elt F) arg4.view (rBytes 1 0).toLoadRect (harg4.unread x3)) (arg11.view.readCov (kernelRun0_A.sl.HS1_40 c arg5 harg5 x4) (rWords 0 1 0).toLoadRect) (arg11.view.readCov (kernelRun0_A.sl.HS1_40 c arg5 harg5 x4) (rWords 1 1 0).toLoadRect) (arg11.view.readCov (kernelRun0_A.sl.HS1_40 c arg5 harg5 x4) (rWords 2 1 0).toLoadRect) (arg11.view.readCov (kernelRun0_A.sl.HS1_40 c arg5 harg5 x4) (rWords 3 1 0).toLoadRect) (arg10.view.readCov (kernelRun0_A.sl.HS0_24 c arg1 harg1 x0) (rLeft 0).toLoadRect) from rfl).trans (step_1_0 ..)

theorem step_1_1 : Tile.step (View.readAt (Elt F) arg4.view (rBytes 1 1).toLoadRect (harg4.unread x3)) (arg11.view.readCov (kernelRun0_A.sl.HS1_40 c arg5 harg5 x4) (rWords 0 1 1).toLoadRect) (arg11.view.readCov (kernelRun0_A.sl.HS1_40 c arg5 harg5 x4) (rWords 1 1 1).toLoadRect) (arg11.view.readCov (kernelRun0_A.sl.HS1_40 c arg5 harg5 x4) (rWords 2 1 1).toLoadRect) (arg11.view.readCov (kernelRun0_A.sl.HS1_40 c arg5 harg5 x4) (rWords 3 1 1).toLoadRect) (arg10.view.readCov (kernelRun0_A.sl.HS0_24 c arg1 harg1 x0) (rLeft 1).toLoadRect) = stepAt x3 (words x4) (left x0) 1 1 := by
  rw [View.readAt_eq_ld, harg4.read_unread, View.readCov_eq_canon', View.readCov_eq_canon', View.readCov_eq_canon', View.readCov_eq_canon', View.readCov_eq_canon', wordsCanon, leftCanon]
  rfl

theorem acc_1_1 : (kernelRun0_A.sl.v2306 c arg1 harg1 arg4 harg4 arg5 harg5 arg10 arg11 x0 x3 x4) = acc x3 (words x4) (left x0) 1 1 (by omega) :=
  (show (kernelRun0_A.sl.v2306 c arg1 harg1 arg4 harg4 arg5 harg5 arg10 arg11 x0 x3 x4) = addf (kernelRun0_A.sl.v2226 c arg1 harg1 arg4 harg4 arg5 harg5 arg10 arg11 x0 x3 x4) (Tile.step (View.readAt (Elt F) arg4.view (rBytes 1 1).toLoadRect (harg4.unread x3)) (arg11.view.readCov (kernelRun0_A.sl.HS1_40 c arg5 harg5 x4) (rWords 0 1 1).toLoadRect) (arg11.view.readCov (kernelRun0_A.sl.HS1_40 c arg5 harg5 x4) (rWords 1 1 1).toLoadRect) (arg11.view.readCov (kernelRun0_A.sl.HS1_40 c arg5 harg5 x4) (rWords 2 1 1).toLoadRect) (arg11.view.readCov (kernelRun0_A.sl.HS1_40 c arg5 harg5 x4) (rWords 3 1 1).toLoadRect) (arg10.view.readCov (kernelRun0_A.sl.HS0_24 c arg1 harg1 x0) (rLeft 1).toLoadRect)) from rfl).trans (congrArg₂ addf (acc_1_0 ..) (step_1_1 ..))

theorem step_1_2 : Tile.step (View.readAt (Elt F) arg4.view (rBytes 1 2).toLoadRect (harg4.unread x3)) (arg11.view.readCov (kernelRun0_A.sl.HS1_40 c arg5 harg5 x4) (rWords 0 1 2).toLoadRect) (arg11.view.readCov (kernelRun0_A.sl.HS1_40 c arg5 harg5 x4) (rWords 1 1 2).toLoadRect) (arg11.view.readCov (kernelRun0_A.sl.HS1_40 c arg5 harg5 x4) (rWords 2 1 2).toLoadRect) (arg11.view.readCov (kernelRun0_A.sl.HS1_40 c arg5 harg5 x4) (rWords 3 1 2).toLoadRect) (arg10.view.readCov (kernelRun0_A.sl.HS0_24 c arg1 harg1 x0) (rLeft 2).toLoadRect) = stepAt x3 (words x4) (left x0) 1 2 := by
  rw [View.readAt_eq_ld, harg4.read_unread, View.readCov_eq_canon', View.readCov_eq_canon', View.readCov_eq_canon', View.readCov_eq_canon', View.readCov_eq_canon', wordsCanon, leftCanon]
  rfl

theorem acc_1_2 : (kernelRun0_A.sl.v2386 c arg1 harg1 arg4 harg4 arg5 harg5 arg10 arg11 x0 x3 x4) = acc x3 (words x4) (left x0) 1 2 (by omega) :=
  (show (kernelRun0_A.sl.v2386 c arg1 harg1 arg4 harg4 arg5 harg5 arg10 arg11 x0 x3 x4) = addf (kernelRun0_A.sl.v2306 c arg1 harg1 arg4 harg4 arg5 harg5 arg10 arg11 x0 x3 x4) (Tile.step (View.readAt (Elt F) arg4.view (rBytes 1 2).toLoadRect (harg4.unread x3)) (arg11.view.readCov (kernelRun0_A.sl.HS1_40 c arg5 harg5 x4) (rWords 0 1 2).toLoadRect) (arg11.view.readCov (kernelRun0_A.sl.HS1_40 c arg5 harg5 x4) (rWords 1 1 2).toLoadRect) (arg11.view.readCov (kernelRun0_A.sl.HS1_40 c arg5 harg5 x4) (rWords 2 1 2).toLoadRect) (arg11.view.readCov (kernelRun0_A.sl.HS1_40 c arg5 harg5 x4) (rWords 3 1 2).toLoadRect) (arg10.view.readCov (kernelRun0_A.sl.HS0_24 c arg1 harg1 x0) (rLeft 2).toLoadRect)) from rfl).trans (congrArg₂ addf (acc_1_1 ..) (step_1_2 ..))

theorem step_1_3 : Tile.step (View.readAt (Elt F) arg4.view (rBytes 1 3).toLoadRect (harg4.unread x3)) (arg11.view.readCov (kernelRun0_A.sl.HS1_40 c arg5 harg5 x4) (rWords 0 1 3).toLoadRect) (arg11.view.readCov (kernelRun0_A.sl.HS1_40 c arg5 harg5 x4) (rWords 1 1 3).toLoadRect) (arg11.view.readCov (kernelRun0_A.sl.HS1_40 c arg5 harg5 x4) (rWords 2 1 3).toLoadRect) (arg11.view.readCov (kernelRun0_A.sl.HS1_40 c arg5 harg5 x4) (rWords 3 1 3).toLoadRect) (arg10.view.readCov (kernelRun0_A.sl.HS0_24 c arg1 harg1 x0) (rLeft 3).toLoadRect) = stepAt x3 (words x4) (left x0) 1 3 := by
  rw [View.readAt_eq_ld, harg4.read_unread, View.readCov_eq_canon', View.readCov_eq_canon', View.readCov_eq_canon', View.readCov_eq_canon', View.readCov_eq_canon', wordsCanon, leftCanon]
  rfl

theorem acc_1_3 : (kernelRun0_A.sl.v2466 c arg1 harg1 arg4 harg4 arg5 harg5 arg10 arg11 x0 x3 x4) = acc x3 (words x4) (left x0) 1 3 (by omega) :=
  (show (kernelRun0_A.sl.v2466 c arg1 harg1 arg4 harg4 arg5 harg5 arg10 arg11 x0 x3 x4) = addf (kernelRun0_A.sl.v2386 c arg1 harg1 arg4 harg4 arg5 harg5 arg10 arg11 x0 x3 x4) (Tile.step (View.readAt (Elt F) arg4.view (rBytes 1 3).toLoadRect (harg4.unread x3)) (arg11.view.readCov (kernelRun0_A.sl.HS1_40 c arg5 harg5 x4) (rWords 0 1 3).toLoadRect) (arg11.view.readCov (kernelRun0_A.sl.HS1_40 c arg5 harg5 x4) (rWords 1 1 3).toLoadRect) (arg11.view.readCov (kernelRun0_A.sl.HS1_40 c arg5 harg5 x4) (rWords 2 1 3).toLoadRect) (arg11.view.readCov (kernelRun0_A.sl.HS1_40 c arg5 harg5 x4) (rWords 3 1 3).toLoadRect) (arg10.view.readCov (kernelRun0_A.sl.HS0_24 c arg1 harg1 x0) (rLeft 3).toLoadRect)) from rfl).trans (congrArg₂ addf (acc_1_2 ..) (step_1_3 ..))

theorem step_1_4 : Tile.step (View.readAt (Elt F) arg4.view (rBytes 1 4).toLoadRect (harg4.unread x3)) (arg11.view.readCov (kernelRun0_A.sl.HS1_40 c arg5 harg5 x4) (rWords 0 1 4).toLoadRect) (arg11.view.readCov (kernelRun0_A.sl.HS1_40 c arg5 harg5 x4) (rWords 1 1 4).toLoadRect) (arg11.view.readCov (kernelRun0_A.sl.HS1_40 c arg5 harg5 x4) (rWords 2 1 4).toLoadRect) (arg11.view.readCov (kernelRun0_A.sl.HS1_40 c arg5 harg5 x4) (rWords 3 1 4).toLoadRect) (arg10.view.readCov (kernelRun0_A.sl.HS0_24 c arg1 harg1 x0) (rLeft 4).toLoadRect) = stepAt x3 (words x4) (left x0) 1 4 := by
  rw [View.readAt_eq_ld, harg4.read_unread, View.readCov_eq_canon', View.readCov_eq_canon', View.readCov_eq_canon', View.readCov_eq_canon', View.readCov_eq_canon', wordsCanon, leftCanon]
  rfl

theorem acc_1_4 : (kernelRun0_A.sl.v2546 c arg1 harg1 arg4 harg4 arg5 harg5 arg10 arg11 x0 x3 x4) = acc x3 (words x4) (left x0) 1 4 (by omega) :=
  (show (kernelRun0_A.sl.v2546 c arg1 harg1 arg4 harg4 arg5 harg5 arg10 arg11 x0 x3 x4) = addf (kernelRun0_A.sl.v2466 c arg1 harg1 arg4 harg4 arg5 harg5 arg10 arg11 x0 x3 x4) (Tile.step (View.readAt (Elt F) arg4.view (rBytes 1 4).toLoadRect (harg4.unread x3)) (arg11.view.readCov (kernelRun0_A.sl.HS1_40 c arg5 harg5 x4) (rWords 0 1 4).toLoadRect) (arg11.view.readCov (kernelRun0_A.sl.HS1_40 c arg5 harg5 x4) (rWords 1 1 4).toLoadRect) (arg11.view.readCov (kernelRun0_A.sl.HS1_40 c arg5 harg5 x4) (rWords 2 1 4).toLoadRect) (arg11.view.readCov (kernelRun0_A.sl.HS1_40 c arg5 harg5 x4) (rWords 3 1 4).toLoadRect) (arg10.view.readCov (kernelRun0_A.sl.HS0_24 c arg1 harg1 x0) (rLeft 4).toLoadRect)) from rfl).trans (congrArg₂ addf (acc_1_3 ..) (step_1_4 ..))

theorem step_1_5 : Tile.step (View.readAt (Elt F) arg4.view (rBytes 1 5).toLoadRect (harg4.unread x3)) (arg11.view.readCov (kernelRun0_A.sl.HS1_40 c arg5 harg5 x4) (rWords 0 1 5).toLoadRect) (arg11.view.readCov (kernelRun0_A.sl.HS1_40 c arg5 harg5 x4) (rWords 1 1 5).toLoadRect) (arg11.view.readCov (kernelRun0_A.sl.HS1_40 c arg5 harg5 x4) (rWords 2 1 5).toLoadRect) (arg11.view.readCov (kernelRun0_A.sl.HS1_40 c arg5 harg5 x4) (rWords 3 1 5).toLoadRect) (arg10.view.readCov (kernelRun0_A.sl.HS0_24 c arg1 harg1 x0) (rLeft 5).toLoadRect) = stepAt x3 (words x4) (left x0) 1 5 := by
  rw [View.readAt_eq_ld, harg4.read_unread, View.readCov_eq_canon', View.readCov_eq_canon', View.readCov_eq_canon', View.readCov_eq_canon', View.readCov_eq_canon', wordsCanon, leftCanon]
  rfl

theorem acc_1_5 : (kernelRun0_A.sl.v2626 c arg1 harg1 arg4 harg4 arg5 harg5 arg10 arg11 x0 x3 x4) = acc x3 (words x4) (left x0) 1 5 (by omega) :=
  (show (kernelRun0_A.sl.v2626 c arg1 harg1 arg4 harg4 arg5 harg5 arg10 arg11 x0 x3 x4) = addf (kernelRun0_A.sl.v2546 c arg1 harg1 arg4 harg4 arg5 harg5 arg10 arg11 x0 x3 x4) (Tile.step (View.readAt (Elt F) arg4.view (rBytes 1 5).toLoadRect (harg4.unread x3)) (arg11.view.readCov (kernelRun0_A.sl.HS1_40 c arg5 harg5 x4) (rWords 0 1 5).toLoadRect) (arg11.view.readCov (kernelRun0_A.sl.HS1_40 c arg5 harg5 x4) (rWords 1 1 5).toLoadRect) (arg11.view.readCov (kernelRun0_A.sl.HS1_40 c arg5 harg5 x4) (rWords 2 1 5).toLoadRect) (arg11.view.readCov (kernelRun0_A.sl.HS1_40 c arg5 harg5 x4) (rWords 3 1 5).toLoadRect) (arg10.view.readCov (kernelRun0_A.sl.HS0_24 c arg1 harg1 x0) (rLeft 5).toLoadRect)) from rfl).trans (congrArg₂ addf (acc_1_4 ..) (step_1_5 ..))

theorem step_1_6 : Tile.step (View.readAt (Elt F) arg4.view (rBytes 1 6).toLoadRect (harg4.unread x3)) (arg11.view.readCov (kernelRun0_A.sl.HS1_40 c arg5 harg5 x4) (rWords 0 1 6).toLoadRect) (arg11.view.readCov (kernelRun0_A.sl.HS1_40 c arg5 harg5 x4) (rWords 1 1 6).toLoadRect) (arg11.view.readCov (kernelRun0_A.sl.HS1_40 c arg5 harg5 x4) (rWords 2 1 6).toLoadRect) (arg11.view.readCov (kernelRun0_A.sl.HS1_40 c arg5 harg5 x4) (rWords 3 1 6).toLoadRect) (arg10.view.readCov (kernelRun0_A.sl.HS0_24 c arg1 harg1 x0) (rLeft 6).toLoadRect) = stepAt x3 (words x4) (left x0) 1 6 := by
  rw [View.readAt_eq_ld, harg4.read_unread, View.readCov_eq_canon', View.readCov_eq_canon', View.readCov_eq_canon', View.readCov_eq_canon', View.readCov_eq_canon', wordsCanon, leftCanon]
  rfl

theorem acc_1_6 : (kernelRun0_A.sl.v2706 c arg1 harg1 arg4 harg4 arg5 harg5 arg10 arg11 x0 x3 x4) = acc x3 (words x4) (left x0) 1 6 (by omega) :=
  (show (kernelRun0_A.sl.v2706 c arg1 harg1 arg4 harg4 arg5 harg5 arg10 arg11 x0 x3 x4) = addf (kernelRun0_A.sl.v2626 c arg1 harg1 arg4 harg4 arg5 harg5 arg10 arg11 x0 x3 x4) (Tile.step (View.readAt (Elt F) arg4.view (rBytes 1 6).toLoadRect (harg4.unread x3)) (arg11.view.readCov (kernelRun0_A.sl.HS1_40 c arg5 harg5 x4) (rWords 0 1 6).toLoadRect) (arg11.view.readCov (kernelRun0_A.sl.HS1_40 c arg5 harg5 x4) (rWords 1 1 6).toLoadRect) (arg11.view.readCov (kernelRun0_A.sl.HS1_40 c arg5 harg5 x4) (rWords 2 1 6).toLoadRect) (arg11.view.readCov (kernelRun0_A.sl.HS1_40 c arg5 harg5 x4) (rWords 3 1 6).toLoadRect) (arg10.view.readCov (kernelRun0_A.sl.HS0_24 c arg1 harg1 x0) (rLeft 6).toLoadRect)) from rfl).trans (congrArg₂ addf (acc_1_5 ..) (step_1_6 ..))

theorem step_1_7 : Tile.step (View.readAt (Elt F) arg4.view (rBytes 1 7).toLoadRect (harg4.unread x3)) (arg11.view.readCov (kernelRun0_A.sl.HS1_40 c arg5 harg5 x4) (rWords 0 1 7).toLoadRect) (arg11.view.readCov (kernelRun0_A.sl.HS1_40 c arg5 harg5 x4) (rWords 1 1 7).toLoadRect) (arg11.view.readCov (kernelRun0_A.sl.HS1_40 c arg5 harg5 x4) (rWords 2 1 7).toLoadRect) (arg11.view.readCov (kernelRun0_A.sl.HS1_40 c arg5 harg5 x4) (rWords 3 1 7).toLoadRect) (arg10.view.readCov (kernelRun0_A.sl.HS0_24 c arg1 harg1 x0) (rLeft 7).toLoadRect) = stepAt x3 (words x4) (left x0) 1 7 := by
  rw [View.readAt_eq_ld, harg4.read_unread, View.readCov_eq_canon', View.readCov_eq_canon', View.readCov_eq_canon', View.readCov_eq_canon', View.readCov_eq_canon', wordsCanon, leftCanon]
  rfl

theorem acc_1_7 : (kernelRun0_A.sl.v2786 c arg1 harg1 arg4 harg4 arg5 harg5 arg10 arg11 x0 x3 x4) = acc x3 (words x4) (left x0) 1 7 (by omega) :=
  (show (kernelRun0_A.sl.v2786 c arg1 harg1 arg4 harg4 arg5 harg5 arg10 arg11 x0 x3 x4) = addf (kernelRun0_A.sl.v2706 c arg1 harg1 arg4 harg4 arg5 harg5 arg10 arg11 x0 x3 x4) (Tile.step (View.readAt (Elt F) arg4.view (rBytes 1 7).toLoadRect (harg4.unread x3)) (arg11.view.readCov (kernelRun0_A.sl.HS1_40 c arg5 harg5 x4) (rWords 0 1 7).toLoadRect) (arg11.view.readCov (kernelRun0_A.sl.HS1_40 c arg5 harg5 x4) (rWords 1 1 7).toLoadRect) (arg11.view.readCov (kernelRun0_A.sl.HS1_40 c arg5 harg5 x4) (rWords 2 1 7).toLoadRect) (arg11.view.readCov (kernelRun0_A.sl.HS1_40 c arg5 harg5 x4) (rWords 3 1 7).toLoadRect) (arg10.view.readCov (kernelRun0_A.sl.HS0_24 c arg1 harg1 x0) (rLeft 7).toLoadRect)) from rfl).trans (congrArg₂ addf (acc_1_6 ..) (step_1_7 ..))

theorem step_1_8 : Tile.step (View.readAt (Elt F) arg4.view (rBytes 1 8).toLoadRect (harg4.unread x3)) (arg11.view.readCov (kernelRun0_A.sl.HS1_40 c arg5 harg5 x4) (rWords 0 1 8).toLoadRect) (arg11.view.readCov (kernelRun0_A.sl.HS1_40 c arg5 harg5 x4) (rWords 1 1 8).toLoadRect) (arg11.view.readCov (kernelRun0_A.sl.HS1_40 c arg5 harg5 x4) (rWords 2 1 8).toLoadRect) (arg11.view.readCov (kernelRun0_A.sl.HS1_40 c arg5 harg5 x4) (rWords 3 1 8).toLoadRect) (arg10.view.readCov (kernelRun0_A.sl.HS0_24 c arg1 harg1 x0) (rLeft 8).toLoadRect) = stepAt x3 (words x4) (left x0) 1 8 := by
  rw [View.readAt_eq_ld, harg4.read_unread, View.readCov_eq_canon', View.readCov_eq_canon', View.readCov_eq_canon', View.readCov_eq_canon', View.readCov_eq_canon', wordsCanon, leftCanon]
  rfl

theorem acc_1_8 : (kernelRun0_A.sl.v2866 c arg1 harg1 arg4 harg4 arg5 harg5 arg10 arg11 x0 x3 x4) = acc x3 (words x4) (left x0) 1 8 (by omega) :=
  (show (kernelRun0_A.sl.v2866 c arg1 harg1 arg4 harg4 arg5 harg5 arg10 arg11 x0 x3 x4) = addf (kernelRun0_A.sl.v2786 c arg1 harg1 arg4 harg4 arg5 harg5 arg10 arg11 x0 x3 x4) (Tile.step (View.readAt (Elt F) arg4.view (rBytes 1 8).toLoadRect (harg4.unread x3)) (arg11.view.readCov (kernelRun0_A.sl.HS1_40 c arg5 harg5 x4) (rWords 0 1 8).toLoadRect) (arg11.view.readCov (kernelRun0_A.sl.HS1_40 c arg5 harg5 x4) (rWords 1 1 8).toLoadRect) (arg11.view.readCov (kernelRun0_A.sl.HS1_40 c arg5 harg5 x4) (rWords 2 1 8).toLoadRect) (arg11.view.readCov (kernelRun0_A.sl.HS1_40 c arg5 harg5 x4) (rWords 3 1 8).toLoadRect) (arg10.view.readCov (kernelRun0_A.sl.HS0_24 c arg1 harg1 x0) (rLeft 8).toLoadRect)) from rfl).trans (congrArg₂ addf (acc_1_7 ..) (step_1_8 ..))

theorem step_1_9 : Tile.step (View.readAt (Elt F) arg4.view (rBytes 1 9).toLoadRect (harg4.unread x3)) (arg11.view.readCov (kernelRun0_A.sl.HS1_40 c arg5 harg5 x4) (rWords 0 1 9).toLoadRect) (arg11.view.readCov (kernelRun0_A.sl.HS1_40 c arg5 harg5 x4) (rWords 1 1 9).toLoadRect) (arg11.view.readCov (kernelRun0_A.sl.HS1_40 c arg5 harg5 x4) (rWords 2 1 9).toLoadRect) (arg11.view.readCov (kernelRun0_A.sl.HS1_40 c arg5 harg5 x4) (rWords 3 1 9).toLoadRect) (arg10.view.readCov (kernelRun0_A.sl.HS0_24 c arg1 harg1 x0) (rLeft 9).toLoadRect) = stepAt x3 (words x4) (left x0) 1 9 := by
  rw [View.readAt_eq_ld, harg4.read_unread, View.readCov_eq_canon', View.readCov_eq_canon', View.readCov_eq_canon', View.readCov_eq_canon', View.readCov_eq_canon', wordsCanon, leftCanon]
  rfl

theorem acc_1_9 : (kernelRun0_A.sl.v2946 c arg1 harg1 arg4 harg4 arg5 harg5 arg10 arg11 x0 x3 x4) = acc x3 (words x4) (left x0) 1 9 (by omega) :=
  (show (kernelRun0_A.sl.v2946 c arg1 harg1 arg4 harg4 arg5 harg5 arg10 arg11 x0 x3 x4) = addf (kernelRun0_A.sl.v2866 c arg1 harg1 arg4 harg4 arg5 harg5 arg10 arg11 x0 x3 x4) (Tile.step (View.readAt (Elt F) arg4.view (rBytes 1 9).toLoadRect (harg4.unread x3)) (arg11.view.readCov (kernelRun0_A.sl.HS1_40 c arg5 harg5 x4) (rWords 0 1 9).toLoadRect) (arg11.view.readCov (kernelRun0_A.sl.HS1_40 c arg5 harg5 x4) (rWords 1 1 9).toLoadRect) (arg11.view.readCov (kernelRun0_A.sl.HS1_40 c arg5 harg5 x4) (rWords 2 1 9).toLoadRect) (arg11.view.readCov (kernelRun0_A.sl.HS1_40 c arg5 harg5 x4) (rWords 3 1 9).toLoadRect) (arg10.view.readCov (kernelRun0_A.sl.HS0_24 c arg1 harg1 x0) (rLeft 9).toLoadRect)) from rfl).trans (congrArg₂ addf (acc_1_8 ..) (step_1_9 ..))

theorem step_1_10 : Tile.step (View.readAt (Elt F) arg4.view (rBytes 1 10).toLoadRect (harg4.unread x3)) (arg11.view.readCov (kernelRun0_A.sl.HS1_40 c arg5 harg5 x4) (rWords 0 1 10).toLoadRect) (arg11.view.readCov (kernelRun0_A.sl.HS1_40 c arg5 harg5 x4) (rWords 1 1 10).toLoadRect) (arg11.view.readCov (kernelRun0_A.sl.HS1_40 c arg5 harg5 x4) (rWords 2 1 10).toLoadRect) (arg11.view.readCov (kernelRun0_A.sl.HS1_40 c arg5 harg5 x4) (rWords 3 1 10).toLoadRect) (arg10.view.readCov (kernelRun0_A.sl.HS0_24 c arg1 harg1 x0) (rLeft 10).toLoadRect) = stepAt x3 (words x4) (left x0) 1 10 := by
  rw [View.readAt_eq_ld, harg4.read_unread, View.readCov_eq_canon', View.readCov_eq_canon', View.readCov_eq_canon', View.readCov_eq_canon', View.readCov_eq_canon', wordsCanon, leftCanon]
  rfl

theorem acc_1_10 : (kernelRun0_A.sl.v3026 c arg1 harg1 arg4 harg4 arg5 harg5 arg10 arg11 x0 x3 x4) = acc x3 (words x4) (left x0) 1 10 (by omega) :=
  (show (kernelRun0_A.sl.v3026 c arg1 harg1 arg4 harg4 arg5 harg5 arg10 arg11 x0 x3 x4) = addf (kernelRun0_A.sl.v2946 c arg1 harg1 arg4 harg4 arg5 harg5 arg10 arg11 x0 x3 x4) (Tile.step (View.readAt (Elt F) arg4.view (rBytes 1 10).toLoadRect (harg4.unread x3)) (arg11.view.readCov (kernelRun0_A.sl.HS1_40 c arg5 harg5 x4) (rWords 0 1 10).toLoadRect) (arg11.view.readCov (kernelRun0_A.sl.HS1_40 c arg5 harg5 x4) (rWords 1 1 10).toLoadRect) (arg11.view.readCov (kernelRun0_A.sl.HS1_40 c arg5 harg5 x4) (rWords 2 1 10).toLoadRect) (arg11.view.readCov (kernelRun0_A.sl.HS1_40 c arg5 harg5 x4) (rWords 3 1 10).toLoadRect) (arg10.view.readCov (kernelRun0_A.sl.HS0_24 c arg1 harg1 x0) (rLeft 10).toLoadRect)) from rfl).trans (congrArg₂ addf (acc_1_9 ..) (step_1_10 ..))

theorem step_1_11 : Tile.step (View.readAt (Elt F) arg4.view (rBytes 1 11).toLoadRect (harg4.unread x3)) (arg11.view.readCov (kernelRun0_A.sl.HS1_40 c arg5 harg5 x4) (rWords 0 1 11).toLoadRect) (arg11.view.readCov (kernelRun0_A.sl.HS1_40 c arg5 harg5 x4) (rWords 1 1 11).toLoadRect) (arg11.view.readCov (kernelRun0_A.sl.HS1_40 c arg5 harg5 x4) (rWords 2 1 11).toLoadRect) (arg11.view.readCov (kernelRun0_A.sl.HS1_40 c arg5 harg5 x4) (rWords 3 1 11).toLoadRect) (arg10.view.readCov (kernelRun0_A.sl.HS0_24 c arg1 harg1 x0) (rLeft 11).toLoadRect) = stepAt x3 (words x4) (left x0) 1 11 := by
  rw [View.readAt_eq_ld, harg4.read_unread, View.readCov_eq_canon', View.readCov_eq_canon', View.readCov_eq_canon', View.readCov_eq_canon', View.readCov_eq_canon', wordsCanon, leftCanon]
  rfl

theorem plane_2 : act0 (addf (kernelRun0_A.sl.v3026 c arg1 harg1 arg4 harg4 arg5 harg5 arg10 arg11 x0 x3 x4) (Tile.step (View.readAt (Elt F) arg4.view (rBytes 1 11).toLoadRect (harg4.unread x3)) (arg11.view.readCov (kernelRun0_A.sl.HS1_40 c arg5 harg5 x4) (rWords 0 1 11).toLoadRect) (arg11.view.readCov (kernelRun0_A.sl.HS1_40 c arg5 harg5 x4) (rWords 1 1 11).toLoadRect) (arg11.view.readCov (kernelRun0_A.sl.HS1_40 c arg5 harg5 x4) (rWords 2 1 11).toLoadRect) (arg11.view.readCov (kernelRun0_A.sl.HS1_40 c arg5 harg5 x4) (rWords 3 1 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 2).toLoadRect (harg6.unread x5)) = plane x3 (words x4) (left x0) x1 x2 x5 2 := by
  rw [acc_1_10, step_1_11, rowScaleWord, gateWord, View.readAt_eq_ld, harg6.read_unread]
  rfl

theorem plane_3 : act1 (addf (kernelRun0_A.sl.v3026 c arg1 harg1 arg4 harg4 arg5 harg5 arg10 arg11 x0 x3 x4) (Tile.step (View.readAt (Elt F) arg4.view (rBytes 1 11).toLoadRect (harg4.unread x3)) (arg11.view.readCov (kernelRun0_A.sl.HS1_40 c arg5 harg5 x4) (rWords 0 1 11).toLoadRect) (arg11.view.readCov (kernelRun0_A.sl.HS1_40 c arg5 harg5 x4) (rWords 1 1 11).toLoadRect) (arg11.view.readCov (kernelRun0_A.sl.HS1_40 c arg5 harg5 x4) (rWords 2 1 11).toLoadRect) (arg11.view.readCov (kernelRun0_A.sl.HS1_40 c arg5 harg5 x4) (rWords 3 1 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 3).toLoadRect (harg6.unread x5)) = plane x3 (words x4) (left x0) x1 x2 x5 3 := by
  rw [acc_1_10, step_1_11, rowScaleWord, gateWord, View.readAt_eq_ld, harg6.read_unread]
  rfl

theorem step_2_0 : Tile.step (View.readAt (Elt F) arg4.view (rBytes 2 0).toLoadRect (harg4.unread x3)) (arg11.view.readCov (kernelRun0_A.sl.HS1_40 c arg5 harg5 x4) (rWords 0 2 0).toLoadRect) (arg11.view.readCov (kernelRun0_A.sl.HS1_40 c arg5 harg5 x4) (rWords 1 2 0).toLoadRect) (arg11.view.readCov (kernelRun0_A.sl.HS1_40 c arg5 harg5 x4) (rWords 2 2 0).toLoadRect) (arg11.view.readCov (kernelRun0_A.sl.HS1_40 c arg5 harg5 x4) (rWords 3 2 0).toLoadRect) (arg10.view.readCov (kernelRun0_A.sl.HS0_24 c arg1 harg1 x0) (rLeft 0).toLoadRect) = stepAt x3 (words x4) (left x0) 2 0 := by
  rw [View.readAt_eq_ld, harg4.read_unread, View.readCov_eq_canon', View.readCov_eq_canon', View.readCov_eq_canon', View.readCov_eq_canon', View.readCov_eq_canon', wordsCanon, leftCanon]
  rfl

theorem acc_2_0 : (kernelRun0_A.sl.v3221 c arg1 harg1 arg4 harg4 arg5 harg5 arg10 arg11 x0 x3 x4) = acc x3 (words x4) (left x0) 2 0 (by omega) :=
  (show (kernelRun0_A.sl.v3221 c arg1 harg1 arg4 harg4 arg5 harg5 arg10 arg11 x0 x3 x4) = Tile.step (View.readAt (Elt F) arg4.view (rBytes 2 0).toLoadRect (harg4.unread x3)) (arg11.view.readCov (kernelRun0_A.sl.HS1_40 c arg5 harg5 x4) (rWords 0 2 0).toLoadRect) (arg11.view.readCov (kernelRun0_A.sl.HS1_40 c arg5 harg5 x4) (rWords 1 2 0).toLoadRect) (arg11.view.readCov (kernelRun0_A.sl.HS1_40 c arg5 harg5 x4) (rWords 2 2 0).toLoadRect) (arg11.view.readCov (kernelRun0_A.sl.HS1_40 c arg5 harg5 x4) (rWords 3 2 0).toLoadRect) (arg10.view.readCov (kernelRun0_A.sl.HS0_24 c arg1 harg1 x0) (rLeft 0).toLoadRect) from rfl).trans (step_2_0 ..)

theorem step_2_1 : Tile.step (View.readAt (Elt F) arg4.view (rBytes 2 1).toLoadRect (harg4.unread x3)) (arg11.view.readCov (kernelRun0_A.sl.HS1_40 c arg5 harg5 x4) (rWords 0 2 1).toLoadRect) (arg11.view.readCov (kernelRun0_A.sl.HS1_40 c arg5 harg5 x4) (rWords 1 2 1).toLoadRect) (arg11.view.readCov (kernelRun0_A.sl.HS1_40 c arg5 harg5 x4) (rWords 2 2 1).toLoadRect) (arg11.view.readCov (kernelRun0_A.sl.HS1_40 c arg5 harg5 x4) (rWords 3 2 1).toLoadRect) (arg10.view.readCov (kernelRun0_A.sl.HS0_24 c arg1 harg1 x0) (rLeft 1).toLoadRect) = stepAt x3 (words x4) (left x0) 2 1 := by
  rw [View.readAt_eq_ld, harg4.read_unread, View.readCov_eq_canon', View.readCov_eq_canon', View.readCov_eq_canon', View.readCov_eq_canon', View.readCov_eq_canon', wordsCanon, leftCanon]
  rfl

theorem acc_2_1 : (kernelRun0_A.sl.v3301 c arg1 harg1 arg4 harg4 arg5 harg5 arg10 arg11 x0 x3 x4) = acc x3 (words x4) (left x0) 2 1 (by omega) :=
  (show (kernelRun0_A.sl.v3301 c arg1 harg1 arg4 harg4 arg5 harg5 arg10 arg11 x0 x3 x4) = addf (kernelRun0_A.sl.v3221 c arg1 harg1 arg4 harg4 arg5 harg5 arg10 arg11 x0 x3 x4) (Tile.step (View.readAt (Elt F) arg4.view (rBytes 2 1).toLoadRect (harg4.unread x3)) (arg11.view.readCov (kernelRun0_A.sl.HS1_40 c arg5 harg5 x4) (rWords 0 2 1).toLoadRect) (arg11.view.readCov (kernelRun0_A.sl.HS1_40 c arg5 harg5 x4) (rWords 1 2 1).toLoadRect) (arg11.view.readCov (kernelRun0_A.sl.HS1_40 c arg5 harg5 x4) (rWords 2 2 1).toLoadRect) (arg11.view.readCov (kernelRun0_A.sl.HS1_40 c arg5 harg5 x4) (rWords 3 2 1).toLoadRect) (arg10.view.readCov (kernelRun0_A.sl.HS0_24 c arg1 harg1 x0) (rLeft 1).toLoadRect)) from rfl).trans (congrArg₂ addf (acc_2_0 ..) (step_2_1 ..))

theorem step_2_2 : Tile.step (View.readAt (Elt F) arg4.view (rBytes 2 2).toLoadRect (harg4.unread x3)) (arg11.view.readCov (kernelRun0_A.sl.HS1_40 c arg5 harg5 x4) (rWords 0 2 2).toLoadRect) (arg11.view.readCov (kernelRun0_A.sl.HS1_40 c arg5 harg5 x4) (rWords 1 2 2).toLoadRect) (arg11.view.readCov (kernelRun0_A.sl.HS1_40 c arg5 harg5 x4) (rWords 2 2 2).toLoadRect) (arg11.view.readCov (kernelRun0_A.sl.HS1_40 c arg5 harg5 x4) (rWords 3 2 2).toLoadRect) (arg10.view.readCov (kernelRun0_A.sl.HS0_24 c arg1 harg1 x0) (rLeft 2).toLoadRect) = stepAt x3 (words x4) (left x0) 2 2 := by
  rw [View.readAt_eq_ld, harg4.read_unread, View.readCov_eq_canon', View.readCov_eq_canon', View.readCov_eq_canon', View.readCov_eq_canon', View.readCov_eq_canon', wordsCanon, leftCanon]
  rfl

theorem acc_2_2 : (kernelRun0_A.sl.v3381 c arg1 harg1 arg4 harg4 arg5 harg5 arg10 arg11 x0 x3 x4) = acc x3 (words x4) (left x0) 2 2 (by omega) :=
  (show (kernelRun0_A.sl.v3381 c arg1 harg1 arg4 harg4 arg5 harg5 arg10 arg11 x0 x3 x4) = addf (kernelRun0_A.sl.v3301 c arg1 harg1 arg4 harg4 arg5 harg5 arg10 arg11 x0 x3 x4) (Tile.step (View.readAt (Elt F) arg4.view (rBytes 2 2).toLoadRect (harg4.unread x3)) (arg11.view.readCov (kernelRun0_A.sl.HS1_40 c arg5 harg5 x4) (rWords 0 2 2).toLoadRect) (arg11.view.readCov (kernelRun0_A.sl.HS1_40 c arg5 harg5 x4) (rWords 1 2 2).toLoadRect) (arg11.view.readCov (kernelRun0_A.sl.HS1_40 c arg5 harg5 x4) (rWords 2 2 2).toLoadRect) (arg11.view.readCov (kernelRun0_A.sl.HS1_40 c arg5 harg5 x4) (rWords 3 2 2).toLoadRect) (arg10.view.readCov (kernelRun0_A.sl.HS0_24 c arg1 harg1 x0) (rLeft 2).toLoadRect)) from rfl).trans (congrArg₂ addf (acc_2_1 ..) (step_2_2 ..))

theorem step_2_3 : Tile.step (View.readAt (Elt F) arg4.view (rBytes 2 3).toLoadRect (harg4.unread x3)) (arg11.view.readCov (kernelRun0_A.sl.HS1_40 c arg5 harg5 x4) (rWords 0 2 3).toLoadRect) (arg11.view.readCov (kernelRun0_A.sl.HS1_40 c arg5 harg5 x4) (rWords 1 2 3).toLoadRect) (arg11.view.readCov (kernelRun0_A.sl.HS1_40 c arg5 harg5 x4) (rWords 2 2 3).toLoadRect) (arg11.view.readCov (kernelRun0_A.sl.HS1_40 c arg5 harg5 x4) (rWords 3 2 3).toLoadRect) (arg10.view.readCov (kernelRun0_A.sl.HS0_24 c arg1 harg1 x0) (rLeft 3).toLoadRect) = stepAt x3 (words x4) (left x0) 2 3 := by
  rw [View.readAt_eq_ld, harg4.read_unread, View.readCov_eq_canon', View.readCov_eq_canon', View.readCov_eq_canon', View.readCov_eq_canon', View.readCov_eq_canon', wordsCanon, leftCanon]
  rfl

theorem acc_2_3 : (kernelRun0_A.sl.v3461 c arg1 harg1 arg4 harg4 arg5 harg5 arg10 arg11 x0 x3 x4) = acc x3 (words x4) (left x0) 2 3 (by omega) :=
  (show (kernelRun0_A.sl.v3461 c arg1 harg1 arg4 harg4 arg5 harg5 arg10 arg11 x0 x3 x4) = addf (kernelRun0_A.sl.v3381 c arg1 harg1 arg4 harg4 arg5 harg5 arg10 arg11 x0 x3 x4) (Tile.step (View.readAt (Elt F) arg4.view (rBytes 2 3).toLoadRect (harg4.unread x3)) (arg11.view.readCov (kernelRun0_A.sl.HS1_40 c arg5 harg5 x4) (rWords 0 2 3).toLoadRect) (arg11.view.readCov (kernelRun0_A.sl.HS1_40 c arg5 harg5 x4) (rWords 1 2 3).toLoadRect) (arg11.view.readCov (kernelRun0_A.sl.HS1_40 c arg5 harg5 x4) (rWords 2 2 3).toLoadRect) (arg11.view.readCov (kernelRun0_A.sl.HS1_40 c arg5 harg5 x4) (rWords 3 2 3).toLoadRect) (arg10.view.readCov (kernelRun0_A.sl.HS0_24 c arg1 harg1 x0) (rLeft 3).toLoadRect)) from rfl).trans (congrArg₂ addf (acc_2_2 ..) (step_2_3 ..))

theorem step_2_4 : Tile.step (View.readAt (Elt F) arg4.view (rBytes 2 4).toLoadRect (harg4.unread x3)) (arg11.view.readCov (kernelRun0_A.sl.HS1_40 c arg5 harg5 x4) (rWords 0 2 4).toLoadRect) (arg11.view.readCov (kernelRun0_A.sl.HS1_40 c arg5 harg5 x4) (rWords 1 2 4).toLoadRect) (arg11.view.readCov (kernelRun0_A.sl.HS1_40 c arg5 harg5 x4) (rWords 2 2 4).toLoadRect) (arg11.view.readCov (kernelRun0_A.sl.HS1_40 c arg5 harg5 x4) (rWords 3 2 4).toLoadRect) (arg10.view.readCov (kernelRun0_A.sl.HS0_24 c arg1 harg1 x0) (rLeft 4).toLoadRect) = stepAt x3 (words x4) (left x0) 2 4 := by
  rw [View.readAt_eq_ld, harg4.read_unread, View.readCov_eq_canon', View.readCov_eq_canon', View.readCov_eq_canon', View.readCov_eq_canon', View.readCov_eq_canon', wordsCanon, leftCanon]
  rfl

theorem acc_2_4 : (kernelRun0_A.sl.v3541 c arg1 harg1 arg4 harg4 arg5 harg5 arg10 arg11 x0 x3 x4) = acc x3 (words x4) (left x0) 2 4 (by omega) :=
  (show (kernelRun0_A.sl.v3541 c arg1 harg1 arg4 harg4 arg5 harg5 arg10 arg11 x0 x3 x4) = addf (kernelRun0_A.sl.v3461 c arg1 harg1 arg4 harg4 arg5 harg5 arg10 arg11 x0 x3 x4) (Tile.step (View.readAt (Elt F) arg4.view (rBytes 2 4).toLoadRect (harg4.unread x3)) (arg11.view.readCov (kernelRun0_A.sl.HS1_40 c arg5 harg5 x4) (rWords 0 2 4).toLoadRect) (arg11.view.readCov (kernelRun0_A.sl.HS1_40 c arg5 harg5 x4) (rWords 1 2 4).toLoadRect) (arg11.view.readCov (kernelRun0_A.sl.HS1_40 c arg5 harg5 x4) (rWords 2 2 4).toLoadRect) (arg11.view.readCov (kernelRun0_A.sl.HS1_40 c arg5 harg5 x4) (rWords 3 2 4).toLoadRect) (arg10.view.readCov (kernelRun0_A.sl.HS0_24 c arg1 harg1 x0) (rLeft 4).toLoadRect)) from rfl).trans (congrArg₂ addf (acc_2_3 ..) (step_2_4 ..))

theorem step_2_5 : Tile.step (View.readAt (Elt F) arg4.view (rBytes 2 5).toLoadRect (harg4.unread x3)) (arg11.view.readCov (kernelRun0_A.sl.HS1_40 c arg5 harg5 x4) (rWords 0 2 5).toLoadRect) (arg11.view.readCov (kernelRun0_A.sl.HS1_40 c arg5 harg5 x4) (rWords 1 2 5).toLoadRect) (arg11.view.readCov (kernelRun0_A.sl.HS1_40 c arg5 harg5 x4) (rWords 2 2 5).toLoadRect) (arg11.view.readCov (kernelRun0_A.sl.HS1_40 c arg5 harg5 x4) (rWords 3 2 5).toLoadRect) (arg10.view.readCov (kernelRun0_A.sl.HS0_24 c arg1 harg1 x0) (rLeft 5).toLoadRect) = stepAt x3 (words x4) (left x0) 2 5 := by
  rw [View.readAt_eq_ld, harg4.read_unread, View.readCov_eq_canon', View.readCov_eq_canon', View.readCov_eq_canon', View.readCov_eq_canon', View.readCov_eq_canon', wordsCanon, leftCanon]
  rfl

theorem acc_2_5 : (kernelRun0_A.sl.v3621 c arg1 harg1 arg4 harg4 arg5 harg5 arg10 arg11 x0 x3 x4) = acc x3 (words x4) (left x0) 2 5 (by omega) :=
  (show (kernelRun0_A.sl.v3621 c arg1 harg1 arg4 harg4 arg5 harg5 arg10 arg11 x0 x3 x4) = addf (kernelRun0_A.sl.v3541 c arg1 harg1 arg4 harg4 arg5 harg5 arg10 arg11 x0 x3 x4) (Tile.step (View.readAt (Elt F) arg4.view (rBytes 2 5).toLoadRect (harg4.unread x3)) (arg11.view.readCov (kernelRun0_A.sl.HS1_40 c arg5 harg5 x4) (rWords 0 2 5).toLoadRect) (arg11.view.readCov (kernelRun0_A.sl.HS1_40 c arg5 harg5 x4) (rWords 1 2 5).toLoadRect) (arg11.view.readCov (kernelRun0_A.sl.HS1_40 c arg5 harg5 x4) (rWords 2 2 5).toLoadRect) (arg11.view.readCov (kernelRun0_A.sl.HS1_40 c arg5 harg5 x4) (rWords 3 2 5).toLoadRect) (arg10.view.readCov (kernelRun0_A.sl.HS0_24 c arg1 harg1 x0) (rLeft 5).toLoadRect)) from rfl).trans (congrArg₂ addf (acc_2_4 ..) (step_2_5 ..))

theorem step_2_6 : Tile.step (View.readAt (Elt F) arg4.view (rBytes 2 6).toLoadRect (harg4.unread x3)) (arg11.view.readCov (kernelRun0_A.sl.HS1_40 c arg5 harg5 x4) (rWords 0 2 6).toLoadRect) (arg11.view.readCov (kernelRun0_A.sl.HS1_40 c arg5 harg5 x4) (rWords 1 2 6).toLoadRect) (arg11.view.readCov (kernelRun0_A.sl.HS1_40 c arg5 harg5 x4) (rWords 2 2 6).toLoadRect) (arg11.view.readCov (kernelRun0_A.sl.HS1_40 c arg5 harg5 x4) (rWords 3 2 6).toLoadRect) (arg10.view.readCov (kernelRun0_A.sl.HS0_24 c arg1 harg1 x0) (rLeft 6).toLoadRect) = stepAt x3 (words x4) (left x0) 2 6 := by
  rw [View.readAt_eq_ld, harg4.read_unread, View.readCov_eq_canon', View.readCov_eq_canon', View.readCov_eq_canon', View.readCov_eq_canon', View.readCov_eq_canon', wordsCanon, leftCanon]
  rfl

theorem acc_2_6 : (kernelRun0_A.sl.v3701 c arg1 harg1 arg4 harg4 arg5 harg5 arg10 arg11 x0 x3 x4) = acc x3 (words x4) (left x0) 2 6 (by omega) :=
  (show (kernelRun0_A.sl.v3701 c arg1 harg1 arg4 harg4 arg5 harg5 arg10 arg11 x0 x3 x4) = addf (kernelRun0_A.sl.v3621 c arg1 harg1 arg4 harg4 arg5 harg5 arg10 arg11 x0 x3 x4) (Tile.step (View.readAt (Elt F) arg4.view (rBytes 2 6).toLoadRect (harg4.unread x3)) (arg11.view.readCov (kernelRun0_A.sl.HS1_40 c arg5 harg5 x4) (rWords 0 2 6).toLoadRect) (arg11.view.readCov (kernelRun0_A.sl.HS1_40 c arg5 harg5 x4) (rWords 1 2 6).toLoadRect) (arg11.view.readCov (kernelRun0_A.sl.HS1_40 c arg5 harg5 x4) (rWords 2 2 6).toLoadRect) (arg11.view.readCov (kernelRun0_A.sl.HS1_40 c arg5 harg5 x4) (rWords 3 2 6).toLoadRect) (arg10.view.readCov (kernelRun0_A.sl.HS0_24 c arg1 harg1 x0) (rLeft 6).toLoadRect)) from rfl).trans (congrArg₂ addf (acc_2_5 ..) (step_2_6 ..))

theorem step_2_7 : Tile.step (View.readAt (Elt F) arg4.view (rBytes 2 7).toLoadRect (harg4.unread x3)) (arg11.view.readCov (kernelRun0_A.sl.HS1_40 c arg5 harg5 x4) (rWords 0 2 7).toLoadRect) (arg11.view.readCov (kernelRun0_A.sl.HS1_40 c arg5 harg5 x4) (rWords 1 2 7).toLoadRect) (arg11.view.readCov (kernelRun0_A.sl.HS1_40 c arg5 harg5 x4) (rWords 2 2 7).toLoadRect) (arg11.view.readCov (kernelRun0_A.sl.HS1_40 c arg5 harg5 x4) (rWords 3 2 7).toLoadRect) (arg10.view.readCov (kernelRun0_A.sl.HS0_24 c arg1 harg1 x0) (rLeft 7).toLoadRect) = stepAt x3 (words x4) (left x0) 2 7 := by
  rw [View.readAt_eq_ld, harg4.read_unread, View.readCov_eq_canon', View.readCov_eq_canon', View.readCov_eq_canon', View.readCov_eq_canon', View.readCov_eq_canon', wordsCanon, leftCanon]
  rfl

theorem acc_2_7 : (kernelRun0_A.sl.v3781 c arg1 harg1 arg4 harg4 arg5 harg5 arg10 arg11 x0 x3 x4) = acc x3 (words x4) (left x0) 2 7 (by omega) :=
  (show (kernelRun0_A.sl.v3781 c arg1 harg1 arg4 harg4 arg5 harg5 arg10 arg11 x0 x3 x4) = addf (kernelRun0_A.sl.v3701 c arg1 harg1 arg4 harg4 arg5 harg5 arg10 arg11 x0 x3 x4) (Tile.step (View.readAt (Elt F) arg4.view (rBytes 2 7).toLoadRect (harg4.unread x3)) (arg11.view.readCov (kernelRun0_A.sl.HS1_40 c arg5 harg5 x4) (rWords 0 2 7).toLoadRect) (arg11.view.readCov (kernelRun0_A.sl.HS1_40 c arg5 harg5 x4) (rWords 1 2 7).toLoadRect) (arg11.view.readCov (kernelRun0_A.sl.HS1_40 c arg5 harg5 x4) (rWords 2 2 7).toLoadRect) (arg11.view.readCov (kernelRun0_A.sl.HS1_40 c arg5 harg5 x4) (rWords 3 2 7).toLoadRect) (arg10.view.readCov (kernelRun0_A.sl.HS0_24 c arg1 harg1 x0) (rLeft 7).toLoadRect)) from rfl).trans (congrArg₂ addf (acc_2_6 ..) (step_2_7 ..))

theorem step_2_8 : Tile.step (View.readAt (Elt F) arg4.view (rBytes 2 8).toLoadRect (harg4.unread x3)) (arg11.view.readCov (kernelRun0_A.sl.HS1_40 c arg5 harg5 x4) (rWords 0 2 8).toLoadRect) (arg11.view.readCov (kernelRun0_A.sl.HS1_40 c arg5 harg5 x4) (rWords 1 2 8).toLoadRect) (arg11.view.readCov (kernelRun0_A.sl.HS1_40 c arg5 harg5 x4) (rWords 2 2 8).toLoadRect) (arg11.view.readCov (kernelRun0_A.sl.HS1_40 c arg5 harg5 x4) (rWords 3 2 8).toLoadRect) (arg10.view.readCov (kernelRun0_A.sl.HS0_24 c arg1 harg1 x0) (rLeft 8).toLoadRect) = stepAt x3 (words x4) (left x0) 2 8 := by
  rw [View.readAt_eq_ld, harg4.read_unread, View.readCov_eq_canon', View.readCov_eq_canon', View.readCov_eq_canon', View.readCov_eq_canon', View.readCov_eq_canon', wordsCanon, leftCanon]
  rfl

theorem acc_2_8 : (kernelRun0_A.sl.v3861 c arg1 harg1 arg4 harg4 arg5 harg5 arg10 arg11 x0 x3 x4) = acc x3 (words x4) (left x0) 2 8 (by omega) :=
  (show (kernelRun0_A.sl.v3861 c arg1 harg1 arg4 harg4 arg5 harg5 arg10 arg11 x0 x3 x4) = addf (kernelRun0_A.sl.v3781 c arg1 harg1 arg4 harg4 arg5 harg5 arg10 arg11 x0 x3 x4) (Tile.step (View.readAt (Elt F) arg4.view (rBytes 2 8).toLoadRect (harg4.unread x3)) (arg11.view.readCov (kernelRun0_A.sl.HS1_40 c arg5 harg5 x4) (rWords 0 2 8).toLoadRect) (arg11.view.readCov (kernelRun0_A.sl.HS1_40 c arg5 harg5 x4) (rWords 1 2 8).toLoadRect) (arg11.view.readCov (kernelRun0_A.sl.HS1_40 c arg5 harg5 x4) (rWords 2 2 8).toLoadRect) (arg11.view.readCov (kernelRun0_A.sl.HS1_40 c arg5 harg5 x4) (rWords 3 2 8).toLoadRect) (arg10.view.readCov (kernelRun0_A.sl.HS0_24 c arg1 harg1 x0) (rLeft 8).toLoadRect)) from rfl).trans (congrArg₂ addf (acc_2_7 ..) (step_2_8 ..))

theorem step_2_9 : Tile.step (View.readAt (Elt F) arg4.view (rBytes 2 9).toLoadRect (harg4.unread x3)) (arg11.view.readCov (kernelRun0_A.sl.HS1_40 c arg5 harg5 x4) (rWords 0 2 9).toLoadRect) (arg11.view.readCov (kernelRun0_A.sl.HS1_40 c arg5 harg5 x4) (rWords 1 2 9).toLoadRect) (arg11.view.readCov (kernelRun0_A.sl.HS1_40 c arg5 harg5 x4) (rWords 2 2 9).toLoadRect) (arg11.view.readCov (kernelRun0_A.sl.HS1_40 c arg5 harg5 x4) (rWords 3 2 9).toLoadRect) (arg10.view.readCov (kernelRun0_A.sl.HS0_24 c arg1 harg1 x0) (rLeft 9).toLoadRect) = stepAt x3 (words x4) (left x0) 2 9 := by
  rw [View.readAt_eq_ld, harg4.read_unread, View.readCov_eq_canon', View.readCov_eq_canon', View.readCov_eq_canon', View.readCov_eq_canon', View.readCov_eq_canon', wordsCanon, leftCanon]
  rfl

theorem acc_2_9 : (kernelRun0_A.sl.v3941 c arg1 harg1 arg4 harg4 arg5 harg5 arg10 arg11 x0 x3 x4) = acc x3 (words x4) (left x0) 2 9 (by omega) :=
  (show (kernelRun0_A.sl.v3941 c arg1 harg1 arg4 harg4 arg5 harg5 arg10 arg11 x0 x3 x4) = addf (kernelRun0_A.sl.v3861 c arg1 harg1 arg4 harg4 arg5 harg5 arg10 arg11 x0 x3 x4) (Tile.step (View.readAt (Elt F) arg4.view (rBytes 2 9).toLoadRect (harg4.unread x3)) (arg11.view.readCov (kernelRun0_A.sl.HS1_40 c arg5 harg5 x4) (rWords 0 2 9).toLoadRect) (arg11.view.readCov (kernelRun0_A.sl.HS1_40 c arg5 harg5 x4) (rWords 1 2 9).toLoadRect) (arg11.view.readCov (kernelRun0_A.sl.HS1_40 c arg5 harg5 x4) (rWords 2 2 9).toLoadRect) (arg11.view.readCov (kernelRun0_A.sl.HS1_40 c arg5 harg5 x4) (rWords 3 2 9).toLoadRect) (arg10.view.readCov (kernelRun0_A.sl.HS0_24 c arg1 harg1 x0) (rLeft 9).toLoadRect)) from rfl).trans (congrArg₂ addf (acc_2_8 ..) (step_2_9 ..))

theorem step_2_10 : Tile.step (View.readAt (Elt F) arg4.view (rBytes 2 10).toLoadRect (harg4.unread x3)) (arg11.view.readCov (kernelRun0_A.sl.HS1_40 c arg5 harg5 x4) (rWords 0 2 10).toLoadRect) (arg11.view.readCov (kernelRun0_A.sl.HS1_40 c arg5 harg5 x4) (rWords 1 2 10).toLoadRect) (arg11.view.readCov (kernelRun0_A.sl.HS1_40 c arg5 harg5 x4) (rWords 2 2 10).toLoadRect) (arg11.view.readCov (kernelRun0_A.sl.HS1_40 c arg5 harg5 x4) (rWords 3 2 10).toLoadRect) (arg10.view.readCov (kernelRun0_A.sl.HS0_24 c arg1 harg1 x0) (rLeft 10).toLoadRect) = stepAt x3 (words x4) (left x0) 2 10 := by
  rw [View.readAt_eq_ld, harg4.read_unread, View.readCov_eq_canon', View.readCov_eq_canon', View.readCov_eq_canon', View.readCov_eq_canon', View.readCov_eq_canon', wordsCanon, leftCanon]
  rfl

theorem acc_2_10 : (kernelRun0_A.sl.v4021 c arg1 harg1 arg4 harg4 arg5 harg5 arg10 arg11 x0 x3 x4) = acc x3 (words x4) (left x0) 2 10 (by omega) :=
  (show (kernelRun0_A.sl.v4021 c arg1 harg1 arg4 harg4 arg5 harg5 arg10 arg11 x0 x3 x4) = addf (kernelRun0_A.sl.v3941 c arg1 harg1 arg4 harg4 arg5 harg5 arg10 arg11 x0 x3 x4) (Tile.step (View.readAt (Elt F) arg4.view (rBytes 2 10).toLoadRect (harg4.unread x3)) (arg11.view.readCov (kernelRun0_A.sl.HS1_40 c arg5 harg5 x4) (rWords 0 2 10).toLoadRect) (arg11.view.readCov (kernelRun0_A.sl.HS1_40 c arg5 harg5 x4) (rWords 1 2 10).toLoadRect) (arg11.view.readCov (kernelRun0_A.sl.HS1_40 c arg5 harg5 x4) (rWords 2 2 10).toLoadRect) (arg11.view.readCov (kernelRun0_A.sl.HS1_40 c arg5 harg5 x4) (rWords 3 2 10).toLoadRect) (arg10.view.readCov (kernelRun0_A.sl.HS0_24 c arg1 harg1 x0) (rLeft 10).toLoadRect)) from rfl).trans (congrArg₂ addf (acc_2_9 ..) (step_2_10 ..))

theorem step_2_11 : Tile.step (View.readAt (Elt F) arg4.view (rBytes 2 11).toLoadRect (harg4.unread x3)) (arg11.view.readCov (kernelRun0_A.sl.HS1_40 c arg5 harg5 x4) (rWords 0 2 11).toLoadRect) (arg11.view.readCov (kernelRun0_A.sl.HS1_40 c arg5 harg5 x4) (rWords 1 2 11).toLoadRect) (arg11.view.readCov (kernelRun0_A.sl.HS1_40 c arg5 harg5 x4) (rWords 2 2 11).toLoadRect) (arg11.view.readCov (kernelRun0_A.sl.HS1_40 c arg5 harg5 x4) (rWords 3 2 11).toLoadRect) (arg10.view.readCov (kernelRun0_A.sl.HS0_24 c arg1 harg1 x0) (rLeft 11).toLoadRect) = stepAt x3 (words x4) (left x0) 2 11 := by
  rw [View.readAt_eq_ld, harg4.read_unread, View.readCov_eq_canon', View.readCov_eq_canon', View.readCov_eq_canon', View.readCov_eq_canon', View.readCov_eq_canon', wordsCanon, leftCanon]
  rfl

theorem plane_4 : act0 (addf (kernelRun0_A.sl.v4021 c arg1 harg1 arg4 harg4 arg5 harg5 arg10 arg11 x0 x3 x4) (Tile.step (View.readAt (Elt F) arg4.view (rBytes 2 11).toLoadRect (harg4.unread x3)) (arg11.view.readCov (kernelRun0_A.sl.HS1_40 c arg5 harg5 x4) (rWords 0 2 11).toLoadRect) (arg11.view.readCov (kernelRun0_A.sl.HS1_40 c arg5 harg5 x4) (rWords 1 2 11).toLoadRect) (arg11.view.readCov (kernelRun0_A.sl.HS1_40 c arg5 harg5 x4) (rWords 2 2 11).toLoadRect) (arg11.view.readCov (kernelRun0_A.sl.HS1_40 c arg5 harg5 x4) (rWords 3 2 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 4).toLoadRect (harg6.unread x5)) = plane x3 (words x4) (left x0) x1 x2 x5 4 := by
  rw [acc_2_10, step_2_11, rowScaleWord, gateWord, View.readAt_eq_ld, harg6.read_unread]
  rfl

theorem plane_5 : act1 (addf (kernelRun0_A.sl.v4021 c arg1 harg1 arg4 harg4 arg5 harg5 arg10 arg11 x0 x3 x4) (Tile.step (View.readAt (Elt F) arg4.view (rBytes 2 11).toLoadRect (harg4.unread x3)) (arg11.view.readCov (kernelRun0_A.sl.HS1_40 c arg5 harg5 x4) (rWords 0 2 11).toLoadRect) (arg11.view.readCov (kernelRun0_A.sl.HS1_40 c arg5 harg5 x4) (rWords 1 2 11).toLoadRect) (arg11.view.readCov (kernelRun0_A.sl.HS1_40 c arg5 harg5 x4) (rWords 2 2 11).toLoadRect) (arg11.view.readCov (kernelRun0_A.sl.HS1_40 c arg5 harg5 x4) (rWords 3 2 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 5).toLoadRect (harg6.unread x5)) = plane x3 (words x4) (left x0) x1 x2 x5 5 := by
  rw [acc_2_10, step_2_11, rowScaleWord, gateWord, View.readAt_eq_ld, harg6.read_unread]
  rfl

theorem step_3_0 : Tile.step (View.readAt (Elt F) arg4.view (rBytes 3 0).toLoadRect (harg4.unread x3)) (arg11.view.readCov (kernelRun0_A.sl.HS1_40 c arg5 harg5 x4) (rWords 0 3 0).toLoadRect) (arg11.view.readCov (kernelRun0_A.sl.HS1_40 c arg5 harg5 x4) (rWords 1 3 0).toLoadRect) (arg11.view.readCov (kernelRun0_A.sl.HS1_40 c arg5 harg5 x4) (rWords 2 3 0).toLoadRect) (arg11.view.readCov (kernelRun0_A.sl.HS1_40 c arg5 harg5 x4) (rWords 3 3 0).toLoadRect) (arg10.view.readCov (kernelRun0_A.sl.HS0_24 c arg1 harg1 x0) (rLeft 0).toLoadRect) = stepAt x3 (words x4) (left x0) 3 0 := by
  rw [View.readAt_eq_ld, harg4.read_unread, View.readCov_eq_canon', View.readCov_eq_canon', View.readCov_eq_canon', View.readCov_eq_canon', View.readCov_eq_canon', wordsCanon, leftCanon]
  rfl

theorem acc_3_0 : (kernelRun0_A.sl.v4216 c arg1 harg1 arg4 harg4 arg5 harg5 arg10 arg11 x0 x3 x4) = acc x3 (words x4) (left x0) 3 0 (by omega) :=
  (show (kernelRun0_A.sl.v4216 c arg1 harg1 arg4 harg4 arg5 harg5 arg10 arg11 x0 x3 x4) = Tile.step (View.readAt (Elt F) arg4.view (rBytes 3 0).toLoadRect (harg4.unread x3)) (arg11.view.readCov (kernelRun0_A.sl.HS1_40 c arg5 harg5 x4) (rWords 0 3 0).toLoadRect) (arg11.view.readCov (kernelRun0_A.sl.HS1_40 c arg5 harg5 x4) (rWords 1 3 0).toLoadRect) (arg11.view.readCov (kernelRun0_A.sl.HS1_40 c arg5 harg5 x4) (rWords 2 3 0).toLoadRect) (arg11.view.readCov (kernelRun0_A.sl.HS1_40 c arg5 harg5 x4) (rWords 3 3 0).toLoadRect) (arg10.view.readCov (kernelRun0_A.sl.HS0_24 c arg1 harg1 x0) (rLeft 0).toLoadRect) from rfl).trans (step_3_0 ..)

theorem step_3_1 : Tile.step (View.readAt (Elt F) arg4.view (rBytes 3 1).toLoadRect (harg4.unread x3)) (arg11.view.readCov (kernelRun0_A.sl.HS1_40 c arg5 harg5 x4) (rWords 0 3 1).toLoadRect) (arg11.view.readCov (kernelRun0_A.sl.HS1_40 c arg5 harg5 x4) (rWords 1 3 1).toLoadRect) (arg11.view.readCov (kernelRun0_A.sl.HS1_40 c arg5 harg5 x4) (rWords 2 3 1).toLoadRect) (arg11.view.readCov (kernelRun0_A.sl.HS1_40 c arg5 harg5 x4) (rWords 3 3 1).toLoadRect) (arg10.view.readCov (kernelRun0_A.sl.HS0_24 c arg1 harg1 x0) (rLeft 1).toLoadRect) = stepAt x3 (words x4) (left x0) 3 1 := by
  rw [View.readAt_eq_ld, harg4.read_unread, View.readCov_eq_canon', View.readCov_eq_canon', View.readCov_eq_canon', View.readCov_eq_canon', View.readCov_eq_canon', wordsCanon, leftCanon]
  rfl

theorem acc_3_1 : (kernelRun0_A.sl.v4296 c arg1 harg1 arg4 harg4 arg5 harg5 arg10 arg11 x0 x3 x4) = acc x3 (words x4) (left x0) 3 1 (by omega) :=
  (show (kernelRun0_A.sl.v4296 c arg1 harg1 arg4 harg4 arg5 harg5 arg10 arg11 x0 x3 x4) = addf (kernelRun0_A.sl.v4216 c arg1 harg1 arg4 harg4 arg5 harg5 arg10 arg11 x0 x3 x4) (Tile.step (View.readAt (Elt F) arg4.view (rBytes 3 1).toLoadRect (harg4.unread x3)) (arg11.view.readCov (kernelRun0_A.sl.HS1_40 c arg5 harg5 x4) (rWords 0 3 1).toLoadRect) (arg11.view.readCov (kernelRun0_A.sl.HS1_40 c arg5 harg5 x4) (rWords 1 3 1).toLoadRect) (arg11.view.readCov (kernelRun0_A.sl.HS1_40 c arg5 harg5 x4) (rWords 2 3 1).toLoadRect) (arg11.view.readCov (kernelRun0_A.sl.HS1_40 c arg5 harg5 x4) (rWords 3 3 1).toLoadRect) (arg10.view.readCov (kernelRun0_A.sl.HS0_24 c arg1 harg1 x0) (rLeft 1).toLoadRect)) from rfl).trans (congrArg₂ addf (acc_3_0 ..) (step_3_1 ..))

theorem step_3_2 : Tile.step (View.readAt (Elt F) arg4.view (rBytes 3 2).toLoadRect (harg4.unread x3)) (arg11.view.readCov (kernelRun0_A.sl.HS1_40 c arg5 harg5 x4) (rWords 0 3 2).toLoadRect) (arg11.view.readCov (kernelRun0_A.sl.HS1_40 c arg5 harg5 x4) (rWords 1 3 2).toLoadRect) (arg11.view.readCov (kernelRun0_A.sl.HS1_40 c arg5 harg5 x4) (rWords 2 3 2).toLoadRect) (arg11.view.readCov (kernelRun0_A.sl.HS1_40 c arg5 harg5 x4) (rWords 3 3 2).toLoadRect) (arg10.view.readCov (kernelRun0_A.sl.HS0_24 c arg1 harg1 x0) (rLeft 2).toLoadRect) = stepAt x3 (words x4) (left x0) 3 2 := by
  rw [View.readAt_eq_ld, harg4.read_unread, View.readCov_eq_canon', View.readCov_eq_canon', View.readCov_eq_canon', View.readCov_eq_canon', View.readCov_eq_canon', wordsCanon, leftCanon]
  rfl

theorem acc_3_2 : (kernelRun0_A.sl.v4376 c arg1 harg1 arg4 harg4 arg5 harg5 arg10 arg11 x0 x3 x4) = acc x3 (words x4) (left x0) 3 2 (by omega) :=
  (show (kernelRun0_A.sl.v4376 c arg1 harg1 arg4 harg4 arg5 harg5 arg10 arg11 x0 x3 x4) = addf (kernelRun0_A.sl.v4296 c arg1 harg1 arg4 harg4 arg5 harg5 arg10 arg11 x0 x3 x4) (Tile.step (View.readAt (Elt F) arg4.view (rBytes 3 2).toLoadRect (harg4.unread x3)) (arg11.view.readCov (kernelRun0_A.sl.HS1_40 c arg5 harg5 x4) (rWords 0 3 2).toLoadRect) (arg11.view.readCov (kernelRun0_A.sl.HS1_40 c arg5 harg5 x4) (rWords 1 3 2).toLoadRect) (arg11.view.readCov (kernelRun0_A.sl.HS1_40 c arg5 harg5 x4) (rWords 2 3 2).toLoadRect) (arg11.view.readCov (kernelRun0_A.sl.HS1_40 c arg5 harg5 x4) (rWords 3 3 2).toLoadRect) (arg10.view.readCov (kernelRun0_A.sl.HS0_24 c arg1 harg1 x0) (rLeft 2).toLoadRect)) from rfl).trans (congrArg₂ addf (acc_3_1 ..) (step_3_2 ..))

theorem step_3_3 : Tile.step (View.readAt (Elt F) arg4.view (rBytes 3 3).toLoadRect (harg4.unread x3)) (arg11.view.readCov (kernelRun0_A.sl.HS1_40 c arg5 harg5 x4) (rWords 0 3 3).toLoadRect) (arg11.view.readCov (kernelRun0_A.sl.HS1_40 c arg5 harg5 x4) (rWords 1 3 3).toLoadRect) (arg11.view.readCov (kernelRun0_A.sl.HS1_40 c arg5 harg5 x4) (rWords 2 3 3).toLoadRect) (arg11.view.readCov (kernelRun0_A.sl.HS1_40 c arg5 harg5 x4) (rWords 3 3 3).toLoadRect) (arg10.view.readCov (kernelRun0_A.sl.HS0_24 c arg1 harg1 x0) (rLeft 3).toLoadRect) = stepAt x3 (words x4) (left x0) 3 3 := by
  rw [View.readAt_eq_ld, harg4.read_unread, View.readCov_eq_canon', View.readCov_eq_canon', View.readCov_eq_canon', View.readCov_eq_canon', View.readCov_eq_canon', wordsCanon, leftCanon]
  rfl

theorem acc_3_3 : (kernelRun0_A.sl.v4456 c arg1 harg1 arg4 harg4 arg5 harg5 arg10 arg11 x0 x3 x4) = acc x3 (words x4) (left x0) 3 3 (by omega) :=
  (show (kernelRun0_A.sl.v4456 c arg1 harg1 arg4 harg4 arg5 harg5 arg10 arg11 x0 x3 x4) = addf (kernelRun0_A.sl.v4376 c arg1 harg1 arg4 harg4 arg5 harg5 arg10 arg11 x0 x3 x4) (Tile.step (View.readAt (Elt F) arg4.view (rBytes 3 3).toLoadRect (harg4.unread x3)) (arg11.view.readCov (kernelRun0_A.sl.HS1_40 c arg5 harg5 x4) (rWords 0 3 3).toLoadRect) (arg11.view.readCov (kernelRun0_A.sl.HS1_40 c arg5 harg5 x4) (rWords 1 3 3).toLoadRect) (arg11.view.readCov (kernelRun0_A.sl.HS1_40 c arg5 harg5 x4) (rWords 2 3 3).toLoadRect) (arg11.view.readCov (kernelRun0_A.sl.HS1_40 c arg5 harg5 x4) (rWords 3 3 3).toLoadRect) (arg10.view.readCov (kernelRun0_A.sl.HS0_24 c arg1 harg1 x0) (rLeft 3).toLoadRect)) from rfl).trans (congrArg₂ addf (acc_3_2 ..) (step_3_3 ..))

theorem step_3_4 : Tile.step (View.readAt (Elt F) arg4.view (rBytes 3 4).toLoadRect (harg4.unread x3)) (arg11.view.readCov (kernelRun0_A.sl.HS1_40 c arg5 harg5 x4) (rWords 0 3 4).toLoadRect) (arg11.view.readCov (kernelRun0_A.sl.HS1_40 c arg5 harg5 x4) (rWords 1 3 4).toLoadRect) (arg11.view.readCov (kernelRun0_A.sl.HS1_40 c arg5 harg5 x4) (rWords 2 3 4).toLoadRect) (arg11.view.readCov (kernelRun0_A.sl.HS1_40 c arg5 harg5 x4) (rWords 3 3 4).toLoadRect) (arg10.view.readCov (kernelRun0_A.sl.HS0_24 c arg1 harg1 x0) (rLeft 4).toLoadRect) = stepAt x3 (words x4) (left x0) 3 4 := by
  rw [View.readAt_eq_ld, harg4.read_unread, View.readCov_eq_canon', View.readCov_eq_canon', View.readCov_eq_canon', View.readCov_eq_canon', View.readCov_eq_canon', wordsCanon, leftCanon]
  rfl

theorem acc_3_4 : (kernelRun0_A.sl.v4536 c arg1 harg1 arg4 harg4 arg5 harg5 arg10 arg11 x0 x3 x4) = acc x3 (words x4) (left x0) 3 4 (by omega) :=
  (show (kernelRun0_A.sl.v4536 c arg1 harg1 arg4 harg4 arg5 harg5 arg10 arg11 x0 x3 x4) = addf (kernelRun0_A.sl.v4456 c arg1 harg1 arg4 harg4 arg5 harg5 arg10 arg11 x0 x3 x4) (Tile.step (View.readAt (Elt F) arg4.view (rBytes 3 4).toLoadRect (harg4.unread x3)) (arg11.view.readCov (kernelRun0_A.sl.HS1_40 c arg5 harg5 x4) (rWords 0 3 4).toLoadRect) (arg11.view.readCov (kernelRun0_A.sl.HS1_40 c arg5 harg5 x4) (rWords 1 3 4).toLoadRect) (arg11.view.readCov (kernelRun0_A.sl.HS1_40 c arg5 harg5 x4) (rWords 2 3 4).toLoadRect) (arg11.view.readCov (kernelRun0_A.sl.HS1_40 c arg5 harg5 x4) (rWords 3 3 4).toLoadRect) (arg10.view.readCov (kernelRun0_A.sl.HS0_24 c arg1 harg1 x0) (rLeft 4).toLoadRect)) from rfl).trans (congrArg₂ addf (acc_3_3 ..) (step_3_4 ..))

theorem step_3_5 : Tile.step (View.readAt (Elt F) arg4.view (rBytes 3 5).toLoadRect (harg4.unread x3)) (arg11.view.readCov (kernelRun0_A.sl.HS1_40 c arg5 harg5 x4) (rWords 0 3 5).toLoadRect) (arg11.view.readCov (kernelRun0_A.sl.HS1_40 c arg5 harg5 x4) (rWords 1 3 5).toLoadRect) (arg11.view.readCov (kernelRun0_A.sl.HS1_40 c arg5 harg5 x4) (rWords 2 3 5).toLoadRect) (arg11.view.readCov (kernelRun0_A.sl.HS1_40 c arg5 harg5 x4) (rWords 3 3 5).toLoadRect) (arg10.view.readCov (kernelRun0_A.sl.HS0_24 c arg1 harg1 x0) (rLeft 5).toLoadRect) = stepAt x3 (words x4) (left x0) 3 5 := by
  rw [View.readAt_eq_ld, harg4.read_unread, View.readCov_eq_canon', View.readCov_eq_canon', View.readCov_eq_canon', View.readCov_eq_canon', View.readCov_eq_canon', wordsCanon, leftCanon]
  rfl

theorem acc_3_5 : (kernelRun0_A.sl.v4616 c arg1 harg1 arg4 harg4 arg5 harg5 arg10 arg11 x0 x3 x4) = acc x3 (words x4) (left x0) 3 5 (by omega) :=
  (show (kernelRun0_A.sl.v4616 c arg1 harg1 arg4 harg4 arg5 harg5 arg10 arg11 x0 x3 x4) = addf (kernelRun0_A.sl.v4536 c arg1 harg1 arg4 harg4 arg5 harg5 arg10 arg11 x0 x3 x4) (Tile.step (View.readAt (Elt F) arg4.view (rBytes 3 5).toLoadRect (harg4.unread x3)) (arg11.view.readCov (kernelRun0_A.sl.HS1_40 c arg5 harg5 x4) (rWords 0 3 5).toLoadRect) (arg11.view.readCov (kernelRun0_A.sl.HS1_40 c arg5 harg5 x4) (rWords 1 3 5).toLoadRect) (arg11.view.readCov (kernelRun0_A.sl.HS1_40 c arg5 harg5 x4) (rWords 2 3 5).toLoadRect) (arg11.view.readCov (kernelRun0_A.sl.HS1_40 c arg5 harg5 x4) (rWords 3 3 5).toLoadRect) (arg10.view.readCov (kernelRun0_A.sl.HS0_24 c arg1 harg1 x0) (rLeft 5).toLoadRect)) from rfl).trans (congrArg₂ addf (acc_3_4 ..) (step_3_5 ..))

theorem step_3_6 : Tile.step (View.readAt (Elt F) arg4.view (rBytes 3 6).toLoadRect (harg4.unread x3)) (arg11.view.readCov (kernelRun0_A.sl.HS1_40 c arg5 harg5 x4) (rWords 0 3 6).toLoadRect) (arg11.view.readCov (kernelRun0_A.sl.HS1_40 c arg5 harg5 x4) (rWords 1 3 6).toLoadRect) (arg11.view.readCov (kernelRun0_A.sl.HS1_40 c arg5 harg5 x4) (rWords 2 3 6).toLoadRect) (arg11.view.readCov (kernelRun0_A.sl.HS1_40 c arg5 harg5 x4) (rWords 3 3 6).toLoadRect) (arg10.view.readCov (kernelRun0_A.sl.HS0_24 c arg1 harg1 x0) (rLeft 6).toLoadRect) = stepAt x3 (words x4) (left x0) 3 6 := by
  rw [View.readAt_eq_ld, harg4.read_unread, View.readCov_eq_canon', View.readCov_eq_canon', View.readCov_eq_canon', View.readCov_eq_canon', View.readCov_eq_canon', wordsCanon, leftCanon]
  rfl

theorem acc_3_6 : (kernelRun0_A.sl.v4696 c arg1 harg1 arg4 harg4 arg5 harg5 arg10 arg11 x0 x3 x4) = acc x3 (words x4) (left x0) 3 6 (by omega) :=
  (show (kernelRun0_A.sl.v4696 c arg1 harg1 arg4 harg4 arg5 harg5 arg10 arg11 x0 x3 x4) = addf (kernelRun0_A.sl.v4616 c arg1 harg1 arg4 harg4 arg5 harg5 arg10 arg11 x0 x3 x4) (Tile.step (View.readAt (Elt F) arg4.view (rBytes 3 6).toLoadRect (harg4.unread x3)) (arg11.view.readCov (kernelRun0_A.sl.HS1_40 c arg5 harg5 x4) (rWords 0 3 6).toLoadRect) (arg11.view.readCov (kernelRun0_A.sl.HS1_40 c arg5 harg5 x4) (rWords 1 3 6).toLoadRect) (arg11.view.readCov (kernelRun0_A.sl.HS1_40 c arg5 harg5 x4) (rWords 2 3 6).toLoadRect) (arg11.view.readCov (kernelRun0_A.sl.HS1_40 c arg5 harg5 x4) (rWords 3 3 6).toLoadRect) (arg10.view.readCov (kernelRun0_A.sl.HS0_24 c arg1 harg1 x0) (rLeft 6).toLoadRect)) from rfl).trans (congrArg₂ addf (acc_3_5 ..) (step_3_6 ..))

theorem step_3_7 : Tile.step (View.readAt (Elt F) arg4.view (rBytes 3 7).toLoadRect (harg4.unread x3)) (arg11.view.readCov (kernelRun0_A.sl.HS1_40 c arg5 harg5 x4) (rWords 0 3 7).toLoadRect) (arg11.view.readCov (kernelRun0_A.sl.HS1_40 c arg5 harg5 x4) (rWords 1 3 7).toLoadRect) (arg11.view.readCov (kernelRun0_A.sl.HS1_40 c arg5 harg5 x4) (rWords 2 3 7).toLoadRect) (arg11.view.readCov (kernelRun0_A.sl.HS1_40 c arg5 harg5 x4) (rWords 3 3 7).toLoadRect) (arg10.view.readCov (kernelRun0_A.sl.HS0_24 c arg1 harg1 x0) (rLeft 7).toLoadRect) = stepAt x3 (words x4) (left x0) 3 7 := by
  rw [View.readAt_eq_ld, harg4.read_unread, View.readCov_eq_canon', View.readCov_eq_canon', View.readCov_eq_canon', View.readCov_eq_canon', View.readCov_eq_canon', wordsCanon, leftCanon]
  rfl

theorem acc_3_7 : (kernelRun0_A.sl.v4776 c arg1 harg1 arg4 harg4 arg5 harg5 arg10 arg11 x0 x3 x4) = acc x3 (words x4) (left x0) 3 7 (by omega) :=
  (show (kernelRun0_A.sl.v4776 c arg1 harg1 arg4 harg4 arg5 harg5 arg10 arg11 x0 x3 x4) = addf (kernelRun0_A.sl.v4696 c arg1 harg1 arg4 harg4 arg5 harg5 arg10 arg11 x0 x3 x4) (Tile.step (View.readAt (Elt F) arg4.view (rBytes 3 7).toLoadRect (harg4.unread x3)) (arg11.view.readCov (kernelRun0_A.sl.HS1_40 c arg5 harg5 x4) (rWords 0 3 7).toLoadRect) (arg11.view.readCov (kernelRun0_A.sl.HS1_40 c arg5 harg5 x4) (rWords 1 3 7).toLoadRect) (arg11.view.readCov (kernelRun0_A.sl.HS1_40 c arg5 harg5 x4) (rWords 2 3 7).toLoadRect) (arg11.view.readCov (kernelRun0_A.sl.HS1_40 c arg5 harg5 x4) (rWords 3 3 7).toLoadRect) (arg10.view.readCov (kernelRun0_A.sl.HS0_24 c arg1 harg1 x0) (rLeft 7).toLoadRect)) from rfl).trans (congrArg₂ addf (acc_3_6 ..) (step_3_7 ..))

theorem step_3_8 : Tile.step (View.readAt (Elt F) arg4.view (rBytes 3 8).toLoadRect (harg4.unread x3)) (arg11.view.readCov (kernelRun0_A.sl.HS1_40 c arg5 harg5 x4) (rWords 0 3 8).toLoadRect) (arg11.view.readCov (kernelRun0_A.sl.HS1_40 c arg5 harg5 x4) (rWords 1 3 8).toLoadRect) (arg11.view.readCov (kernelRun0_A.sl.HS1_40 c arg5 harg5 x4) (rWords 2 3 8).toLoadRect) (arg11.view.readCov (kernelRun0_A.sl.HS1_40 c arg5 harg5 x4) (rWords 3 3 8).toLoadRect) (arg10.view.readCov (kernelRun0_A.sl.HS0_24 c arg1 harg1 x0) (rLeft 8).toLoadRect) = stepAt x3 (words x4) (left x0) 3 8 := by
  rw [View.readAt_eq_ld, harg4.read_unread, View.readCov_eq_canon', View.readCov_eq_canon', View.readCov_eq_canon', View.readCov_eq_canon', View.readCov_eq_canon', wordsCanon, leftCanon]
  rfl

theorem acc_3_8 : (kernelRun0_A.sl.v4856 c arg1 harg1 arg4 harg4 arg5 harg5 arg10 arg11 x0 x3 x4) = acc x3 (words x4) (left x0) 3 8 (by omega) :=
  (show (kernelRun0_A.sl.v4856 c arg1 harg1 arg4 harg4 arg5 harg5 arg10 arg11 x0 x3 x4) = addf (kernelRun0_A.sl.v4776 c arg1 harg1 arg4 harg4 arg5 harg5 arg10 arg11 x0 x3 x4) (Tile.step (View.readAt (Elt F) arg4.view (rBytes 3 8).toLoadRect (harg4.unread x3)) (arg11.view.readCov (kernelRun0_A.sl.HS1_40 c arg5 harg5 x4) (rWords 0 3 8).toLoadRect) (arg11.view.readCov (kernelRun0_A.sl.HS1_40 c arg5 harg5 x4) (rWords 1 3 8).toLoadRect) (arg11.view.readCov (kernelRun0_A.sl.HS1_40 c arg5 harg5 x4) (rWords 2 3 8).toLoadRect) (arg11.view.readCov (kernelRun0_A.sl.HS1_40 c arg5 harg5 x4) (rWords 3 3 8).toLoadRect) (arg10.view.readCov (kernelRun0_A.sl.HS0_24 c arg1 harg1 x0) (rLeft 8).toLoadRect)) from rfl).trans (congrArg₂ addf (acc_3_7 ..) (step_3_8 ..))

theorem step_3_9 : Tile.step (View.readAt (Elt F) arg4.view (rBytes 3 9).toLoadRect (harg4.unread x3)) (arg11.view.readCov (kernelRun0_A.sl.HS1_40 c arg5 harg5 x4) (rWords 0 3 9).toLoadRect) (arg11.view.readCov (kernelRun0_A.sl.HS1_40 c arg5 harg5 x4) (rWords 1 3 9).toLoadRect) (arg11.view.readCov (kernelRun0_A.sl.HS1_40 c arg5 harg5 x4) (rWords 2 3 9).toLoadRect) (arg11.view.readCov (kernelRun0_A.sl.HS1_40 c arg5 harg5 x4) (rWords 3 3 9).toLoadRect) (arg10.view.readCov (kernelRun0_A.sl.HS0_24 c arg1 harg1 x0) (rLeft 9).toLoadRect) = stepAt x3 (words x4) (left x0) 3 9 := by
  rw [View.readAt_eq_ld, harg4.read_unread, View.readCov_eq_canon', View.readCov_eq_canon', View.readCov_eq_canon', View.readCov_eq_canon', View.readCov_eq_canon', wordsCanon, leftCanon]
  rfl

theorem acc_3_9 : (kernelRun0_A.sl.v4936 c arg1 harg1 arg4 harg4 arg5 harg5 arg10 arg11 x0 x3 x4) = acc x3 (words x4) (left x0) 3 9 (by omega) :=
  (show (kernelRun0_A.sl.v4936 c arg1 harg1 arg4 harg4 arg5 harg5 arg10 arg11 x0 x3 x4) = addf (kernelRun0_A.sl.v4856 c arg1 harg1 arg4 harg4 arg5 harg5 arg10 arg11 x0 x3 x4) (Tile.step (View.readAt (Elt F) arg4.view (rBytes 3 9).toLoadRect (harg4.unread x3)) (arg11.view.readCov (kernelRun0_A.sl.HS1_40 c arg5 harg5 x4) (rWords 0 3 9).toLoadRect) (arg11.view.readCov (kernelRun0_A.sl.HS1_40 c arg5 harg5 x4) (rWords 1 3 9).toLoadRect) (arg11.view.readCov (kernelRun0_A.sl.HS1_40 c arg5 harg5 x4) (rWords 2 3 9).toLoadRect) (arg11.view.readCov (kernelRun0_A.sl.HS1_40 c arg5 harg5 x4) (rWords 3 3 9).toLoadRect) (arg10.view.readCov (kernelRun0_A.sl.HS0_24 c arg1 harg1 x0) (rLeft 9).toLoadRect)) from rfl).trans (congrArg₂ addf (acc_3_8 ..) (step_3_9 ..))

theorem step_3_10 : Tile.step (View.readAt (Elt F) arg4.view (rBytes 3 10).toLoadRect (harg4.unread x3)) (arg11.view.readCov (kernelRun0_A.sl.HS1_40 c arg5 harg5 x4) (rWords 0 3 10).toLoadRect) (arg11.view.readCov (kernelRun0_A.sl.HS1_40 c arg5 harg5 x4) (rWords 1 3 10).toLoadRect) (arg11.view.readCov (kernelRun0_A.sl.HS1_40 c arg5 harg5 x4) (rWords 2 3 10).toLoadRect) (arg11.view.readCov (kernelRun0_A.sl.HS1_40 c arg5 harg5 x4) (rWords 3 3 10).toLoadRect) (arg10.view.readCov (kernelRun0_A.sl.HS0_24 c arg1 harg1 x0) (rLeft 10).toLoadRect) = stepAt x3 (words x4) (left x0) 3 10 := by
  rw [View.readAt_eq_ld, harg4.read_unread, View.readCov_eq_canon', View.readCov_eq_canon', View.readCov_eq_canon', View.readCov_eq_canon', View.readCov_eq_canon', wordsCanon, leftCanon]
  rfl

theorem acc_3_10 : (kernelRun0_A.sl.v5016 c arg1 harg1 arg4 harg4 arg5 harg5 arg10 arg11 x0 x3 x4) = acc x3 (words x4) (left x0) 3 10 (by omega) :=
  (show (kernelRun0_A.sl.v5016 c arg1 harg1 arg4 harg4 arg5 harg5 arg10 arg11 x0 x3 x4) = addf (kernelRun0_A.sl.v4936 c arg1 harg1 arg4 harg4 arg5 harg5 arg10 arg11 x0 x3 x4) (Tile.step (View.readAt (Elt F) arg4.view (rBytes 3 10).toLoadRect (harg4.unread x3)) (arg11.view.readCov (kernelRun0_A.sl.HS1_40 c arg5 harg5 x4) (rWords 0 3 10).toLoadRect) (arg11.view.readCov (kernelRun0_A.sl.HS1_40 c arg5 harg5 x4) (rWords 1 3 10).toLoadRect) (arg11.view.readCov (kernelRun0_A.sl.HS1_40 c arg5 harg5 x4) (rWords 2 3 10).toLoadRect) (arg11.view.readCov (kernelRun0_A.sl.HS1_40 c arg5 harg5 x4) (rWords 3 3 10).toLoadRect) (arg10.view.readCov (kernelRun0_A.sl.HS0_24 c arg1 harg1 x0) (rLeft 10).toLoadRect)) from rfl).trans (congrArg₂ addf (acc_3_9 ..) (step_3_10 ..))

theorem step_3_11 : Tile.step (View.readAt (Elt F) arg4.view (rBytes 3 11).toLoadRect (harg4.unread x3)) (arg11.view.readCov (kernelRun0_A.sl.HS1_40 c arg5 harg5 x4) (rWords 0 3 11).toLoadRect) (arg11.view.readCov (kernelRun0_A.sl.HS1_40 c arg5 harg5 x4) (rWords 1 3 11).toLoadRect) (arg11.view.readCov (kernelRun0_A.sl.HS1_40 c arg5 harg5 x4) (rWords 2 3 11).toLoadRect) (arg11.view.readCov (kernelRun0_A.sl.HS1_40 c arg5 harg5 x4) (rWords 3 3 11).toLoadRect) (arg10.view.readCov (kernelRun0_A.sl.HS0_24 c arg1 harg1 x0) (rLeft 11).toLoadRect) = stepAt x3 (words x4) (left x0) 3 11 := by
  rw [View.readAt_eq_ld, harg4.read_unread, View.readCov_eq_canon', View.readCov_eq_canon', View.readCov_eq_canon', View.readCov_eq_canon', View.readCov_eq_canon', wordsCanon, leftCanon]
  rfl

theorem plane_6 : act0 (addf (kernelRun0_A.sl.v5016 c arg1 harg1 arg4 harg4 arg5 harg5 arg10 arg11 x0 x3 x4) (Tile.step (View.readAt (Elt F) arg4.view (rBytes 3 11).toLoadRect (harg4.unread x3)) (arg11.view.readCov (kernelRun0_A.sl.HS1_40 c arg5 harg5 x4) (rWords 0 3 11).toLoadRect) (arg11.view.readCov (kernelRun0_A.sl.HS1_40 c arg5 harg5 x4) (rWords 1 3 11).toLoadRect) (arg11.view.readCov (kernelRun0_A.sl.HS1_40 c arg5 harg5 x4) (rWords 2 3 11).toLoadRect) (arg11.view.readCov (kernelRun0_A.sl.HS1_40 c arg5 harg5 x4) (rWords 3 3 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 6).toLoadRect (harg6.unread x5)) = plane x3 (words x4) (left x0) x1 x2 x5 6 := by
  rw [acc_3_10, step_3_11, rowScaleWord, gateWord, View.readAt_eq_ld, harg6.read_unread]
  rfl

theorem plane_7 : act1 (addf (kernelRun0_A.sl.v5016 c arg1 harg1 arg4 harg4 arg5 harg5 arg10 arg11 x0 x3 x4) (Tile.step (View.readAt (Elt F) arg4.view (rBytes 3 11).toLoadRect (harg4.unread x3)) (arg11.view.readCov (kernelRun0_A.sl.HS1_40 c arg5 harg5 x4) (rWords 0 3 11).toLoadRect) (arg11.view.readCov (kernelRun0_A.sl.HS1_40 c arg5 harg5 x4) (rWords 1 3 11).toLoadRect) (arg11.view.readCov (kernelRun0_A.sl.HS1_40 c arg5 harg5 x4) (rWords 2 3 11).toLoadRect) (arg11.view.readCov (kernelRun0_A.sl.HS1_40 c arg5 harg5 x4) (rWords 3 3 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 7).toLoadRect (harg6.unread x5)) = plane x3 (words x4) (left x0) x1 x2 x5 7 := by
  rw [acc_3_10, step_3_11, rowScaleWord, gateWord, View.readAt_eq_ld, harg6.read_unread]
  rfl

theorem step_4_0 : Tile.step (View.readAt (Elt F) arg4.view (rBytes 4 0).toLoadRect (harg4.unread x3)) (arg11.view.readCov (kernelRun0_A.sl.HS1_40 c arg5 harg5 x4) (rWords 0 4 0).toLoadRect) (arg11.view.readCov (kernelRun0_A.sl.HS1_40 c arg5 harg5 x4) (rWords 1 4 0).toLoadRect) (arg11.view.readCov (kernelRun0_A.sl.HS1_40 c arg5 harg5 x4) (rWords 2 4 0).toLoadRect) (arg11.view.readCov (kernelRun0_A.sl.HS1_40 c arg5 harg5 x4) (rWords 3 4 0).toLoadRect) (arg10.view.readCov (kernelRun0_A.sl.HS0_24 c arg1 harg1 x0) (rLeft 0).toLoadRect) = stepAt x3 (words x4) (left x0) 4 0 := by
  rw [View.readAt_eq_ld, harg4.read_unread, View.readCov_eq_canon', View.readCov_eq_canon', View.readCov_eq_canon', View.readCov_eq_canon', View.readCov_eq_canon', wordsCanon, leftCanon]
  rfl

theorem acc_4_0 : (kernelRun0_A.sl.v5211 c arg1 harg1 arg4 harg4 arg5 harg5 arg10 arg11 x0 x3 x4) = acc x3 (words x4) (left x0) 4 0 (by omega) :=
  (show (kernelRun0_A.sl.v5211 c arg1 harg1 arg4 harg4 arg5 harg5 arg10 arg11 x0 x3 x4) = Tile.step (View.readAt (Elt F) arg4.view (rBytes 4 0).toLoadRect (harg4.unread x3)) (arg11.view.readCov (kernelRun0_A.sl.HS1_40 c arg5 harg5 x4) (rWords 0 4 0).toLoadRect) (arg11.view.readCov (kernelRun0_A.sl.HS1_40 c arg5 harg5 x4) (rWords 1 4 0).toLoadRect) (arg11.view.readCov (kernelRun0_A.sl.HS1_40 c arg5 harg5 x4) (rWords 2 4 0).toLoadRect) (arg11.view.readCov (kernelRun0_A.sl.HS1_40 c arg5 harg5 x4) (rWords 3 4 0).toLoadRect) (arg10.view.readCov (kernelRun0_A.sl.HS0_24 c arg1 harg1 x0) (rLeft 0).toLoadRect) from rfl).trans (step_4_0 ..)

theorem step_4_1 : Tile.step (View.readAt (Elt F) arg4.view (rBytes 4 1).toLoadRect (harg4.unread x3)) (arg11.view.readCov (kernelRun0_A.sl.HS1_40 c arg5 harg5 x4) (rWords 0 4 1).toLoadRect) (arg11.view.readCov (kernelRun0_A.sl.HS1_40 c arg5 harg5 x4) (rWords 1 4 1).toLoadRect) (arg11.view.readCov (kernelRun0_A.sl.HS1_40 c arg5 harg5 x4) (rWords 2 4 1).toLoadRect) (arg11.view.readCov (kernelRun0_A.sl.HS1_40 c arg5 harg5 x4) (rWords 3 4 1).toLoadRect) (arg10.view.readCov (kernelRun0_A.sl.HS0_24 c arg1 harg1 x0) (rLeft 1).toLoadRect) = stepAt x3 (words x4) (left x0) 4 1 := by
  rw [View.readAt_eq_ld, harg4.read_unread, View.readCov_eq_canon', View.readCov_eq_canon', View.readCov_eq_canon', View.readCov_eq_canon', View.readCov_eq_canon', wordsCanon, leftCanon]
  rfl

theorem acc_4_1 : (kernelRun0_A.sl.v5291 c arg1 harg1 arg4 harg4 arg5 harg5 arg10 arg11 x0 x3 x4) = acc x3 (words x4) (left x0) 4 1 (by omega) :=
  (show (kernelRun0_A.sl.v5291 c arg1 harg1 arg4 harg4 arg5 harg5 arg10 arg11 x0 x3 x4) = addf (kernelRun0_A.sl.v5211 c arg1 harg1 arg4 harg4 arg5 harg5 arg10 arg11 x0 x3 x4) (Tile.step (View.readAt (Elt F) arg4.view (rBytes 4 1).toLoadRect (harg4.unread x3)) (arg11.view.readCov (kernelRun0_A.sl.HS1_40 c arg5 harg5 x4) (rWords 0 4 1).toLoadRect) (arg11.view.readCov (kernelRun0_A.sl.HS1_40 c arg5 harg5 x4) (rWords 1 4 1).toLoadRect) (arg11.view.readCov (kernelRun0_A.sl.HS1_40 c arg5 harg5 x4) (rWords 2 4 1).toLoadRect) (arg11.view.readCov (kernelRun0_A.sl.HS1_40 c arg5 harg5 x4) (rWords 3 4 1).toLoadRect) (arg10.view.readCov (kernelRun0_A.sl.HS0_24 c arg1 harg1 x0) (rLeft 1).toLoadRect)) from rfl).trans (congrArg₂ addf (acc_4_0 ..) (step_4_1 ..))

theorem step_4_2 : Tile.step (View.readAt (Elt F) arg4.view (rBytes 4 2).toLoadRect (harg4.unread x3)) (arg11.view.readCov (kernelRun0_A.sl.HS1_40 c arg5 harg5 x4) (rWords 0 4 2).toLoadRect) (arg11.view.readCov (kernelRun0_A.sl.HS1_40 c arg5 harg5 x4) (rWords 1 4 2).toLoadRect) (arg11.view.readCov (kernelRun0_A.sl.HS1_40 c arg5 harg5 x4) (rWords 2 4 2).toLoadRect) (arg11.view.readCov (kernelRun0_A.sl.HS1_40 c arg5 harg5 x4) (rWords 3 4 2).toLoadRect) (arg10.view.readCov (kernelRun0_A.sl.HS0_24 c arg1 harg1 x0) (rLeft 2).toLoadRect) = stepAt x3 (words x4) (left x0) 4 2 := by
  rw [View.readAt_eq_ld, harg4.read_unread, View.readCov_eq_canon', View.readCov_eq_canon', View.readCov_eq_canon', View.readCov_eq_canon', View.readCov_eq_canon', wordsCanon, leftCanon]
  rfl

theorem acc_4_2 : (kernelRun0_A.sl.v5371 c arg1 harg1 arg4 harg4 arg5 harg5 arg10 arg11 x0 x3 x4) = acc x3 (words x4) (left x0) 4 2 (by omega) :=
  (show (kernelRun0_A.sl.v5371 c arg1 harg1 arg4 harg4 arg5 harg5 arg10 arg11 x0 x3 x4) = addf (kernelRun0_A.sl.v5291 c arg1 harg1 arg4 harg4 arg5 harg5 arg10 arg11 x0 x3 x4) (Tile.step (View.readAt (Elt F) arg4.view (rBytes 4 2).toLoadRect (harg4.unread x3)) (arg11.view.readCov (kernelRun0_A.sl.HS1_40 c arg5 harg5 x4) (rWords 0 4 2).toLoadRect) (arg11.view.readCov (kernelRun0_A.sl.HS1_40 c arg5 harg5 x4) (rWords 1 4 2).toLoadRect) (arg11.view.readCov (kernelRun0_A.sl.HS1_40 c arg5 harg5 x4) (rWords 2 4 2).toLoadRect) (arg11.view.readCov (kernelRun0_A.sl.HS1_40 c arg5 harg5 x4) (rWords 3 4 2).toLoadRect) (arg10.view.readCov (kernelRun0_A.sl.HS0_24 c arg1 harg1 x0) (rLeft 2).toLoadRect)) from rfl).trans (congrArg₂ addf (acc_4_1 ..) (step_4_2 ..))

theorem step_4_3 : Tile.step (View.readAt (Elt F) arg4.view (rBytes 4 3).toLoadRect (harg4.unread x3)) (arg11.view.readCov (kernelRun0_A.sl.HS1_40 c arg5 harg5 x4) (rWords 0 4 3).toLoadRect) (arg11.view.readCov (kernelRun0_A.sl.HS1_40 c arg5 harg5 x4) (rWords 1 4 3).toLoadRect) (arg11.view.readCov (kernelRun0_A.sl.HS1_40 c arg5 harg5 x4) (rWords 2 4 3).toLoadRect) (arg11.view.readCov (kernelRun0_A.sl.HS1_40 c arg5 harg5 x4) (rWords 3 4 3).toLoadRect) (arg10.view.readCov (kernelRun0_A.sl.HS0_24 c arg1 harg1 x0) (rLeft 3).toLoadRect) = stepAt x3 (words x4) (left x0) 4 3 := by
  rw [View.readAt_eq_ld, harg4.read_unread, View.readCov_eq_canon', View.readCov_eq_canon', View.readCov_eq_canon', View.readCov_eq_canon', View.readCov_eq_canon', wordsCanon, leftCanon]
  rfl

theorem acc_4_3 : (kernelRun0_A.sl.v5451 c arg1 harg1 arg4 harg4 arg5 harg5 arg10 arg11 x0 x3 x4) = acc x3 (words x4) (left x0) 4 3 (by omega) :=
  (show (kernelRun0_A.sl.v5451 c arg1 harg1 arg4 harg4 arg5 harg5 arg10 arg11 x0 x3 x4) = addf (kernelRun0_A.sl.v5371 c arg1 harg1 arg4 harg4 arg5 harg5 arg10 arg11 x0 x3 x4) (Tile.step (View.readAt (Elt F) arg4.view (rBytes 4 3).toLoadRect (harg4.unread x3)) (arg11.view.readCov (kernelRun0_A.sl.HS1_40 c arg5 harg5 x4) (rWords 0 4 3).toLoadRect) (arg11.view.readCov (kernelRun0_A.sl.HS1_40 c arg5 harg5 x4) (rWords 1 4 3).toLoadRect) (arg11.view.readCov (kernelRun0_A.sl.HS1_40 c arg5 harg5 x4) (rWords 2 4 3).toLoadRect) (arg11.view.readCov (kernelRun0_A.sl.HS1_40 c arg5 harg5 x4) (rWords 3 4 3).toLoadRect) (arg10.view.readCov (kernelRun0_A.sl.HS0_24 c arg1 harg1 x0) (rLeft 3).toLoadRect)) from rfl).trans (congrArg₂ addf (acc_4_2 ..) (step_4_3 ..))

theorem step_4_4 : Tile.step (View.readAt (Elt F) arg4.view (rBytes 4 4).toLoadRect (harg4.unread x3)) (arg11.view.readCov (kernelRun0_A.sl.HS1_40 c arg5 harg5 x4) (rWords 0 4 4).toLoadRect) (arg11.view.readCov (kernelRun0_A.sl.HS1_40 c arg5 harg5 x4) (rWords 1 4 4).toLoadRect) (arg11.view.readCov (kernelRun0_A.sl.HS1_40 c arg5 harg5 x4) (rWords 2 4 4).toLoadRect) (arg11.view.readCov (kernelRun0_A.sl.HS1_40 c arg5 harg5 x4) (rWords 3 4 4).toLoadRect) (arg10.view.readCov (kernelRun0_A.sl.HS0_24 c arg1 harg1 x0) (rLeft 4).toLoadRect) = stepAt x3 (words x4) (left x0) 4 4 := by
  rw [View.readAt_eq_ld, harg4.read_unread, View.readCov_eq_canon', View.readCov_eq_canon', View.readCov_eq_canon', View.readCov_eq_canon', View.readCov_eq_canon', wordsCanon, leftCanon]
  rfl

theorem acc_4_4 : (kernelRun0_A.sl.v5531 c arg1 harg1 arg4 harg4 arg5 harg5 arg10 arg11 x0 x3 x4) = acc x3 (words x4) (left x0) 4 4 (by omega) :=
  (show (kernelRun0_A.sl.v5531 c arg1 harg1 arg4 harg4 arg5 harg5 arg10 arg11 x0 x3 x4) = addf (kernelRun0_A.sl.v5451 c arg1 harg1 arg4 harg4 arg5 harg5 arg10 arg11 x0 x3 x4) (Tile.step (View.readAt (Elt F) arg4.view (rBytes 4 4).toLoadRect (harg4.unread x3)) (arg11.view.readCov (kernelRun0_A.sl.HS1_40 c arg5 harg5 x4) (rWords 0 4 4).toLoadRect) (arg11.view.readCov (kernelRun0_A.sl.HS1_40 c arg5 harg5 x4) (rWords 1 4 4).toLoadRect) (arg11.view.readCov (kernelRun0_A.sl.HS1_40 c arg5 harg5 x4) (rWords 2 4 4).toLoadRect) (arg11.view.readCov (kernelRun0_A.sl.HS1_40 c arg5 harg5 x4) (rWords 3 4 4).toLoadRect) (arg10.view.readCov (kernelRun0_A.sl.HS0_24 c arg1 harg1 x0) (rLeft 4).toLoadRect)) from rfl).trans (congrArg₂ addf (acc_4_3 ..) (step_4_4 ..))

theorem step_4_5 : Tile.step (View.readAt (Elt F) arg4.view (rBytes 4 5).toLoadRect (harg4.unread x3)) (arg11.view.readCov (kernelRun0_A.sl.HS1_40 c arg5 harg5 x4) (rWords 0 4 5).toLoadRect) (arg11.view.readCov (kernelRun0_A.sl.HS1_40 c arg5 harg5 x4) (rWords 1 4 5).toLoadRect) (arg11.view.readCov (kernelRun0_A.sl.HS1_40 c arg5 harg5 x4) (rWords 2 4 5).toLoadRect) (arg11.view.readCov (kernelRun0_A.sl.HS1_40 c arg5 harg5 x4) (rWords 3 4 5).toLoadRect) (arg10.view.readCov (kernelRun0_A.sl.HS0_24 c arg1 harg1 x0) (rLeft 5).toLoadRect) = stepAt x3 (words x4) (left x0) 4 5 := by
  rw [View.readAt_eq_ld, harg4.read_unread, View.readCov_eq_canon', View.readCov_eq_canon', View.readCov_eq_canon', View.readCov_eq_canon', View.readCov_eq_canon', wordsCanon, leftCanon]
  rfl

theorem acc_4_5 : (kernelRun0_A.sl.v5611 c arg1 harg1 arg4 harg4 arg5 harg5 arg10 arg11 x0 x3 x4) = acc x3 (words x4) (left x0) 4 5 (by omega) :=
  (show (kernelRun0_A.sl.v5611 c arg1 harg1 arg4 harg4 arg5 harg5 arg10 arg11 x0 x3 x4) = addf (kernelRun0_A.sl.v5531 c arg1 harg1 arg4 harg4 arg5 harg5 arg10 arg11 x0 x3 x4) (Tile.step (View.readAt (Elt F) arg4.view (rBytes 4 5).toLoadRect (harg4.unread x3)) (arg11.view.readCov (kernelRun0_A.sl.HS1_40 c arg5 harg5 x4) (rWords 0 4 5).toLoadRect) (arg11.view.readCov (kernelRun0_A.sl.HS1_40 c arg5 harg5 x4) (rWords 1 4 5).toLoadRect) (arg11.view.readCov (kernelRun0_A.sl.HS1_40 c arg5 harg5 x4) (rWords 2 4 5).toLoadRect) (arg11.view.readCov (kernelRun0_A.sl.HS1_40 c arg5 harg5 x4) (rWords 3 4 5).toLoadRect) (arg10.view.readCov (kernelRun0_A.sl.HS0_24 c arg1 harg1 x0) (rLeft 5).toLoadRect)) from rfl).trans (congrArg₂ addf (acc_4_4 ..) (step_4_5 ..))

theorem step_4_6 : Tile.step (View.readAt (Elt F) arg4.view (rBytes 4 6).toLoadRect (harg4.unread x3)) (arg11.view.readCov (kernelRun0_A.sl.HS1_40 c arg5 harg5 x4) (rWords 0 4 6).toLoadRect) (arg11.view.readCov (kernelRun0_A.sl.HS1_40 c arg5 harg5 x4) (rWords 1 4 6).toLoadRect) (arg11.view.readCov (kernelRun0_A.sl.HS1_40 c arg5 harg5 x4) (rWords 2 4 6).toLoadRect) (arg11.view.readCov (kernelRun0_A.sl.HS1_40 c arg5 harg5 x4) (rWords 3 4 6).toLoadRect) (arg10.view.readCov (kernelRun0_A.sl.HS0_24 c arg1 harg1 x0) (rLeft 6).toLoadRect) = stepAt x3 (words x4) (left x0) 4 6 := by
  rw [View.readAt_eq_ld, harg4.read_unread, View.readCov_eq_canon', View.readCov_eq_canon', View.readCov_eq_canon', View.readCov_eq_canon', View.readCov_eq_canon', wordsCanon, leftCanon]
  rfl

theorem acc_4_6 : (kernelRun0_A.sl.v5691 c arg1 harg1 arg4 harg4 arg5 harg5 arg10 arg11 x0 x3 x4) = acc x3 (words x4) (left x0) 4 6 (by omega) :=
  (show (kernelRun0_A.sl.v5691 c arg1 harg1 arg4 harg4 arg5 harg5 arg10 arg11 x0 x3 x4) = addf (kernelRun0_A.sl.v5611 c arg1 harg1 arg4 harg4 arg5 harg5 arg10 arg11 x0 x3 x4) (Tile.step (View.readAt (Elt F) arg4.view (rBytes 4 6).toLoadRect (harg4.unread x3)) (arg11.view.readCov (kernelRun0_A.sl.HS1_40 c arg5 harg5 x4) (rWords 0 4 6).toLoadRect) (arg11.view.readCov (kernelRun0_A.sl.HS1_40 c arg5 harg5 x4) (rWords 1 4 6).toLoadRect) (arg11.view.readCov (kernelRun0_A.sl.HS1_40 c arg5 harg5 x4) (rWords 2 4 6).toLoadRect) (arg11.view.readCov (kernelRun0_A.sl.HS1_40 c arg5 harg5 x4) (rWords 3 4 6).toLoadRect) (arg10.view.readCov (kernelRun0_A.sl.HS0_24 c arg1 harg1 x0) (rLeft 6).toLoadRect)) from rfl).trans (congrArg₂ addf (acc_4_5 ..) (step_4_6 ..))

theorem step_4_7 : Tile.step (View.readAt (Elt F) arg4.view (rBytes 4 7).toLoadRect (harg4.unread x3)) (arg11.view.readCov (kernelRun0_A.sl.HS1_40 c arg5 harg5 x4) (rWords 0 4 7).toLoadRect) (arg11.view.readCov (kernelRun0_A.sl.HS1_40 c arg5 harg5 x4) (rWords 1 4 7).toLoadRect) (arg11.view.readCov (kernelRun0_A.sl.HS1_40 c arg5 harg5 x4) (rWords 2 4 7).toLoadRect) (arg11.view.readCov (kernelRun0_A.sl.HS1_40 c arg5 harg5 x4) (rWords 3 4 7).toLoadRect) (arg10.view.readCov (kernelRun0_A.sl.HS0_24 c arg1 harg1 x0) (rLeft 7).toLoadRect) = stepAt x3 (words x4) (left x0) 4 7 := by
  rw [View.readAt_eq_ld, harg4.read_unread, View.readCov_eq_canon', View.readCov_eq_canon', View.readCov_eq_canon', View.readCov_eq_canon', View.readCov_eq_canon', wordsCanon, leftCanon]
  rfl

theorem acc_4_7 : (kernelRun0_A.sl.v5771 c arg1 harg1 arg4 harg4 arg5 harg5 arg10 arg11 x0 x3 x4) = acc x3 (words x4) (left x0) 4 7 (by omega) :=
  (show (kernelRun0_A.sl.v5771 c arg1 harg1 arg4 harg4 arg5 harg5 arg10 arg11 x0 x3 x4) = addf (kernelRun0_A.sl.v5691 c arg1 harg1 arg4 harg4 arg5 harg5 arg10 arg11 x0 x3 x4) (Tile.step (View.readAt (Elt F) arg4.view (rBytes 4 7).toLoadRect (harg4.unread x3)) (arg11.view.readCov (kernelRun0_A.sl.HS1_40 c arg5 harg5 x4) (rWords 0 4 7).toLoadRect) (arg11.view.readCov (kernelRun0_A.sl.HS1_40 c arg5 harg5 x4) (rWords 1 4 7).toLoadRect) (arg11.view.readCov (kernelRun0_A.sl.HS1_40 c arg5 harg5 x4) (rWords 2 4 7).toLoadRect) (arg11.view.readCov (kernelRun0_A.sl.HS1_40 c arg5 harg5 x4) (rWords 3 4 7).toLoadRect) (arg10.view.readCov (kernelRun0_A.sl.HS0_24 c arg1 harg1 x0) (rLeft 7).toLoadRect)) from rfl).trans (congrArg₂ addf (acc_4_6 ..) (step_4_7 ..))

theorem step_4_8 : Tile.step (View.readAt (Elt F) arg4.view (rBytes 4 8).toLoadRect (harg4.unread x3)) (arg11.view.readCov (kernelRun0_A.sl.HS1_40 c arg5 harg5 x4) (rWords 0 4 8).toLoadRect) (arg11.view.readCov (kernelRun0_A.sl.HS1_40 c arg5 harg5 x4) (rWords 1 4 8).toLoadRect) (arg11.view.readCov (kernelRun0_A.sl.HS1_40 c arg5 harg5 x4) (rWords 2 4 8).toLoadRect) (arg11.view.readCov (kernelRun0_A.sl.HS1_40 c arg5 harg5 x4) (rWords 3 4 8).toLoadRect) (arg10.view.readCov (kernelRun0_A.sl.HS0_24 c arg1 harg1 x0) (rLeft 8).toLoadRect) = stepAt x3 (words x4) (left x0) 4 8 := by
  rw [View.readAt_eq_ld, harg4.read_unread, View.readCov_eq_canon', View.readCov_eq_canon', View.readCov_eq_canon', View.readCov_eq_canon', View.readCov_eq_canon', wordsCanon, leftCanon]
  rfl

theorem acc_4_8 : (kernelRun0_A.sl.v5851 c arg1 harg1 arg4 harg4 arg5 harg5 arg10 arg11 x0 x3 x4) = acc x3 (words x4) (left x0) 4 8 (by omega) :=
  (show (kernelRun0_A.sl.v5851 c arg1 harg1 arg4 harg4 arg5 harg5 arg10 arg11 x0 x3 x4) = addf (kernelRun0_A.sl.v5771 c arg1 harg1 arg4 harg4 arg5 harg5 arg10 arg11 x0 x3 x4) (Tile.step (View.readAt (Elt F) arg4.view (rBytes 4 8).toLoadRect (harg4.unread x3)) (arg11.view.readCov (kernelRun0_A.sl.HS1_40 c arg5 harg5 x4) (rWords 0 4 8).toLoadRect) (arg11.view.readCov (kernelRun0_A.sl.HS1_40 c arg5 harg5 x4) (rWords 1 4 8).toLoadRect) (arg11.view.readCov (kernelRun0_A.sl.HS1_40 c arg5 harg5 x4) (rWords 2 4 8).toLoadRect) (arg11.view.readCov (kernelRun0_A.sl.HS1_40 c arg5 harg5 x4) (rWords 3 4 8).toLoadRect) (arg10.view.readCov (kernelRun0_A.sl.HS0_24 c arg1 harg1 x0) (rLeft 8).toLoadRect)) from rfl).trans (congrArg₂ addf (acc_4_7 ..) (step_4_8 ..))

theorem step_4_9 : Tile.step (View.readAt (Elt F) arg4.view (rBytes 4 9).toLoadRect (harg4.unread x3)) (arg11.view.readCov (kernelRun0_A.sl.HS1_40 c arg5 harg5 x4) (rWords 0 4 9).toLoadRect) (arg11.view.readCov (kernelRun0_A.sl.HS1_40 c arg5 harg5 x4) (rWords 1 4 9).toLoadRect) (arg11.view.readCov (kernelRun0_A.sl.HS1_40 c arg5 harg5 x4) (rWords 2 4 9).toLoadRect) (arg11.view.readCov (kernelRun0_A.sl.HS1_40 c arg5 harg5 x4) (rWords 3 4 9).toLoadRect) (arg10.view.readCov (kernelRun0_A.sl.HS0_24 c arg1 harg1 x0) (rLeft 9).toLoadRect) = stepAt x3 (words x4) (left x0) 4 9 := by
  rw [View.readAt_eq_ld, harg4.read_unread, View.readCov_eq_canon', View.readCov_eq_canon', View.readCov_eq_canon', View.readCov_eq_canon', View.readCov_eq_canon', wordsCanon, leftCanon]
  rfl

theorem acc_4_9 : (kernelRun0_A.sl.v5931 c arg1 harg1 arg4 harg4 arg5 harg5 arg10 arg11 x0 x3 x4) = acc x3 (words x4) (left x0) 4 9 (by omega) :=
  (show (kernelRun0_A.sl.v5931 c arg1 harg1 arg4 harg4 arg5 harg5 arg10 arg11 x0 x3 x4) = addf (kernelRun0_A.sl.v5851 c arg1 harg1 arg4 harg4 arg5 harg5 arg10 arg11 x0 x3 x4) (Tile.step (View.readAt (Elt F) arg4.view (rBytes 4 9).toLoadRect (harg4.unread x3)) (arg11.view.readCov (kernelRun0_A.sl.HS1_40 c arg5 harg5 x4) (rWords 0 4 9).toLoadRect) (arg11.view.readCov (kernelRun0_A.sl.HS1_40 c arg5 harg5 x4) (rWords 1 4 9).toLoadRect) (arg11.view.readCov (kernelRun0_A.sl.HS1_40 c arg5 harg5 x4) (rWords 2 4 9).toLoadRect) (arg11.view.readCov (kernelRun0_A.sl.HS1_40 c arg5 harg5 x4) (rWords 3 4 9).toLoadRect) (arg10.view.readCov (kernelRun0_A.sl.HS0_24 c arg1 harg1 x0) (rLeft 9).toLoadRect)) from rfl).trans (congrArg₂ addf (acc_4_8 ..) (step_4_9 ..))

theorem step_4_10 : Tile.step (View.readAt (Elt F) arg4.view (rBytes 4 10).toLoadRect (harg4.unread x3)) (arg11.view.readCov (kernelRun0_A.sl.HS1_40 c arg5 harg5 x4) (rWords 0 4 10).toLoadRect) (arg11.view.readCov (kernelRun0_A.sl.HS1_40 c arg5 harg5 x4) (rWords 1 4 10).toLoadRect) (arg11.view.readCov (kernelRun0_A.sl.HS1_40 c arg5 harg5 x4) (rWords 2 4 10).toLoadRect) (arg11.view.readCov (kernelRun0_A.sl.HS1_40 c arg5 harg5 x4) (rWords 3 4 10).toLoadRect) (arg10.view.readCov (kernelRun0_A.sl.HS0_24 c arg1 harg1 x0) (rLeft 10).toLoadRect) = stepAt x3 (words x4) (left x0) 4 10 := by
  rw [View.readAt_eq_ld, harg4.read_unread, View.readCov_eq_canon', View.readCov_eq_canon', View.readCov_eq_canon', View.readCov_eq_canon', View.readCov_eq_canon', wordsCanon, leftCanon]
  rfl

theorem acc_4_10 : (kernelRun0_A.sl.v6011 c arg1 harg1 arg4 harg4 arg5 harg5 arg10 arg11 x0 x3 x4) = acc x3 (words x4) (left x0) 4 10 (by omega) :=
  (show (kernelRun0_A.sl.v6011 c arg1 harg1 arg4 harg4 arg5 harg5 arg10 arg11 x0 x3 x4) = addf (kernelRun0_A.sl.v5931 c arg1 harg1 arg4 harg4 arg5 harg5 arg10 arg11 x0 x3 x4) (Tile.step (View.readAt (Elt F) arg4.view (rBytes 4 10).toLoadRect (harg4.unread x3)) (arg11.view.readCov (kernelRun0_A.sl.HS1_40 c arg5 harg5 x4) (rWords 0 4 10).toLoadRect) (arg11.view.readCov (kernelRun0_A.sl.HS1_40 c arg5 harg5 x4) (rWords 1 4 10).toLoadRect) (arg11.view.readCov (kernelRun0_A.sl.HS1_40 c arg5 harg5 x4) (rWords 2 4 10).toLoadRect) (arg11.view.readCov (kernelRun0_A.sl.HS1_40 c arg5 harg5 x4) (rWords 3 4 10).toLoadRect) (arg10.view.readCov (kernelRun0_A.sl.HS0_24 c arg1 harg1 x0) (rLeft 10).toLoadRect)) from rfl).trans (congrArg₂ addf (acc_4_9 ..) (step_4_10 ..))

theorem step_4_11 : Tile.step (View.readAt (Elt F) arg4.view (rBytes 4 11).toLoadRect (harg4.unread x3)) (arg11.view.readCov (kernelRun0_A.sl.HS1_40 c arg5 harg5 x4) (rWords 0 4 11).toLoadRect) (arg11.view.readCov (kernelRun0_A.sl.HS1_40 c arg5 harg5 x4) (rWords 1 4 11).toLoadRect) (arg11.view.readCov (kernelRun0_A.sl.HS1_40 c arg5 harg5 x4) (rWords 2 4 11).toLoadRect) (arg11.view.readCov (kernelRun0_A.sl.HS1_40 c arg5 harg5 x4) (rWords 3 4 11).toLoadRect) (arg10.view.readCov (kernelRun0_A.sl.HS0_24 c arg1 harg1 x0) (rLeft 11).toLoadRect) = stepAt x3 (words x4) (left x0) 4 11 := by
  rw [View.readAt_eq_ld, harg4.read_unread, View.readCov_eq_canon', View.readCov_eq_canon', View.readCov_eq_canon', View.readCov_eq_canon', View.readCov_eq_canon', wordsCanon, leftCanon]
  rfl

theorem plane_8 : act0 (addf (kernelRun0_A.sl.v6011 c arg1 harg1 arg4 harg4 arg5 harg5 arg10 arg11 x0 x3 x4) (Tile.step (View.readAt (Elt F) arg4.view (rBytes 4 11).toLoadRect (harg4.unread x3)) (arg11.view.readCov (kernelRun0_A.sl.HS1_40 c arg5 harg5 x4) (rWords 0 4 11).toLoadRect) (arg11.view.readCov (kernelRun0_A.sl.HS1_40 c arg5 harg5 x4) (rWords 1 4 11).toLoadRect) (arg11.view.readCov (kernelRun0_A.sl.HS1_40 c arg5 harg5 x4) (rWords 2 4 11).toLoadRect) (arg11.view.readCov (kernelRun0_A.sl.HS1_40 c arg5 harg5 x4) (rWords 3 4 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 8).toLoadRect (harg6.unread x5)) = plane x3 (words x4) (left x0) x1 x2 x5 8 := by
  rw [acc_4_10, step_4_11, rowScaleWord, gateWord, View.readAt_eq_ld, harg6.read_unread]
  rfl

theorem plane_9 : act1 (addf (kernelRun0_A.sl.v6011 c arg1 harg1 arg4 harg4 arg5 harg5 arg10 arg11 x0 x3 x4) (Tile.step (View.readAt (Elt F) arg4.view (rBytes 4 11).toLoadRect (harg4.unread x3)) (arg11.view.readCov (kernelRun0_A.sl.HS1_40 c arg5 harg5 x4) (rWords 0 4 11).toLoadRect) (arg11.view.readCov (kernelRun0_A.sl.HS1_40 c arg5 harg5 x4) (rWords 1 4 11).toLoadRect) (arg11.view.readCov (kernelRun0_A.sl.HS1_40 c arg5 harg5 x4) (rWords 2 4 11).toLoadRect) (arg11.view.readCov (kernelRun0_A.sl.HS1_40 c arg5 harg5 x4) (rWords 3 4 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 9).toLoadRect (harg6.unread x5)) = plane x3 (words x4) (left x0) x1 x2 x5 9 := by
  rw [acc_4_10, step_4_11, rowScaleWord, gateWord, View.readAt_eq_ld, harg6.read_unread]
  rfl

/-- The stores of the planes. -/
theorem planesList : (kernelRun0_A.sl.HS2_10 c arg1 harg1 arg2 harg2 arg3 harg3 arg4 harg4 arg5 harg5 arg6 harg6 arg10 arg11 x0 x1 x2 x3 x4 x5) = planePieces (plane x3 (words x4) (left x0) x1 x2 x5) := by
  refine Eq.trans (b := ([⟨rPlane 9, act1 (addf (kernelRun0_A.sl.v6011 c arg1 harg1 arg4 harg4 arg5 harg5 arg10 arg11 x0 x3 x4) (Tile.step (View.readAt (Elt F) arg4.view (rBytes 4 11).toLoadRect (harg4.unread x3)) (arg11.view.readCov (kernelRun0_A.sl.HS1_40 c arg5 harg5 x4) (rWords 0 4 11).toLoadRect) (arg11.view.readCov (kernelRun0_A.sl.HS1_40 c arg5 harg5 x4) (rWords 1 4 11).toLoadRect) (arg11.view.readCov (kernelRun0_A.sl.HS1_40 c arg5 harg5 x4) (rWords 2 4 11).toLoadRect) (arg11.view.readCov (kernelRun0_A.sl.HS1_40 c arg5 harg5 x4) (rWords 3 4 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 9).toLoadRect (harg6.unread x5))⟩, ⟨rPlane 8, act0 (addf (kernelRun0_A.sl.v6011 c arg1 harg1 arg4 harg4 arg5 harg5 arg10 arg11 x0 x3 x4) (Tile.step (View.readAt (Elt F) arg4.view (rBytes 4 11).toLoadRect (harg4.unread x3)) (arg11.view.readCov (kernelRun0_A.sl.HS1_40 c arg5 harg5 x4) (rWords 0 4 11).toLoadRect) (arg11.view.readCov (kernelRun0_A.sl.HS1_40 c arg5 harg5 x4) (rWords 1 4 11).toLoadRect) (arg11.view.readCov (kernelRun0_A.sl.HS1_40 c arg5 harg5 x4) (rWords 2 4 11).toLoadRect) (arg11.view.readCov (kernelRun0_A.sl.HS1_40 c arg5 harg5 x4) (rWords 3 4 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 8).toLoadRect (harg6.unread x5))⟩, ⟨rPlane 7, act1 (addf (kernelRun0_A.sl.v5016 c arg1 harg1 arg4 harg4 arg5 harg5 arg10 arg11 x0 x3 x4) (Tile.step (View.readAt (Elt F) arg4.view (rBytes 3 11).toLoadRect (harg4.unread x3)) (arg11.view.readCov (kernelRun0_A.sl.HS1_40 c arg5 harg5 x4) (rWords 0 3 11).toLoadRect) (arg11.view.readCov (kernelRun0_A.sl.HS1_40 c arg5 harg5 x4) (rWords 1 3 11).toLoadRect) (arg11.view.readCov (kernelRun0_A.sl.HS1_40 c arg5 harg5 x4) (rWords 2 3 11).toLoadRect) (arg11.view.readCov (kernelRun0_A.sl.HS1_40 c arg5 harg5 x4) (rWords 3 3 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 7).toLoadRect (harg6.unread x5))⟩, ⟨rPlane 6, act0 (addf (kernelRun0_A.sl.v5016 c arg1 harg1 arg4 harg4 arg5 harg5 arg10 arg11 x0 x3 x4) (Tile.step (View.readAt (Elt F) arg4.view (rBytes 3 11).toLoadRect (harg4.unread x3)) (arg11.view.readCov (kernelRun0_A.sl.HS1_40 c arg5 harg5 x4) (rWords 0 3 11).toLoadRect) (arg11.view.readCov (kernelRun0_A.sl.HS1_40 c arg5 harg5 x4) (rWords 1 3 11).toLoadRect) (arg11.view.readCov (kernelRun0_A.sl.HS1_40 c arg5 harg5 x4) (rWords 2 3 11).toLoadRect) (arg11.view.readCov (kernelRun0_A.sl.HS1_40 c arg5 harg5 x4) (rWords 3 3 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 6).toLoadRect (harg6.unread x5))⟩, ⟨rPlane 5, act1 (addf (kernelRun0_A.sl.v4021 c arg1 harg1 arg4 harg4 arg5 harg5 arg10 arg11 x0 x3 x4) (Tile.step (View.readAt (Elt F) arg4.view (rBytes 2 11).toLoadRect (harg4.unread x3)) (arg11.view.readCov (kernelRun0_A.sl.HS1_40 c arg5 harg5 x4) (rWords 0 2 11).toLoadRect) (arg11.view.readCov (kernelRun0_A.sl.HS1_40 c arg5 harg5 x4) (rWords 1 2 11).toLoadRect) (arg11.view.readCov (kernelRun0_A.sl.HS1_40 c arg5 harg5 x4) (rWords 2 2 11).toLoadRect) (arg11.view.readCov (kernelRun0_A.sl.HS1_40 c arg5 harg5 x4) (rWords 3 2 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 5).toLoadRect (harg6.unread x5))⟩, ⟨rPlane 4, act0 (addf (kernelRun0_A.sl.v4021 c arg1 harg1 arg4 harg4 arg5 harg5 arg10 arg11 x0 x3 x4) (Tile.step (View.readAt (Elt F) arg4.view (rBytes 2 11).toLoadRect (harg4.unread x3)) (arg11.view.readCov (kernelRun0_A.sl.HS1_40 c arg5 harg5 x4) (rWords 0 2 11).toLoadRect) (arg11.view.readCov (kernelRun0_A.sl.HS1_40 c arg5 harg5 x4) (rWords 1 2 11).toLoadRect) (arg11.view.readCov (kernelRun0_A.sl.HS1_40 c arg5 harg5 x4) (rWords 2 2 11).toLoadRect) (arg11.view.readCov (kernelRun0_A.sl.HS1_40 c arg5 harg5 x4) (rWords 3 2 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 4).toLoadRect (harg6.unread x5))⟩, ⟨rPlane 3, act1 (addf (kernelRun0_A.sl.v3026 c arg1 harg1 arg4 harg4 arg5 harg5 arg10 arg11 x0 x3 x4) (Tile.step (View.readAt (Elt F) arg4.view (rBytes 1 11).toLoadRect (harg4.unread x3)) (arg11.view.readCov (kernelRun0_A.sl.HS1_40 c arg5 harg5 x4) (rWords 0 1 11).toLoadRect) (arg11.view.readCov (kernelRun0_A.sl.HS1_40 c arg5 harg5 x4) (rWords 1 1 11).toLoadRect) (arg11.view.readCov (kernelRun0_A.sl.HS1_40 c arg5 harg5 x4) (rWords 2 1 11).toLoadRect) (arg11.view.readCov (kernelRun0_A.sl.HS1_40 c arg5 harg5 x4) (rWords 3 1 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 3).toLoadRect (harg6.unread x5))⟩, ⟨rPlane 2, act0 (addf (kernelRun0_A.sl.v3026 c arg1 harg1 arg4 harg4 arg5 harg5 arg10 arg11 x0 x3 x4) (Tile.step (View.readAt (Elt F) arg4.view (rBytes 1 11).toLoadRect (harg4.unread x3)) (arg11.view.readCov (kernelRun0_A.sl.HS1_40 c arg5 harg5 x4) (rWords 0 1 11).toLoadRect) (arg11.view.readCov (kernelRun0_A.sl.HS1_40 c arg5 harg5 x4) (rWords 1 1 11).toLoadRect) (arg11.view.readCov (kernelRun0_A.sl.HS1_40 c arg5 harg5 x4) (rWords 2 1 11).toLoadRect) (arg11.view.readCov (kernelRun0_A.sl.HS1_40 c arg5 harg5 x4) (rWords 3 1 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 2).toLoadRect (harg6.unread x5))⟩, ⟨rPlane 1, act1 (addf (kernelRun0_A.sl.v2031 c arg1 harg1 arg4 harg4 arg5 harg5 arg10 arg11 x0 x3 x4) (Tile.step (View.readAt (Elt F) arg4.view (rBytes 0 11).toLoadRect (harg4.unread x3)) (arg11.view.readCov (kernelRun0_A.sl.HS1_40 c arg5 harg5 x4) (rWords 0 0 11).toLoadRect) (arg11.view.readCov (kernelRun0_A.sl.HS1_40 c arg5 harg5 x4) (rWords 1 0 11).toLoadRect) (arg11.view.readCov (kernelRun0_A.sl.HS1_40 c arg5 harg5 x4) (rWords 2 0 11).toLoadRect) (arg11.view.readCov (kernelRun0_A.sl.HS1_40 c arg5 harg5 x4) (rWords 3 0 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 1).toLoadRect (harg6.unread x5))⟩, ⟨rPlane 0, act0 (addf (kernelRun0_A.sl.v2031 c arg1 harg1 arg4 harg4 arg5 harg5 arg10 arg11 x0 x3 x4) (Tile.step (View.readAt (Elt F) arg4.view (rBytes 0 11).toLoadRect (harg4.unread x3)) (arg11.view.readCov (kernelRun0_A.sl.HS1_40 c arg5 harg5 x4) (rWords 0 0 11).toLoadRect) (arg11.view.readCov (kernelRun0_A.sl.HS1_40 c arg5 harg5 x4) (rWords 1 0 11).toLoadRect) (arg11.view.readCov (kernelRun0_A.sl.HS1_40 c arg5 harg5 x4) (rWords 2 0 11).toLoadRect) (arg11.view.readCov (kernelRun0_A.sl.HS1_40 c arg5 harg5 x4) (rWords 3 0 11).toLoadRect) (arg10.view.readCov (kernelRun0_A.sl.HS0_24 c arg1 harg1 x0) (rLeft 11).toLoadRect))) (kernelRun0_A.sl.v1152 c arg2 harg2 x1) (kernelRun0_A.sl.v1148 c arg3 harg3 x2) (View.readAt (Elt F) arg6.view (rBias 0).toLoadRect (harg6.unread x5))⟩] : List (View.Piece (Elt F) S10x32x128 .f32))) rfl ?_
  rw [plane_0, plane_1, plane_2, plane_3, plane_4, plane_5, plane_6, plane_7, plane_8, plane_9]
  rfl

theorem rowMaxList : (kernelRun0_A.sl.HS3_1 c arg1 harg1 arg2 harg2 arg3 harg3 arg4 harg4 arg5 harg5 arg6 harg6 arg10 arg11 arg12 x0 x1 x2 x3 x4 x5) = [⟨rAll, rowMaxOf (plane x3 (words x4) (left x0) x1 x2 x5)⟩] := by
  refine Eq.trans (b := [⟨rAll, rowMax (arg12.view.readCov (kernelRun0_A.sl.HS2_10 c arg1 harg1 arg2 harg2 arg3 harg3 arg4 harg4 arg5 harg5 arg6 harg6 arg10 arg11 x0 x1 x2 x3 x4 x5) (rPlane 0).toLoadRect) (arg12.view.readCov (kernelRun0_A.sl.HS2_10 c arg1 harg1 arg2 harg2 arg3 harg3 arg4 harg4 arg5 harg5 arg6 harg6 arg10 arg11 x0 x1 x2 x3 x4 x5) (rPlane 1).toLoadRect) (arg12.view.readCov (kernelRun0_A.sl.HS2_10 c arg1 harg1 arg2 harg2 arg3 harg3 arg4 harg4 arg5 harg5 arg6 harg6 arg10 arg11 x0 x1 x2 x3 x4 x5) (rPlane 2).toLoadRect) (arg12.view.readCov (kernelRun0_A.sl.HS2_10 c arg1 harg1 arg2 harg2 arg3 harg3 arg4 harg4 arg5 harg5 arg6 harg6 arg10 arg11 x0 x1 x2 x3 x4 x5) (rPlane 3).toLoadRect) (arg12.view.readCov (kernelRun0_A.sl.HS2_10 c arg1 harg1 arg2 harg2 arg3 harg3 arg4 harg4 arg5 harg5 arg6 harg6 arg10 arg11 x0 x1 x2 x3 x4 x5) (rPlane 4).toLoadRect) (arg12.view.readCov (kernelRun0_A.sl.HS2_10 c arg1 harg1 arg2 harg2 arg3 harg3 arg4 harg4 arg5 harg5 arg6 harg6 arg10 arg11 x0 x1 x2 x3 x4 x5) (rPlane 5).toLoadRect) (arg12.view.readCov (kernelRun0_A.sl.HS2_10 c arg1 harg1 arg2 harg2 arg3 harg3 arg4 harg4 arg5 harg5 arg6 harg6 arg10 arg11 x0 x1 x2 x3 x4 x5) (rPlane 6).toLoadRect) (arg12.view.readCov (kernelRun0_A.sl.HS2_10 c arg1 harg1 arg2 harg2 arg3 harg3 arg4 harg4 arg5 harg5 arg6 harg6 arg10 arg11 x0 x1 x2 x3 x4 x5) (rPlane 7).toLoadRect) (arg12.view.readCov (kernelRun0_A.sl.HS2_10 c arg1 harg1 arg2 harg2 arg3 harg3 arg4 harg4 arg5 harg5 arg6 harg6 arg10 arg11 x0 x1 x2 x3 x4 x5) (rPlane 8).toLoadRect) (arg12.view.readCov (kernelRun0_A.sl.HS2_10 c arg1 harg1 arg2 harg2 arg3 harg3 arg4 harg4 arg5 harg5 arg6 harg6 arg10 arg11 x0 x1 x2 x3 x4 x5) (rPlane 9).toLoadRect)⟩]) rfl ?_
  rw [planesList, planes_read, planes_read, planes_read, planes_read, planes_read, planes_read, planes_read, planes_read, planes_read, planes_read]
  rfl

theorem evenWord : (kernelRun0_A.sl.v6174 c arg1 harg1 arg2 harg2 arg3 harg3 arg4 harg4 arg5 harg5 arg6 harg6 arg10 arg11 arg12 arg13 x0 x1 x2 x3 x4 x5) = fun i => rowMaxOf (plane x3 (words x4) (left x0) x1 x2 x5) (ix2 (⟨2 * (i 0).val, by have : (i 0).val < 16 := (i 0).isLt; omega⟩ : Fin 32) (i 1)) := by
  refine Eq.trans (b := arg13.view.readCov (kernelRun0_A.sl.HS3_1 c arg1 harg1 arg2 harg2 arg3 harg3 arg4 harg4 arg5 harg5 arg6 harg6 arg10 arg11 arg12 x0 x1 x2 x3 x4 x5) rEven.toLoadRect) rfl ?_
  rw [rowMaxList, read_even]

theorem oddWord : (kernelRun0_A.sl.v6175 c arg1 harg1 arg2 harg2 arg3 harg3 arg4 harg4 arg5 harg5 arg6 harg6 arg10 arg11 arg12 arg13 x0 x1 x2 x3 x4 x5) = fun i => rowMaxOf (plane x3 (words x4) (left x0) x1 x2 x5) (ix2 (⟨2 * (i 0).val + 1, by have : (i 0).val < 16 := (i 0).isLt; omega⟩ : Fin 32) (i 1)) := by
  refine Eq.trans (b := arg13.view.readCov (kernelRun0_A.sl.HS3_1 c arg1 harg1 arg2 harg2 arg3 harg3 arg4 harg4 arg5 harg5 arg6 harg6 arg10 arg11 arg12 x0 x1 x2 x3 x4 x5) rOdd.toLoadRect) rfl ?_
  rw [rowMaxList, read_odd]

/-- The larger row of each pair. -/
theorem pairMaxWord : maximumf (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5) = pairMax (rowMaxOf (plane x3 (words x4) (left x0) x1 x2 x5)) := by
  rw [evenWord, oddWord]
  rfl

theorem scaleWordEven : k0_pay789 (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5) = scaleOf (pairMax (rowMaxOf (plane x3 (words x4) (left x0) x1 x2 x5))) := by
  refine Eq.trans (b := shapeCast S16x128 (scaleOf (maximumf (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5))) shapeCasts_S16x128_S16x128) rfl ?_
  rw [pairMaxWord, shapeCast_self]

theorem scaleWordOdd : (kernelRun0_A.sl.v6194 c arg1 harg1 arg2 harg2 arg3 harg3 arg4 harg4 arg5 harg5 arg6 harg6 arg10 arg11 arg12 arg13 x0 x1 x2 x3 x4 x5) = scaleOf (pairMax (rowMaxOf (plane x3 (words x4) (left x0) x1 x2 x5))) := by
  refine Eq.trans (b := shapeCast S16x128 (scaleOf (maximumf (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5))) shapeCasts_S16x128_S16x128) rfl ?_
  rw [pairMaxWord, shapeCast_self]

theorem scaleList : (kernelRun0_A.sl.HS3_3 c arg1 harg1 arg2 harg2 arg3 harg3 arg4 harg4 arg5 harg5 arg6 harg6 arg10 arg11 arg12 arg13 x0 x1 x2 x3 x4 x5) = (⟨rOdd, scaleOf (pairMax (rowMaxOf (plane x3 (words x4) (left x0) x1 x2 x5)))⟩ : View.Piece (Elt F) S32x128 .f32) :: (⟨rEven, scaleOf (pairMax (rowMaxOf (plane x3 (words x4) (left x0) x1 x2 x5)))⟩ : View.Piece (Elt F) S32x128 .f32) :: (kernelRun0_A.sl.HS3_1 c arg1 harg1 arg2 harg2 arg3 harg3 arg4 harg4 arg5 harg5 arg6 harg6 arg10 arg11 arg12 x0 x1 x2 x3 x4 x5) := by
  refine Eq.trans (b := (⟨rOdd, (kernelRun0_A.sl.v6194 c arg1 harg1 arg2 harg2 arg3 harg3 arg4 harg4 arg5 harg5 arg6 harg6 arg10 arg11 arg12 arg13 x0 x1 x2 x3 x4 x5)⟩ : View.Piece (Elt F) S32x128 .f32) :: (⟨rEven, k0_pay789 (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5)⟩ : View.Piece (Elt F) S32x128 .f32) :: (kernelRun0_A.sl.HS3_1 c arg1 harg1 arg2 harg2 arg3 harg3 arg4 harg4 arg5 harg5 arg6 harg6 arg10 arg11 arg12 x0 x1 x2 x3 x4 x5)) rfl ?_
  rw [scaleWordEven, scaleWordOdd]

theorem recipWord : (kernelRun0_A.sl.v6197 c arg1 harg1 arg2 harg2 arg3 harg3 arg4 harg4 arg5 harg5 arg6 harg6 arg10 arg11 arg12 arg13 x0 x1 x2 x3 x4 x5) = recip (twice (scaleOf (pairMax (rowMaxOf (plane x3 (words x4) (left x0) x1 x2 x5))))) := by
  refine Eq.trans (b := recip (arg13.view.readCov (kernelRun0_A.sl.HS3_3 c arg1 harg1 arg2 harg2 arg3 harg3 arg4 harg4 arg5 harg5 arg6 harg6 arg10 arg11 arg12 arg13 x0 x1 x2 x3 x4 x5) rAll.toLoadRect)) rfl ?_
  rw [scaleList, read_twice]

variable (i : grid0.Coords) (arg7 : Memref sig .tc .vmem S1x1x16x128 .f32) (harg7 : arg7.IsWhole) (arg8 : Memref sig .tc .vmem S1x1x16x128 .f32) (harg8 : arg8.IsWhole) (arg9 : Memref sig .tc .vmem S1x1x20x16x128 .f32) (harg9 : arg9.IsWhole) (hc0 : cond0_0 i)

theorem out6_eq : out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = out6 (plane x3 (words x4) (left x0) x1 x2 x5) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine Eq.trans (b := View.canon [(⟨Rect.unit ![0, 0, 0, 0] S1x1x16x128.size inb_S1x1x16x128_S1x1x16x128_0_0_0_0, shapeCast S1x1x16x128 (maximumf (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5)) shapeCasts_S16x128_S1x1x16x128⟩ : View.Piece (Elt F) S1x1x16x128 .f32)]) rfl ?_
  rw [View.canon_cons_unit_lit _ _ _ (by decide), pairMaxWord]
  rfl

theorem out7_eq : out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = out7 (plane x3 (words x4) (left x0) x1 x2 x5) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine Eq.trans (b := View.canon [(⟨Rect.unit ![0, 0, 0, 0] S1x1x16x128.size inb_S1x1x16x128_S1x1x16x128_0_0_0_0, shapeCast S1x1x16x128 (scaleOf (maximumf (kernelRun0_A.sl.v6174 c arg1 harg1 arg2 harg2 arg3 harg3 arg4 harg4 arg5 harg5 arg6 harg6 arg10 arg11 arg12 arg13 x0 x1 x2 x3 x4 x5) (kernelRun0_A.sl.v6175 c arg1 harg1 arg2 harg2 arg3 harg3 arg4 harg4 arg5 harg5 arg6 harg6 arg10 arg11 arg12 arg13 x0 x1 x2 x3 x4 x5))) shapeCasts_S16x128_S1x1x16x128⟩ : View.Piece (Elt F) S1x1x16x128 .f32)]) rfl ?_
  rw [View.canon_cons_unit_lit _ _ _ (by decide), pairMaxWord]
  rfl

theorem out8_eq : out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = out8 (plane x3 (words x4) (left x0) x1 x2 x5) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine Eq.trans (b := View.canon ([⟨rOut 19, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 9).toLoadRect))⟩, ⟨rOut 18, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 9).toLoadRect))⟩, ⟨rOut 17, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 8).toLoadRect))⟩, ⟨rOut 16, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 8).toLoadRect))⟩, ⟨rOut 15, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 7).toLoadRect))⟩, ⟨rOut 14, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 7).toLoadRect))⟩, ⟨rOut 13, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 6).toLoadRect))⟩, ⟨rOut 12, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 6).toLoadRect))⟩, ⟨rOut 11, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 5).toLoadRect))⟩, ⟨rOut 10, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 5).toLoadRect))⟩, ⟨rOut 9, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 4).toLoadRect))⟩, ⟨rOut 8, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 4).toLoadRect))⟩, ⟨rOut 7, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 3).toLoadRect))⟩, ⟨rOut 6, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 3).toLoadRect))⟩, ⟨rOut 5, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 2).toLoadRect))⟩, ⟨rOut 4, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 2).toLoadRect))⟩, ⟨rOut 3, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 1).toLoadRect))⟩, ⟨rOut 2, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 1).toLoadRect))⟩, ⟨rOut 1, unpack 64#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 0).toLoadRect))⟩, ⟨rOut 0, unpack 0#32 (codes (kernelRun0_A.sl.v6197 c arg1 harg1 arg2 harg2 arg3 harg3 arg4 harg4 arg5 harg5 arg6 harg6 arg10 arg11 arg12 arg13 x0 x1 x2 x3 x4 x5) (arg12.view.readCov (kernelRun0_A.sl.HS2_10 c arg1 harg1 arg2 harg2 arg3 harg3 arg4 harg4 arg5 harg5 arg6 harg6 arg10 arg11 x0 x1 x2 x3 x4 x5) (rPlane 0).toLoadRect))⟩] : List (View.Piece (Elt F) S1x1x20x16x128 .f32))) rfl ?_
  rw [planesList, planes_read, planes_read, planes_read, planes_read, planes_read, planes_read, planes_read, planes_read, planes_read, planes_read, recipWord]
  exact canon_out (plane x3 (words x4) (left x0) x1 x2 x5)

theorem scratch_eq : sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = left x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  exact leftCanon ..

end Cert.KernelIdeal.CaseA
-- ==== Proof.CaseB.lean ====
module

public import proofs.«01_k».proof.Proof.Gen.KernelIdeal.Value
public import proofs.«01_k».proof.Proof.Parts
public import proofs.«01_k».proof.Proof.Scales

@[expose] public section

set_option maxRecDepth 16384

noncomputable section

namespace Cert.KernelIdeal.CaseB

open Cert.KernelIdeal Cert.KernelIdeal.Gen Idealize.ShloMosaic Idealize.ShloMosaic.TcCoe
open Cert.KernelIdeal.Body

variable {F : FTy → Type} [FloatOps F] [Named F]

variable (c : Dev nD) (arg1 : Memref sig .tc .vmem S1x12x16x128 .f32) (harg1 : arg1.IsWhole) (arg2 : Memref sig .tc .vmem S1x32x128 .f32) (harg2 : arg2.IsWhole) (arg3 : Memref sig .tc .vmem S1x1x32x128 .f32) (harg3 : arg3.IsWhole) (arg4 : Memref sig .tc .vmem S1x1x1536x1280 .i8) (harg4 : arg4.IsWhole) (arg5 : Memref sig .tc .vmem S1x1x48x2560 .i8) (harg5 : arg5.IsWhole) (arg6 : Memref sig .tc .vmem S1x1x8x1280 .f32) (harg6 : arg6.IsWhole) (arg10 : Memref sig .tc .vmem S16x2x3072 .bf16) (harg10 : arg10.IsWhole) (arg11 : Memref sig .tc .vmem S4x12x1280 .i32) (harg11 : arg11.IsWhole) (arg12 : Memref sig .tc .vmem S10x32x128 .f32) (harg12 : arg12.IsWhole) (arg13 : Memref sig .tc .vmem S32x128 .f32) (harg13 : arg13.IsWhole)
  (x0 : Vec F S1x12x16x128 .f32) (x1 : Vec F S1x32x128 .f32) (x2 : Vec F S1x1x32x128 .f32) (x3 : Vec F S1x1x1536x1280 .i8) (x4 : Vec F S1x1x48x2560 .i8) (x5 : Vec F S1x1x8x1280 .f32) (xs0 : Vec F S16x2x3072 .bf16)
/-- The stores of the scale words. -/
theorem wordsList : (kernelRun0_B.sl.HS1_40 c arg5 harg5 x4) = wordPieces (F := F) (Scales.dwords (View.ld (Val := Elt F) x4 (Rect.unit ![0, 0, 0, 0] S1x1x48x2560.size inb_S1x1x48x2560_S1x1x48x2560_0_0_0_0))) := by
  rw [← harg5.read_unread (Val := Elt F) x4, ← View.readAt_eq_ld, harg5.read_unread]
  rfl

theorem wordsCanon : View.canon (kernelRun0_B.sl.HS1_40 c arg5 harg5 x4) = (words x4) := by
  rw [wordsList, canon_words, View.ld_unit_lit _ _ (by decide)]

theorem rowScaleWord : (kernelRun0_B.sl.v1152 c arg2 harg2 x1) = rowScale x1 := by
  refine Eq.trans (b := rowScale (View.ld (Val := Elt F) (arg2.view.read (Elt F) (harg2.unread x1)) (Rect.unit ![0, 0, 0] S1x32x128.size inb_S1x32x128_S1x32x128_0_0_0))) rfl ?_
  rw [harg2.read_unread, View.ld_unit_lit _ _ (by decide)]

theorem gateWord : (kernelRun0_B.sl.v1148 c arg3 harg3 x2) = gate x2 := by
  refine Eq.trans (b := gate (View.ld (Val := Elt F) (arg3.view.read (Elt F) (harg3.unread x2)) (Rect.unit ![0, 0, 0, 0] S1x1x32x128.size inb_S1x1x32x128_S1x1x32x128_0_0_0_0))) rfl ?_
  rw [harg3.read_unread, View.ld_unit_lit _ _ (by decide)]

theorem step_0_0 : Tile.step (View.readAt (Elt F) arg4.view (rBytes 0 0).toLoadRect (harg4.unread x3)) (arg11.view.readCov (kernelRun0_B.sl.HS1_40 c arg5 harg5 x4) (rWords 0 0 0).toLoadRect) (arg11.view.readCov (kernelRun0_B.sl.HS1_40 c arg5 harg5 x4) (rWords 1 0 0).toLoadRect) (arg11.view.readCov (kernelRun0_B.sl.HS1_40 c arg5 harg5 x4) (rWords 2 0 0).toLoadRect) (arg11.view.readCov (kernelRun0_B.sl.HS1_40 c arg5 harg5 x4) (rWords 3 0 0).toLoadRect) (View.readAt (Elt F) arg10.view (rLeft 0).toLoadRect (harg10.unread xs0)) = stepAt x3 (words x4) xs0 0 0 := by
  rw [View.readAt_eq_ld, harg4.read_unread, View.readCov_eq_canon', View.readCov_eq_canon', View.readCov_eq_canon', View.readCov_eq_canon', View.readAt_eq_ld, harg10.read_unread, wordsCanon]
  rfl

theorem acc_0_0 : (kernelRun0_B.sl.v1231 c arg4 harg4 arg5 harg5 arg10 harg10 arg11 x3 x4 xs0) = acc x3 (words x4) xs0 0 0 (by omega) :=
  (show (kernelRun0_B.sl.v1231 c arg4 harg4 arg5 harg5 arg10 harg10 arg11 x3 x4 xs0) = Tile.step (View.readAt (Elt F) arg4.view (rBytes 0 0).toLoadRect (harg4.unread x3)) (arg11.view.readCov (kernelRun0_B.sl.HS1_40 c arg5 harg5 x4) (rWords 0 0 0).toLoadRect) (arg11.view.readCov (kernelRun0_B.sl.HS1_40 c arg5 harg5 x4) (rWords 1 0 0).toLoadRect) (arg11.view.readCov (kernelRun0_B.sl.HS1_40 c arg5 harg5 x4) (rWords 2 0 0).toLoadRect) (arg11.view.readCov (kernelRun0_B.sl.HS1_40 c arg5 harg5 x4) (rWords 3 0 0).toLoadRect) (View.readAt (Elt F) arg10.view (rLeft 0).toLoadRect (harg10.unread xs0)) from rfl).trans (step_0_0 ..)

theorem step_0_1 : Tile.step (View.readAt (Elt F) arg4.view (rBytes 0 1).toLoadRect (harg4.unread x3)) (arg11.view.readCov (kernelRun0_B.sl.HS1_40 c arg5 harg5 x4) (rWords 0 0 1).toLoadRect) (arg11.view.readCov (kernelRun0_B.sl.HS1_40 c arg5 harg5 x4) (rWords 1 0 1).toLoadRect) (arg11.view.readCov (kernelRun0_B.sl.HS1_40 c arg5 harg5 x4) (rWords 2 0 1).toLoadRect) (arg11.view.readCov (kernelRun0_B.sl.HS1_40 c arg5 harg5 x4) (rWords 3 0 1).toLoadRect) (View.readAt (Elt F) arg10.view (rLeft 1).toLoadRect (harg10.unread xs0)) = stepAt x3 (words x4) xs0 0 1 := by
  rw [View.readAt_eq_ld, harg4.read_unread, View.readCov_eq_canon', View.readCov_eq_canon', View.readCov_eq_canon', View.readCov_eq_canon', View.readAt_eq_ld, harg10.read_unread, wordsCanon]
  rfl

theorem acc_0_1 : (kernelRun0_B.sl.v1311 c arg4 harg4 arg5 harg5 arg10 harg10 arg11 x3 x4 xs0) = acc x3 (words x4) xs0 0 1 (by omega) :=
  (show (kernelRun0_B.sl.v1311 c arg4 harg4 arg5 harg5 arg10 harg10 arg11 x3 x4 xs0) = addf (kernelRun0_B.sl.v1231 c arg4 harg4 arg5 harg5 arg10 harg10 arg11 x3 x4 xs0) (Tile.step (View.readAt (Elt F) arg4.view (rBytes 0 1).toLoadRect (harg4.unread x3)) (arg11.view.readCov (kernelRun0_B.sl.HS1_40 c arg5 harg5 x4) (rWords 0 0 1).toLoadRect) (arg11.view.readCov (kernelRun0_B.sl.HS1_40 c arg5 harg5 x4) (rWords 1 0 1).toLoadRect) (arg11.view.readCov (kernelRun0_B.sl.HS1_40 c arg5 harg5 x4) (rWords 2 0 1).toLoadRect) (arg11.view.readCov (kernelRun0_B.sl.HS1_40 c arg5 harg5 x4) (rWords 3 0 1).toLoadRect) (View.readAt (Elt F) arg10.view (rLeft 1).toLoadRect (harg10.unread xs0))) from rfl).trans (congrArg₂ addf (acc_0_0 ..) (step_0_1 ..))

theorem step_0_2 : Tile.step (View.readAt (Elt F) arg4.view (rBytes 0 2).toLoadRect (harg4.unread x3)) (arg11.view.readCov (kernelRun0_B.sl.HS1_40 c arg5 harg5 x4) (rWords 0 0 2).toLoadRect) (arg11.view.readCov (kernelRun0_B.sl.HS1_40 c arg5 harg5 x4) (rWords 1 0 2).toLoadRect) (arg11.view.readCov (kernelRun0_B.sl.HS1_40 c arg5 harg5 x4) (rWords 2 0 2).toLoadRect) (arg11.view.readCov (kernelRun0_B.sl.HS1_40 c arg5 harg5 x4) (rWords 3 0 2).toLoadRect) (View.readAt (Elt F) arg10.view (rLeft 2).toLoadRect (harg10.unread xs0)) = stepAt x3 (words x4) xs0 0 2 := by
  rw [View.readAt_eq_ld, harg4.read_unread, View.readCov_eq_canon', View.readCov_eq_canon', View.readCov_eq_canon', View.readCov_eq_canon', View.readAt_eq_ld, harg10.read_unread, wordsCanon]
  rfl

theorem acc_0_2 : (kernelRun0_B.sl.v1391 c arg4 harg4 arg5 harg5 arg10 harg10 arg11 x3 x4 xs0) = acc x3 (words x4) xs0 0 2 (by omega) :=
  (show (kernelRun0_B.sl.v1391 c arg4 harg4 arg5 harg5 arg10 harg10 arg11 x3 x4 xs0) = addf (kernelRun0_B.sl.v1311 c arg4 harg4 arg5 harg5 arg10 harg10 arg11 x3 x4 xs0) (Tile.step (View.readAt (Elt F) arg4.view (rBytes 0 2).toLoadRect (harg4.unread x3)) (arg11.view.readCov (kernelRun0_B.sl.HS1_40 c arg5 harg5 x4) (rWords 0 0 2).toLoadRect) (arg11.view.readCov (kernelRun0_B.sl.HS1_40 c arg5 harg5 x4) (rWords 1 0 2).toLoadRect) (arg11.view.readCov (kernelRun0_B.sl.HS1_40 c arg5 harg5 x4) (rWords 2 0 2).toLoadRect) (arg11.view.readCov (kernelRun0_B.sl.HS1_40 c arg5 harg5 x4) (rWords 3 0 2).toLoadRect) (View.readAt (Elt F) arg10.view (rLeft 2).toLoadRect (harg10.unread xs0))) from rfl).trans (congrArg₂ addf (acc_0_1 ..) (step_0_2 ..))

theorem step_0_3 : Tile.step (View.readAt (Elt F) arg4.view (rBytes 0 3).toLoadRect (harg4.unread x3)) (arg11.view.readCov (kernelRun0_B.sl.HS1_40 c arg5 harg5 x4) (rWords 0 0 3).toLoadRect) (arg11.view.readCov (kernelRun0_B.sl.HS1_40 c arg5 harg5 x4) (rWords 1 0 3).toLoadRect) (arg11.view.readCov (kernelRun0_B.sl.HS1_40 c arg5 harg5 x4) (rWords 2 0 3).toLoadRect) (arg11.view.readCov (kernelRun0_B.sl.HS1_40 c arg5 harg5 x4) (rWords 3 0 3).toLoadRect) (View.readAt (Elt F) arg10.view (rLeft 3).toLoadRect (harg10.unread xs0)) = stepAt x3 (words x4) xs0 0 3 := by
  rw [View.readAt_eq_ld, harg4.read_unread, View.readCov_eq_canon', View.readCov_eq_canon', View.readCov_eq_canon', View.readCov_eq_canon', View.readAt_eq_ld, harg10.read_unread, wordsCanon]
  rfl

theorem acc_0_3 : (kernelRun0_B.sl.v1471 c arg4 harg4 arg5 harg5 arg10 harg10 arg11 x3 x4 xs0) = acc x3 (words x4) xs0 0 3 (by omega) :=
  (show (kernelRun0_B.sl.v1471 c arg4 harg4 arg5 harg5 arg10 harg10 arg11 x3 x4 xs0) = addf (kernelRun0_B.sl.v1391 c arg4 harg4 arg5 harg5 arg10 harg10 arg11 x3 x4 xs0) (Tile.step (View.readAt (Elt F) arg4.view (rBytes 0 3).toLoadRect (harg4.unread x3)) (arg11.view.readCov (kernelRun0_B.sl.HS1_40 c arg5 harg5 x4) (rWords 0 0 3).toLoadRect) (arg11.view.readCov (kernelRun0_B.sl.HS1_40 c arg5 harg5 x4) (rWords 1 0 3).toLoadRect) (arg11.view.readCov (kernelRun0_B.sl.HS1_40 c arg5 harg5 x4) (rWords 2 0 3).toLoadRect) (arg11.view.readCov (kernelRun0_B.sl.HS1_40 c arg5 harg5 x4) (rWords 3 0 3).toLoadRect) (View.readAt (Elt F) arg10.view (rLeft 3).toLoadRect (harg10.unread xs0))) from rfl).trans (congrArg₂ addf (acc_0_2 ..) (step_0_3 ..))

theorem step_0_4 : Tile.step (View.readAt (Elt F) arg4.view (rBytes 0 4).toLoadRect (harg4.unread x3)) (arg11.view.readCov (kernelRun0_B.sl.HS1_40 c arg5 harg5 x4) (rWords 0 0 4).toLoadRect) (arg11.view.readCov (kernelRun0_B.sl.HS1_40 c arg5 harg5 x4) (rWords 1 0 4).toLoadRect) (arg11.view.readCov (kernelRun0_B.sl.HS1_40 c arg5 harg5 x4) (rWords 2 0 4).toLoadRect) (arg11.view.readCov (kernelRun0_B.sl.HS1_40 c arg5 harg5 x4) (rWords 3 0 4).toLoadRect) (View.readAt (Elt F) arg10.view (rLeft 4).toLoadRect (harg10.unread xs0)) = stepAt x3 (words x4) xs0 0 4 := by
  rw [View.readAt_eq_ld, harg4.read_unread, View.readCov_eq_canon', View.readCov_eq_canon', View.readCov_eq_canon', View.readCov_eq_canon', View.readAt_eq_ld, harg10.read_unread, wordsCanon]
  rfl

theorem acc_0_4 : (kernelRun0_B.sl.v1551 c arg4 harg4 arg5 harg5 arg10 harg10 arg11 x3 x4 xs0) = acc x3 (words x4) xs0 0 4 (by omega) :=
  (show (kernelRun0_B.sl.v1551 c arg4 harg4 arg5 harg5 arg10 harg10 arg11 x3 x4 xs0) = addf (kernelRun0_B.sl.v1471 c arg4 harg4 arg5 harg5 arg10 harg10 arg11 x3 x4 xs0) (Tile.step (View.readAt (Elt F) arg4.view (rBytes 0 4).toLoadRect (harg4.unread x3)) (arg11.view.readCov (kernelRun0_B.sl.HS1_40 c arg5 harg5 x4) (rWords 0 0 4).toLoadRect) (arg11.view.readCov (kernelRun0_B.sl.HS1_40 c arg5 harg5 x4) (rWords 1 0 4).toLoadRect) (arg11.view.readCov (kernelRun0_B.sl.HS1_40 c arg5 harg5 x4) (rWords 2 0 4).toLoadRect) (arg11.view.readCov (kernelRun0_B.sl.HS1_40 c arg5 harg5 x4) (rWords 3 0 4).toLoadRect) (View.readAt (Elt F) arg10.view (rLeft 4).toLoadRect (harg10.unread xs0))) from rfl).trans (congrArg₂ addf (acc_0_3 ..) (step_0_4 ..))

theorem step_0_5 : Tile.step (View.readAt (Elt F) arg4.view (rBytes 0 5).toLoadRect (harg4.unread x3)) (arg11.view.readCov (kernelRun0_B.sl.HS1_40 c arg5 harg5 x4) (rWords 0 0 5).toLoadRect) (arg11.view.readCov (kernelRun0_B.sl.HS1_40 c arg5 harg5 x4) (rWords 1 0 5).toLoadRect) (arg11.view.readCov (kernelRun0_B.sl.HS1_40 c arg5 harg5 x4) (rWords 2 0 5).toLoadRect) (arg11.view.readCov (kernelRun0_B.sl.HS1_40 c arg5 harg5 x4) (rWords 3 0 5).toLoadRect) (View.readAt (Elt F) arg10.view (rLeft 5).toLoadRect (harg10.unread xs0)) = stepAt x3 (words x4) xs0 0 5 := by
  rw [View.readAt_eq_ld, harg4.read_unread, View.readCov_eq_canon', View.readCov_eq_canon', View.readCov_eq_canon', View.readCov_eq_canon', View.readAt_eq_ld, harg10.read_unread, wordsCanon]
  rfl

theorem acc_0_5 : (kernelRun0_B.sl.v1631 c arg4 harg4 arg5 harg5 arg10 harg10 arg11 x3 x4 xs0) = acc x3 (words x4) xs0 0 5 (by omega) :=
  (show (kernelRun0_B.sl.v1631 c arg4 harg4 arg5 harg5 arg10 harg10 arg11 x3 x4 xs0) = addf (kernelRun0_B.sl.v1551 c arg4 harg4 arg5 harg5 arg10 harg10 arg11 x3 x4 xs0) (Tile.step (View.readAt (Elt F) arg4.view (rBytes 0 5).toLoadRect (harg4.unread x3)) (arg11.view.readCov (kernelRun0_B.sl.HS1_40 c arg5 harg5 x4) (rWords 0 0 5).toLoadRect) (arg11.view.readCov (kernelRun0_B.sl.HS1_40 c arg5 harg5 x4) (rWords 1 0 5).toLoadRect) (arg11.view.readCov (kernelRun0_B.sl.HS1_40 c arg5 harg5 x4) (rWords 2 0 5).toLoadRect) (arg11.view.readCov (kernelRun0_B.sl.HS1_40 c arg5 harg5 x4) (rWords 3 0 5).toLoadRect) (View.readAt (Elt F) arg10.view (rLeft 5).toLoadRect (harg10.unread xs0))) from rfl).trans (congrArg₂ addf (acc_0_4 ..) (step_0_5 ..))

theorem step_0_6 : Tile.step (View.readAt (Elt F) arg4.view (rBytes 0 6).toLoadRect (harg4.unread x3)) (arg11.view.readCov (kernelRun0_B.sl.HS1_40 c arg5 harg5 x4) (rWords 0 0 6).toLoadRect) (arg11.view.readCov (kernelRun0_B.sl.HS1_40 c arg5 harg5 x4) (rWords 1 0 6).toLoadRect) (arg11.view.readCov (kernelRun0_B.sl.HS1_40 c arg5 harg5 x4) (rWords 2 0 6).toLoadRect) (arg11.view.readCov (kernelRun0_B.sl.HS1_40 c arg5 harg5 x4) (rWords 3 0 6).toLoadRect) (View.readAt (Elt F) arg10.view (rLeft 6).toLoadRect (harg10.unread xs0)) = stepAt x3 (words x4) xs0 0 6 := by
  rw [View.readAt_eq_ld, harg4.read_unread, View.readCov_eq_canon', View.readCov_eq_canon', View.readCov_eq_canon', View.readCov_eq_canon', View.readAt_eq_ld, harg10.read_unread, wordsCanon]
  rfl

theorem acc_0_6 : (kernelRun0_B.sl.v1711 c arg4 harg4 arg5 harg5 arg10 harg10 arg11 x3 x4 xs0) = acc x3 (words x4) xs0 0 6 (by omega) :=
  (show (kernelRun0_B.sl.v1711 c arg4 harg4 arg5 harg5 arg10 harg10 arg11 x3 x4 xs0) = addf (kernelRun0_B.sl.v1631 c arg4 harg4 arg5 harg5 arg10 harg10 arg11 x3 x4 xs0) (Tile.step (View.readAt (Elt F) arg4.view (rBytes 0 6).toLoadRect (harg4.unread x3)) (arg11.view.readCov (kernelRun0_B.sl.HS1_40 c arg5 harg5 x4) (rWords 0 0 6).toLoadRect) (arg11.view.readCov (kernelRun0_B.sl.HS1_40 c arg5 harg5 x4) (rWords 1 0 6).toLoadRect) (arg11.view.readCov (kernelRun0_B.sl.HS1_40 c arg5 harg5 x4) (rWords 2 0 6).toLoadRect) (arg11.view.readCov (kernelRun0_B.sl.HS1_40 c arg5 harg5 x4) (rWords 3 0 6).toLoadRect) (View.readAt (Elt F) arg10.view (rLeft 6).toLoadRect (harg10.unread xs0))) from rfl).trans (congrArg₂ addf (acc_0_5 ..) (step_0_6 ..))

theorem step_0_7 : Tile.step (View.readAt (Elt F) arg4.view (rBytes 0 7).toLoadRect (harg4.unread x3)) (arg11.view.readCov (kernelRun0_B.sl.HS1_40 c arg5 harg5 x4) (rWords 0 0 7).toLoadRect) (arg11.view.readCov (kernelRun0_B.sl.HS1_40 c arg5 harg5 x4) (rWords 1 0 7).toLoadRect) (arg11.view.readCov (kernelRun0_B.sl.HS1_40 c arg5 harg5 x4) (rWords 2 0 7).toLoadRect) (arg11.view.readCov (kernelRun0_B.sl.HS1_40 c arg5 harg5 x4) (rWords 3 0 7).toLoadRect) (View.readAt (Elt F) arg10.view (rLeft 7).toLoadRect (harg10.unread xs0)) = stepAt x3 (words x4) xs0 0 7 := by
  rw [View.readAt_eq_ld, harg4.read_unread, View.readCov_eq_canon', View.readCov_eq_canon', View.readCov_eq_canon', View.readCov_eq_canon', View.readAt_eq_ld, harg10.read_unread, wordsCanon]
  rfl

theorem acc_0_7 : (kernelRun0_B.sl.v1791 c arg4 harg4 arg5 harg5 arg10 harg10 arg11 x3 x4 xs0) = acc x3 (words x4) xs0 0 7 (by omega) :=
  (show (kernelRun0_B.sl.v1791 c arg4 harg4 arg5 harg5 arg10 harg10 arg11 x3 x4 xs0) = addf (kernelRun0_B.sl.v1711 c arg4 harg4 arg5 harg5 arg10 harg10 arg11 x3 x4 xs0) (Tile.step (View.readAt (Elt F) arg4.view (rBytes 0 7).toLoadRect (harg4.unread x3)) (arg11.view.readCov (kernelRun0_B.sl.HS1_40 c arg5 harg5 x4) (rWords 0 0 7).toLoadRect) (arg11.view.readCov (kernelRun0_B.sl.HS1_40 c arg5 harg5 x4) (rWords 1 0 7).toLoadRect) (arg11.view.readCov (kernelRun0_B.sl.HS1_40 c arg5 harg5 x4) (rWords 2 0 7).toLoadRect) (arg11.view.readCov (kernelRun0_B.sl.HS1_40 c arg5 harg5 x4) (rWords 3 0 7).toLoadRect) (View.readAt (Elt F) arg10.view (rLeft 7).toLoadRect (harg10.unread xs0))) from rfl).trans (congrArg₂ addf (acc_0_6 ..) (step_0_7 ..))

theorem step_0_8 : Tile.step (View.readAt (Elt F) arg4.view (rBytes 0 8).toLoadRect (harg4.unread x3)) (arg11.view.readCov (kernelRun0_B.sl.HS1_40 c arg5 harg5 x4) (rWords 0 0 8).toLoadRect) (arg11.view.readCov (kernelRun0_B.sl.HS1_40 c arg5 harg5 x4) (rWords 1 0 8).toLoadRect) (arg11.view.readCov (kernelRun0_B.sl.HS1_40 c arg5 harg5 x4) (rWords 2 0 8).toLoadRect) (arg11.view.readCov (kernelRun0_B.sl.HS1_40 c arg5 harg5 x4) (rWords 3 0 8).toLoadRect) (View.readAt (Elt F) arg10.view (rLeft 8).toLoadRect (harg10.unread xs0)) = stepAt x3 (words x4) xs0 0 8 := by
  rw [View.readAt_eq_ld, harg4.read_unread, View.readCov_eq_canon', View.readCov_eq_canon', View.readCov_eq_canon', View.readCov_eq_canon', View.readAt_eq_ld, harg10.read_unread, wordsCanon]
  rfl

theorem acc_0_8 : (kernelRun0_B.sl.v1871 c arg4 harg4 arg5 harg5 arg10 harg10 arg11 x3 x4 xs0) = acc x3 (words x4) xs0 0 8 (by omega) :=
  (show (kernelRun0_B.sl.v1871 c arg4 harg4 arg5 harg5 arg10 harg10 arg11 x3 x4 xs0) = addf (kernelRun0_B.sl.v1791 c arg4 harg4 arg5 harg5 arg10 harg10 arg11 x3 x4 xs0) (Tile.step (View.readAt (Elt F) arg4.view (rBytes 0 8).toLoadRect (harg4.unread x3)) (arg11.view.readCov (kernelRun0_B.sl.HS1_40 c arg5 harg5 x4) (rWords 0 0 8).toLoadRect) (arg11.view.readCov (kernelRun0_B.sl.HS1_40 c arg5 harg5 x4) (rWords 1 0 8).toLoadRect) (arg11.view.readCov (kernelRun0_B.sl.HS1_40 c arg5 harg5 x4) (rWords 2 0 8).toLoadRect) (arg11.view.readCov (kernelRun0_B.sl.HS1_40 c arg5 harg5 x4) (rWords 3 0 8).toLoadRect) (View.readAt (Elt F) arg10.view (rLeft 8).toLoadRect (harg10.unread xs0))) from rfl).trans (congrArg₂ addf (acc_0_7 ..) (step_0_8 ..))

theorem step_0_9 : Tile.step (View.readAt (Elt F) arg4.view (rBytes 0 9).toLoadRect (harg4.unread x3)) (arg11.view.readCov (kernelRun0_B.sl.HS1_40 c arg5 harg5 x4) (rWords 0 0 9).toLoadRect) (arg11.view.readCov (kernelRun0_B.sl.HS1_40 c arg5 harg5 x4) (rWords 1 0 9).toLoadRect) (arg11.view.readCov (kernelRun0_B.sl.HS1_40 c arg5 harg5 x4) (rWords 2 0 9).toLoadRect) (arg11.view.readCov (kernelRun0_B.sl.HS1_40 c arg5 harg5 x4) (rWords 3 0 9).toLoadRect) (View.readAt (Elt F) arg10.view (rLeft 9).toLoadRect (harg10.unread xs0)) = stepAt x3 (words x4) xs0 0 9 := by
  rw [View.readAt_eq_ld, harg4.read_unread, View.readCov_eq_canon', View.readCov_eq_canon', View.readCov_eq_canon', View.readCov_eq_canon', View.readAt_eq_ld, harg10.read_unread, wordsCanon]
  rfl

theorem acc_0_9 : (kernelRun0_B.sl.v1951 c arg4 harg4 arg5 harg5 arg10 harg10 arg11 x3 x4 xs0) = acc x3 (words x4) xs0 0 9 (by omega) :=
  (show (kernelRun0_B.sl.v1951 c arg4 harg4 arg5 harg5 arg10 harg10 arg11 x3 x4 xs0) = addf (kernelRun0_B.sl.v1871 c arg4 harg4 arg5 harg5 arg10 harg10 arg11 x3 x4 xs0) (Tile.step (View.readAt (Elt F) arg4.view (rBytes 0 9).toLoadRect (harg4.unread x3)) (arg11.view.readCov (kernelRun0_B.sl.HS1_40 c arg5 harg5 x4) (rWords 0 0 9).toLoadRect) (arg11.view.readCov (kernelRun0_B.sl.HS1_40 c arg5 harg5 x4) (rWords 1 0 9).toLoadRect) (arg11.view.readCov (kernelRun0_B.sl.HS1_40 c arg5 harg5 x4) (rWords 2 0 9).toLoadRect) (arg11.view.readCov (kernelRun0_B.sl.HS1_40 c arg5 harg5 x4) (rWords 3 0 9).toLoadRect) (View.readAt (Elt F) arg10.view (rLeft 9).toLoadRect (harg10.unread xs0))) from rfl).trans (congrArg₂ addf (acc_0_8 ..) (step_0_9 ..))

theorem step_0_10 : Tile.step (View.readAt (Elt F) arg4.view (rBytes 0 10).toLoadRect (harg4.unread x3)) (arg11.view.readCov (kernelRun0_B.sl.HS1_40 c arg5 harg5 x4) (rWords 0 0 10).toLoadRect) (arg11.view.readCov (kernelRun0_B.sl.HS1_40 c arg5 harg5 x4) (rWords 1 0 10).toLoadRect) (arg11.view.readCov (kernelRun0_B.sl.HS1_40 c arg5 harg5 x4) (rWords 2 0 10).toLoadRect) (arg11.view.readCov (kernelRun0_B.sl.HS1_40 c arg5 harg5 x4) (rWords 3 0 10).toLoadRect) (View.readAt (Elt F) arg10.view (rLeft 10).toLoadRect (harg10.unread xs0)) = stepAt x3 (words x4) xs0 0 10 := by
  rw [View.readAt_eq_ld, harg4.read_unread, View.readCov_eq_canon', View.readCov_eq_canon', View.readCov_eq_canon', View.readCov_eq_canon', View.readAt_eq_ld, harg10.read_unread, wordsCanon]
  rfl

theorem acc_0_10 : (kernelRun0_B.sl.v2031 c arg4 harg4 arg5 harg5 arg10 harg10 arg11 x3 x4 xs0) = acc x3 (words x4) xs0 0 10 (by omega) :=
  (show (kernelRun0_B.sl.v2031 c arg4 harg4 arg5 harg5 arg10 harg10 arg11 x3 x4 xs0) = addf (kernelRun0_B.sl.v1951 c arg4 harg4 arg5 harg5 arg10 harg10 arg11 x3 x4 xs0) (Tile.step (View.readAt (Elt F) arg4.view (rBytes 0 10).toLoadRect (harg4.unread x3)) (arg11.view.readCov (kernelRun0_B.sl.HS1_40 c arg5 harg5 x4) (rWords 0 0 10).toLoadRect) (arg11.view.readCov (kernelRun0_B.sl.HS1_40 c arg5 harg5 x4) (rWords 1 0 10).toLoadRect) (arg11.view.readCov (kernelRun0_B.sl.HS1_40 c arg5 harg5 x4) (rWords 2 0 10).toLoadRect) (arg11.view.readCov (kernelRun0_B.sl.HS1_40 c arg5 harg5 x4) (rWords 3 0 10).toLoadRect) (View.readAt (Elt F) arg10.view (rLeft 10).toLoadRect (harg10.unread xs0))) from rfl).trans (congrArg₂ addf (acc_0_9 ..) (step_0_10 ..))

theorem step_0_11 : Tile.step (View.readAt (Elt F) arg4.view (rBytes 0 11).toLoadRect (harg4.unread x3)) (arg11.view.readCov (kernelRun0_B.sl.HS1_40 c arg5 harg5 x4) (rWords 0 0 11).toLoadRect) (arg11.view.readCov (kernelRun0_B.sl.HS1_40 c arg5 harg5 x4) (rWords 1 0 11).toLoadRect) (arg11.view.readCov (kernelRun0_B.sl.HS1_40 c arg5 harg5 x4) (rWords 2 0 11).toLoadRect) (arg11.view.readCov (kernelRun0_B.sl.HS1_40 c arg5 harg5 x4) (rWords 3 0 11).toLoadRect) (View.readAt (Elt F) arg10.view (rLeft 11).toLoadRect (harg10.unread xs0)) = stepAt x3 (words x4) xs0 0 11 := by
  rw [View.readAt_eq_ld, harg4.read_unread, View.readCov_eq_canon', View.readCov_eq_canon', View.readCov_eq_canon', View.readCov_eq_canon', View.readAt_eq_ld, harg10.read_unread, wordsCanon]
  rfl

theorem plane_0 : act0 (addf (kernelRun0_B.sl.v2031 c arg4 harg4 arg5 harg5 arg10 harg10 arg11 x3 x4 xs0) (Tile.step (View.readAt (Elt F) arg4.view (rBytes 0 11).toLoadRect (harg4.unread x3)) (arg11.view.readCov (kernelRun0_B.sl.HS1_40 c arg5 harg5 x4) (rWords 0 0 11).toLoadRect) (arg11.view.readCov (kernelRun0_B.sl.HS1_40 c arg5 harg5 x4) (rWords 1 0 11).toLoadRect) (arg11.view.readCov (kernelRun0_B.sl.HS1_40 c arg5 harg5 x4) (rWords 2 0 11).toLoadRect) (arg11.view.readCov (kernelRun0_B.sl.HS1_40 c arg5 harg5 x4) (rWords 3 0 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 0).toLoadRect (harg6.unread x5)) = plane x3 (words x4) xs0 x1 x2 x5 0 := by
  rw [acc_0_10, step_0_11, rowScaleWord, gateWord, View.readAt_eq_ld, harg6.read_unread]
  rfl

theorem plane_1 : act1 (addf (kernelRun0_B.sl.v2031 c arg4 harg4 arg5 harg5 arg10 harg10 arg11 x3 x4 xs0) (Tile.step (View.readAt (Elt F) arg4.view (rBytes 0 11).toLoadRect (harg4.unread x3)) (arg11.view.readCov (kernelRun0_B.sl.HS1_40 c arg5 harg5 x4) (rWords 0 0 11).toLoadRect) (arg11.view.readCov (kernelRun0_B.sl.HS1_40 c arg5 harg5 x4) (rWords 1 0 11).toLoadRect) (arg11.view.readCov (kernelRun0_B.sl.HS1_40 c arg5 harg5 x4) (rWords 2 0 11).toLoadRect) (arg11.view.readCov (kernelRun0_B.sl.HS1_40 c arg5 harg5 x4) (rWords 3 0 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 1).toLoadRect (harg6.unread x5)) = plane x3 (words x4) xs0 x1 x2 x5 1 := by
  rw [acc_0_10, step_0_11, rowScaleWord, gateWord, View.readAt_eq_ld, harg6.read_unread]
  rfl

theorem step_1_0 : Tile.step (View.readAt (Elt F) arg4.view (rBytes 1 0).toLoadRect (harg4.unread x3)) (arg11.view.readCov (kernelRun0_B.sl.HS1_40 c arg5 harg5 x4) (rWords 0 1 0).toLoadRect) (arg11.view.readCov (kernelRun0_B.sl.HS1_40 c arg5 harg5 x4) (rWords 1 1 0).toLoadRect) (arg11.view.readCov (kernelRun0_B.sl.HS1_40 c arg5 harg5 x4) (rWords 2 1 0).toLoadRect) (arg11.view.readCov (kernelRun0_B.sl.HS1_40 c arg5 harg5 x4) (rWords 3 1 0).toLoadRect) (View.readAt (Elt F) arg10.view (rLeft 0).toLoadRect (harg10.unread xs0)) = stepAt x3 (words x4) xs0 1 0 := by
  rw [View.readAt_eq_ld, harg4.read_unread, View.readCov_eq_canon', View.readCov_eq_canon', View.readCov_eq_canon', View.readCov_eq_canon', View.readAt_eq_ld, harg10.read_unread, wordsCanon]
  rfl

theorem acc_1_0 : (kernelRun0_B.sl.v2226 c arg4 harg4 arg5 harg5 arg10 harg10 arg11 x3 x4 xs0) = acc x3 (words x4) xs0 1 0 (by omega) :=
  (show (kernelRun0_B.sl.v2226 c arg4 harg4 arg5 harg5 arg10 harg10 arg11 x3 x4 xs0) = Tile.step (View.readAt (Elt F) arg4.view (rBytes 1 0).toLoadRect (harg4.unread x3)) (arg11.view.readCov (kernelRun0_B.sl.HS1_40 c arg5 harg5 x4) (rWords 0 1 0).toLoadRect) (arg11.view.readCov (kernelRun0_B.sl.HS1_40 c arg5 harg5 x4) (rWords 1 1 0).toLoadRect) (arg11.view.readCov (kernelRun0_B.sl.HS1_40 c arg5 harg5 x4) (rWords 2 1 0).toLoadRect) (arg11.view.readCov (kernelRun0_B.sl.HS1_40 c arg5 harg5 x4) (rWords 3 1 0).toLoadRect) (View.readAt (Elt F) arg10.view (rLeft 0).toLoadRect (harg10.unread xs0)) from rfl).trans (step_1_0 ..)

theorem step_1_1 : Tile.step (View.readAt (Elt F) arg4.view (rBytes 1 1).toLoadRect (harg4.unread x3)) (arg11.view.readCov (kernelRun0_B.sl.HS1_40 c arg5 harg5 x4) (rWords 0 1 1).toLoadRect) (arg11.view.readCov (kernelRun0_B.sl.HS1_40 c arg5 harg5 x4) (rWords 1 1 1).toLoadRect) (arg11.view.readCov (kernelRun0_B.sl.HS1_40 c arg5 harg5 x4) (rWords 2 1 1).toLoadRect) (arg11.view.readCov (kernelRun0_B.sl.HS1_40 c arg5 harg5 x4) (rWords 3 1 1).toLoadRect) (View.readAt (Elt F) arg10.view (rLeft 1).toLoadRect (harg10.unread xs0)) = stepAt x3 (words x4) xs0 1 1 := by
  rw [View.readAt_eq_ld, harg4.read_unread, View.readCov_eq_canon', View.readCov_eq_canon', View.readCov_eq_canon', View.readCov_eq_canon', View.readAt_eq_ld, harg10.read_unread, wordsCanon]
  rfl

theorem acc_1_1 : (kernelRun0_B.sl.v2306 c arg4 harg4 arg5 harg5 arg10 harg10 arg11 x3 x4 xs0) = acc x3 (words x4) xs0 1 1 (by omega) :=
  (show (kernelRun0_B.sl.v2306 c arg4 harg4 arg5 harg5 arg10 harg10 arg11 x3 x4 xs0) = addf (kernelRun0_B.sl.v2226 c arg4 harg4 arg5 harg5 arg10 harg10 arg11 x3 x4 xs0) (Tile.step (View.readAt (Elt F) arg4.view (rBytes 1 1).toLoadRect (harg4.unread x3)) (arg11.view.readCov (kernelRun0_B.sl.HS1_40 c arg5 harg5 x4) (rWords 0 1 1).toLoadRect) (arg11.view.readCov (kernelRun0_B.sl.HS1_40 c arg5 harg5 x4) (rWords 1 1 1).toLoadRect) (arg11.view.readCov (kernelRun0_B.sl.HS1_40 c arg5 harg5 x4) (rWords 2 1 1).toLoadRect) (arg11.view.readCov (kernelRun0_B.sl.HS1_40 c arg5 harg5 x4) (rWords 3 1 1).toLoadRect) (View.readAt (Elt F) arg10.view (rLeft 1).toLoadRect (harg10.unread xs0))) from rfl).trans (congrArg₂ addf (acc_1_0 ..) (step_1_1 ..))

theorem step_1_2 : Tile.step (View.readAt (Elt F) arg4.view (rBytes 1 2).toLoadRect (harg4.unread x3)) (arg11.view.readCov (kernelRun0_B.sl.HS1_40 c arg5 harg5 x4) (rWords 0 1 2).toLoadRect) (arg11.view.readCov (kernelRun0_B.sl.HS1_40 c arg5 harg5 x4) (rWords 1 1 2).toLoadRect) (arg11.view.readCov (kernelRun0_B.sl.HS1_40 c arg5 harg5 x4) (rWords 2 1 2).toLoadRect) (arg11.view.readCov (kernelRun0_B.sl.HS1_40 c arg5 harg5 x4) (rWords 3 1 2).toLoadRect) (View.readAt (Elt F) arg10.view (rLeft 2).toLoadRect (harg10.unread xs0)) = stepAt x3 (words x4) xs0 1 2 := by
  rw [View.readAt_eq_ld, harg4.read_unread, View.readCov_eq_canon', View.readCov_eq_canon', View.readCov_eq_canon', View.readCov_eq_canon', View.readAt_eq_ld, harg10.read_unread, wordsCanon]
  rfl

theorem acc_1_2 : (kernelRun0_B.sl.v2386 c arg4 harg4 arg5 harg5 arg10 harg10 arg11 x3 x4 xs0) = acc x3 (words x4) xs0 1 2 (by omega) :=
  (show (kernelRun0_B.sl.v2386 c arg4 harg4 arg5 harg5 arg10 harg10 arg11 x3 x4 xs0) = addf (kernelRun0_B.sl.v2306 c arg4 harg4 arg5 harg5 arg10 harg10 arg11 x3 x4 xs0) (Tile.step (View.readAt (Elt F) arg4.view (rBytes 1 2).toLoadRect (harg4.unread x3)) (arg11.view.readCov (kernelRun0_B.sl.HS1_40 c arg5 harg5 x4) (rWords 0 1 2).toLoadRect) (arg11.view.readCov (kernelRun0_B.sl.HS1_40 c arg5 harg5 x4) (rWords 1 1 2).toLoadRect) (arg11.view.readCov (kernelRun0_B.sl.HS1_40 c arg5 harg5 x4) (rWords 2 1 2).toLoadRect) (arg11.view.readCov (kernelRun0_B.sl.HS1_40 c arg5 harg5 x4) (rWords 3 1 2).toLoadRect) (View.readAt (Elt F) arg10.view (rLeft 2).toLoadRect (harg10.unread xs0))) from rfl).trans (congrArg₂ addf (acc_1_1 ..) (step_1_2 ..))

theorem step_1_3 : Tile.step (View.readAt (Elt F) arg4.view (rBytes 1 3).toLoadRect (harg4.unread x3)) (arg11.view.readCov (kernelRun0_B.sl.HS1_40 c arg5 harg5 x4) (rWords 0 1 3).toLoadRect) (arg11.view.readCov (kernelRun0_B.sl.HS1_40 c arg5 harg5 x4) (rWords 1 1 3).toLoadRect) (arg11.view.readCov (kernelRun0_B.sl.HS1_40 c arg5 harg5 x4) (rWords 2 1 3).toLoadRect) (arg11.view.readCov (kernelRun0_B.sl.HS1_40 c arg5 harg5 x4) (rWords 3 1 3).toLoadRect) (View.readAt (Elt F) arg10.view (rLeft 3).toLoadRect (harg10.unread xs0)) = stepAt x3 (words x4) xs0 1 3 := by
  rw [View.readAt_eq_ld, harg4.read_unread, View.readCov_eq_canon', View.readCov_eq_canon', View.readCov_eq_canon', View.readCov_eq_canon', View.readAt_eq_ld, harg10.read_unread, wordsCanon]
  rfl

theorem acc_1_3 : (kernelRun0_B.sl.v2466 c arg4 harg4 arg5 harg5 arg10 harg10 arg11 x3 x4 xs0) = acc x3 (words x4) xs0 1 3 (by omega) :=
  (show (kernelRun0_B.sl.v2466 c arg4 harg4 arg5 harg5 arg10 harg10 arg11 x3 x4 xs0) = addf (kernelRun0_B.sl.v2386 c arg4 harg4 arg5 harg5 arg10 harg10 arg11 x3 x4 xs0) (Tile.step (View.readAt (Elt F) arg4.view (rBytes 1 3).toLoadRect (harg4.unread x3)) (arg11.view.readCov (kernelRun0_B.sl.HS1_40 c arg5 harg5 x4) (rWords 0 1 3).toLoadRect) (arg11.view.readCov (kernelRun0_B.sl.HS1_40 c arg5 harg5 x4) (rWords 1 1 3).toLoadRect) (arg11.view.readCov (kernelRun0_B.sl.HS1_40 c arg5 harg5 x4) (rWords 2 1 3).toLoadRect) (arg11.view.readCov (kernelRun0_B.sl.HS1_40 c arg5 harg5 x4) (rWords 3 1 3).toLoadRect) (View.readAt (Elt F) arg10.view (rLeft 3).toLoadRect (harg10.unread xs0))) from rfl).trans (congrArg₂ addf (acc_1_2 ..) (step_1_3 ..))

theorem step_1_4 : Tile.step (View.readAt (Elt F) arg4.view (rBytes 1 4).toLoadRect (harg4.unread x3)) (arg11.view.readCov (kernelRun0_B.sl.HS1_40 c arg5 harg5 x4) (rWords 0 1 4).toLoadRect) (arg11.view.readCov (kernelRun0_B.sl.HS1_40 c arg5 harg5 x4) (rWords 1 1 4).toLoadRect) (arg11.view.readCov (kernelRun0_B.sl.HS1_40 c arg5 harg5 x4) (rWords 2 1 4).toLoadRect) (arg11.view.readCov (kernelRun0_B.sl.HS1_40 c arg5 harg5 x4) (rWords 3 1 4).toLoadRect) (View.readAt (Elt F) arg10.view (rLeft 4).toLoadRect (harg10.unread xs0)) = stepAt x3 (words x4) xs0 1 4 := by
  rw [View.readAt_eq_ld, harg4.read_unread, View.readCov_eq_canon', View.readCov_eq_canon', View.readCov_eq_canon', View.readCov_eq_canon', View.readAt_eq_ld, harg10.read_unread, wordsCanon]
  rfl

theorem acc_1_4 : (kernelRun0_B.sl.v2546 c arg4 harg4 arg5 harg5 arg10 harg10 arg11 x3 x4 xs0) = acc x3 (words x4) xs0 1 4 (by omega) :=
  (show (kernelRun0_B.sl.v2546 c arg4 harg4 arg5 harg5 arg10 harg10 arg11 x3 x4 xs0) = addf (kernelRun0_B.sl.v2466 c arg4 harg4 arg5 harg5 arg10 harg10 arg11 x3 x4 xs0) (Tile.step (View.readAt (Elt F) arg4.view (rBytes 1 4).toLoadRect (harg4.unread x3)) (arg11.view.readCov (kernelRun0_B.sl.HS1_40 c arg5 harg5 x4) (rWords 0 1 4).toLoadRect) (arg11.view.readCov (kernelRun0_B.sl.HS1_40 c arg5 harg5 x4) (rWords 1 1 4).toLoadRect) (arg11.view.readCov (kernelRun0_B.sl.HS1_40 c arg5 harg5 x4) (rWords 2 1 4).toLoadRect) (arg11.view.readCov (kernelRun0_B.sl.HS1_40 c arg5 harg5 x4) (rWords 3 1 4).toLoadRect) (View.readAt (Elt F) arg10.view (rLeft 4).toLoadRect (harg10.unread xs0))) from rfl).trans (congrArg₂ addf (acc_1_3 ..) (step_1_4 ..))

theorem step_1_5 : Tile.step (View.readAt (Elt F) arg4.view (rBytes 1 5).toLoadRect (harg4.unread x3)) (arg11.view.readCov (kernelRun0_B.sl.HS1_40 c arg5 harg5 x4) (rWords 0 1 5).toLoadRect) (arg11.view.readCov (kernelRun0_B.sl.HS1_40 c arg5 harg5 x4) (rWords 1 1 5).toLoadRect) (arg11.view.readCov (kernelRun0_B.sl.HS1_40 c arg5 harg5 x4) (rWords 2 1 5).toLoadRect) (arg11.view.readCov (kernelRun0_B.sl.HS1_40 c arg5 harg5 x4) (rWords 3 1 5).toLoadRect) (View.readAt (Elt F) arg10.view (rLeft 5).toLoadRect (harg10.unread xs0)) = stepAt x3 (words x4) xs0 1 5 := by
  rw [View.readAt_eq_ld, harg4.read_unread, View.readCov_eq_canon', View.readCov_eq_canon', View.readCov_eq_canon', View.readCov_eq_canon', View.readAt_eq_ld, harg10.read_unread, wordsCanon]
  rfl

theorem acc_1_5 : (kernelRun0_B.sl.v2626 c arg4 harg4 arg5 harg5 arg10 harg10 arg11 x3 x4 xs0) = acc x3 (words x4) xs0 1 5 (by omega) :=
  (show (kernelRun0_B.sl.v2626 c arg4 harg4 arg5 harg5 arg10 harg10 arg11 x3 x4 xs0) = addf (kernelRun0_B.sl.v2546 c arg4 harg4 arg5 harg5 arg10 harg10 arg11 x3 x4 xs0) (Tile.step (View.readAt (Elt F) arg4.view (rBytes 1 5).toLoadRect (harg4.unread x3)) (arg11.view.readCov (kernelRun0_B.sl.HS1_40 c arg5 harg5 x4) (rWords 0 1 5).toLoadRect) (arg11.view.readCov (kernelRun0_B.sl.HS1_40 c arg5 harg5 x4) (rWords 1 1 5).toLoadRect) (arg11.view.readCov (kernelRun0_B.sl.HS1_40 c arg5 harg5 x4) (rWords 2 1 5).toLoadRect) (arg11.view.readCov (kernelRun0_B.sl.HS1_40 c arg5 harg5 x4) (rWords 3 1 5).toLoadRect) (View.readAt (Elt F) arg10.view (rLeft 5).toLoadRect (harg10.unread xs0))) from rfl).trans (congrArg₂ addf (acc_1_4 ..) (step_1_5 ..))

theorem step_1_6 : Tile.step (View.readAt (Elt F) arg4.view (rBytes 1 6).toLoadRect (harg4.unread x3)) (arg11.view.readCov (kernelRun0_B.sl.HS1_40 c arg5 harg5 x4) (rWords 0 1 6).toLoadRect) (arg11.view.readCov (kernelRun0_B.sl.HS1_40 c arg5 harg5 x4) (rWords 1 1 6).toLoadRect) (arg11.view.readCov (kernelRun0_B.sl.HS1_40 c arg5 harg5 x4) (rWords 2 1 6).toLoadRect) (arg11.view.readCov (kernelRun0_B.sl.HS1_40 c arg5 harg5 x4) (rWords 3 1 6).toLoadRect) (View.readAt (Elt F) arg10.view (rLeft 6).toLoadRect (harg10.unread xs0)) = stepAt x3 (words x4) xs0 1 6 := by
  rw [View.readAt_eq_ld, harg4.read_unread, View.readCov_eq_canon', View.readCov_eq_canon', View.readCov_eq_canon', View.readCov_eq_canon', View.readAt_eq_ld, harg10.read_unread, wordsCanon]
  rfl

theorem acc_1_6 : (kernelRun0_B.sl.v2706 c arg4 harg4 arg5 harg5 arg10 harg10 arg11 x3 x4 xs0) = acc x3 (words x4) xs0 1 6 (by omega) :=
  (show (kernelRun0_B.sl.v2706 c arg4 harg4 arg5 harg5 arg10 harg10 arg11 x3 x4 xs0) = addf (kernelRun0_B.sl.v2626 c arg4 harg4 arg5 harg5 arg10 harg10 arg11 x3 x4 xs0) (Tile.step (View.readAt (Elt F) arg4.view (rBytes 1 6).toLoadRect (harg4.unread x3)) (arg11.view.readCov (kernelRun0_B.sl.HS1_40 c arg5 harg5 x4) (rWords 0 1 6).toLoadRect) (arg11.view.readCov (kernelRun0_B.sl.HS1_40 c arg5 harg5 x4) (rWords 1 1 6).toLoadRect) (arg11.view.readCov (kernelRun0_B.sl.HS1_40 c arg5 harg5 x4) (rWords 2 1 6).toLoadRect) (arg11.view.readCov (kernelRun0_B.sl.HS1_40 c arg5 harg5 x4) (rWords 3 1 6).toLoadRect) (View.readAt (Elt F) arg10.view (rLeft 6).toLoadRect (harg10.unread xs0))) from rfl).trans (congrArg₂ addf (acc_1_5 ..) (step_1_6 ..))

theorem step_1_7 : Tile.step (View.readAt (Elt F) arg4.view (rBytes 1 7).toLoadRect (harg4.unread x3)) (arg11.view.readCov (kernelRun0_B.sl.HS1_40 c arg5 harg5 x4) (rWords 0 1 7).toLoadRect) (arg11.view.readCov (kernelRun0_B.sl.HS1_40 c arg5 harg5 x4) (rWords 1 1 7).toLoadRect) (arg11.view.readCov (kernelRun0_B.sl.HS1_40 c arg5 harg5 x4) (rWords 2 1 7).toLoadRect) (arg11.view.readCov (kernelRun0_B.sl.HS1_40 c arg5 harg5 x4) (rWords 3 1 7).toLoadRect) (View.readAt (Elt F) arg10.view (rLeft 7).toLoadRect (harg10.unread xs0)) = stepAt x3 (words x4) xs0 1 7 := by
  rw [View.readAt_eq_ld, harg4.read_unread, View.readCov_eq_canon', View.readCov_eq_canon', View.readCov_eq_canon', View.readCov_eq_canon', View.readAt_eq_ld, harg10.read_unread, wordsCanon]
  rfl

theorem acc_1_7 : (kernelRun0_B.sl.v2786 c arg4 harg4 arg5 harg5 arg10 harg10 arg11 x3 x4 xs0) = acc x3 (words x4) xs0 1 7 (by omega) :=
  (show (kernelRun0_B.sl.v2786 c arg4 harg4 arg5 harg5 arg10 harg10 arg11 x3 x4 xs0) = addf (kernelRun0_B.sl.v2706 c arg4 harg4 arg5 harg5 arg10 harg10 arg11 x3 x4 xs0) (Tile.step (View.readAt (Elt F) arg4.view (rBytes 1 7).toLoadRect (harg4.unread x3)) (arg11.view.readCov (kernelRun0_B.sl.HS1_40 c arg5 harg5 x4) (rWords 0 1 7).toLoadRect) (arg11.view.readCov (kernelRun0_B.sl.HS1_40 c arg5 harg5 x4) (rWords 1 1 7).toLoadRect) (arg11.view.readCov (kernelRun0_B.sl.HS1_40 c arg5 harg5 x4) (rWords 2 1 7).toLoadRect) (arg11.view.readCov (kernelRun0_B.sl.HS1_40 c arg5 harg5 x4) (rWords 3 1 7).toLoadRect) (View.readAt (Elt F) arg10.view (rLeft 7).toLoadRect (harg10.unread xs0))) from rfl).trans (congrArg₂ addf (acc_1_6 ..) (step_1_7 ..))

theorem step_1_8 : Tile.step (View.readAt (Elt F) arg4.view (rBytes 1 8).toLoadRect (harg4.unread x3)) (arg11.view.readCov (kernelRun0_B.sl.HS1_40 c arg5 harg5 x4) (rWords 0 1 8).toLoadRect) (arg11.view.readCov (kernelRun0_B.sl.HS1_40 c arg5 harg5 x4) (rWords 1 1 8).toLoadRect) (arg11.view.readCov (kernelRun0_B.sl.HS1_40 c arg5 harg5 x4) (rWords 2 1 8).toLoadRect) (arg11.view.readCov (kernelRun0_B.sl.HS1_40 c arg5 harg5 x4) (rWords 3 1 8).toLoadRect) (View.readAt (Elt F) arg10.view (rLeft 8).toLoadRect (harg10.unread xs0)) = stepAt x3 (words x4) xs0 1 8 := by
  rw [View.readAt_eq_ld, harg4.read_unread, View.readCov_eq_canon', View.readCov_eq_canon', View.readCov_eq_canon', View.readCov_eq_canon', View.readAt_eq_ld, harg10.read_unread, wordsCanon]
  rfl

theorem acc_1_8 : (kernelRun0_B.sl.v2866 c arg4 harg4 arg5 harg5 arg10 harg10 arg11 x3 x4 xs0) = acc x3 (words x4) xs0 1 8 (by omega) :=
  (show (kernelRun0_B.sl.v2866 c arg4 harg4 arg5 harg5 arg10 harg10 arg11 x3 x4 xs0) = addf (kernelRun0_B.sl.v2786 c arg4 harg4 arg5 harg5 arg10 harg10 arg11 x3 x4 xs0) (Tile.step (View.readAt (Elt F) arg4.view (rBytes 1 8).toLoadRect (harg4.unread x3)) (arg11.view.readCov (kernelRun0_B.sl.HS1_40 c arg5 harg5 x4) (rWords 0 1 8).toLoadRect) (arg11.view.readCov (kernelRun0_B.sl.HS1_40 c arg5 harg5 x4) (rWords 1 1 8).toLoadRect) (arg11.view.readCov (kernelRun0_B.sl.HS1_40 c arg5 harg5 x4) (rWords 2 1 8).toLoadRect) (arg11.view.readCov (kernelRun0_B.sl.HS1_40 c arg5 harg5 x4) (rWords 3 1 8).toLoadRect) (View.readAt (Elt F) arg10.view (rLeft 8).toLoadRect (harg10.unread xs0))) from rfl).trans (congrArg₂ addf (acc_1_7 ..) (step_1_8 ..))

theorem step_1_9 : Tile.step (View.readAt (Elt F) arg4.view (rBytes 1 9).toLoadRect (harg4.unread x3)) (arg11.view.readCov (kernelRun0_B.sl.HS1_40 c arg5 harg5 x4) (rWords 0 1 9).toLoadRect) (arg11.view.readCov (kernelRun0_B.sl.HS1_40 c arg5 harg5 x4) (rWords 1 1 9).toLoadRect) (arg11.view.readCov (kernelRun0_B.sl.HS1_40 c arg5 harg5 x4) (rWords 2 1 9).toLoadRect) (arg11.view.readCov (kernelRun0_B.sl.HS1_40 c arg5 harg5 x4) (rWords 3 1 9).toLoadRect) (View.readAt (Elt F) arg10.view (rLeft 9).toLoadRect (harg10.unread xs0)) = stepAt x3 (words x4) xs0 1 9 := by
  rw [View.readAt_eq_ld, harg4.read_unread, View.readCov_eq_canon', View.readCov_eq_canon', View.readCov_eq_canon', View.readCov_eq_canon', View.readAt_eq_ld, harg10.read_unread, wordsCanon]
  rfl

theorem acc_1_9 : (kernelRun0_B.sl.v2946 c arg4 harg4 arg5 harg5 arg10 harg10 arg11 x3 x4 xs0) = acc x3 (words x4) xs0 1 9 (by omega) :=
  (show (kernelRun0_B.sl.v2946 c arg4 harg4 arg5 harg5 arg10 harg10 arg11 x3 x4 xs0) = addf (kernelRun0_B.sl.v2866 c arg4 harg4 arg5 harg5 arg10 harg10 arg11 x3 x4 xs0) (Tile.step (View.readAt (Elt F) arg4.view (rBytes 1 9).toLoadRect (harg4.unread x3)) (arg11.view.readCov (kernelRun0_B.sl.HS1_40 c arg5 harg5 x4) (rWords 0 1 9).toLoadRect) (arg11.view.readCov (kernelRun0_B.sl.HS1_40 c arg5 harg5 x4) (rWords 1 1 9).toLoadRect) (arg11.view.readCov (kernelRun0_B.sl.HS1_40 c arg5 harg5 x4) (rWords 2 1 9).toLoadRect) (arg11.view.readCov (kernelRun0_B.sl.HS1_40 c arg5 harg5 x4) (rWords 3 1 9).toLoadRect) (View.readAt (Elt F) arg10.view (rLeft 9).toLoadRect (harg10.unread xs0))) from rfl).trans (congrArg₂ addf (acc_1_8 ..) (step_1_9 ..))

theorem step_1_10 : Tile.step (View.readAt (Elt F) arg4.view (rBytes 1 10).toLoadRect (harg4.unread x3)) (arg11.view.readCov (kernelRun0_B.sl.HS1_40 c arg5 harg5 x4) (rWords 0 1 10).toLoadRect) (arg11.view.readCov (kernelRun0_B.sl.HS1_40 c arg5 harg5 x4) (rWords 1 1 10).toLoadRect) (arg11.view.readCov (kernelRun0_B.sl.HS1_40 c arg5 harg5 x4) (rWords 2 1 10).toLoadRect) (arg11.view.readCov (kernelRun0_B.sl.HS1_40 c arg5 harg5 x4) (rWords 3 1 10).toLoadRect) (View.readAt (Elt F) arg10.view (rLeft 10).toLoadRect (harg10.unread xs0)) = stepAt x3 (words x4) xs0 1 10 := by
  rw [View.readAt_eq_ld, harg4.read_unread, View.readCov_eq_canon', View.readCov_eq_canon', View.readCov_eq_canon', View.readCov_eq_canon', View.readAt_eq_ld, harg10.read_unread, wordsCanon]
  rfl

theorem acc_1_10 : (kernelRun0_B.sl.v3026 c arg4 harg4 arg5 harg5 arg10 harg10 arg11 x3 x4 xs0) = acc x3 (words x4) xs0 1 10 (by omega) :=
  (show (kernelRun0_B.sl.v3026 c arg4 harg4 arg5 harg5 arg10 harg10 arg11 x3 x4 xs0) = addf (kernelRun0_B.sl.v2946 c arg4 harg4 arg5 harg5 arg10 harg10 arg11 x3 x4 xs0) (Tile.step (View.readAt (Elt F) arg4.view (rBytes 1 10).toLoadRect (harg4.unread x3)) (arg11.view.readCov (kernelRun0_B.sl.HS1_40 c arg5 harg5 x4) (rWords 0 1 10).toLoadRect) (arg11.view.readCov (kernelRun0_B.sl.HS1_40 c arg5 harg5 x4) (rWords 1 1 10).toLoadRect) (arg11.view.readCov (kernelRun0_B.sl.HS1_40 c arg5 harg5 x4) (rWords 2 1 10).toLoadRect) (arg11.view.readCov (kernelRun0_B.sl.HS1_40 c arg5 harg5 x4) (rWords 3 1 10).toLoadRect) (View.readAt (Elt F) arg10.view (rLeft 10).toLoadRect (harg10.unread xs0))) from rfl).trans (congrArg₂ addf (acc_1_9 ..) (step_1_10 ..))

theorem step_1_11 : Tile.step (View.readAt (Elt F) arg4.view (rBytes 1 11).toLoadRect (harg4.unread x3)) (arg11.view.readCov (kernelRun0_B.sl.HS1_40 c arg5 harg5 x4) (rWords 0 1 11).toLoadRect) (arg11.view.readCov (kernelRun0_B.sl.HS1_40 c arg5 harg5 x4) (rWords 1 1 11).toLoadRect) (arg11.view.readCov (kernelRun0_B.sl.HS1_40 c arg5 harg5 x4) (rWords 2 1 11).toLoadRect) (arg11.view.readCov (kernelRun0_B.sl.HS1_40 c arg5 harg5 x4) (rWords 3 1 11).toLoadRect) (View.readAt (Elt F) arg10.view (rLeft 11).toLoadRect (harg10.unread xs0)) = stepAt x3 (words x4) xs0 1 11 := by
  rw [View.readAt_eq_ld, harg4.read_unread, View.readCov_eq_canon', View.readCov_eq_canon', View.readCov_eq_canon', View.readCov_eq_canon', View.readAt_eq_ld, harg10.read_unread, wordsCanon]
  rfl

theorem plane_2 : act0 (addf (kernelRun0_B.sl.v3026 c arg4 harg4 arg5 harg5 arg10 harg10 arg11 x3 x4 xs0) (Tile.step (View.readAt (Elt F) arg4.view (rBytes 1 11).toLoadRect (harg4.unread x3)) (arg11.view.readCov (kernelRun0_B.sl.HS1_40 c arg5 harg5 x4) (rWords 0 1 11).toLoadRect) (arg11.view.readCov (kernelRun0_B.sl.HS1_40 c arg5 harg5 x4) (rWords 1 1 11).toLoadRect) (arg11.view.readCov (kernelRun0_B.sl.HS1_40 c arg5 harg5 x4) (rWords 2 1 11).toLoadRect) (arg11.view.readCov (kernelRun0_B.sl.HS1_40 c arg5 harg5 x4) (rWords 3 1 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 2).toLoadRect (harg6.unread x5)) = plane x3 (words x4) xs0 x1 x2 x5 2 := by
  rw [acc_1_10, step_1_11, rowScaleWord, gateWord, View.readAt_eq_ld, harg6.read_unread]
  rfl

theorem plane_3 : act1 (addf (kernelRun0_B.sl.v3026 c arg4 harg4 arg5 harg5 arg10 harg10 arg11 x3 x4 xs0) (Tile.step (View.readAt (Elt F) arg4.view (rBytes 1 11).toLoadRect (harg4.unread x3)) (arg11.view.readCov (kernelRun0_B.sl.HS1_40 c arg5 harg5 x4) (rWords 0 1 11).toLoadRect) (arg11.view.readCov (kernelRun0_B.sl.HS1_40 c arg5 harg5 x4) (rWords 1 1 11).toLoadRect) (arg11.view.readCov (kernelRun0_B.sl.HS1_40 c arg5 harg5 x4) (rWords 2 1 11).toLoadRect) (arg11.view.readCov (kernelRun0_B.sl.HS1_40 c arg5 harg5 x4) (rWords 3 1 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 3).toLoadRect (harg6.unread x5)) = plane x3 (words x4) xs0 x1 x2 x5 3 := by
  rw [acc_1_10, step_1_11, rowScaleWord, gateWord, View.readAt_eq_ld, harg6.read_unread]
  rfl

theorem step_2_0 : Tile.step (View.readAt (Elt F) arg4.view (rBytes 2 0).toLoadRect (harg4.unread x3)) (arg11.view.readCov (kernelRun0_B.sl.HS1_40 c arg5 harg5 x4) (rWords 0 2 0).toLoadRect) (arg11.view.readCov (kernelRun0_B.sl.HS1_40 c arg5 harg5 x4) (rWords 1 2 0).toLoadRect) (arg11.view.readCov (kernelRun0_B.sl.HS1_40 c arg5 harg5 x4) (rWords 2 2 0).toLoadRect) (arg11.view.readCov (kernelRun0_B.sl.HS1_40 c arg5 harg5 x4) (rWords 3 2 0).toLoadRect) (View.readAt (Elt F) arg10.view (rLeft 0).toLoadRect (harg10.unread xs0)) = stepAt x3 (words x4) xs0 2 0 := by
  rw [View.readAt_eq_ld, harg4.read_unread, View.readCov_eq_canon', View.readCov_eq_canon', View.readCov_eq_canon', View.readCov_eq_canon', View.readAt_eq_ld, harg10.read_unread, wordsCanon]
  rfl

theorem acc_2_0 : (kernelRun0_B.sl.v3221 c arg4 harg4 arg5 harg5 arg10 harg10 arg11 x3 x4 xs0) = acc x3 (words x4) xs0 2 0 (by omega) :=
  (show (kernelRun0_B.sl.v3221 c arg4 harg4 arg5 harg5 arg10 harg10 arg11 x3 x4 xs0) = Tile.step (View.readAt (Elt F) arg4.view (rBytes 2 0).toLoadRect (harg4.unread x3)) (arg11.view.readCov (kernelRun0_B.sl.HS1_40 c arg5 harg5 x4) (rWords 0 2 0).toLoadRect) (arg11.view.readCov (kernelRun0_B.sl.HS1_40 c arg5 harg5 x4) (rWords 1 2 0).toLoadRect) (arg11.view.readCov (kernelRun0_B.sl.HS1_40 c arg5 harg5 x4) (rWords 2 2 0).toLoadRect) (arg11.view.readCov (kernelRun0_B.sl.HS1_40 c arg5 harg5 x4) (rWords 3 2 0).toLoadRect) (View.readAt (Elt F) arg10.view (rLeft 0).toLoadRect (harg10.unread xs0)) from rfl).trans (step_2_0 ..)

theorem step_2_1 : Tile.step (View.readAt (Elt F) arg4.view (rBytes 2 1).toLoadRect (harg4.unread x3)) (arg11.view.readCov (kernelRun0_B.sl.HS1_40 c arg5 harg5 x4) (rWords 0 2 1).toLoadRect) (arg11.view.readCov (kernelRun0_B.sl.HS1_40 c arg5 harg5 x4) (rWords 1 2 1).toLoadRect) (arg11.view.readCov (kernelRun0_B.sl.HS1_40 c arg5 harg5 x4) (rWords 2 2 1).toLoadRect) (arg11.view.readCov (kernelRun0_B.sl.HS1_40 c arg5 harg5 x4) (rWords 3 2 1).toLoadRect) (View.readAt (Elt F) arg10.view (rLeft 1).toLoadRect (harg10.unread xs0)) = stepAt x3 (words x4) xs0 2 1 := by
  rw [View.readAt_eq_ld, harg4.read_unread, View.readCov_eq_canon', View.readCov_eq_canon', View.readCov_eq_canon', View.readCov_eq_canon', View.readAt_eq_ld, harg10.read_unread, wordsCanon]
  rfl

theorem acc_2_1 : (kernelRun0_B.sl.v3301 c arg4 harg4 arg5 harg5 arg10 harg10 arg11 x3 x4 xs0) = acc x3 (words x4) xs0 2 1 (by omega) :=
  (show (kernelRun0_B.sl.v3301 c arg4 harg4 arg5 harg5 arg10 harg10 arg11 x3 x4 xs0) = addf (kernelRun0_B.sl.v3221 c arg4 harg4 arg5 harg5 arg10 harg10 arg11 x3 x4 xs0) (Tile.step (View.readAt (Elt F) arg4.view (rBytes 2 1).toLoadRect (harg4.unread x3)) (arg11.view.readCov (kernelRun0_B.sl.HS1_40 c arg5 harg5 x4) (rWords 0 2 1).toLoadRect) (arg11.view.readCov (kernelRun0_B.sl.HS1_40 c arg5 harg5 x4) (rWords 1 2 1).toLoadRect) (arg11.view.readCov (kernelRun0_B.sl.HS1_40 c arg5 harg5 x4) (rWords 2 2 1).toLoadRect) (arg11.view.readCov (kernelRun0_B.sl.HS1_40 c arg5 harg5 x4) (rWords 3 2 1).toLoadRect) (View.readAt (Elt F) arg10.view (rLeft 1).toLoadRect (harg10.unread xs0))) from rfl).trans (congrArg₂ addf (acc_2_0 ..) (step_2_1 ..))

theorem step_2_2 : Tile.step (View.readAt (Elt F) arg4.view (rBytes 2 2).toLoadRect (harg4.unread x3)) (arg11.view.readCov (kernelRun0_B.sl.HS1_40 c arg5 harg5 x4) (rWords 0 2 2).toLoadRect) (arg11.view.readCov (kernelRun0_B.sl.HS1_40 c arg5 harg5 x4) (rWords 1 2 2).toLoadRect) (arg11.view.readCov (kernelRun0_B.sl.HS1_40 c arg5 harg5 x4) (rWords 2 2 2).toLoadRect) (arg11.view.readCov (kernelRun0_B.sl.HS1_40 c arg5 harg5 x4) (rWords 3 2 2).toLoadRect) (View.readAt (Elt F) arg10.view (rLeft 2).toLoadRect (harg10.unread xs0)) = stepAt x3 (words x4) xs0 2 2 := by
  rw [View.readAt_eq_ld, harg4.read_unread, View.readCov_eq_canon', View.readCov_eq_canon', View.readCov_eq_canon', View.readCov_eq_canon', View.readAt_eq_ld, harg10.read_unread, wordsCanon]
  rfl

theorem acc_2_2 : (kernelRun0_B.sl.v3381 c arg4 harg4 arg5 harg5 arg10 harg10 arg11 x3 x4 xs0) = acc x3 (words x4) xs0 2 2 (by omega) :=
  (show (kernelRun0_B.sl.v3381 c arg4 harg4 arg5 harg5 arg10 harg10 arg11 x3 x4 xs0) = addf (kernelRun0_B.sl.v3301 c arg4 harg4 arg5 harg5 arg10 harg10 arg11 x3 x4 xs0) (Tile.step (View.readAt (Elt F) arg4.view (rBytes 2 2).toLoadRect (harg4.unread x3)) (arg11.view.readCov (kernelRun0_B.sl.HS1_40 c arg5 harg5 x4) (rWords 0 2 2).toLoadRect) (arg11.view.readCov (kernelRun0_B.sl.HS1_40 c arg5 harg5 x4) (rWords 1 2 2).toLoadRect) (arg11.view.readCov (kernelRun0_B.sl.HS1_40 c arg5 harg5 x4) (rWords 2 2 2).toLoadRect) (arg11.view.readCov (kernelRun0_B.sl.HS1_40 c arg5 harg5 x4) (rWords 3 2 2).toLoadRect) (View.readAt (Elt F) arg10.view (rLeft 2).toLoadRect (harg10.unread xs0))) from rfl).trans (congrArg₂ addf (acc_2_1 ..) (step_2_2 ..))

theorem step_2_3 : Tile.step (View.readAt (Elt F) arg4.view (rBytes 2 3).toLoadRect (harg4.unread x3)) (arg11.view.readCov (kernelRun0_B.sl.HS1_40 c arg5 harg5 x4) (rWords 0 2 3).toLoadRect) (arg11.view.readCov (kernelRun0_B.sl.HS1_40 c arg5 harg5 x4) (rWords 1 2 3).toLoadRect) (arg11.view.readCov (kernelRun0_B.sl.HS1_40 c arg5 harg5 x4) (rWords 2 2 3).toLoadRect) (arg11.view.readCov (kernelRun0_B.sl.HS1_40 c arg5 harg5 x4) (rWords 3 2 3).toLoadRect) (View.readAt (Elt F) arg10.view (rLeft 3).toLoadRect (harg10.unread xs0)) = stepAt x3 (words x4) xs0 2 3 := by
  rw [View.readAt_eq_ld, harg4.read_unread, View.readCov_eq_canon', View.readCov_eq_canon', View.readCov_eq_canon', View.readCov_eq_canon', View.readAt_eq_ld, harg10.read_unread, wordsCanon]
  rfl

theorem acc_2_3 : (kernelRun0_B.sl.v3461 c arg4 harg4 arg5 harg5 arg10 harg10 arg11 x3 x4 xs0) = acc x3 (words x4) xs0 2 3 (by omega) :=
  (show (kernelRun0_B.sl.v3461 c arg4 harg4 arg5 harg5 arg10 harg10 arg11 x3 x4 xs0) = addf (kernelRun0_B.sl.v3381 c arg4 harg4 arg5 harg5 arg10 harg10 arg11 x3 x4 xs0) (Tile.step (View.readAt (Elt F) arg4.view (rBytes 2 3).toLoadRect (harg4.unread x3)) (arg11.view.readCov (kernelRun0_B.sl.HS1_40 c arg5 harg5 x4) (rWords 0 2 3).toLoadRect) (arg11.view.readCov (kernelRun0_B.sl.HS1_40 c arg5 harg5 x4) (rWords 1 2 3).toLoadRect) (arg11.view.readCov (kernelRun0_B.sl.HS1_40 c arg5 harg5 x4) (rWords 2 2 3).toLoadRect) (arg11.view.readCov (kernelRun0_B.sl.HS1_40 c arg5 harg5 x4) (rWords 3 2 3).toLoadRect) (View.readAt (Elt F) arg10.view (rLeft 3).toLoadRect (harg10.unread xs0))) from rfl).trans (congrArg₂ addf (acc_2_2 ..) (step_2_3 ..))

theorem step_2_4 : Tile.step (View.readAt (Elt F) arg4.view (rBytes 2 4).toLoadRect (harg4.unread x3)) (arg11.view.readCov (kernelRun0_B.sl.HS1_40 c arg5 harg5 x4) (rWords 0 2 4).toLoadRect) (arg11.view.readCov (kernelRun0_B.sl.HS1_40 c arg5 harg5 x4) (rWords 1 2 4).toLoadRect) (arg11.view.readCov (kernelRun0_B.sl.HS1_40 c arg5 harg5 x4) (rWords 2 2 4).toLoadRect) (arg11.view.readCov (kernelRun0_B.sl.HS1_40 c arg5 harg5 x4) (rWords 3 2 4).toLoadRect) (View.readAt (Elt F) arg10.view (rLeft 4).toLoadRect (harg10.unread xs0)) = stepAt x3 (words x4) xs0 2 4 := by
  rw [View.readAt_eq_ld, harg4.read_unread, View.readCov_eq_canon', View.readCov_eq_canon', View.readCov_eq_canon', View.readCov_eq_canon', View.readAt_eq_ld, harg10.read_unread, wordsCanon]
  rfl

theorem acc_2_4 : (kernelRun0_B.sl.v3541 c arg4 harg4 arg5 harg5 arg10 harg10 arg11 x3 x4 xs0) = acc x3 (words x4) xs0 2 4 (by omega) :=
  (show (kernelRun0_B.sl.v3541 c arg4 harg4 arg5 harg5 arg10 harg10 arg11 x3 x4 xs0) = addf (kernelRun0_B.sl.v3461 c arg4 harg4 arg5 harg5 arg10 harg10 arg11 x3 x4 xs0) (Tile.step (View.readAt (Elt F) arg4.view (rBytes 2 4).toLoadRect (harg4.unread x3)) (arg11.view.readCov (kernelRun0_B.sl.HS1_40 c arg5 harg5 x4) (rWords 0 2 4).toLoadRect) (arg11.view.readCov (kernelRun0_B.sl.HS1_40 c arg5 harg5 x4) (rWords 1 2 4).toLoadRect) (arg11.view.readCov (kernelRun0_B.sl.HS1_40 c arg5 harg5 x4) (rWords 2 2 4).toLoadRect) (arg11.view.readCov (kernelRun0_B.sl.HS1_40 c arg5 harg5 x4) (rWords 3 2 4).toLoadRect) (View.readAt (Elt F) arg10.view (rLeft 4).toLoadRect (harg10.unread xs0))) from rfl).trans (congrArg₂ addf (acc_2_3 ..) (step_2_4 ..))

theorem step_2_5 : Tile.step (View.readAt (Elt F) arg4.view (rBytes 2 5).toLoadRect (harg4.unread x3)) (arg11.view.readCov (kernelRun0_B.sl.HS1_40 c arg5 harg5 x4) (rWords 0 2 5).toLoadRect) (arg11.view.readCov (kernelRun0_B.sl.HS1_40 c arg5 harg5 x4) (rWords 1 2 5).toLoadRect) (arg11.view.readCov (kernelRun0_B.sl.HS1_40 c arg5 harg5 x4) (rWords 2 2 5).toLoadRect) (arg11.view.readCov (kernelRun0_B.sl.HS1_40 c arg5 harg5 x4) (rWords 3 2 5).toLoadRect) (View.readAt (Elt F) arg10.view (rLeft 5).toLoadRect (harg10.unread xs0)) = stepAt x3 (words x4) xs0 2 5 := by
  rw [View.readAt_eq_ld, harg4.read_unread, View.readCov_eq_canon', View.readCov_eq_canon', View.readCov_eq_canon', View.readCov_eq_canon', View.readAt_eq_ld, harg10.read_unread, wordsCanon]
  rfl

theorem acc_2_5 : (kernelRun0_B.sl.v3621 c arg4 harg4 arg5 harg5 arg10 harg10 arg11 x3 x4 xs0) = acc x3 (words x4) xs0 2 5 (by omega) :=
  (show (kernelRun0_B.sl.v3621 c arg4 harg4 arg5 harg5 arg10 harg10 arg11 x3 x4 xs0) = addf (kernelRun0_B.sl.v3541 c arg4 harg4 arg5 harg5 arg10 harg10 arg11 x3 x4 xs0) (Tile.step (View.readAt (Elt F) arg4.view (rBytes 2 5).toLoadRect (harg4.unread x3)) (arg11.view.readCov (kernelRun0_B.sl.HS1_40 c arg5 harg5 x4) (rWords 0 2 5).toLoadRect) (arg11.view.readCov (kernelRun0_B.sl.HS1_40 c arg5 harg5 x4) (rWords 1 2 5).toLoadRect) (arg11.view.readCov (kernelRun0_B.sl.HS1_40 c arg5 harg5 x4) (rWords 2 2 5).toLoadRect) (arg11.view.readCov (kernelRun0_B.sl.HS1_40 c arg5 harg5 x4) (rWords 3 2 5).toLoadRect) (View.readAt (Elt F) arg10.view (rLeft 5).toLoadRect (harg10.unread xs0))) from rfl).trans (congrArg₂ addf (acc_2_4 ..) (step_2_5 ..))

theorem step_2_6 : Tile.step (View.readAt (Elt F) arg4.view (rBytes 2 6).toLoadRect (harg4.unread x3)) (arg11.view.readCov (kernelRun0_B.sl.HS1_40 c arg5 harg5 x4) (rWords 0 2 6).toLoadRect) (arg11.view.readCov (kernelRun0_B.sl.HS1_40 c arg5 harg5 x4) (rWords 1 2 6).toLoadRect) (arg11.view.readCov (kernelRun0_B.sl.HS1_40 c arg5 harg5 x4) (rWords 2 2 6).toLoadRect) (arg11.view.readCov (kernelRun0_B.sl.HS1_40 c arg5 harg5 x4) (rWords 3 2 6).toLoadRect) (View.readAt (Elt F) arg10.view (rLeft 6).toLoadRect (harg10.unread xs0)) = stepAt x3 (words x4) xs0 2 6 := by
  rw [View.readAt_eq_ld, harg4.read_unread, View.readCov_eq_canon', View.readCov_eq_canon', View.readCov_eq_canon', View.readCov_eq_canon', View.readAt_eq_ld, harg10.read_unread, wordsCanon]
  rfl

theorem acc_2_6 : (kernelRun0_B.sl.v3701 c arg4 harg4 arg5 harg5 arg10 harg10 arg11 x3 x4 xs0) = acc x3 (words x4) xs0 2 6 (by omega) :=
  (show (kernelRun0_B.sl.v3701 c arg4 harg4 arg5 harg5 arg10 harg10 arg11 x3 x4 xs0) = addf (kernelRun0_B.sl.v3621 c arg4 harg4 arg5 harg5 arg10 harg10 arg11 x3 x4 xs0) (Tile.step (View.readAt (Elt F) arg4.view (rBytes 2 6).toLoadRect (harg4.unread x3)) (arg11.view.readCov (kernelRun0_B.sl.HS1_40 c arg5 harg5 x4) (rWords 0 2 6).toLoadRect) (arg11.view.readCov (kernelRun0_B.sl.HS1_40 c arg5 harg5 x4) (rWords 1 2 6).toLoadRect) (arg11.view.readCov (kernelRun0_B.sl.HS1_40 c arg5 harg5 x4) (rWords 2 2 6).toLoadRect) (arg11.view.readCov (kernelRun0_B.sl.HS1_40 c arg5 harg5 x4) (rWords 3 2 6).toLoadRect) (View.readAt (Elt F) arg10.view (rLeft 6).toLoadRect (harg10.unread xs0))) from rfl).trans (congrArg₂ addf (acc_2_5 ..) (step_2_6 ..))

theorem step_2_7 : Tile.step (View.readAt (Elt F) arg4.view (rBytes 2 7).toLoadRect (harg4.unread x3)) (arg11.view.readCov (kernelRun0_B.sl.HS1_40 c arg5 harg5 x4) (rWords 0 2 7).toLoadRect) (arg11.view.readCov (kernelRun0_B.sl.HS1_40 c arg5 harg5 x4) (rWords 1 2 7).toLoadRect) (arg11.view.readCov (kernelRun0_B.sl.HS1_40 c arg5 harg5 x4) (rWords 2 2 7).toLoadRect) (arg11.view.readCov (kernelRun0_B.sl.HS1_40 c arg5 harg5 x4) (rWords 3 2 7).toLoadRect) (View.readAt (Elt F) arg10.view (rLeft 7).toLoadRect (harg10.unread xs0)) = stepAt x3 (words x4) xs0 2 7 := by
  rw [View.readAt_eq_ld, harg4.read_unread, View.readCov_eq_canon', View.readCov_eq_canon', View.readCov_eq_canon', View.readCov_eq_canon', View.readAt_eq_ld, harg10.read_unread, wordsCanon]
  rfl

theorem acc_2_7 : (kernelRun0_B.sl.v3781 c arg4 harg4 arg5 harg5 arg10 harg10 arg11 x3 x4 xs0) = acc x3 (words x4) xs0 2 7 (by omega) :=
  (show (kernelRun0_B.sl.v3781 c arg4 harg4 arg5 harg5 arg10 harg10 arg11 x3 x4 xs0) = addf (kernelRun0_B.sl.v3701 c arg4 harg4 arg5 harg5 arg10 harg10 arg11 x3 x4 xs0) (Tile.step (View.readAt (Elt F) arg4.view (rBytes 2 7).toLoadRect (harg4.unread x3)) (arg11.view.readCov (kernelRun0_B.sl.HS1_40 c arg5 harg5 x4) (rWords 0 2 7).toLoadRect) (arg11.view.readCov (kernelRun0_B.sl.HS1_40 c arg5 harg5 x4) (rWords 1 2 7).toLoadRect) (arg11.view.readCov (kernelRun0_B.sl.HS1_40 c arg5 harg5 x4) (rWords 2 2 7).toLoadRect) (arg11.view.readCov (kernelRun0_B.sl.HS1_40 c arg5 harg5 x4) (rWords 3 2 7).toLoadRect) (View.readAt (Elt F) arg10.view (rLeft 7).toLoadRect (harg10.unread xs0))) from rfl).trans (congrArg₂ addf (acc_2_6 ..) (step_2_7 ..))

theorem step_2_8 : Tile.step (View.readAt (Elt F) arg4.view (rBytes 2 8).toLoadRect (harg4.unread x3)) (arg11.view.readCov (kernelRun0_B.sl.HS1_40 c arg5 harg5 x4) (rWords 0 2 8).toLoadRect) (arg11.view.readCov (kernelRun0_B.sl.HS1_40 c arg5 harg5 x4) (rWords 1 2 8).toLoadRect) (arg11.view.readCov (kernelRun0_B.sl.HS1_40 c arg5 harg5 x4) (rWords 2 2 8).toLoadRect) (arg11.view.readCov (kernelRun0_B.sl.HS1_40 c arg5 harg5 x4) (rWords 3 2 8).toLoadRect) (View.readAt (Elt F) arg10.view (rLeft 8).toLoadRect (harg10.unread xs0)) = stepAt x3 (words x4) xs0 2 8 := by
  rw [View.readAt_eq_ld, harg4.read_unread, View.readCov_eq_canon', View.readCov_eq_canon', View.readCov_eq_canon', View.readCov_eq_canon', View.readAt_eq_ld, harg10.read_unread, wordsCanon]
  rfl

theorem acc_2_8 : (kernelRun0_B.sl.v3861 c arg4 harg4 arg5 harg5 arg10 harg10 arg11 x3 x4 xs0) = acc x3 (words x4) xs0 2 8 (by omega) :=
  (show (kernelRun0_B.sl.v3861 c arg4 harg4 arg5 harg5 arg10 harg10 arg11 x3 x4 xs0) = addf (kernelRun0_B.sl.v3781 c arg4 harg4 arg5 harg5 arg10 harg10 arg11 x3 x4 xs0) (Tile.step (View.readAt (Elt F) arg4.view (rBytes 2 8).toLoadRect (harg4.unread x3)) (arg11.view.readCov (kernelRun0_B.sl.HS1_40 c arg5 harg5 x4) (rWords 0 2 8).toLoadRect) (arg11.view.readCov (kernelRun0_B.sl.HS1_40 c arg5 harg5 x4) (rWords 1 2 8).toLoadRect) (arg11.view.readCov (kernelRun0_B.sl.HS1_40 c arg5 harg5 x4) (rWords 2 2 8).toLoadRect) (arg11.view.readCov (kernelRun0_B.sl.HS1_40 c arg5 harg5 x4) (rWords 3 2 8).toLoadRect) (View.readAt (Elt F) arg10.view (rLeft 8).toLoadRect (harg10.unread xs0))) from rfl).trans (congrArg₂ addf (acc_2_7 ..) (step_2_8 ..))

theorem step_2_9 : Tile.step (View.readAt (Elt F) arg4.view (rBytes 2 9).toLoadRect (harg4.unread x3)) (arg11.view.readCov (kernelRun0_B.sl.HS1_40 c arg5 harg5 x4) (rWords 0 2 9).toLoadRect) (arg11.view.readCov (kernelRun0_B.sl.HS1_40 c arg5 harg5 x4) (rWords 1 2 9).toLoadRect) (arg11.view.readCov (kernelRun0_B.sl.HS1_40 c arg5 harg5 x4) (rWords 2 2 9).toLoadRect) (arg11.view.readCov (kernelRun0_B.sl.HS1_40 c arg5 harg5 x4) (rWords 3 2 9).toLoadRect) (View.readAt (Elt F) arg10.view (rLeft 9).toLoadRect (harg10.unread xs0)) = stepAt x3 (words x4) xs0 2 9 := by
  rw [View.readAt_eq_ld, harg4.read_unread, View.readCov_eq_canon', View.readCov_eq_canon', View.readCov_eq_canon', View.readCov_eq_canon', View.readAt_eq_ld, harg10.read_unread, wordsCanon]
  rfl

theorem acc_2_9 : (kernelRun0_B.sl.v3941 c arg4 harg4 arg5 harg5 arg10 harg10 arg11 x3 x4 xs0) = acc x3 (words x4) xs0 2 9 (by omega) :=
  (show (kernelRun0_B.sl.v3941 c arg4 harg4 arg5 harg5 arg10 harg10 arg11 x3 x4 xs0) = addf (kernelRun0_B.sl.v3861 c arg4 harg4 arg5 harg5 arg10 harg10 arg11 x3 x4 xs0) (Tile.step (View.readAt (Elt F) arg4.view (rBytes 2 9).toLoadRect (harg4.unread x3)) (arg11.view.readCov (kernelRun0_B.sl.HS1_40 c arg5 harg5 x4) (rWords 0 2 9).toLoadRect) (arg11.view.readCov (kernelRun0_B.sl.HS1_40 c arg5 harg5 x4) (rWords 1 2 9).toLoadRect) (arg11.view.readCov (kernelRun0_B.sl.HS1_40 c arg5 harg5 x4) (rWords 2 2 9).toLoadRect) (arg11.view.readCov (kernelRun0_B.sl.HS1_40 c arg5 harg5 x4) (rWords 3 2 9).toLoadRect) (View.readAt (Elt F) arg10.view (rLeft 9).toLoadRect (harg10.unread xs0))) from rfl).trans (congrArg₂ addf (acc_2_8 ..) (step_2_9 ..))

theorem step_2_10 : Tile.step (View.readAt (Elt F) arg4.view (rBytes 2 10).toLoadRect (harg4.unread x3)) (arg11.view.readCov (kernelRun0_B.sl.HS1_40 c arg5 harg5 x4) (rWords 0 2 10).toLoadRect) (arg11.view.readCov (kernelRun0_B.sl.HS1_40 c arg5 harg5 x4) (rWords 1 2 10).toLoadRect) (arg11.view.readCov (kernelRun0_B.sl.HS1_40 c arg5 harg5 x4) (rWords 2 2 10).toLoadRect) (arg11.view.readCov (kernelRun0_B.sl.HS1_40 c arg5 harg5 x4) (rWords 3 2 10).toLoadRect) (View.readAt (Elt F) arg10.view (rLeft 10).toLoadRect (harg10.unread xs0)) = stepAt x3 (words x4) xs0 2 10 := by
  rw [View.readAt_eq_ld, harg4.read_unread, View.readCov_eq_canon', View.readCov_eq_canon', View.readCov_eq_canon', View.readCov_eq_canon', View.readAt_eq_ld, harg10.read_unread, wordsCanon]
  rfl

theorem acc_2_10 : (kernelRun0_B.sl.v4021 c arg4 harg4 arg5 harg5 arg10 harg10 arg11 x3 x4 xs0) = acc x3 (words x4) xs0 2 10 (by omega) :=
  (show (kernelRun0_B.sl.v4021 c arg4 harg4 arg5 harg5 arg10 harg10 arg11 x3 x4 xs0) = addf (kernelRun0_B.sl.v3941 c arg4 harg4 arg5 harg5 arg10 harg10 arg11 x3 x4 xs0) (Tile.step (View.readAt (Elt F) arg4.view (rBytes 2 10).toLoadRect (harg4.unread x3)) (arg11.view.readCov (kernelRun0_B.sl.HS1_40 c arg5 harg5 x4) (rWords 0 2 10).toLoadRect) (arg11.view.readCov (kernelRun0_B.sl.HS1_40 c arg5 harg5 x4) (rWords 1 2 10).toLoadRect) (arg11.view.readCov (kernelRun0_B.sl.HS1_40 c arg5 harg5 x4) (rWords 2 2 10).toLoadRect) (arg11.view.readCov (kernelRun0_B.sl.HS1_40 c arg5 harg5 x4) (rWords 3 2 10).toLoadRect) (View.readAt (Elt F) arg10.view (rLeft 10).toLoadRect (harg10.unread xs0))) from rfl).trans (congrArg₂ addf (acc_2_9 ..) (step_2_10 ..))

theorem step_2_11 : Tile.step (View.readAt (Elt F) arg4.view (rBytes 2 11).toLoadRect (harg4.unread x3)) (arg11.view.readCov (kernelRun0_B.sl.HS1_40 c arg5 harg5 x4) (rWords 0 2 11).toLoadRect) (arg11.view.readCov (kernelRun0_B.sl.HS1_40 c arg5 harg5 x4) (rWords 1 2 11).toLoadRect) (arg11.view.readCov (kernelRun0_B.sl.HS1_40 c arg5 harg5 x4) (rWords 2 2 11).toLoadRect) (arg11.view.readCov (kernelRun0_B.sl.HS1_40 c arg5 harg5 x4) (rWords 3 2 11).toLoadRect) (View.readAt (Elt F) arg10.view (rLeft 11).toLoadRect (harg10.unread xs0)) = stepAt x3 (words x4) xs0 2 11 := by
  rw [View.readAt_eq_ld, harg4.read_unread, View.readCov_eq_canon', View.readCov_eq_canon', View.readCov_eq_canon', View.readCov_eq_canon', View.readAt_eq_ld, harg10.read_unread, wordsCanon]
  rfl

theorem plane_4 : act0 (addf (kernelRun0_B.sl.v4021 c arg4 harg4 arg5 harg5 arg10 harg10 arg11 x3 x4 xs0) (Tile.step (View.readAt (Elt F) arg4.view (rBytes 2 11).toLoadRect (harg4.unread x3)) (arg11.view.readCov (kernelRun0_B.sl.HS1_40 c arg5 harg5 x4) (rWords 0 2 11).toLoadRect) (arg11.view.readCov (kernelRun0_B.sl.HS1_40 c arg5 harg5 x4) (rWords 1 2 11).toLoadRect) (arg11.view.readCov (kernelRun0_B.sl.HS1_40 c arg5 harg5 x4) (rWords 2 2 11).toLoadRect) (arg11.view.readCov (kernelRun0_B.sl.HS1_40 c arg5 harg5 x4) (rWords 3 2 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 4).toLoadRect (harg6.unread x5)) = plane x3 (words x4) xs0 x1 x2 x5 4 := by
  rw [acc_2_10, step_2_11, rowScaleWord, gateWord, View.readAt_eq_ld, harg6.read_unread]
  rfl

theorem plane_5 : act1 (addf (kernelRun0_B.sl.v4021 c arg4 harg4 arg5 harg5 arg10 harg10 arg11 x3 x4 xs0) (Tile.step (View.readAt (Elt F) arg4.view (rBytes 2 11).toLoadRect (harg4.unread x3)) (arg11.view.readCov (kernelRun0_B.sl.HS1_40 c arg5 harg5 x4) (rWords 0 2 11).toLoadRect) (arg11.view.readCov (kernelRun0_B.sl.HS1_40 c arg5 harg5 x4) (rWords 1 2 11).toLoadRect) (arg11.view.readCov (kernelRun0_B.sl.HS1_40 c arg5 harg5 x4) (rWords 2 2 11).toLoadRect) (arg11.view.readCov (kernelRun0_B.sl.HS1_40 c arg5 harg5 x4) (rWords 3 2 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 5).toLoadRect (harg6.unread x5)) = plane x3 (words x4) xs0 x1 x2 x5 5 := by
  rw [acc_2_10, step_2_11, rowScaleWord, gateWord, View.readAt_eq_ld, harg6.read_unread]
  rfl

theorem step_3_0 : Tile.step (View.readAt (Elt F) arg4.view (rBytes 3 0).toLoadRect (harg4.unread x3)) (arg11.view.readCov (kernelRun0_B.sl.HS1_40 c arg5 harg5 x4) (rWords 0 3 0).toLoadRect) (arg11.view.readCov (kernelRun0_B.sl.HS1_40 c arg5 harg5 x4) (rWords 1 3 0).toLoadRect) (arg11.view.readCov (kernelRun0_B.sl.HS1_40 c arg5 harg5 x4) (rWords 2 3 0).toLoadRect) (arg11.view.readCov (kernelRun0_B.sl.HS1_40 c arg5 harg5 x4) (rWords 3 3 0).toLoadRect) (View.readAt (Elt F) arg10.view (rLeft 0).toLoadRect (harg10.unread xs0)) = stepAt x3 (words x4) xs0 3 0 := by
  rw [View.readAt_eq_ld, harg4.read_unread, View.readCov_eq_canon', View.readCov_eq_canon', View.readCov_eq_canon', View.readCov_eq_canon', View.readAt_eq_ld, harg10.read_unread, wordsCanon]
  rfl

theorem acc_3_0 : (kernelRun0_B.sl.v4216 c arg4 harg4 arg5 harg5 arg10 harg10 arg11 x3 x4 xs0) = acc x3 (words x4) xs0 3 0 (by omega) :=
  (show (kernelRun0_B.sl.v4216 c arg4 harg4 arg5 harg5 arg10 harg10 arg11 x3 x4 xs0) = Tile.step (View.readAt (Elt F) arg4.view (rBytes 3 0).toLoadRect (harg4.unread x3)) (arg11.view.readCov (kernelRun0_B.sl.HS1_40 c arg5 harg5 x4) (rWords 0 3 0).toLoadRect) (arg11.view.readCov (kernelRun0_B.sl.HS1_40 c arg5 harg5 x4) (rWords 1 3 0).toLoadRect) (arg11.view.readCov (kernelRun0_B.sl.HS1_40 c arg5 harg5 x4) (rWords 2 3 0).toLoadRect) (arg11.view.readCov (kernelRun0_B.sl.HS1_40 c arg5 harg5 x4) (rWords 3 3 0).toLoadRect) (View.readAt (Elt F) arg10.view (rLeft 0).toLoadRect (harg10.unread xs0)) from rfl).trans (step_3_0 ..)

theorem step_3_1 : Tile.step (View.readAt (Elt F) arg4.view (rBytes 3 1).toLoadRect (harg4.unread x3)) (arg11.view.readCov (kernelRun0_B.sl.HS1_40 c arg5 harg5 x4) (rWords 0 3 1).toLoadRect) (arg11.view.readCov (kernelRun0_B.sl.HS1_40 c arg5 harg5 x4) (rWords 1 3 1).toLoadRect) (arg11.view.readCov (kernelRun0_B.sl.HS1_40 c arg5 harg5 x4) (rWords 2 3 1).toLoadRect) (arg11.view.readCov (kernelRun0_B.sl.HS1_40 c arg5 harg5 x4) (rWords 3 3 1).toLoadRect) (View.readAt (Elt F) arg10.view (rLeft 1).toLoadRect (harg10.unread xs0)) = stepAt x3 (words x4) xs0 3 1 := by
  rw [View.readAt_eq_ld, harg4.read_unread, View.readCov_eq_canon', View.readCov_eq_canon', View.readCov_eq_canon', View.readCov_eq_canon', View.readAt_eq_ld, harg10.read_unread, wordsCanon]
  rfl

theorem acc_3_1 : (kernelRun0_B.sl.v4296 c arg4 harg4 arg5 harg5 arg10 harg10 arg11 x3 x4 xs0) = acc x3 (words x4) xs0 3 1 (by omega) :=
  (show (kernelRun0_B.sl.v4296 c arg4 harg4 arg5 harg5 arg10 harg10 arg11 x3 x4 xs0) = addf (kernelRun0_B.sl.v4216 c arg4 harg4 arg5 harg5 arg10 harg10 arg11 x3 x4 xs0) (Tile.step (View.readAt (Elt F) arg4.view (rBytes 3 1).toLoadRect (harg4.unread x3)) (arg11.view.readCov (kernelRun0_B.sl.HS1_40 c arg5 harg5 x4) (rWords 0 3 1).toLoadRect) (arg11.view.readCov (kernelRun0_B.sl.HS1_40 c arg5 harg5 x4) (rWords 1 3 1).toLoadRect) (arg11.view.readCov (kernelRun0_B.sl.HS1_40 c arg5 harg5 x4) (rWords 2 3 1).toLoadRect) (arg11.view.readCov (kernelRun0_B.sl.HS1_40 c arg5 harg5 x4) (rWords 3 3 1).toLoadRect) (View.readAt (Elt F) arg10.view (rLeft 1).toLoadRect (harg10.unread xs0))) from rfl).trans (congrArg₂ addf (acc_3_0 ..) (step_3_1 ..))

theorem step_3_2 : Tile.step (View.readAt (Elt F) arg4.view (rBytes 3 2).toLoadRect (harg4.unread x3)) (arg11.view.readCov (kernelRun0_B.sl.HS1_40 c arg5 harg5 x4) (rWords 0 3 2).toLoadRect) (arg11.view.readCov (kernelRun0_B.sl.HS1_40 c arg5 harg5 x4) (rWords 1 3 2).toLoadRect) (arg11.view.readCov (kernelRun0_B.sl.HS1_40 c arg5 harg5 x4) (rWords 2 3 2).toLoadRect) (arg11.view.readCov (kernelRun0_B.sl.HS1_40 c arg5 harg5 x4) (rWords 3 3 2).toLoadRect) (View.readAt (Elt F) arg10.view (rLeft 2).toLoadRect (harg10.unread xs0)) = stepAt x3 (words x4) xs0 3 2 := by
  rw [View.readAt_eq_ld, harg4.read_unread, View.readCov_eq_canon', View.readCov_eq_canon', View.readCov_eq_canon', View.readCov_eq_canon', View.readAt_eq_ld, harg10.read_unread, wordsCanon]
  rfl

theorem acc_3_2 : (kernelRun0_B.sl.v4376 c arg4 harg4 arg5 harg5 arg10 harg10 arg11 x3 x4 xs0) = acc x3 (words x4) xs0 3 2 (by omega) :=
  (show (kernelRun0_B.sl.v4376 c arg4 harg4 arg5 harg5 arg10 harg10 arg11 x3 x4 xs0) = addf (kernelRun0_B.sl.v4296 c arg4 harg4 arg5 harg5 arg10 harg10 arg11 x3 x4 xs0) (Tile.step (View.readAt (Elt F) arg4.view (rBytes 3 2).toLoadRect (harg4.unread x3)) (arg11.view.readCov (kernelRun0_B.sl.HS1_40 c arg5 harg5 x4) (rWords 0 3 2).toLoadRect) (arg11.view.readCov (kernelRun0_B.sl.HS1_40 c arg5 harg5 x4) (rWords 1 3 2).toLoadRect) (arg11.view.readCov (kernelRun0_B.sl.HS1_40 c arg5 harg5 x4) (rWords 2 3 2).toLoadRect) (arg11.view.readCov (kernelRun0_B.sl.HS1_40 c arg5 harg5 x4) (rWords 3 3 2).toLoadRect) (View.readAt (Elt F) arg10.view (rLeft 2).toLoadRect (harg10.unread xs0))) from rfl).trans (congrArg₂ addf (acc_3_1 ..) (step_3_2 ..))

theorem step_3_3 : Tile.step (View.readAt (Elt F) arg4.view (rBytes 3 3).toLoadRect (harg4.unread x3)) (arg11.view.readCov (kernelRun0_B.sl.HS1_40 c arg5 harg5 x4) (rWords 0 3 3).toLoadRect) (arg11.view.readCov (kernelRun0_B.sl.HS1_40 c arg5 harg5 x4) (rWords 1 3 3).toLoadRect) (arg11.view.readCov (kernelRun0_B.sl.HS1_40 c arg5 harg5 x4) (rWords 2 3 3).toLoadRect) (arg11.view.readCov (kernelRun0_B.sl.HS1_40 c arg5 harg5 x4) (rWords 3 3 3).toLoadRect) (View.readAt (Elt F) arg10.view (rLeft 3).toLoadRect (harg10.unread xs0)) = stepAt x3 (words x4) xs0 3 3 := by
  rw [View.readAt_eq_ld, harg4.read_unread, View.readCov_eq_canon', View.readCov_eq_canon', View.readCov_eq_canon', View.readCov_eq_canon', View.readAt_eq_ld, harg10.read_unread, wordsCanon]
  rfl

theorem acc_3_3 : (kernelRun0_B.sl.v4456 c arg4 harg4 arg5 harg5 arg10 harg10 arg11 x3 x4 xs0) = acc x3 (words x4) xs0 3 3 (by omega) :=
  (show (kernelRun0_B.sl.v4456 c arg4 harg4 arg5 harg5 arg10 harg10 arg11 x3 x4 xs0) = addf (kernelRun0_B.sl.v4376 c arg4 harg4 arg5 harg5 arg10 harg10 arg11 x3 x4 xs0) (Tile.step (View.readAt (Elt F) arg4.view (rBytes 3 3).toLoadRect (harg4.unread x3)) (arg11.view.readCov (kernelRun0_B.sl.HS1_40 c arg5 harg5 x4) (rWords 0 3 3).toLoadRect) (arg11.view.readCov (kernelRun0_B.sl.HS1_40 c arg5 harg5 x4) (rWords 1 3 3).toLoadRect) (arg11.view.readCov (kernelRun0_B.sl.HS1_40 c arg5 harg5 x4) (rWords 2 3 3).toLoadRect) (arg11.view.readCov (kernelRun0_B.sl.HS1_40 c arg5 harg5 x4) (rWords 3 3 3).toLoadRect) (View.readAt (Elt F) arg10.view (rLeft 3).toLoadRect (harg10.unread xs0))) from rfl).trans (congrArg₂ addf (acc_3_2 ..) (step_3_3 ..))

theorem step_3_4 : Tile.step (View.readAt (Elt F) arg4.view (rBytes 3 4).toLoadRect (harg4.unread x3)) (arg11.view.readCov (kernelRun0_B.sl.HS1_40 c arg5 harg5 x4) (rWords 0 3 4).toLoadRect) (arg11.view.readCov (kernelRun0_B.sl.HS1_40 c arg5 harg5 x4) (rWords 1 3 4).toLoadRect) (arg11.view.readCov (kernelRun0_B.sl.HS1_40 c arg5 harg5 x4) (rWords 2 3 4).toLoadRect) (arg11.view.readCov (kernelRun0_B.sl.HS1_40 c arg5 harg5 x4) (rWords 3 3 4).toLoadRect) (View.readAt (Elt F) arg10.view (rLeft 4).toLoadRect (harg10.unread xs0)) = stepAt x3 (words x4) xs0 3 4 := by
  rw [View.readAt_eq_ld, harg4.read_unread, View.readCov_eq_canon', View.readCov_eq_canon', View.readCov_eq_canon', View.readCov_eq_canon', View.readAt_eq_ld, harg10.read_unread, wordsCanon]
  rfl

theorem acc_3_4 : (kernelRun0_B.sl.v4536 c arg4 harg4 arg5 harg5 arg10 harg10 arg11 x3 x4 xs0) = acc x3 (words x4) xs0 3 4 (by omega) :=
  (show (kernelRun0_B.sl.v4536 c arg4 harg4 arg5 harg5 arg10 harg10 arg11 x3 x4 xs0) = addf (kernelRun0_B.sl.v4456 c arg4 harg4 arg5 harg5 arg10 harg10 arg11 x3 x4 xs0) (Tile.step (View.readAt (Elt F) arg4.view (rBytes 3 4).toLoadRect (harg4.unread x3)) (arg11.view.readCov (kernelRun0_B.sl.HS1_40 c arg5 harg5 x4) (rWords 0 3 4).toLoadRect) (arg11.view.readCov (kernelRun0_B.sl.HS1_40 c arg5 harg5 x4) (rWords 1 3 4).toLoadRect) (arg11.view.readCov (kernelRun0_B.sl.HS1_40 c arg5 harg5 x4) (rWords 2 3 4).toLoadRect) (arg11.view.readCov (kernelRun0_B.sl.HS1_40 c arg5 harg5 x4) (rWords 3 3 4).toLoadRect) (View.readAt (Elt F) arg10.view (rLeft 4).toLoadRect (harg10.unread xs0))) from rfl).trans (congrArg₂ addf (acc_3_3 ..) (step_3_4 ..))

theorem step_3_5 : Tile.step (View.readAt (Elt F) arg4.view (rBytes 3 5).toLoadRect (harg4.unread x3)) (arg11.view.readCov (kernelRun0_B.sl.HS1_40 c arg5 harg5 x4) (rWords 0 3 5).toLoadRect) (arg11.view.readCov (kernelRun0_B.sl.HS1_40 c arg5 harg5 x4) (rWords 1 3 5).toLoadRect) (arg11.view.readCov (kernelRun0_B.sl.HS1_40 c arg5 harg5 x4) (rWords 2 3 5).toLoadRect) (arg11.view.readCov (kernelRun0_B.sl.HS1_40 c arg5 harg5 x4) (rWords 3 3 5).toLoadRect) (View.readAt (Elt F) arg10.view (rLeft 5).toLoadRect (harg10.unread xs0)) = stepAt x3 (words x4) xs0 3 5 := by
  rw [View.readAt_eq_ld, harg4.read_unread, View.readCov_eq_canon', View.readCov_eq_canon', View.readCov_eq_canon', View.readCov_eq_canon', View.readAt_eq_ld, harg10.read_unread, wordsCanon]
  rfl

theorem acc_3_5 : (kernelRun0_B.sl.v4616 c arg4 harg4 arg5 harg5 arg10 harg10 arg11 x3 x4 xs0) = acc x3 (words x4) xs0 3 5 (by omega) :=
  (show (kernelRun0_B.sl.v4616 c arg4 harg4 arg5 harg5 arg10 harg10 arg11 x3 x4 xs0) = addf (kernelRun0_B.sl.v4536 c arg4 harg4 arg5 harg5 arg10 harg10 arg11 x3 x4 xs0) (Tile.step (View.readAt (Elt F) arg4.view (rBytes 3 5).toLoadRect (harg4.unread x3)) (arg11.view.readCov (kernelRun0_B.sl.HS1_40 c arg5 harg5 x4) (rWords 0 3 5).toLoadRect) (arg11.view.readCov (kernelRun0_B.sl.HS1_40 c arg5 harg5 x4) (rWords 1 3 5).toLoadRect) (arg11.view.readCov (kernelRun0_B.sl.HS1_40 c arg5 harg5 x4) (rWords 2 3 5).toLoadRect) (arg11.view.readCov (kernelRun0_B.sl.HS1_40 c arg5 harg5 x4) (rWords 3 3 5).toLoadRect) (View.readAt (Elt F) arg10.view (rLeft 5).toLoadRect (harg10.unread xs0))) from rfl).trans (congrArg₂ addf (acc_3_4 ..) (step_3_5 ..))

theorem step_3_6 : Tile.step (View.readAt (Elt F) arg4.view (rBytes 3 6).toLoadRect (harg4.unread x3)) (arg11.view.readCov (kernelRun0_B.sl.HS1_40 c arg5 harg5 x4) (rWords 0 3 6).toLoadRect) (arg11.view.readCov (kernelRun0_B.sl.HS1_40 c arg5 harg5 x4) (rWords 1 3 6).toLoadRect) (arg11.view.readCov (kernelRun0_B.sl.HS1_40 c arg5 harg5 x4) (rWords 2 3 6).toLoadRect) (arg11.view.readCov (kernelRun0_B.sl.HS1_40 c arg5 harg5 x4) (rWords 3 3 6).toLoadRect) (View.readAt (Elt F) arg10.view (rLeft 6).toLoadRect (harg10.unread xs0)) = stepAt x3 (words x4) xs0 3 6 := by
  rw [View.readAt_eq_ld, harg4.read_unread, View.readCov_eq_canon', View.readCov_eq_canon', View.readCov_eq_canon', View.readCov_eq_canon', View.readAt_eq_ld, harg10.read_unread, wordsCanon]
  rfl

theorem acc_3_6 : (kernelRun0_B.sl.v4696 c arg4 harg4 arg5 harg5 arg10 harg10 arg11 x3 x4 xs0) = acc x3 (words x4) xs0 3 6 (by omega) :=
  (show (kernelRun0_B.sl.v4696 c arg4 harg4 arg5 harg5 arg10 harg10 arg11 x3 x4 xs0) = addf (kernelRun0_B.sl.v4616 c arg4 harg4 arg5 harg5 arg10 harg10 arg11 x3 x4 xs0) (Tile.step (View.readAt (Elt F) arg4.view (rBytes 3 6).toLoadRect (harg4.unread x3)) (arg11.view.readCov (kernelRun0_B.sl.HS1_40 c arg5 harg5 x4) (rWords 0 3 6).toLoadRect) (arg11.view.readCov (kernelRun0_B.sl.HS1_40 c arg5 harg5 x4) (rWords 1 3 6).toLoadRect) (arg11.view.readCov (kernelRun0_B.sl.HS1_40 c arg5 harg5 x4) (rWords 2 3 6).toLoadRect) (arg11.view.readCov (kernelRun0_B.sl.HS1_40 c arg5 harg5 x4) (rWords 3 3 6).toLoadRect) (View.readAt (Elt F) arg10.view (rLeft 6).toLoadRect (harg10.unread xs0))) from rfl).trans (congrArg₂ addf (acc_3_5 ..) (step_3_6 ..))

theorem step_3_7 : Tile.step (View.readAt (Elt F) arg4.view (rBytes 3 7).toLoadRect (harg4.unread x3)) (arg11.view.readCov (kernelRun0_B.sl.HS1_40 c arg5 harg5 x4) (rWords 0 3 7).toLoadRect) (arg11.view.readCov (kernelRun0_B.sl.HS1_40 c arg5 harg5 x4) (rWords 1 3 7).toLoadRect) (arg11.view.readCov (kernelRun0_B.sl.HS1_40 c arg5 harg5 x4) (rWords 2 3 7).toLoadRect) (arg11.view.readCov (kernelRun0_B.sl.HS1_40 c arg5 harg5 x4) (rWords 3 3 7).toLoadRect) (View.readAt (Elt F) arg10.view (rLeft 7).toLoadRect (harg10.unread xs0)) = stepAt x3 (words x4) xs0 3 7 := by
  rw [View.readAt_eq_ld, harg4.read_unread, View.readCov_eq_canon', View.readCov_eq_canon', View.readCov_eq_canon', View.readCov_eq_canon', View.readAt_eq_ld, harg10.read_unread, wordsCanon]
  rfl

theorem acc_3_7 : (kernelRun0_B.sl.v4776 c arg4 harg4 arg5 harg5 arg10 harg10 arg11 x3 x4 xs0) = acc x3 (words x4) xs0 3 7 (by omega) :=
  (show (kernelRun0_B.sl.v4776 c arg4 harg4 arg5 harg5 arg10 harg10 arg11 x3 x4 xs0) = addf (kernelRun0_B.sl.v4696 c arg4 harg4 arg5 harg5 arg10 harg10 arg11 x3 x4 xs0) (Tile.step (View.readAt (Elt F) arg4.view (rBytes 3 7).toLoadRect (harg4.unread x3)) (arg11.view.readCov (kernelRun0_B.sl.HS1_40 c arg5 harg5 x4) (rWords 0 3 7).toLoadRect) (arg11.view.readCov (kernelRun0_B.sl.HS1_40 c arg5 harg5 x4) (rWords 1 3 7).toLoadRect) (arg11.view.readCov (kernelRun0_B.sl.HS1_40 c arg5 harg5 x4) (rWords 2 3 7).toLoadRect) (arg11.view.readCov (kernelRun0_B.sl.HS1_40 c arg5 harg5 x4) (rWords 3 3 7).toLoadRect) (View.readAt (Elt F) arg10.view (rLeft 7).toLoadRect (harg10.unread xs0))) from rfl).trans (congrArg₂ addf (acc_3_6 ..) (step_3_7 ..))

theorem step_3_8 : Tile.step (View.readAt (Elt F) arg4.view (rBytes 3 8).toLoadRect (harg4.unread x3)) (arg11.view.readCov (kernelRun0_B.sl.HS1_40 c arg5 harg5 x4) (rWords 0 3 8).toLoadRect) (arg11.view.readCov (kernelRun0_B.sl.HS1_40 c arg5 harg5 x4) (rWords 1 3 8).toLoadRect) (arg11.view.readCov (kernelRun0_B.sl.HS1_40 c arg5 harg5 x4) (rWords 2 3 8).toLoadRect) (arg11.view.readCov (kernelRun0_B.sl.HS1_40 c arg5 harg5 x4) (rWords 3 3 8).toLoadRect) (View.readAt (Elt F) arg10.view (rLeft 8).toLoadRect (harg10.unread xs0)) = stepAt x3 (words x4) xs0 3 8 := by
  rw [View.readAt_eq_ld, harg4.read_unread, View.readCov_eq_canon', View.readCov_eq_canon', View.readCov_eq_canon', View.readCov_eq_canon', View.readAt_eq_ld, harg10.read_unread, wordsCanon]
  rfl

theorem acc_3_8 : (kernelRun0_B.sl.v4856 c arg4 harg4 arg5 harg5 arg10 harg10 arg11 x3 x4 xs0) = acc x3 (words x4) xs0 3 8 (by omega) :=
  (show (kernelRun0_B.sl.v4856 c arg4 harg4 arg5 harg5 arg10 harg10 arg11 x3 x4 xs0) = addf (kernelRun0_B.sl.v4776 c arg4 harg4 arg5 harg5 arg10 harg10 arg11 x3 x4 xs0) (Tile.step (View.readAt (Elt F) arg4.view (rBytes 3 8).toLoadRect (harg4.unread x3)) (arg11.view.readCov (kernelRun0_B.sl.HS1_40 c arg5 harg5 x4) (rWords 0 3 8).toLoadRect) (arg11.view.readCov (kernelRun0_B.sl.HS1_40 c arg5 harg5 x4) (rWords 1 3 8).toLoadRect) (arg11.view.readCov (kernelRun0_B.sl.HS1_40 c arg5 harg5 x4) (rWords 2 3 8).toLoadRect) (arg11.view.readCov (kernelRun0_B.sl.HS1_40 c arg5 harg5 x4) (rWords 3 3 8).toLoadRect) (View.readAt (Elt F) arg10.view (rLeft 8).toLoadRect (harg10.unread xs0))) from rfl).trans (congrArg₂ addf (acc_3_7 ..) (step_3_8 ..))

theorem step_3_9 : Tile.step (View.readAt (Elt F) arg4.view (rBytes 3 9).toLoadRect (harg4.unread x3)) (arg11.view.readCov (kernelRun0_B.sl.HS1_40 c arg5 harg5 x4) (rWords 0 3 9).toLoadRect) (arg11.view.readCov (kernelRun0_B.sl.HS1_40 c arg5 harg5 x4) (rWords 1 3 9).toLoadRect) (arg11.view.readCov (kernelRun0_B.sl.HS1_40 c arg5 harg5 x4) (rWords 2 3 9).toLoadRect) (arg11.view.readCov (kernelRun0_B.sl.HS1_40 c arg5 harg5 x4) (rWords 3 3 9).toLoadRect) (View.readAt (Elt F) arg10.view (rLeft 9).toLoadRect (harg10.unread xs0)) = stepAt x3 (words x4) xs0 3 9 := by
  rw [View.readAt_eq_ld, harg4.read_unread, View.readCov_eq_canon', View.readCov_eq_canon', View.readCov_eq_canon', View.readCov_eq_canon', View.readAt_eq_ld, harg10.read_unread, wordsCanon]
  rfl

theorem acc_3_9 : (kernelRun0_B.sl.v4936 c arg4 harg4 arg5 harg5 arg10 harg10 arg11 x3 x4 xs0) = acc x3 (words x4) xs0 3 9 (by omega) :=
  (show (kernelRun0_B.sl.v4936 c arg4 harg4 arg5 harg5 arg10 harg10 arg11 x3 x4 xs0) = addf (kernelRun0_B.sl.v4856 c arg4 harg4 arg5 harg5 arg10 harg10 arg11 x3 x4 xs0) (Tile.step (View.readAt (Elt F) arg4.view (rBytes 3 9).toLoadRect (harg4.unread x3)) (arg11.view.readCov (kernelRun0_B.sl.HS1_40 c arg5 harg5 x4) (rWords 0 3 9).toLoadRect) (arg11.view.readCov (kernelRun0_B.sl.HS1_40 c arg5 harg5 x4) (rWords 1 3 9).toLoadRect) (arg11.view.readCov (kernelRun0_B.sl.HS1_40 c arg5 harg5 x4) (rWords 2 3 9).toLoadRect) (arg11.view.readCov (kernelRun0_B.sl.HS1_40 c arg5 harg5 x4) (rWords 3 3 9).toLoadRect) (View.readAt (Elt F) arg10.view (rLeft 9).toLoadRect (harg10.unread xs0))) from rfl).trans (congrArg₂ addf (acc_3_8 ..) (step_3_9 ..))

theorem step_3_10 : Tile.step (View.readAt (Elt F) arg4.view (rBytes 3 10).toLoadRect (harg4.unread x3)) (arg11.view.readCov (kernelRun0_B.sl.HS1_40 c arg5 harg5 x4) (rWords 0 3 10).toLoadRect) (arg11.view.readCov (kernelRun0_B.sl.HS1_40 c arg5 harg5 x4) (rWords 1 3 10).toLoadRect) (arg11.view.readCov (kernelRun0_B.sl.HS1_40 c arg5 harg5 x4) (rWords 2 3 10).toLoadRect) (arg11.view.readCov (kernelRun0_B.sl.HS1_40 c arg5 harg5 x4) (rWords 3 3 10).toLoadRect) (View.readAt (Elt F) arg10.view (rLeft 10).toLoadRect (harg10.unread xs0)) = stepAt x3 (words x4) xs0 3 10 := by
  rw [View.readAt_eq_ld, harg4.read_unread, View.readCov_eq_canon', View.readCov_eq_canon', View.readCov_eq_canon', View.readCov_eq_canon', View.readAt_eq_ld, harg10.read_unread, wordsCanon]
  rfl

theorem acc_3_10 : (kernelRun0_B.sl.v5016 c arg4 harg4 arg5 harg5 arg10 harg10 arg11 x3 x4 xs0) = acc x3 (words x4) xs0 3 10 (by omega) :=
  (show (kernelRun0_B.sl.v5016 c arg4 harg4 arg5 harg5 arg10 harg10 arg11 x3 x4 xs0) = addf (kernelRun0_B.sl.v4936 c arg4 harg4 arg5 harg5 arg10 harg10 arg11 x3 x4 xs0) (Tile.step (View.readAt (Elt F) arg4.view (rBytes 3 10).toLoadRect (harg4.unread x3)) (arg11.view.readCov (kernelRun0_B.sl.HS1_40 c arg5 harg5 x4) (rWords 0 3 10).toLoadRect) (arg11.view.readCov (kernelRun0_B.sl.HS1_40 c arg5 harg5 x4) (rWords 1 3 10).toLoadRect) (arg11.view.readCov (kernelRun0_B.sl.HS1_40 c arg5 harg5 x4) (rWords 2 3 10).toLoadRect) (arg11.view.readCov (kernelRun0_B.sl.HS1_40 c arg5 harg5 x4) (rWords 3 3 10).toLoadRect) (View.readAt (Elt F) arg10.view (rLeft 10).toLoadRect (harg10.unread xs0))) from rfl).trans (congrArg₂ addf (acc_3_9 ..) (step_3_10 ..))

theorem step_3_11 : Tile.step (View.readAt (Elt F) arg4.view (rBytes 3 11).toLoadRect (harg4.unread x3)) (arg11.view.readCov (kernelRun0_B.sl.HS1_40 c arg5 harg5 x4) (rWords 0 3 11).toLoadRect) (arg11.view.readCov (kernelRun0_B.sl.HS1_40 c arg5 harg5 x4) (rWords 1 3 11).toLoadRect) (arg11.view.readCov (kernelRun0_B.sl.HS1_40 c arg5 harg5 x4) (rWords 2 3 11).toLoadRect) (arg11.view.readCov (kernelRun0_B.sl.HS1_40 c arg5 harg5 x4) (rWords 3 3 11).toLoadRect) (View.readAt (Elt F) arg10.view (rLeft 11).toLoadRect (harg10.unread xs0)) = stepAt x3 (words x4) xs0 3 11 := by
  rw [View.readAt_eq_ld, harg4.read_unread, View.readCov_eq_canon', View.readCov_eq_canon', View.readCov_eq_canon', View.readCov_eq_canon', View.readAt_eq_ld, harg10.read_unread, wordsCanon]
  rfl

theorem plane_6 : act0 (addf (kernelRun0_B.sl.v5016 c arg4 harg4 arg5 harg5 arg10 harg10 arg11 x3 x4 xs0) (Tile.step (View.readAt (Elt F) arg4.view (rBytes 3 11).toLoadRect (harg4.unread x3)) (arg11.view.readCov (kernelRun0_B.sl.HS1_40 c arg5 harg5 x4) (rWords 0 3 11).toLoadRect) (arg11.view.readCov (kernelRun0_B.sl.HS1_40 c arg5 harg5 x4) (rWords 1 3 11).toLoadRect) (arg11.view.readCov (kernelRun0_B.sl.HS1_40 c arg5 harg5 x4) (rWords 2 3 11).toLoadRect) (arg11.view.readCov (kernelRun0_B.sl.HS1_40 c arg5 harg5 x4) (rWords 3 3 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 6).toLoadRect (harg6.unread x5)) = plane x3 (words x4) xs0 x1 x2 x5 6 := by
  rw [acc_3_10, step_3_11, rowScaleWord, gateWord, View.readAt_eq_ld, harg6.read_unread]
  rfl

theorem plane_7 : act1 (addf (kernelRun0_B.sl.v5016 c arg4 harg4 arg5 harg5 arg10 harg10 arg11 x3 x4 xs0) (Tile.step (View.readAt (Elt F) arg4.view (rBytes 3 11).toLoadRect (harg4.unread x3)) (arg11.view.readCov (kernelRun0_B.sl.HS1_40 c arg5 harg5 x4) (rWords 0 3 11).toLoadRect) (arg11.view.readCov (kernelRun0_B.sl.HS1_40 c arg5 harg5 x4) (rWords 1 3 11).toLoadRect) (arg11.view.readCov (kernelRun0_B.sl.HS1_40 c arg5 harg5 x4) (rWords 2 3 11).toLoadRect) (arg11.view.readCov (kernelRun0_B.sl.HS1_40 c arg5 harg5 x4) (rWords 3 3 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 7).toLoadRect (harg6.unread x5)) = plane x3 (words x4) xs0 x1 x2 x5 7 := by
  rw [acc_3_10, step_3_11, rowScaleWord, gateWord, View.readAt_eq_ld, harg6.read_unread]
  rfl

theorem step_4_0 : Tile.step (View.readAt (Elt F) arg4.view (rBytes 4 0).toLoadRect (harg4.unread x3)) (arg11.view.readCov (kernelRun0_B.sl.HS1_40 c arg5 harg5 x4) (rWords 0 4 0).toLoadRect) (arg11.view.readCov (kernelRun0_B.sl.HS1_40 c arg5 harg5 x4) (rWords 1 4 0).toLoadRect) (arg11.view.readCov (kernelRun0_B.sl.HS1_40 c arg5 harg5 x4) (rWords 2 4 0).toLoadRect) (arg11.view.readCov (kernelRun0_B.sl.HS1_40 c arg5 harg5 x4) (rWords 3 4 0).toLoadRect) (View.readAt (Elt F) arg10.view (rLeft 0).toLoadRect (harg10.unread xs0)) = stepAt x3 (words x4) xs0 4 0 := by
  rw [View.readAt_eq_ld, harg4.read_unread, View.readCov_eq_canon', View.readCov_eq_canon', View.readCov_eq_canon', View.readCov_eq_canon', View.readAt_eq_ld, harg10.read_unread, wordsCanon]
  rfl

theorem acc_4_0 : (kernelRun0_B.sl.v5211 c arg4 harg4 arg5 harg5 arg10 harg10 arg11 x3 x4 xs0) = acc x3 (words x4) xs0 4 0 (by omega) :=
  (show (kernelRun0_B.sl.v5211 c arg4 harg4 arg5 harg5 arg10 harg10 arg11 x3 x4 xs0) = Tile.step (View.readAt (Elt F) arg4.view (rBytes 4 0).toLoadRect (harg4.unread x3)) (arg11.view.readCov (kernelRun0_B.sl.HS1_40 c arg5 harg5 x4) (rWords 0 4 0).toLoadRect) (arg11.view.readCov (kernelRun0_B.sl.HS1_40 c arg5 harg5 x4) (rWords 1 4 0).toLoadRect) (arg11.view.readCov (kernelRun0_B.sl.HS1_40 c arg5 harg5 x4) (rWords 2 4 0).toLoadRect) (arg11.view.readCov (kernelRun0_B.sl.HS1_40 c arg5 harg5 x4) (rWords 3 4 0).toLoadRect) (View.readAt (Elt F) arg10.view (rLeft 0).toLoadRect (harg10.unread xs0)) from rfl).trans (step_4_0 ..)

theorem step_4_1 : Tile.step (View.readAt (Elt F) arg4.view (rBytes 4 1).toLoadRect (harg4.unread x3)) (arg11.view.readCov (kernelRun0_B.sl.HS1_40 c arg5 harg5 x4) (rWords 0 4 1).toLoadRect) (arg11.view.readCov (kernelRun0_B.sl.HS1_40 c arg5 harg5 x4) (rWords 1 4 1).toLoadRect) (arg11.view.readCov (kernelRun0_B.sl.HS1_40 c arg5 harg5 x4) (rWords 2 4 1).toLoadRect) (arg11.view.readCov (kernelRun0_B.sl.HS1_40 c arg5 harg5 x4) (rWords 3 4 1).toLoadRect) (View.readAt (Elt F) arg10.view (rLeft 1).toLoadRect (harg10.unread xs0)) = stepAt x3 (words x4) xs0 4 1 := by
  rw [View.readAt_eq_ld, harg4.read_unread, View.readCov_eq_canon', View.readCov_eq_canon', View.readCov_eq_canon', View.readCov_eq_canon', View.readAt_eq_ld, harg10.read_unread, wordsCanon]
  rfl

theorem acc_4_1 : (kernelRun0_B.sl.v5291 c arg4 harg4 arg5 harg5 arg10 harg10 arg11 x3 x4 xs0) = acc x3 (words x4) xs0 4 1 (by omega) :=
  (show (kernelRun0_B.sl.v5291 c arg4 harg4 arg5 harg5 arg10 harg10 arg11 x3 x4 xs0) = addf (kernelRun0_B.sl.v5211 c arg4 harg4 arg5 harg5 arg10 harg10 arg11 x3 x4 xs0) (Tile.step (View.readAt (Elt F) arg4.view (rBytes 4 1).toLoadRect (harg4.unread x3)) (arg11.view.readCov (kernelRun0_B.sl.HS1_40 c arg5 harg5 x4) (rWords 0 4 1).toLoadRect) (arg11.view.readCov (kernelRun0_B.sl.HS1_40 c arg5 harg5 x4) (rWords 1 4 1).toLoadRect) (arg11.view.readCov (kernelRun0_B.sl.HS1_40 c arg5 harg5 x4) (rWords 2 4 1).toLoadRect) (arg11.view.readCov (kernelRun0_B.sl.HS1_40 c arg5 harg5 x4) (rWords 3 4 1).toLoadRect) (View.readAt (Elt F) arg10.view (rLeft 1).toLoadRect (harg10.unread xs0))) from rfl).trans (congrArg₂ addf (acc_4_0 ..) (step_4_1 ..))

theorem step_4_2 : Tile.step (View.readAt (Elt F) arg4.view (rBytes 4 2).toLoadRect (harg4.unread x3)) (arg11.view.readCov (kernelRun0_B.sl.HS1_40 c arg5 harg5 x4) (rWords 0 4 2).toLoadRect) (arg11.view.readCov (kernelRun0_B.sl.HS1_40 c arg5 harg5 x4) (rWords 1 4 2).toLoadRect) (arg11.view.readCov (kernelRun0_B.sl.HS1_40 c arg5 harg5 x4) (rWords 2 4 2).toLoadRect) (arg11.view.readCov (kernelRun0_B.sl.HS1_40 c arg5 harg5 x4) (rWords 3 4 2).toLoadRect) (View.readAt (Elt F) arg10.view (rLeft 2).toLoadRect (harg10.unread xs0)) = stepAt x3 (words x4) xs0 4 2 := by
  rw [View.readAt_eq_ld, harg4.read_unread, View.readCov_eq_canon', View.readCov_eq_canon', View.readCov_eq_canon', View.readCov_eq_canon', View.readAt_eq_ld, harg10.read_unread, wordsCanon]
  rfl

theorem acc_4_2 : (kernelRun0_B.sl.v5371 c arg4 harg4 arg5 harg5 arg10 harg10 arg11 x3 x4 xs0) = acc x3 (words x4) xs0 4 2 (by omega) :=
  (show (kernelRun0_B.sl.v5371 c arg4 harg4 arg5 harg5 arg10 harg10 arg11 x3 x4 xs0) = addf (kernelRun0_B.sl.v5291 c arg4 harg4 arg5 harg5 arg10 harg10 arg11 x3 x4 xs0) (Tile.step (View.readAt (Elt F) arg4.view (rBytes 4 2).toLoadRect (harg4.unread x3)) (arg11.view.readCov (kernelRun0_B.sl.HS1_40 c arg5 harg5 x4) (rWords 0 4 2).toLoadRect) (arg11.view.readCov (kernelRun0_B.sl.HS1_40 c arg5 harg5 x4) (rWords 1 4 2).toLoadRect) (arg11.view.readCov (kernelRun0_B.sl.HS1_40 c arg5 harg5 x4) (rWords 2 4 2).toLoadRect) (arg11.view.readCov (kernelRun0_B.sl.HS1_40 c arg5 harg5 x4) (rWords 3 4 2).toLoadRect) (View.readAt (Elt F) arg10.view (rLeft 2).toLoadRect (harg10.unread xs0))) from rfl).trans (congrArg₂ addf (acc_4_1 ..) (step_4_2 ..))

theorem step_4_3 : Tile.step (View.readAt (Elt F) arg4.view (rBytes 4 3).toLoadRect (harg4.unread x3)) (arg11.view.readCov (kernelRun0_B.sl.HS1_40 c arg5 harg5 x4) (rWords 0 4 3).toLoadRect) (arg11.view.readCov (kernelRun0_B.sl.HS1_40 c arg5 harg5 x4) (rWords 1 4 3).toLoadRect) (arg11.view.readCov (kernelRun0_B.sl.HS1_40 c arg5 harg5 x4) (rWords 2 4 3).toLoadRect) (arg11.view.readCov (kernelRun0_B.sl.HS1_40 c arg5 harg5 x4) (rWords 3 4 3).toLoadRect) (View.readAt (Elt F) arg10.view (rLeft 3).toLoadRect (harg10.unread xs0)) = stepAt x3 (words x4) xs0 4 3 := by
  rw [View.readAt_eq_ld, harg4.read_unread, View.readCov_eq_canon', View.readCov_eq_canon', View.readCov_eq_canon', View.readCov_eq_canon', View.readAt_eq_ld, harg10.read_unread, wordsCanon]
  rfl

theorem acc_4_3 : (kernelRun0_B.sl.v5451 c arg4 harg4 arg5 harg5 arg10 harg10 arg11 x3 x4 xs0) = acc x3 (words x4) xs0 4 3 (by omega) :=
  (show (kernelRun0_B.sl.v5451 c arg4 harg4 arg5 harg5 arg10 harg10 arg11 x3 x4 xs0) = addf (kernelRun0_B.sl.v5371 c arg4 harg4 arg5 harg5 arg10 harg10 arg11 x3 x4 xs0) (Tile.step (View.readAt (Elt F) arg4.view (rBytes 4 3).toLoadRect (harg4.unread x3)) (arg11.view.readCov (kernelRun0_B.sl.HS1_40 c arg5 harg5 x4) (rWords 0 4 3).toLoadRect) (arg11.view.readCov (kernelRun0_B.sl.HS1_40 c arg5 harg5 x4) (rWords 1 4 3).toLoadRect) (arg11.view.readCov (kernelRun0_B.sl.HS1_40 c arg5 harg5 x4) (rWords 2 4 3).toLoadRect) (arg11.view.readCov (kernelRun0_B.sl.HS1_40 c arg5 harg5 x4) (rWords 3 4 3).toLoadRect) (View.readAt (Elt F) arg10.view (rLeft 3).toLoadRect (harg10.unread xs0))) from rfl).trans (congrArg₂ addf (acc_4_2 ..) (step_4_3 ..))

theorem step_4_4 : Tile.step (View.readAt (Elt F) arg4.view (rBytes 4 4).toLoadRect (harg4.unread x3)) (arg11.view.readCov (kernelRun0_B.sl.HS1_40 c arg5 harg5 x4) (rWords 0 4 4).toLoadRect) (arg11.view.readCov (kernelRun0_B.sl.HS1_40 c arg5 harg5 x4) (rWords 1 4 4).toLoadRect) (arg11.view.readCov (kernelRun0_B.sl.HS1_40 c arg5 harg5 x4) (rWords 2 4 4).toLoadRect) (arg11.view.readCov (kernelRun0_B.sl.HS1_40 c arg5 harg5 x4) (rWords 3 4 4).toLoadRect) (View.readAt (Elt F) arg10.view (rLeft 4).toLoadRect (harg10.unread xs0)) = stepAt x3 (words x4) xs0 4 4 := by
  rw [View.readAt_eq_ld, harg4.read_unread, View.readCov_eq_canon', View.readCov_eq_canon', View.readCov_eq_canon', View.readCov_eq_canon', View.readAt_eq_ld, harg10.read_unread, wordsCanon]
  rfl

theorem acc_4_4 : (kernelRun0_B.sl.v5531 c arg4 harg4 arg5 harg5 arg10 harg10 arg11 x3 x4 xs0) = acc x3 (words x4) xs0 4 4 (by omega) :=
  (show (kernelRun0_B.sl.v5531 c arg4 harg4 arg5 harg5 arg10 harg10 arg11 x3 x4 xs0) = addf (kernelRun0_B.sl.v5451 c arg4 harg4 arg5 harg5 arg10 harg10 arg11 x3 x4 xs0) (Tile.step (View.readAt (Elt F) arg4.view (rBytes 4 4).toLoadRect (harg4.unread x3)) (arg11.view.readCov (kernelRun0_B.sl.HS1_40 c arg5 harg5 x4) (rWords 0 4 4).toLoadRect) (arg11.view.readCov (kernelRun0_B.sl.HS1_40 c arg5 harg5 x4) (rWords 1 4 4).toLoadRect) (arg11.view.readCov (kernelRun0_B.sl.HS1_40 c arg5 harg5 x4) (rWords 2 4 4).toLoadRect) (arg11.view.readCov (kernelRun0_B.sl.HS1_40 c arg5 harg5 x4) (rWords 3 4 4).toLoadRect) (View.readAt (Elt F) arg10.view (rLeft 4).toLoadRect (harg10.unread xs0))) from rfl).trans (congrArg₂ addf (acc_4_3 ..) (step_4_4 ..))

theorem step_4_5 : Tile.step (View.readAt (Elt F) arg4.view (rBytes 4 5).toLoadRect (harg4.unread x3)) (arg11.view.readCov (kernelRun0_B.sl.HS1_40 c arg5 harg5 x4) (rWords 0 4 5).toLoadRect) (arg11.view.readCov (kernelRun0_B.sl.HS1_40 c arg5 harg5 x4) (rWords 1 4 5).toLoadRect) (arg11.view.readCov (kernelRun0_B.sl.HS1_40 c arg5 harg5 x4) (rWords 2 4 5).toLoadRect) (arg11.view.readCov (kernelRun0_B.sl.HS1_40 c arg5 harg5 x4) (rWords 3 4 5).toLoadRect) (View.readAt (Elt F) arg10.view (rLeft 5).toLoadRect (harg10.unread xs0)) = stepAt x3 (words x4) xs0 4 5 := by
  rw [View.readAt_eq_ld, harg4.read_unread, View.readCov_eq_canon', View.readCov_eq_canon', View.readCov_eq_canon', View.readCov_eq_canon', View.readAt_eq_ld, harg10.read_unread, wordsCanon]
  rfl

theorem acc_4_5 : (kernelRun0_B.sl.v5611 c arg4 harg4 arg5 harg5 arg10 harg10 arg11 x3 x4 xs0) = acc x3 (words x4) xs0 4 5 (by omega) :=
  (show (kernelRun0_B.sl.v5611 c arg4 harg4 arg5 harg5 arg10 harg10 arg11 x3 x4 xs0) = addf (kernelRun0_B.sl.v5531 c arg4 harg4 arg5 harg5 arg10 harg10 arg11 x3 x4 xs0) (Tile.step (View.readAt (Elt F) arg4.view (rBytes 4 5).toLoadRect (harg4.unread x3)) (arg11.view.readCov (kernelRun0_B.sl.HS1_40 c arg5 harg5 x4) (rWords 0 4 5).toLoadRect) (arg11.view.readCov (kernelRun0_B.sl.HS1_40 c arg5 harg5 x4) (rWords 1 4 5).toLoadRect) (arg11.view.readCov (kernelRun0_B.sl.HS1_40 c arg5 harg5 x4) (rWords 2 4 5).toLoadRect) (arg11.view.readCov (kernelRun0_B.sl.HS1_40 c arg5 harg5 x4) (rWords 3 4 5).toLoadRect) (View.readAt (Elt F) arg10.view (rLeft 5).toLoadRect (harg10.unread xs0))) from rfl).trans (congrArg₂ addf (acc_4_4 ..) (step_4_5 ..))

theorem step_4_6 : Tile.step (View.readAt (Elt F) arg4.view (rBytes 4 6).toLoadRect (harg4.unread x3)) (arg11.view.readCov (kernelRun0_B.sl.HS1_40 c arg5 harg5 x4) (rWords 0 4 6).toLoadRect) (arg11.view.readCov (kernelRun0_B.sl.HS1_40 c arg5 harg5 x4) (rWords 1 4 6).toLoadRect) (arg11.view.readCov (kernelRun0_B.sl.HS1_40 c arg5 harg5 x4) (rWords 2 4 6).toLoadRect) (arg11.view.readCov (kernelRun0_B.sl.HS1_40 c arg5 harg5 x4) (rWords 3 4 6).toLoadRect) (View.readAt (Elt F) arg10.view (rLeft 6).toLoadRect (harg10.unread xs0)) = stepAt x3 (words x4) xs0 4 6 := by
  rw [View.readAt_eq_ld, harg4.read_unread, View.readCov_eq_canon', View.readCov_eq_canon', View.readCov_eq_canon', View.readCov_eq_canon', View.readAt_eq_ld, harg10.read_unread, wordsCanon]
  rfl

theorem acc_4_6 : (kernelRun0_B.sl.v5691 c arg4 harg4 arg5 harg5 arg10 harg10 arg11 x3 x4 xs0) = acc x3 (words x4) xs0 4 6 (by omega) :=
  (show (kernelRun0_B.sl.v5691 c arg4 harg4 arg5 harg5 arg10 harg10 arg11 x3 x4 xs0) = addf (kernelRun0_B.sl.v5611 c arg4 harg4 arg5 harg5 arg10 harg10 arg11 x3 x4 xs0) (Tile.step (View.readAt (Elt F) arg4.view (rBytes 4 6).toLoadRect (harg4.unread x3)) (arg11.view.readCov (kernelRun0_B.sl.HS1_40 c arg5 harg5 x4) (rWords 0 4 6).toLoadRect) (arg11.view.readCov (kernelRun0_B.sl.HS1_40 c arg5 harg5 x4) (rWords 1 4 6).toLoadRect) (arg11.view.readCov (kernelRun0_B.sl.HS1_40 c arg5 harg5 x4) (rWords 2 4 6).toLoadRect) (arg11.view.readCov (kernelRun0_B.sl.HS1_40 c arg5 harg5 x4) (rWords 3 4 6).toLoadRect) (View.readAt (Elt F) arg10.view (rLeft 6).toLoadRect (harg10.unread xs0))) from rfl).trans (congrArg₂ addf (acc_4_5 ..) (step_4_6 ..))

theorem step_4_7 : Tile.step (View.readAt (Elt F) arg4.view (rBytes 4 7).toLoadRect (harg4.unread x3)) (arg11.view.readCov (kernelRun0_B.sl.HS1_40 c arg5 harg5 x4) (rWords 0 4 7).toLoadRect) (arg11.view.readCov (kernelRun0_B.sl.HS1_40 c arg5 harg5 x4) (rWords 1 4 7).toLoadRect) (arg11.view.readCov (kernelRun0_B.sl.HS1_40 c arg5 harg5 x4) (rWords 2 4 7).toLoadRect) (arg11.view.readCov (kernelRun0_B.sl.HS1_40 c arg5 harg5 x4) (rWords 3 4 7).toLoadRect) (View.readAt (Elt F) arg10.view (rLeft 7).toLoadRect (harg10.unread xs0)) = stepAt x3 (words x4) xs0 4 7 := by
  rw [View.readAt_eq_ld, harg4.read_unread, View.readCov_eq_canon', View.readCov_eq_canon', View.readCov_eq_canon', View.readCov_eq_canon', View.readAt_eq_ld, harg10.read_unread, wordsCanon]
  rfl

theorem acc_4_7 : (kernelRun0_B.sl.v5771 c arg4 harg4 arg5 harg5 arg10 harg10 arg11 x3 x4 xs0) = acc x3 (words x4) xs0 4 7 (by omega) :=
  (show (kernelRun0_B.sl.v5771 c arg4 harg4 arg5 harg5 arg10 harg10 arg11 x3 x4 xs0) = addf (kernelRun0_B.sl.v5691 c arg4 harg4 arg5 harg5 arg10 harg10 arg11 x3 x4 xs0) (Tile.step (View.readAt (Elt F) arg4.view (rBytes 4 7).toLoadRect (harg4.unread x3)) (arg11.view.readCov (kernelRun0_B.sl.HS1_40 c arg5 harg5 x4) (rWords 0 4 7).toLoadRect) (arg11.view.readCov (kernelRun0_B.sl.HS1_40 c arg5 harg5 x4) (rWords 1 4 7).toLoadRect) (arg11.view.readCov (kernelRun0_B.sl.HS1_40 c arg5 harg5 x4) (rWords 2 4 7).toLoadRect) (arg11.view.readCov (kernelRun0_B.sl.HS1_40 c arg5 harg5 x4) (rWords 3 4 7).toLoadRect) (View.readAt (Elt F) arg10.view (rLeft 7).toLoadRect (harg10.unread xs0))) from rfl).trans (congrArg₂ addf (acc_4_6 ..) (step_4_7 ..))

theorem step_4_8 : Tile.step (View.readAt (Elt F) arg4.view (rBytes 4 8).toLoadRect (harg4.unread x3)) (arg11.view.readCov (kernelRun0_B.sl.HS1_40 c arg5 harg5 x4) (rWords 0 4 8).toLoadRect) (arg11.view.readCov (kernelRun0_B.sl.HS1_40 c arg5 harg5 x4) (rWords 1 4 8).toLoadRect) (arg11.view.readCov (kernelRun0_B.sl.HS1_40 c arg5 harg5 x4) (rWords 2 4 8).toLoadRect) (arg11.view.readCov (kernelRun0_B.sl.HS1_40 c arg5 harg5 x4) (rWords 3 4 8).toLoadRect) (View.readAt (Elt F) arg10.view (rLeft 8).toLoadRect (harg10.unread xs0)) = stepAt x3 (words x4) xs0 4 8 := by
  rw [View.readAt_eq_ld, harg4.read_unread, View.readCov_eq_canon', View.readCov_eq_canon', View.readCov_eq_canon', View.readCov_eq_canon', View.readAt_eq_ld, harg10.read_unread, wordsCanon]
  rfl

theorem acc_4_8 : (kernelRun0_B.sl.v5851 c arg4 harg4 arg5 harg5 arg10 harg10 arg11 x3 x4 xs0) = acc x3 (words x4) xs0 4 8 (by omega) :=
  (show (kernelRun0_B.sl.v5851 c arg4 harg4 arg5 harg5 arg10 harg10 arg11 x3 x4 xs0) = addf (kernelRun0_B.sl.v5771 c arg4 harg4 arg5 harg5 arg10 harg10 arg11 x3 x4 xs0) (Tile.step (View.readAt (Elt F) arg4.view (rBytes 4 8).toLoadRect (harg4.unread x3)) (arg11.view.readCov (kernelRun0_B.sl.HS1_40 c arg5 harg5 x4) (rWords 0 4 8).toLoadRect) (arg11.view.readCov (kernelRun0_B.sl.HS1_40 c arg5 harg5 x4) (rWords 1 4 8).toLoadRect) (arg11.view.readCov (kernelRun0_B.sl.HS1_40 c arg5 harg5 x4) (rWords 2 4 8).toLoadRect) (arg11.view.readCov (kernelRun0_B.sl.HS1_40 c arg5 harg5 x4) (rWords 3 4 8).toLoadRect) (View.readAt (Elt F) arg10.view (rLeft 8).toLoadRect (harg10.unread xs0))) from rfl).trans (congrArg₂ addf (acc_4_7 ..) (step_4_8 ..))

theorem step_4_9 : Tile.step (View.readAt (Elt F) arg4.view (rBytes 4 9).toLoadRect (harg4.unread x3)) (arg11.view.readCov (kernelRun0_B.sl.HS1_40 c arg5 harg5 x4) (rWords 0 4 9).toLoadRect) (arg11.view.readCov (kernelRun0_B.sl.HS1_40 c arg5 harg5 x4) (rWords 1 4 9).toLoadRect) (arg11.view.readCov (kernelRun0_B.sl.HS1_40 c arg5 harg5 x4) (rWords 2 4 9).toLoadRect) (arg11.view.readCov (kernelRun0_B.sl.HS1_40 c arg5 harg5 x4) (rWords 3 4 9).toLoadRect) (View.readAt (Elt F) arg10.view (rLeft 9).toLoadRect (harg10.unread xs0)) = stepAt x3 (words x4) xs0 4 9 := by
  rw [View.readAt_eq_ld, harg4.read_unread, View.readCov_eq_canon', View.readCov_eq_canon', View.readCov_eq_canon', View.readCov_eq_canon', View.readAt_eq_ld, harg10.read_unread, wordsCanon]
  rfl

theorem acc_4_9 : (kernelRun0_B.sl.v5931 c arg4 harg4 arg5 harg5 arg10 harg10 arg11 x3 x4 xs0) = acc x3 (words x4) xs0 4 9 (by omega) :=
  (show (kernelRun0_B.sl.v5931 c arg4 harg4 arg5 harg5 arg10 harg10 arg11 x3 x4 xs0) = addf (kernelRun0_B.sl.v5851 c arg4 harg4 arg5 harg5 arg10 harg10 arg11 x3 x4 xs0) (Tile.step (View.readAt (Elt F) arg4.view (rBytes 4 9).toLoadRect (harg4.unread x3)) (arg11.view.readCov (kernelRun0_B.sl.HS1_40 c arg5 harg5 x4) (rWords 0 4 9).toLoadRect) (arg11.view.readCov (kernelRun0_B.sl.HS1_40 c arg5 harg5 x4) (rWords 1 4 9).toLoadRect) (arg11.view.readCov (kernelRun0_B.sl.HS1_40 c arg5 harg5 x4) (rWords 2 4 9).toLoadRect) (arg11.view.readCov (kernelRun0_B.sl.HS1_40 c arg5 harg5 x4) (rWords 3 4 9).toLoadRect) (View.readAt (Elt F) arg10.view (rLeft 9).toLoadRect (harg10.unread xs0))) from rfl).trans (congrArg₂ addf (acc_4_8 ..) (step_4_9 ..))

theorem step_4_10 : Tile.step (View.readAt (Elt F) arg4.view (rBytes 4 10).toLoadRect (harg4.unread x3)) (arg11.view.readCov (kernelRun0_B.sl.HS1_40 c arg5 harg5 x4) (rWords 0 4 10).toLoadRect) (arg11.view.readCov (kernelRun0_B.sl.HS1_40 c arg5 harg5 x4) (rWords 1 4 10).toLoadRect) (arg11.view.readCov (kernelRun0_B.sl.HS1_40 c arg5 harg5 x4) (rWords 2 4 10).toLoadRect) (arg11.view.readCov (kernelRun0_B.sl.HS1_40 c arg5 harg5 x4) (rWords 3 4 10).toLoadRect) (View.readAt (Elt F) arg10.view (rLeft 10).toLoadRect (harg10.unread xs0)) = stepAt x3 (words x4) xs0 4 10 := by
  rw [View.readAt_eq_ld, harg4.read_unread, View.readCov_eq_canon', View.readCov_eq_canon', View.readCov_eq_canon', View.readCov_eq_canon', View.readAt_eq_ld, harg10.read_unread, wordsCanon]
  rfl

theorem acc_4_10 : (kernelRun0_B.sl.v6011 c arg4 harg4 arg5 harg5 arg10 harg10 arg11 x3 x4 xs0) = acc x3 (words x4) xs0 4 10 (by omega) :=
  (show (kernelRun0_B.sl.v6011 c arg4 harg4 arg5 harg5 arg10 harg10 arg11 x3 x4 xs0) = addf (kernelRun0_B.sl.v5931 c arg4 harg4 arg5 harg5 arg10 harg10 arg11 x3 x4 xs0) (Tile.step (View.readAt (Elt F) arg4.view (rBytes 4 10).toLoadRect (harg4.unread x3)) (arg11.view.readCov (kernelRun0_B.sl.HS1_40 c arg5 harg5 x4) (rWords 0 4 10).toLoadRect) (arg11.view.readCov (kernelRun0_B.sl.HS1_40 c arg5 harg5 x4) (rWords 1 4 10).toLoadRect) (arg11.view.readCov (kernelRun0_B.sl.HS1_40 c arg5 harg5 x4) (rWords 2 4 10).toLoadRect) (arg11.view.readCov (kernelRun0_B.sl.HS1_40 c arg5 harg5 x4) (rWords 3 4 10).toLoadRect) (View.readAt (Elt F) arg10.view (rLeft 10).toLoadRect (harg10.unread xs0))) from rfl).trans (congrArg₂ addf (acc_4_9 ..) (step_4_10 ..))

theorem step_4_11 : Tile.step (View.readAt (Elt F) arg4.view (rBytes 4 11).toLoadRect (harg4.unread x3)) (arg11.view.readCov (kernelRun0_B.sl.HS1_40 c arg5 harg5 x4) (rWords 0 4 11).toLoadRect) (arg11.view.readCov (kernelRun0_B.sl.HS1_40 c arg5 harg5 x4) (rWords 1 4 11).toLoadRect) (arg11.view.readCov (kernelRun0_B.sl.HS1_40 c arg5 harg5 x4) (rWords 2 4 11).toLoadRect) (arg11.view.readCov (kernelRun0_B.sl.HS1_40 c arg5 harg5 x4) (rWords 3 4 11).toLoadRect) (View.readAt (Elt F) arg10.view (rLeft 11).toLoadRect (harg10.unread xs0)) = stepAt x3 (words x4) xs0 4 11 := by
  rw [View.readAt_eq_ld, harg4.read_unread, View.readCov_eq_canon', View.readCov_eq_canon', View.readCov_eq_canon', View.readCov_eq_canon', View.readAt_eq_ld, harg10.read_unread, wordsCanon]
  rfl

theorem plane_8 : act0 (addf (kernelRun0_B.sl.v6011 c arg4 harg4 arg5 harg5 arg10 harg10 arg11 x3 x4 xs0) (Tile.step (View.readAt (Elt F) arg4.view (rBytes 4 11).toLoadRect (harg4.unread x3)) (arg11.view.readCov (kernelRun0_B.sl.HS1_40 c arg5 harg5 x4) (rWords 0 4 11).toLoadRect) (arg11.view.readCov (kernelRun0_B.sl.HS1_40 c arg5 harg5 x4) (rWords 1 4 11).toLoadRect) (arg11.view.readCov (kernelRun0_B.sl.HS1_40 c arg5 harg5 x4) (rWords 2 4 11).toLoadRect) (arg11.view.readCov (kernelRun0_B.sl.HS1_40 c arg5 harg5 x4) (rWords 3 4 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 8).toLoadRect (harg6.unread x5)) = plane x3 (words x4) xs0 x1 x2 x5 8 := by
  rw [acc_4_10, step_4_11, rowScaleWord, gateWord, View.readAt_eq_ld, harg6.read_unread]
  rfl

theorem plane_9 : act1 (addf (kernelRun0_B.sl.v6011 c arg4 harg4 arg5 harg5 arg10 harg10 arg11 x3 x4 xs0) (Tile.step (View.readAt (Elt F) arg4.view (rBytes 4 11).toLoadRect (harg4.unread x3)) (arg11.view.readCov (kernelRun0_B.sl.HS1_40 c arg5 harg5 x4) (rWords 0 4 11).toLoadRect) (arg11.view.readCov (kernelRun0_B.sl.HS1_40 c arg5 harg5 x4) (rWords 1 4 11).toLoadRect) (arg11.view.readCov (kernelRun0_B.sl.HS1_40 c arg5 harg5 x4) (rWords 2 4 11).toLoadRect) (arg11.view.readCov (kernelRun0_B.sl.HS1_40 c arg5 harg5 x4) (rWords 3 4 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 9).toLoadRect (harg6.unread x5)) = plane x3 (words x4) xs0 x1 x2 x5 9 := by
  rw [acc_4_10, step_4_11, rowScaleWord, gateWord, View.readAt_eq_ld, harg6.read_unread]
  rfl

/-- The stores of the planes. -/
theorem planesList : (kernelRun0_B.sl.HS2_10 c arg2 harg2 arg3 harg3 arg4 harg4 arg5 harg5 arg6 harg6 arg10 harg10 arg11 x1 x2 x3 x4 x5 xs0) = planePieces (plane x3 (words x4) xs0 x1 x2 x5) := by
  refine Eq.trans (b := ([⟨rPlane 9, act1 (addf (kernelRun0_B.sl.v6011 c arg4 harg4 arg5 harg5 arg10 harg10 arg11 x3 x4 xs0) (Tile.step (View.readAt (Elt F) arg4.view (rBytes 4 11).toLoadRect (harg4.unread x3)) (arg11.view.readCov (kernelRun0_B.sl.HS1_40 c arg5 harg5 x4) (rWords 0 4 11).toLoadRect) (arg11.view.readCov (kernelRun0_B.sl.HS1_40 c arg5 harg5 x4) (rWords 1 4 11).toLoadRect) (arg11.view.readCov (kernelRun0_B.sl.HS1_40 c arg5 harg5 x4) (rWords 2 4 11).toLoadRect) (arg11.view.readCov (kernelRun0_B.sl.HS1_40 c arg5 harg5 x4) (rWords 3 4 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 9).toLoadRect (harg6.unread x5))⟩, ⟨rPlane 8, act0 (addf (kernelRun0_B.sl.v6011 c arg4 harg4 arg5 harg5 arg10 harg10 arg11 x3 x4 xs0) (Tile.step (View.readAt (Elt F) arg4.view (rBytes 4 11).toLoadRect (harg4.unread x3)) (arg11.view.readCov (kernelRun0_B.sl.HS1_40 c arg5 harg5 x4) (rWords 0 4 11).toLoadRect) (arg11.view.readCov (kernelRun0_B.sl.HS1_40 c arg5 harg5 x4) (rWords 1 4 11).toLoadRect) (arg11.view.readCov (kernelRun0_B.sl.HS1_40 c arg5 harg5 x4) (rWords 2 4 11).toLoadRect) (arg11.view.readCov (kernelRun0_B.sl.HS1_40 c arg5 harg5 x4) (rWords 3 4 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 8).toLoadRect (harg6.unread x5))⟩, ⟨rPlane 7, act1 (addf (kernelRun0_B.sl.v5016 c arg4 harg4 arg5 harg5 arg10 harg10 arg11 x3 x4 xs0) (Tile.step (View.readAt (Elt F) arg4.view (rBytes 3 11).toLoadRect (harg4.unread x3)) (arg11.view.readCov (kernelRun0_B.sl.HS1_40 c arg5 harg5 x4) (rWords 0 3 11).toLoadRect) (arg11.view.readCov (kernelRun0_B.sl.HS1_40 c arg5 harg5 x4) (rWords 1 3 11).toLoadRect) (arg11.view.readCov (kernelRun0_B.sl.HS1_40 c arg5 harg5 x4) (rWords 2 3 11).toLoadRect) (arg11.view.readCov (kernelRun0_B.sl.HS1_40 c arg5 harg5 x4) (rWords 3 3 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 7).toLoadRect (harg6.unread x5))⟩, ⟨rPlane 6, act0 (addf (kernelRun0_B.sl.v5016 c arg4 harg4 arg5 harg5 arg10 harg10 arg11 x3 x4 xs0) (Tile.step (View.readAt (Elt F) arg4.view (rBytes 3 11).toLoadRect (harg4.unread x3)) (arg11.view.readCov (kernelRun0_B.sl.HS1_40 c arg5 harg5 x4) (rWords 0 3 11).toLoadRect) (arg11.view.readCov (kernelRun0_B.sl.HS1_40 c arg5 harg5 x4) (rWords 1 3 11).toLoadRect) (arg11.view.readCov (kernelRun0_B.sl.HS1_40 c arg5 harg5 x4) (rWords 2 3 11).toLoadRect) (arg11.view.readCov (kernelRun0_B.sl.HS1_40 c arg5 harg5 x4) (rWords 3 3 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 6).toLoadRect (harg6.unread x5))⟩, ⟨rPlane 5, act1 (addf (kernelRun0_B.sl.v4021 c arg4 harg4 arg5 harg5 arg10 harg10 arg11 x3 x4 xs0) (Tile.step (View.readAt (Elt F) arg4.view (rBytes 2 11).toLoadRect (harg4.unread x3)) (arg11.view.readCov (kernelRun0_B.sl.HS1_40 c arg5 harg5 x4) (rWords 0 2 11).toLoadRect) (arg11.view.readCov (kernelRun0_B.sl.HS1_40 c arg5 harg5 x4) (rWords 1 2 11).toLoadRect) (arg11.view.readCov (kernelRun0_B.sl.HS1_40 c arg5 harg5 x4) (rWords 2 2 11).toLoadRect) (arg11.view.readCov (kernelRun0_B.sl.HS1_40 c arg5 harg5 x4) (rWords 3 2 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 5).toLoadRect (harg6.unread x5))⟩, ⟨rPlane 4, act0 (addf (kernelRun0_B.sl.v4021 c arg4 harg4 arg5 harg5 arg10 harg10 arg11 x3 x4 xs0) (Tile.step (View.readAt (Elt F) arg4.view (rBytes 2 11).toLoadRect (harg4.unread x3)) (arg11.view.readCov (kernelRun0_B.sl.HS1_40 c arg5 harg5 x4) (rWords 0 2 11).toLoadRect) (arg11.view.readCov (kernelRun0_B.sl.HS1_40 c arg5 harg5 x4) (rWords 1 2 11).toLoadRect) (arg11.view.readCov (kernelRun0_B.sl.HS1_40 c arg5 harg5 x4) (rWords 2 2 11).toLoadRect) (arg11.view.readCov (kernelRun0_B.sl.HS1_40 c arg5 harg5 x4) (rWords 3 2 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 4).toLoadRect (harg6.unread x5))⟩, ⟨rPlane 3, act1 (addf (kernelRun0_B.sl.v3026 c arg4 harg4 arg5 harg5 arg10 harg10 arg11 x3 x4 xs0) (Tile.step (View.readAt (Elt F) arg4.view (rBytes 1 11).toLoadRect (harg4.unread x3)) (arg11.view.readCov (kernelRun0_B.sl.HS1_40 c arg5 harg5 x4) (rWords 0 1 11).toLoadRect) (arg11.view.readCov (kernelRun0_B.sl.HS1_40 c arg5 harg5 x4) (rWords 1 1 11).toLoadRect) (arg11.view.readCov (kernelRun0_B.sl.HS1_40 c arg5 harg5 x4) (rWords 2 1 11).toLoadRect) (arg11.view.readCov (kernelRun0_B.sl.HS1_40 c arg5 harg5 x4) (rWords 3 1 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 3).toLoadRect (harg6.unread x5))⟩, ⟨rPlane 2, act0 (addf (kernelRun0_B.sl.v3026 c arg4 harg4 arg5 harg5 arg10 harg10 arg11 x3 x4 xs0) (Tile.step (View.readAt (Elt F) arg4.view (rBytes 1 11).toLoadRect (harg4.unread x3)) (arg11.view.readCov (kernelRun0_B.sl.HS1_40 c arg5 harg5 x4) (rWords 0 1 11).toLoadRect) (arg11.view.readCov (kernelRun0_B.sl.HS1_40 c arg5 harg5 x4) (rWords 1 1 11).toLoadRect) (arg11.view.readCov (kernelRun0_B.sl.HS1_40 c arg5 harg5 x4) (rWords 2 1 11).toLoadRect) (arg11.view.readCov (kernelRun0_B.sl.HS1_40 c arg5 harg5 x4) (rWords 3 1 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 2).toLoadRect (harg6.unread x5))⟩, ⟨rPlane 1, act1 (addf (kernelRun0_B.sl.v2031 c arg4 harg4 arg5 harg5 arg10 harg10 arg11 x3 x4 xs0) (Tile.step (View.readAt (Elt F) arg4.view (rBytes 0 11).toLoadRect (harg4.unread x3)) (arg11.view.readCov (kernelRun0_B.sl.HS1_40 c arg5 harg5 x4) (rWords 0 0 11).toLoadRect) (arg11.view.readCov (kernelRun0_B.sl.HS1_40 c arg5 harg5 x4) (rWords 1 0 11).toLoadRect) (arg11.view.readCov (kernelRun0_B.sl.HS1_40 c arg5 harg5 x4) (rWords 2 0 11).toLoadRect) (arg11.view.readCov (kernelRun0_B.sl.HS1_40 c arg5 harg5 x4) (rWords 3 0 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 1).toLoadRect (harg6.unread x5))⟩, ⟨rPlane 0, act0 (addf (kernelRun0_B.sl.v2031 c arg4 harg4 arg5 harg5 arg10 harg10 arg11 x3 x4 xs0) (Tile.step (View.readAt (Elt F) arg4.view (rBytes 0 11).toLoadRect (harg4.unread x3)) (arg11.view.readCov (kernelRun0_B.sl.HS1_40 c arg5 harg5 x4) (rWords 0 0 11).toLoadRect) (arg11.view.readCov (kernelRun0_B.sl.HS1_40 c arg5 harg5 x4) (rWords 1 0 11).toLoadRect) (arg11.view.readCov (kernelRun0_B.sl.HS1_40 c arg5 harg5 x4) (rWords 2 0 11).toLoadRect) (arg11.view.readCov (kernelRun0_B.sl.HS1_40 c arg5 harg5 x4) (rWords 3 0 11).toLoadRect) (View.readAt (Elt F) arg10.view (rLeft 11).toLoadRect (harg10.unread xs0)))) (kernelRun0_B.sl.v1152 c arg2 harg2 x1) (kernelRun0_B.sl.v1148 c arg3 harg3 x2) (View.readAt (Elt F) arg6.view (rBias 0).toLoadRect (harg6.unread x5))⟩] : List (View.Piece (Elt F) S10x32x128 .f32))) rfl ?_
  rw [plane_0, plane_1, plane_2, plane_3, plane_4, plane_5, plane_6, plane_7, plane_8, plane_9]
  rfl

theorem rowMaxList : (kernelRun0_B.sl.HS3_1 c arg2 harg2 arg3 harg3 arg4 harg4 arg5 harg5 arg6 harg6 arg10 harg10 arg11 arg12 x1 x2 x3 x4 x5 xs0) = [⟨rAll, rowMaxOf (plane x3 (words x4) xs0 x1 x2 x5)⟩] := by
  refine Eq.trans (b := [⟨rAll, rowMax (arg12.view.readCov (kernelRun0_B.sl.HS2_10 c arg2 harg2 arg3 harg3 arg4 harg4 arg5 harg5 arg6 harg6 arg10 harg10 arg11 x1 x2 x3 x4 x5 xs0) (rPlane 0).toLoadRect) (arg12.view.readCov (kernelRun0_B.sl.HS2_10 c arg2 harg2 arg3 harg3 arg4 harg4 arg5 harg5 arg6 harg6 arg10 harg10 arg11 x1 x2 x3 x4 x5 xs0) (rPlane 1).toLoadRect) (arg12.view.readCov (kernelRun0_B.sl.HS2_10 c arg2 harg2 arg3 harg3 arg4 harg4 arg5 harg5 arg6 harg6 arg10 harg10 arg11 x1 x2 x3 x4 x5 xs0) (rPlane 2).toLoadRect) (arg12.view.readCov (kernelRun0_B.sl.HS2_10 c arg2 harg2 arg3 harg3 arg4 harg4 arg5 harg5 arg6 harg6 arg10 harg10 arg11 x1 x2 x3 x4 x5 xs0) (rPlane 3).toLoadRect) (arg12.view.readCov (kernelRun0_B.sl.HS2_10 c arg2 harg2 arg3 harg3 arg4 harg4 arg5 harg5 arg6 harg6 arg10 harg10 arg11 x1 x2 x3 x4 x5 xs0) (rPlane 4).toLoadRect) (arg12.view.readCov (kernelRun0_B.sl.HS2_10 c arg2 harg2 arg3 harg3 arg4 harg4 arg5 harg5 arg6 harg6 arg10 harg10 arg11 x1 x2 x3 x4 x5 xs0) (rPlane 5).toLoadRect) (arg12.view.readCov (kernelRun0_B.sl.HS2_10 c arg2 harg2 arg3 harg3 arg4 harg4 arg5 harg5 arg6 harg6 arg10 harg10 arg11 x1 x2 x3 x4 x5 xs0) (rPlane 6).toLoadRect) (arg12.view.readCov (kernelRun0_B.sl.HS2_10 c arg2 harg2 arg3 harg3 arg4 harg4 arg5 harg5 arg6 harg6 arg10 harg10 arg11 x1 x2 x3 x4 x5 xs0) (rPlane 7).toLoadRect) (arg12.view.readCov (kernelRun0_B.sl.HS2_10 c arg2 harg2 arg3 harg3 arg4 harg4 arg5 harg5 arg6 harg6 arg10 harg10 arg11 x1 x2 x3 x4 x5 xs0) (rPlane 8).toLoadRect) (arg12.view.readCov (kernelRun0_B.sl.HS2_10 c arg2 harg2 arg3 harg3 arg4 harg4 arg5 harg5 arg6 harg6 arg10 harg10 arg11 x1 x2 x3 x4 x5 xs0) (rPlane 9).toLoadRect)⟩]) rfl ?_
  rw [planesList, planes_read, planes_read, planes_read, planes_read, planes_read, planes_read, planes_read, planes_read, planes_read, planes_read]
  rfl

theorem evenWord : (kernelRun0_B.sl.v6174 c arg2 harg2 arg3 harg3 arg4 harg4 arg5 harg5 arg6 harg6 arg10 harg10 arg11 arg12 arg13 x1 x2 x3 x4 x5 xs0) = fun i => rowMaxOf (plane x3 (words x4) xs0 x1 x2 x5) (ix2 (⟨2 * (i 0).val, by have : (i 0).val < 16 := (i 0).isLt; omega⟩ : Fin 32) (i 1)) := by
  refine Eq.trans (b := arg13.view.readCov (kernelRun0_B.sl.HS3_1 c arg2 harg2 arg3 harg3 arg4 harg4 arg5 harg5 arg6 harg6 arg10 harg10 arg11 arg12 x1 x2 x3 x4 x5 xs0) rEven.toLoadRect) rfl ?_
  rw [rowMaxList, read_even]

theorem oddWord : (kernelRun0_B.sl.v6175 c arg2 harg2 arg3 harg3 arg4 harg4 arg5 harg5 arg6 harg6 arg10 harg10 arg11 arg12 arg13 x1 x2 x3 x4 x5 xs0) = fun i => rowMaxOf (plane x3 (words x4) xs0 x1 x2 x5) (ix2 (⟨2 * (i 0).val + 1, by have : (i 0).val < 16 := (i 0).isLt; omega⟩ : Fin 32) (i 1)) := by
  refine Eq.trans (b := arg13.view.readCov (kernelRun0_B.sl.HS3_1 c arg2 harg2 arg3 harg3 arg4 harg4 arg5 harg5 arg6 harg6 arg10 harg10 arg11 arg12 x1 x2 x3 x4 x5 xs0) rOdd.toLoadRect) rfl ?_
  rw [rowMaxList, read_odd]

/-- The larger row of each pair. -/
theorem pairMaxWord : maximumf (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0) = pairMax (rowMaxOf (plane x3 (words x4) xs0 x1 x2 x5)) := by
  rw [evenWord, oddWord]
  rfl

theorem scaleWordEven : k0_pay789 (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0) = scaleOf (pairMax (rowMaxOf (plane x3 (words x4) xs0 x1 x2 x5))) := by
  refine Eq.trans (b := shapeCast S16x128 (scaleOf (maximumf (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0))) shapeCasts_S16x128_S16x128) rfl ?_
  rw [pairMaxWord, shapeCast_self]

theorem scaleWordOdd : (kernelRun0_B.sl.v6194 c arg2 harg2 arg3 harg3 arg4 harg4 arg5 harg5 arg6 harg6 arg10 harg10 arg11 arg12 arg13 x1 x2 x3 x4 x5 xs0) = scaleOf (pairMax (rowMaxOf (plane x3 (words x4) xs0 x1 x2 x5))) := by
  refine Eq.trans (b := shapeCast S16x128 (scaleOf (maximumf (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0))) shapeCasts_S16x128_S16x128) rfl ?_
  rw [pairMaxWord, shapeCast_self]

theorem scaleList : (kernelRun0_B.sl.HS3_3 c arg2 harg2 arg3 harg3 arg4 harg4 arg5 harg5 arg6 harg6 arg10 harg10 arg11 arg12 arg13 x1 x2 x3 x4 x5 xs0) = (⟨rOdd, scaleOf (pairMax (rowMaxOf (plane x3 (words x4) xs0 x1 x2 x5)))⟩ : View.Piece (Elt F) S32x128 .f32) :: (⟨rEven, scaleOf (pairMax (rowMaxOf (plane x3 (words x4) xs0 x1 x2 x5)))⟩ : View.Piece (Elt F) S32x128 .f32) :: (kernelRun0_B.sl.HS3_1 c arg2 harg2 arg3 harg3 arg4 harg4 arg5 harg5 arg6 harg6 arg10 harg10 arg11 arg12 x1 x2 x3 x4 x5 xs0) := by
  refine Eq.trans (b := (⟨rOdd, (kernelRun0_B.sl.v6194 c arg2 harg2 arg3 harg3 arg4 harg4 arg5 harg5 arg6 harg6 arg10 harg10 arg11 arg12 arg13 x1 x2 x3 x4 x5 xs0)⟩ : View.Piece (Elt F) S32x128 .f32) :: (⟨rEven, k0_pay789 (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0)⟩ : View.Piece (Elt F) S32x128 .f32) :: (kernelRun0_B.sl.HS3_1 c arg2 harg2 arg3 harg3 arg4 harg4 arg5 harg5 arg6 harg6 arg10 harg10 arg11 arg12 x1 x2 x3 x4 x5 xs0)) rfl ?_
  rw [scaleWordEven, scaleWordOdd]

theorem recipWord : (kernelRun0_B.sl.v6197 c arg2 harg2 arg3 harg3 arg4 harg4 arg5 harg5 arg6 harg6 arg10 harg10 arg11 arg12 arg13 x1 x2 x3 x4 x5 xs0) = recip (twice (scaleOf (pairMax (rowMaxOf (plane x3 (words x4) xs0 x1 x2 x5))))) := by
  refine Eq.trans (b := recip (arg13.view.readCov (kernelRun0_B.sl.HS3_3 c arg2 harg2 arg3 harg3 arg4 harg4 arg5 harg5 arg6 harg6 arg10 harg10 arg11 arg12 arg13 x1 x2 x3 x4 x5 xs0) rAll.toLoadRect)) rfl ?_
  rw [scaleList, read_twice]

variable (i : grid0.Coords) (arg7 : Memref sig .tc .vmem S1x1x16x128 .f32) (harg7 : arg7.IsWhole) (arg8 : Memref sig .tc .vmem S1x1x16x128 .f32) (harg8 : arg8.IsWhole) (arg9 : Memref sig .tc .vmem S1x1x20x16x128 .f32) (harg9 : arg9.IsWhole) (hc0 : ¬cond0_0 i)

theorem out6_eq : out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 = out6 (plane x3 (words x4) xs0 x1 x2 x5) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine Eq.trans (b := View.canon [(⟨Rect.unit ![0, 0, 0, 0] S1x1x16x128.size inb_S1x1x16x128_S1x1x16x128_0_0_0_0, shapeCast S1x1x16x128 (maximumf (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0)) shapeCasts_S16x128_S1x1x16x128⟩ : View.Piece (Elt F) S1x1x16x128 .f32)]) rfl ?_
  rw [View.canon_cons_unit_lit _ _ _ (by decide), pairMaxWord]
  rfl

theorem out7_eq : out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 = out7 (plane x3 (words x4) xs0 x1 x2 x5) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine Eq.trans (b := View.canon [(⟨Rect.unit ![0, 0, 0, 0] S1x1x16x128.size inb_S1x1x16x128_S1x1x16x128_0_0_0_0, shapeCast S1x1x16x128 (scaleOf (maximumf (kernelRun0_B.sl.v6174 c arg2 harg2 arg3 harg3 arg4 harg4 arg5 harg5 arg6 harg6 arg10 harg10 arg11 arg12 arg13 x1 x2 x3 x4 x5 xs0) (kernelRun0_B.sl.v6175 c arg2 harg2 arg3 harg3 arg4 harg4 arg5 harg5 arg6 harg6 arg10 harg10 arg11 arg12 arg13 x1 x2 x3 x4 x5 xs0))) shapeCasts_S16x128_S1x1x16x128⟩ : View.Piece (Elt F) S1x1x16x128 .f32)]) rfl ?_
  rw [View.canon_cons_unit_lit _ _ _ (by decide), pairMaxWord]
  rfl

theorem out8_eq : out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 = out8 (plane x3 (words x4) xs0 x1 x2 x5) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine Eq.trans (b := View.canon ([⟨rOut 19, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 9).toLoadRect))⟩, ⟨rOut 18, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 9).toLoadRect))⟩, ⟨rOut 17, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 8).toLoadRect))⟩, ⟨rOut 16, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 8).toLoadRect))⟩, ⟨rOut 15, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 7).toLoadRect))⟩, ⟨rOut 14, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 7).toLoadRect))⟩, ⟨rOut 13, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 6).toLoadRect))⟩, ⟨rOut 12, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 6).toLoadRect))⟩, ⟨rOut 11, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 5).toLoadRect))⟩, ⟨rOut 10, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 5).toLoadRect))⟩, ⟨rOut 9, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 4).toLoadRect))⟩, ⟨rOut 8, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 4).toLoadRect))⟩, ⟨rOut 7, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 3).toLoadRect))⟩, ⟨rOut 6, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 3).toLoadRect))⟩, ⟨rOut 5, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 2).toLoadRect))⟩, ⟨rOut 4, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 2).toLoadRect))⟩, ⟨rOut 3, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 1).toLoadRect))⟩, ⟨rOut 2, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 1).toLoadRect))⟩, ⟨rOut 1, unpack 64#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 0).toLoadRect))⟩, ⟨rOut 0, unpack 0#32 (codes (kernelRun0_B.sl.v6197 c arg2 harg2 arg3 harg3 arg4 harg4 arg5 harg5 arg6 harg6 arg10 harg10 arg11 arg12 arg13 x1 x2 x3 x4 x5 xs0) (arg12.view.readCov (kernelRun0_B.sl.HS2_10 c arg2 harg2 arg3 harg3 arg4 harg4 arg5 harg5 arg6 harg6 arg10 harg10 arg11 x1 x2 x3 x4 x5 xs0) (rPlane 0).toLoadRect))⟩] : List (View.Piece (Elt F) S1x1x20x16x128 .f32))) rfl ?_
  rw [planesList, planes_read, planes_read, planes_read, planes_read, planes_read, planes_read, planes_read, planes_read, planes_read, planes_read, recipWord]
  exact canon_out (plane x3 (words x4) xs0 x1 x2 x5)

end Cert.KernelIdeal.CaseB
-- ==== Proof.Blocks.lean ====
/-
  The blocks the six input windows hand a point, read from the arguments.
-/
module

public import proofs.«01_k».proof.Proof.Gen.KernelIdeal.Value
public import Idealize.ShloMosaic.Lib.Pipeline.ValueKit
public import Idealize.ShloMosaic.Lib.Pipeline.ValueKit.Point
public import Idealize.ShloMosaic.Lib.Claim
public import Idealize.ShloMosaic.Lib.Pointwise

@[expose] public section

set_option maxRecDepth 4096

noncomputable section

namespace Cert.KernelIdeal.Blocks

open Cert.KernelIdeal Cert.KernelIdeal.Gen Idealize.ShloMosaic Idealize.ShloMosaic.TcCoe

variable (m : (ℓ : Loc nD τ sig) → Buf (Elt Ideal) ℓ) (c : Dev nD)

theorem idx : ∀ t : Fin cfg0.N, win0_0.index t = ![t.val / 4, 0, 0, 0] ∧ win0_1.index t = ![t.val / 4, 0, 0] ∧ win0_2.index t = ![t.val / 4, t.val % 4, 0, 0]
    ∧ win0_3.index t = ![t.val / 4, t.val % 4, 0, 0] ∧ win0_4.index t = ![t.val / 4, t.val % 4, 0, 0] ∧ win0_5.index t = ![t.val / 4, t.val % 4, 0, 0] :=
  (by decide +kernel : ∀ t : Fin grid0.N, _)

/-- The token of a point. -/
abbrev tok (t : Fin cfg0.N) : Fin 16 := ⟨t.val / 4, by have := lt_of_lt_of_eq t.isLt (show cfg0.N = 64 from N_0); omega⟩
/-- The expert of a point. -/
abbrev ex (t : Fin cfg0.N) : Fin 4 := ⟨t.val % 4, by omega⟩

theorem blk3 (t : Fin cfg0.N) (n : Fin 1536) (d : Fin 1280) :
    iblk m c 3 t (ix4 (0 : Fin 1) (0 : Fin 1) n d) = m ((c : Thread nD τ).loc main_arg3) (ix4 (tok t) (ex t) n d) := by
  blk_ext [iblk, V, idx t]

theorem blk4 (t : Fin cfg0.N) (k : Fin 48) (j : Fin 2560) :
    iblk m c 4 t (ix4 (0 : Fin 1) (0 : Fin 1) k j) = m ((c : Thread nD τ).loc main_arg4) (ix4 (tok t) (ex t) k j) := by
  blk_ext [iblk, V, idx t]

theorem blk0 (t : Fin cfg0.N) (g : Fin 12) (b : Fin 16) (l : Fin 128) :
    iblk m c 0 t (ix4 (0 : Fin 1) g b l) = m ((c : Thread nD τ).loc main_arg0) (ix3 b (tok t) (⟨128 * g.val + l.val, by omega⟩ : Fin 1536)) := by
  have h : iblk m c 0 t (ix4 (0 : Fin 1) g b l) = V m c main_v1 (ix4 (tok t) g b l) := by
    blk_ext [iblk, idx t]
  rw [h]
  entry_read
  pointwise
  exact congrArg (fun z => m (c, Proc.tc.devRef main_arg0) (ix3 b (tok t) z)) (Fin.ext (by show g.val * 128 + l.val = 128 * g.val + l.val; omega))

theorem blk1 (t : Fin cfg0.N) (r : Fin 32) (l : Fin 128) :
    iblk m c 1 t (ix3 (0 : Fin 1) r l) = m ((c : Thread nD τ).loc main_arg1) (ix2 (⟨r.val / 2, by omega⟩ : Fin 16) (tok t)) := by
  have h : iblk m c 1 t (ix3 (0 : Fin 1) r l) = V m c main_v5 (ix3 (tok t) r l) := by
    blk_ext [iblk, idx t]
  rw [h]
  entry_read
  pointwise

theorem blk2 (t : Fin cfg0.N) (r : Fin 32) (l : Fin 128) :
    iblk m c 2 t (ix4 (0 : Fin 1) (0 : Fin 1) r l) = m ((c : Thread nD τ).loc main_arg2) (ix3 (⟨r.val / 2, by omega⟩ : Fin 16) (ex t) (tok t)) := by
  have h : iblk m c 2 t (ix4 (0 : Fin 1) (0 : Fin 1) r l) = V m c main_v9 (ix4 (tok t) (ex t) r l) := by
    blk_ext [iblk, idx t]
  rw [h]
  entry_read
  pointwise

theorem blk5 (t : Fin cfg0.N) (k : Fin 8) (d : Fin 1280) :
    iblk m c 5 t (ix4 (0 : Fin 1) (0 : Fin 1) k d) = m ((c : Thread nD τ).loc main_arg5) (ix3 (tok t) (ex t) (⟨2 * d.val + k.val % 2, by omega⟩ : Fin 2560)) := by
  have h : iblk m c 5 t (ix4 (0 : Fin 1) (0 : Fin 1) k d) = V m c main_v13 (ix4 (tok t) (ex t) k d) := by
    blk_ext [iblk, idx t]
  rw [h]
  entry_read
  pointwise
  exact congrArg (fun z => m (c, Proc.tc.devRef main_arg5) (ix3 (tok t) (ex t) z)) (Fin.ext (by show d.val * 2 + k.val % 2 = 2 * d.val + k.val % 2; omega))

end Cert.KernelIdeal.Blocks
-- ==== Proof.Spec.lean ====
/-
  What the results are, in plain mathematics over the extended reals: the expert product, the activation, the row's
  largest magnitude, its scale and its codes.
-/
module

public import proofs.«01_k».proof.Proof.Tile
public import proofs.«01_k».proof.Proof.Scales

@[expose] public section

noncomputable section

namespace Cert.Spec

open Idealize.ShloMosaic Cert.KernelIdeal.Tile Cert.KernelIdeal.Scales

/-- The value of a four-bit code. -/
def val4 (v : BitVec 4) : EReal := Ideal.ofBits .bf16 (bits4 v)

/-- The value of a scale byte, 64 times the power of two it names. -/
def val8 (b : BitVec 8) : EReal := Ideal.ofBits .bf16 (scaleBits b)

/-- One sixty-fourth. -/
def inv64 : EReal := Ideal.ofBits .f32 0x3C800000#32

/-- A row of codes times a column of scaled four-bit weights. -/
def prod (x : Fin 1536 → EReal) (w : Fin 1536 → BitVec 8) (p : Fin 2) (e : Fin 48 → BitVec 8) : EReal :=
  ∑ n : Fin 1536, x n * (val4 (nibble (w n) p.val) * val8 (e ⟨n.val / 32, by omega⟩))

/-- The product, scaled and biased. -/
def hid (p s b : EReal) : EReal := p * (s * inv64) + b

/-- The activation, times the gate. -/
def gelu (h g : EReal) : EReal := h * Ideal.ofBits .f32 0x3F000000#32 * (Ideal.erf (h * (((Real.sqrt 2)⁻¹ : ℝ) : EReal)) + 1) * g

/-- The largest magnitude of a row. -/
def amax (u : Fin 2560 → EReal) : EReal := Finset.univ.sup fun j => FloatOps.absf (F := Ideal) (φ := .f32) (u j)

/-- The scale of a largest magnitude: a 448th of it, one where it is zero. -/
def scale (a : EReal) : EReal := if a = 0 then 1 else a * ((1 / 448 : ℝ) : EReal)

/-- A value over its scale, clipped. -/
def code (s u : EReal) : EReal := min (Ideal.ofBits .f32 0x43E00000#32) (max (Ideal.ofBits .f32 0xC3E00000#32) (u * Ideal.div 1 s))

/-- The activations: of token `t`, expert `e`, row `r` and column `j`. -/
def act (x : Fin 16 → Fin 16 → Fin 1536 → EReal) (s : Fin 16 → Fin 16 → EReal) (g : Fin 16 → Fin 4 → Fin 16 → EReal)
    (w : Fin 16 → Fin 4 → Fin 1536 → Fin 1280 → BitVec 8) (q : Fin 16 → Fin 4 → Fin 48 → Fin 2560 → BitVec 8) (b : Fin 16 → Fin 4 → Fin 2560 → EReal)
    (t : Fin 16) (e : Fin 4) (r : Fin 16) (j : Fin 2560) : EReal :=
  gelu (hid (prod (x r t) (fun n => w t e n ⟨j.val / 2, by omega⟩) ⟨j.val % 2, by omega⟩ (fun k => q t e k j)) (s r t) (b t e j)) (g r e t)

theorem inv64_eq : inv64 = ((1 / 64 : ℝ) : EReal) := by
  simp [inv64, Ideal.ofBits, Ideal.ieee, -EReal.coe_mul]; norm_num

/-- A positive real comes out of a sum. -/
theorem mul_sum_real {ι : Type} (S : Finset ι) (f : ι → EReal) (a : ℝ) (ha : 0 < a) : (a : EReal) * ∑ i ∈ S, f i = ∑ i ∈ S, (a : EReal) * f i := by
  classical
  induction S using Finset.induction_on with
  | empty => simp
  | insert i S hi ih =>
    rw [Finset.sum_insert hi, Finset.sum_insert hi, ← ih]
    exact EReal.left_distrib_of_nonneg_of_ne_top (by exact_mod_cast ha.le) (EReal.coe_ne_top a) _ _

/-- The product with the sixty-fourth inside the weights. -/
theorem prod_inside (x : Fin 1536 → EReal) (w : Fin 1536 → BitVec 8) (p : Fin 2) (e : Fin 48 → BitVec 8) (s : EReal) :
    (∑ n : Fin 1536, val4 (nibble (w n) p.val) * inv64 * val8 (e ⟨n.val / 32, by omega⟩) * x n) * s = prod x w p e * (s * inv64) := by
  have h : (∑ n : Fin 1536, val4 (nibble (w n) p.val) * inv64 * val8 (e ⟨n.val / 32, by omega⟩) * x n) = inv64 * prod x w p e := by
    rw [prod, inv64_eq, mul_sum_real _ _ _ (by norm_num)]
    refine Finset.sum_congr rfl fun n _ => ?_
    ac_rfl
  rw [h]
  ac_rfl

end Cert.Spec
-- ==== Proof.Values.lean ====
/-
  The decoded values: a four-bit code and a scale byte, as the reference's arithmetic and as bfloat16 bits, and the
  constants.
-/
module

public import proofs.«01_k».proof.Proof.Spec

@[expose] public section

noncomputable section

namespace Cert.Spec

open Idealize.ShloMosaic Cert.KernelIdeal.Tile Cert.KernelIdeal.Scales

/-- The whole number the reference decodes a four-bit code's magnitude to, twice the magnitude. -/
def magInt (n : BitVec 32) : BitVec 32 :=
  Scalar.select (IntOp.cmpi CmpIPredicate.eq (IntOp.andi (IntOp.shrui ArithUnit.host n 1#32) 3#32) 0#32) (IntOp.andi n 1#32)
    (IntOp.shrui ArithUnit.host (IntOp.shli ArithUnit.host (IntOp.addi (IntOp.andi n 1#32) 2#32) (IntOp.andi (IntOp.shrui ArithUnit.host n 1#32) 3#32)) 1#32)

/-- The reference's value of a four-bit code. -/
def refVal (n : BitVec 32) : EReal :=
  Scalar.select (IntOp.cmpi CmpIPredicate.eq (IntOp.andi n 8#32) 0#32)
    (FloatOps.uitofp (F := Ideal) FTy.f32 (magInt n) * Ideal.ofBits FTy.f32 1056964608#32)
    (-(FloatOps.uitofp (F := Ideal) FTy.f32 (magInt n) * Ideal.ofBits FTy.f32 1056964608#32))

theorem half_eq : Ideal.ofBits FTy.f32 1056964608#32 = ((1 / 2 : ℝ) : EReal) := by
  simp [Ideal.ofBits, Ideal.ieee, -EReal.coe_mul]; norm_num

/-- Twice the magnitudes. -/
def twiceMag : Nat → Nat
  | 0 => 0 | 1 => 1 | 2 => 2 | 3 => 3 | 4 => 4 | 5 => 6 | 6 => 8 | _ => 12

/-- The bfloat16 bits of the magnitudes. -/
def magBits : Nat → BitVec 16
  | 0 => 0x0000#16 | 1 => 0x3F00#16 | 2 => 0x3F80#16 | 3 => 0x3FC0#16 | 4 => 0x4000#16 | 5 => 0x4040#16 | 6 => 0x4080#16 | _ => 0x40C0#16

theorem magInt_table : ∀ v : Fin 16, (magInt (BitVec.ofNat 32 v.val)).toNat = twiceMag (v.val % 8) := by decide +kernel
theorem sign_table : ∀ v : Fin 16, IntOp.cmpi CmpIPredicate.eq (IntOp.andi (BitVec.ofNat 32 v.val) 8#32) 0#32 = if v.val < 8 then 1#1 else 0#1 := by decide +kernel
theorem bits_table : ∀ v : Fin 16, bits4 (BitVec.ofNat 4 v.val) = magBits (v.val % 8) ||| (if v.val < 8 then 0#16 else 0x8000#16) := by decide +kernel

theorem refVal_nat (v : Fin 16) : refVal (BitVec.ofNat 32 v.val) = val4 (BitVec.ofNat 4 v.val) := by
  have hu : FloatOps.uitofp (F := Ideal) FTy.f32 (magInt (BitVec.ofNat 32 v.val)) = (((twiceMag (v.val % 8) : Nat) : ℝ) : EReal) := by
    rw [← magInt_table v]; rfl
  rw [refVal, val4, hu, half_eq, sign_table, bits_table, ← EReal.coe_mul, ← EReal.coe_neg]
  fin_cases v <;> simp [twiceMag, magBits, Scalar.select, Ideal.ofBits, Ideal.ieee, -EReal.coe_mul, -EReal.coe_neg] <;> norm_num

theorem low_table : ∀ b : BitVec 8, IntOp.andi (BitVec.setWidth 32 b) 15#32 = BitVec.ofNat 32 (nibble b 0).toNat := by decide +kernel
theorem high_table : ∀ b : BitVec 8, IntOp.shrui ArithUnit.host (BitVec.setWidth 32 b) 4#32 = BitVec.ofNat 32 (nibble b 1).toNat := by decide +kernel

theorem refVal_nibble (v : BitVec 4) : refVal (BitVec.ofNat 32 v.toNat) = val4 v :=
  (refVal_nat ⟨v.toNat, v.isLt⟩).trans (congrArg val4 (BitVec.ofNat_toNat _ _ |>.trans (BitVec.setWidth_eq v)))

theorem refVal_low (b : BitVec 8) : refVal (IntOp.andi (BitVec.setWidth 32 b) 15#32) = val4 (nibble b 0) := by
  rw [low_table, refVal_nibble]
theorem refVal_high (b : BitVec 8) : refVal (IntOp.shrui ArithUnit.host (BitVec.setWidth 32 b) 4#32) = val4 (nibble b 1) := by
  rw [high_table, refVal_nibble]

/-- The reference's scale bits. -/
def refScale (b : BitVec 8) : BitVec 32 := IntOp.shli ArithUnit.host (IntOp.addi (BitVec.setWidth 32 b) 6#32) 23#32

theorem refScale_fields : ∀ b : BitVec 8, b.toNat < 250 → (refScale b).extractLsb' 31 1 = 0#1 ∧ ((refScale b).extractLsb' 23 8).toNat = b.toNat + 6 ∧
    ((refScale b).extractLsb' 0 23).toNat = 0 := by decide +kernel
theorem scaleBits_fields : ∀ b : BitVec 8, b.toNat < 250 → (scaleBits b).extractLsb' 15 1 = 0#1 ∧ ((scaleBits b).extractLsb' 7 8).toNat = b.toNat + 6 ∧
    ((scaleBits b).extractLsb' 0 7).toNat = 0 := by decide +kernel

theorem ieee_pow (m k : Nat) {w : Nat} (b : BitVec w) (h1 : b.extractLsb' (8 + m) 1 = 0#1) (h2 : (b.extractLsb' m 8).toNat = k + 6) (h3 : (b.extractLsb' 0 m).toNat = 0) :
    Ideal.ieee 8 m b = if k = 249 then ⊤ else (((2 : ℝ) ^ ((k : Int) - 121) : ℝ) : EReal) := by
  unfold Ideal.ieee
  simp only [h1, h2, h3]
  by_cases hk : k = 249
  · rw [if_pos (by omega), if_pos hk, if_pos trivial]; rfl
  · rw [if_neg (by omega), if_neg (by omega), if_neg hk]
    congr 1
    rw [show ((k : Int) - 121) = (((k + 6 : Nat) : Int) - (2 ^ (8 - 1) - 1) - (m : Nat)) + (m : Nat) by push_cast; ring, zpow_add₀ (by norm_num), zpow_natCast]
    simp
    ring

theorem refScale_eq (b : BitVec 8) (h : b.toNat < 250) : Ideal.ofBits .f32 (refScale b) = val8 b := by
  obtain ⟨a1, a2, a3⟩ := refScale_fields b h
  obtain ⟨b1, b2, b3⟩ := scaleBits_fields b h
  exact (ieee_pow 23 b.toNat (refScale b) a1 a2 a3).trans (ieee_pow 7 b.toNat (scaleBits b) b1 b2 b3).symm

/-! ## The constants -/

theorem two_eq : Ideal.ofBits .f32 0x40000000#32 = ((2 : ℝ) : EReal) := by
  simp [Ideal.ofBits, Ideal.ieee, -EReal.coe_mul]; norm_num

theorem sqrt_two : Ideal.sqrt (Ideal.ofBits .f32 0x40000000#32) = ((Real.sqrt 2 : ℝ) : EReal) := by
  rw [two_eq, Ideal.sqrt_coe, if_neg (by norm_num)]

theorem div_sqrt_two (x : EReal) : Ideal.div x (Ideal.sqrt (Ideal.ofBits .f32 0x40000000#32)) = x * (((Real.sqrt 2)⁻¹ : ℝ) : EReal) := by
  rw [sqrt_two, Ideal.div_coe (by positivity), one_div]

theorem four48_eq : Ideal.ofBits .f32 0x43E00000#32 = ((448 : ℝ) : EReal) := by
  simp [Ideal.ofBits, Ideal.ieee, -EReal.coe_mul]; norm_num

theorem div_448 (x : EReal) : Ideal.div x (Ideal.ofBits .f32 0x43E00000#32) = x * ((1 / 448 : ℝ) : EReal) := by
  rw [four48_eq, Ideal.div_coe (by norm_num)]

theorem bot_eq : Ideal.ofBits .f32 0xFF800000#32 = ⊥ := by
  simp [Ideal.ofBits, Ideal.ieee]

theorem scale_ne (a : EReal) : scale a ≠ 0 := by
  unfold scale
  split
  · exact one_ne_zero
  · rename_i h
    exact mul_ne_zero h (by norm_num)

/-- Dividing by a scale is multiplying by its reciprocal. -/
theorem div_scale (u a : EReal) : Ideal.div u (scale a) = u * Ideal.div 1 (scale a) := by
  rw [Ideal.div, Ideal.div, if_neg (scale_ne a), if_neg (scale_ne a), one_mul]

end Cert.Spec
-- ==== Proof.Read.lean ====
/-
  The parts of the body read at an index over the extended reals.
-/
module

public import proofs.«01_k».proof.Proof.Parts
public import proofs.«01_k».proof.Proof.Values

@[expose] public section

set_option maxRecDepth 4096

noncomputable section

namespace Cert.KernelIdeal.Body

open Cert.KernelIdeal Cert.KernelIdeal.Gen Idealize.ShloMosaic Idealize.ShloMosaic.TcCoe

/-! ## Lane indices -/

theorem spread16_apply (off : BitVec 32) (h : off = 0#32 ∨ off = 64#32) (r : Fin 16) (l : Fin 128) :
    wrap16 (spread16 off) (ix2 r l) = BitVec.ofNat 32 (off.toNat + l.val / 2) := by
  unfold wrap16 spread16 lane16 twoSign
  pointwise
  rcases h with rfl | rfl <;> revert l <;> decide +kernel

theorem spread32_apply (off : BitVec 32) (h : off = 0#32 ∨ off = 64#32) (r : Fin 32) (l : Fin 128) :
    wrap32 (spread32 off) (ix2 r l) = BitVec.ofNat 32 (off.toNat + l.val / 2) := by
  unfold wrap32 spread32 lane32 twoSign
  pointwise
  rcases h with rfl | rfl <;> revert l <;> decide +kernel

theorem evenLane_apply (r : Fin 16) (l : Fin 128) : evenLane (ix2 r l) = if l.val % 2 = 0 then 1#1 else 0#1 := by
  unfold evenLane lane16 two
  pointwise
  revert l
  decide +kernel

/-! ## The left operand -/

theorem spread16_nat (off : BitVec 32) (h : off = 0#32 ∨ off = 64#32) (r : Fin 16) (l : Fin 128) (hn) :
    (⟨(wrap16 (spread16 off) (ix2 r l)).toNat % 128, hn⟩ : Fin 128) = ⟨off.toNat + l.val / 2, by rcases h with rfl | rfl <;> simp <;> omega⟩ := by
  apply Fin.ext
  show (wrap16 (spread16 off) (ix2 r l)).toNat % 128 = off.toNat + l.val / 2
  rw [spread16_apply off h]
  rcases h with rfl | rfl <;> simp <;> omega

theorem spread32_nat (off : BitVec 32) (h : off = 0#32 ∨ off = 64#32) (r : Fin 32) (l : Fin 128) (hn) :
    (⟨(wrap32 (spread32 off) (ix2 r l)).toNat % 128, hn⟩ : Fin 128) = ⟨off.toNat + l.val / 2, by rcases h with rfl | rfl <;> simp <;> omega⟩ := by
  apply Fin.ext
  show (wrap32 (spread32 off) (ix2 r l)).toNat % 128 = off.toNat + l.val / 2
  rw [spread32_apply off h]
  rcases h with rfl | rfl <;> simp <;> omega

theorem block_apply (off : BitVec 32) (h : off = 0#32 ∨ off = 64#32) (v : Vec Ideal S1x1x16x128 .f32) (b : Fin 16) (p : Fin 2) (l : Fin 128) :
    block off v (ix3 b p l) = if l.val % 2 = p.val then v (ix4 (0 : Fin 1) (0 : Fin 1) b (⟨off.toNat + l.val / 2, by rcases h with rfl | rfl <;> simp <;> omega⟩ : Fin 128)) else 0 := by
  unfold block
  pointwise
  rw [evenLane_apply, spread16_nat off h]
  by_cases hp : p.val % 2 = 0 <;> by_cases hl : l.val % 2 = 0
  · rw [if_pos hp, if_pos hl, if_pos (by omega)]; rfl
  · rw [if_pos hp, if_neg hl, if_neg (by omega)]; rfl
  · rw [if_neg hp, if_pos hl, if_neg (by omega)]; rfl
  · rw [if_neg hp, if_neg hl, if_pos (by omega)]; rfl

/-! ## The activation -/

theorem inv_sqrt2 : (Named.named κ "inv_sqrt2" 1060439283#32 : Ideal .f32) = (((Real.sqrt 2)⁻¹ : ℝ) : EReal) := rfl
theorem inv_448 : (Named.named κ "inv_fp8_max" 991054117#32 : Ideal .f32) = ((1 / 448 : ℝ) : EReal) := rfl

theorem act_apply (p xs g : FVec Ideal S32x128 .f32) (b : Vec Ideal S1x1x8x128 .f32) (r : Fin 32) (l : Fin 128) :
    act p xs g b (ix3 (0 : Fin 1) r l) = Spec.gelu (p (ix2 r l) * xs (ix2 r l) + b (ix4 (0 : Fin 1) (0 : Fin 1) (⟨r.val % 8, by omega⟩ : Fin 8) l)) (g (ix2 r l)) := by
  unfold act Spec.gelu
  pointwise
  have hb : ∀ {z : EReal}, (∃ k : Fin 8, k.val = r.val % 8 ∧ z = b (ix4 (0 : Fin 1) (0 : Fin 1) k l)) → z = b (ix4 (0 : Fin 1) (0 : Fin 1) (⟨r.val % 8, by omega⟩ : Fin 8) l) := by
    rintro z ⟨k, hk, rfl⟩
    exact congrArg (fun q => b (ix4 (0 : Fin 1) (0 : Fin 1) q l)) (Fin.ext hk)
  have e : (if h : r.val < 8 then b (ix4 (0 : Fin 1) (0 : Fin 1) (⟨r.val, h⟩ : Fin 8) l)
            else if h : r.val - 8 < 8 then b (ix4 (0 : Fin 1) (0 : Fin 1) (⟨r.val - 8, h⟩ : Fin 8) l)
              else if h : r.val - 8 - 8 < 8 then b (ix4 (0 : Fin 1) (0 : Fin 1) (⟨r.val - 8 - 8, h⟩ : Fin 8) l) else b (ix4 (0 : Fin 1) (0 : Fin 1) (⟨r.val - 8 - 8 - 8, by omega⟩ : Fin 8) l))
      = b (ix4 (0 : Fin 1) (0 : Fin 1) (⟨r.val % 8, by omega⟩ : Fin 8) l) := by
    split
    · exact hb ⟨_, by show r.val = r.val % 8; omega, rfl⟩
    · split
      · exact hb ⟨_, by show r.val - 8 = r.val % 8; omega, rfl⟩
      · split
        · exact hb ⟨_, by show r.val - 8 - 8 = r.val % 8; omega, rfl⟩
        · exact hb ⟨_, by show r.val - 8 - 8 - 8 = r.val % 8; omega, rfl⟩
  rw [e, inv_sqrt2]
  rfl

theorem act0_apply (acc : FVec Ideal S32x256 .f32) (xs g : FVec Ideal S32x128 .f32) (b : Vec Ideal S1x1x8x128 .f32) (r : Fin 32) (l : Fin 128) :
    act0 acc xs g b (ix3 (0 : Fin 1) r l) = Spec.gelu (acc (ix2 r (⟨l.val, by omega⟩ : Fin 256)) * xs (ix2 r l) + b (ix4 (0 : Fin 1) (0 : Fin 1) (⟨r.val % 8, by omega⟩ : Fin 8) l)) (g (ix2 r l)) := by
  rw [act0, act_apply]
  pointwise

theorem act1_apply (acc : FVec Ideal S32x256 .f32) (xs g : FVec Ideal S32x128 .f32) (b : Vec Ideal S1x1x8x128 .f32) (r : Fin 32) (l : Fin 128) :
    act1 acc xs g b (ix3 (0 : Fin 1) r l) = Spec.gelu (acc (ix2 r (⟨128 + l.val, by omega⟩ : Fin 256)) * xs (ix2 r l) + b (ix4 (0 : Fin 1) (0 : Fin 1) (⟨r.val % 8, by omega⟩ : Fin 8) l)) (g (ix2 r l)) := by
  rw [act1, act_apply]
  pointwise

theorem rowScale_apply (x : Vec Ideal S1x32x128 .f32) (r : Fin 32) (l : Fin 128) : rowScale x (ix2 r l) = x (ix3 (0 : Fin 1) r l) * Spec.inv64 := by
  unfold rowScale Spec.inv64
  pointwise

theorem gate_apply (x : Vec Ideal S1x1x32x128 .f32) (r : Fin 32) (l : Fin 128) : gate x (ix2 r l) = x (ix4 (0 : Fin 1) (0 : Fin 1) r l) := by
  unfold gate
  pointwise

/-! ## The largest magnitudes, the scales and the codes -/

/-- The magnitude. -/
abbrev abs' (x : EReal) : EReal := FloatOps.absf (F := Ideal) (φ := .f32) x

theorem rowMax_apply (P : Fin 10 → Vec Ideal S1x32x128 .f32) (r : Fin 32) (l : Fin 128) :
    rowMaxOf P (ix2 r l) = Finset.univ.sup fun x : Fin 128 => Finset.univ.sup fun p : Fin 10 => abs' (P p (ix3 (0 : Fin 1) r x)) := by
  unfold rowMaxOf rowMax mag
  pointwise
  rw [Spec.bot_eq]
  show Finset.univ.sup _ = _
  refine Finset.sup_congr rfl fun x _ => ?_
  apply le_antisymm
  · have k : ∀ p : Fin 10, abs' (P p (ix3 (0 : Fin 1) r x)) ≤ Finset.univ.sup fun p : Fin 10 => abs' (P p (ix3 (0 : Fin 1) r x)) :=
      fun p => Finset.le_sup (f := fun p : Fin 10 => abs' (P p (ix3 (0 : Fin 1) r x))) (Finset.mem_univ p)
    simp only [max_le_iff]
    exact ⟨⟨⟨⟨⟨⟨⟨⟨⟨k 0, k 1⟩, k 2⟩, k 3⟩, k 4⟩, k 5⟩, k 6⟩, k 7⟩, k 8⟩, k 9⟩
  · refine Finset.sup_le fun p _ => ?_
    simp only [le_max_iff]
    fin_cases p <;> simp

theorem scaleOf_apply (a : FVec Ideal S16x128 .f32) (r : Fin 16) (l : Fin 128) : scaleOf a (ix2 r l) = Spec.scale (a (ix2 r l)) := by
  unfold scaleOf Spec.scale
  pointwise
  rw [inv_448]

theorem codes_apply (s : Vec Ideal S32x128 .f32) (p : Vec Ideal S1x32x128 .f32) (r : Fin 32) (l : Fin 128) :
    codes (recip s) p (ix2 r l) = Spec.code (s (ix2 r l)) (p (ix3 (0 : Fin 1) r l)) := by
  unfold codes recip Spec.code
  pointwise

theorem unpack_apply (off : BitVec 32) (h : off = 0#32 ∨ off = 64#32) (q : FVec Ideal S32x128 .f32) (b : Fin 16) (l : Fin 128) :
    unpack off q (ix5 (0 : Fin 1) (0 : Fin 1) (0 : Fin 1) b l) = q (ix2 (⟨2 * b.val + l.val % 2, by omega⟩ : Fin 32) (⟨off.toNat + l.val / 2, by rcases h with rfl | rfl <;> simp <;> omega⟩ : Fin 128)) := by
  unfold unpack
  pointwise
  rw [evenLane_apply, spread32_nat off h, spread32_nat off h]
  by_cases hl : l.val % 2 = 0
  · rw [if_pos hl]
    exact congrArg (fun z => q (ix2 z _)) (Fin.ext (by show 2 * b.val = 2 * b.val + l.val % 2; omega))
  · rw [if_neg hl]
    exact congrArg (fun z => q (ix2 z _)) (Fin.ext (by show 2 * b.val + 1 = 2 * b.val + l.val % 2; omega))

end Cert.KernelIdeal.Body
-- ==== Proof.Product.lean ====
/-
  A plane of activations at an index: the twelve steps of the matrix product are the expert product of one row and one
  column.
-/
module

public import proofs.«01_k».proof.Proof.Read

@[expose] public section

set_option maxRecDepth 4096

noncomputable section

namespace Cert.KernelIdeal.Body

open Cert.KernelIdeal Cert.KernelIdeal.Gen Idealize.ShloMosaic Idealize.ShloMosaic.TcCoe

theorem left_apply (x : Vec Ideal S1x12x16x128 .f32) (b : Fin 16) (p : Fin 2) (c : Fin 3072) :
    left x (ix3 b p c) = if c.val % 2 = p.val then x (ix4 (0 : Fin 1) (⟨c.val / 256, by omega⟩ : Fin 12) b (⟨c.val % 256 / 2, by omega⟩ : Fin 128)) else 0 := by
  show blockAt x ⟨c.val / 128, by omega⟩ (ix3 b p (⟨c.val % 128, by omega⟩ : Fin 128)) = _
  have key : ∀ (off : BitVec 32) (h : off = 0#32 ∨ off = 64#32), off.toNat = 64 * (c.val / 128 % 2) →
      block off (View.ld (Val := Elt Ideal) x (rPiece ⟨c.val / 128 / 2, by omega⟩)) (ix3 b p (⟨c.val % 128, by omega⟩ : Fin 128))
        = if c.val % 2 = p.val then x (ix4 (0 : Fin 1) (⟨c.val / 256, by omega⟩ : Fin 12) b (⟨c.val % 256 / 2, by omega⟩ : Fin 128)) else 0 := by
    intro off h ho
    rw [block_apply off h]
    by_cases hp : c.val % 2 = p.val
    · rw [if_pos hp, if_pos (by show c.val % 128 % 2 = p.val; omega)]
      refine View.ld_unit_apply_of x _ _ _ _ _ ?_
      intro a
      match a with
      | ⟨0, _⟩ => rfl
      | ⟨1, _⟩ => show c.val / 256 = c.val / 128 / 2 + 0; omega
      | ⟨2, _⟩ => show b.val = 0 + b.val; omega
      | ⟨3, _⟩ => show c.val % 256 / 2 = 0 + (off.toNat + c.val % 128 / 2); omega
    · rw [if_neg hp, if_neg (by show ¬ c.val % 128 % 2 = p.val; omega)]
  unfold blockAt
  rcases (show c.val / 128 % 2 = 0 ∨ c.val / 128 % 2 = 1 by omega) with h | h
  · simp only [h]
    exact key 0#32 (.inl rfl) (by rw [h]; rfl)
  · simp only [h]
    exact key 64#32 (.inr rfl) (by rw [h]; rfl)

/-- A sum over pairs in which one of each pair is nought. -/
theorem sum_half (f : Fin 128 → Fin 2 → EReal) (p : Fin 2) (g : Fin 256 → EReal)
    (hg : ∀ k : Fin 256, g k = if k.val % 2 = p.val then f ⟨k.val / 2, by omega⟩ ⟨k.val % 2, by omega⟩ else 0) : ∑ k, g k = ∑ j, f j p := by
  rw [← Equiv.sum_comp (finProdFinEquiv (m := 128) (n := 2)), Fintype.sum_prod_type]
  refine Finset.sum_congr rfl fun j _ => ?_
  rw [Finset.sum_eq_single p]
  · have e : ((finProdFinEquiv (j, p) : Fin (128 * 2)) : Nat) = p.val + 2 * j.val := rfl
    rw [hg, if_pos (by rw [e]; omega)]
    congr 1
    · exact Fin.ext (by show ((finProdFinEquiv (j, p) : Fin (128 * 2)) : Nat) / 2 = j.val; rw [e]; omega)
    · exact Fin.ext (by show ((finProdFinEquiv (j, p) : Fin (128 * 2)) : Nat) % 2 = p.val; rw [e]; omega)
  · intro q _ hq
    have e : ((finProdFinEquiv (j, q) : Fin (128 * 2)) : Nat) = q.val + 2 * j.val := rfl
    rw [hg, if_neg]
    rw [e]
    intro h
    exact hq (Fin.ext (by omega))
  · intro h; exact absurd (Finset.mem_univ _) h

/-- One term of the expert product. -/
def term (x0 : Vec Ideal S1x12x16x128 .f32) (w : Vec Ideal S1x1x1536x1280 .i8) (x4 : Vec Ideal S1x1x48x2560 .i8) (b : Fin 16) (c : Fin 1280)
    (k : Fin 12) (j : Fin 128) (p : Fin 2) : EReal :=
  x0 (ix4 (0 : Fin 1) k b j) * (Spec.val4 (Tile.nibble (w (ix4 (0 : Fin 1) (0 : Fin 1) (⟨128 * k.val + j.val, by omega⟩ : Fin 1536) c)) p.val) *
    Spec.val8 (x4 (ix4 (0 : Fin 1) (0 : Fin 1) (⟨4 * k.val + j.val / 32, by omega⟩ : Fin 48) (⟨2 * c.val + p.val, by omega⟩ : Fin 2560))))

theorem stepAt_apply (x0 : Vec Ideal S1x12x16x128 .f32) (w : Vec Ideal S1x1x1536x1280 .i8) (x4 : Vec Ideal S1x1x48x2560 .i8) (hx : ∀ i, (x4 i).toNat < 250)
    (n : Fin 5) (k : Fin 12) (r : Fin 32) (c : Fin 256) :
    stepAt w (words (F := Ideal) x4) (left x0) n k (ix2 r c) = ∑ j : Fin 128, term x0 w x4 ⟨r.val / 2, by omega⟩ ⟨256 * n.val + c.val, by omega⟩ k j ⟨r.val % 2, by omega⟩ := by
  unfold stepAt
  rw [Tile.step_apply _ (fun q => View.ld (Val := Elt Ideal) (words (F := Ideal) x4) (rWords q n k))]
  refine sum_half (fun j p => term x0 w x4 ⟨r.val / 2, by omega⟩ ⟨256 * n.val + c.val, by omega⟩ k j p) ⟨r.val % 2, by omega⟩ _ ?_
  intro i
  have hl : View.ld (Val := Elt Ideal) (left x0) (rLeft k) (ix3 (⟨r.val / 2, by omega⟩ : Fin 16) (⟨r.val % 2, by omega⟩ : Fin 2) i)
      = left x0 (ix3 (⟨r.val / 2, by omega⟩ : Fin 16) (⟨r.val % 2, by omega⟩ : Fin 2) (⟨256 * k.val + i.val, by omega⟩ : Fin 3072)) := by
    refine View.ld_unit_apply_of _ _ _ _ _ _ ?_
    intro a
    match a with
    | ⟨0, _⟩ => show r.val / 2 = 0 + r.val / 2; omega
    | ⟨1, _⟩ => show r.val % 2 = 0 + r.val % 2; omega
    | ⟨2, _⟩ => rfl
  have hw : View.ld (Val := Elt Ideal) w (rBytes n k) (ix4 (0 : Fin 1) (0 : Fin 1) (⟨i.val / 2, by omega⟩ : Fin 128) c)
      = w (ix4 (0 : Fin 1) (0 : Fin 1) (⟨128 * k.val + i.val / 2, by omega⟩ : Fin 1536) (⟨256 * n.val + c.val, by omega⟩ : Fin 1280)) := by
    refine View.ld_unit_apply_of _ _ _ _ _ _ ?_
    intro a
    match a with
    | ⟨0, _⟩ => rfl
    | ⟨1, _⟩ => rfl
    | ⟨2, _⟩ => rfl
    | ⟨3, _⟩ => rfl
  have hs : ∀ q : Fin 4, View.ld (Val := Elt Ideal) (words (F := Ideal) x4) (rWords q n k) (ix3 (0 : Fin 1) (0 : Fin 1) c)
      = Scales.sword (Scales.dwords (F := Ideal) x4) q k ⟨256 * n.val + c.val, by omega⟩ := by
    intro q
    refine (View.ld_unit_apply_of (words (F := Ideal) x4) _ _ _ _ (ix3 q k (⟨256 * n.val + c.val, by omega⟩ : Fin 1280)) ?_).trans rfl
    intro a
    match a with
    | ⟨0, _⟩ => rfl
    | ⟨1, _⟩ => rfl
    | ⟨2, _⟩ => rfl
  rw [hl, hw, hs, left_apply]
  by_cases hi : i.val % 2 = r.val % 2
  · rw [if_pos (by show (256 * k.val + i.val) % 2 = r.val % 2; omega), if_pos hi]
    have h2 := Scales.sword_half (F := Ideal) x4 hx ⟨i.val / 64, by omega⟩ k ⟨256 * n.val + c.val, by omega⟩ ⟨i.val % 2, by omega⟩
    unfold term Spec.val4 Spec.val8
    refine congrArg₂ _ (congrArg x0 ?_) (congrArg₂ _ rfl (congrArg _ (h2.trans (congrArg _ (congrArg x4 ?_)))))
    · congr 1
      · exact Fin.ext (by show (256 * k.val + i.val) / 256 = k.val; omega)
      · exact Fin.ext (by show (256 * k.val + i.val) % 256 / 2 = i.val / 2; omega)
    · congr 1
      exact Fin.ext (by show 4 * k.val + i.val / 64 = 4 * k.val + i.val / 2 / 32; omega)
  · rw [if_neg (by show ¬(256 * k.val + i.val) % 2 = r.val % 2; omega), if_neg hi, zero_mul]

theorem acc_sum (w : Vec Ideal S1x1x1536x1280 .i8) (S : Vec Ideal S4x12x1280 .i32) (X : Vec Ideal S16x2x3072 .bf16) (n : Fin 5) (i : S32x256.Idx) :
    ∀ (k : Nat) (h : k < 12), acc w S X n k h i = ∑ q : Fin (k + 1), stepAt w S X n ⟨q.val, by omega⟩ i := by
  intro k
  induction k with
  | zero => intro h; rw [Fin.sum_univ_one]; rfl
  | succ k ih =>
    intro h
    rw [Fin.sum_univ_castSucc]
    exact congrArg₂ (· + ·) (ih (by omega)) rfl

theorem acc_apply (x0 : Vec Ideal S1x12x16x128 .f32) (w : Vec Ideal S1x1x1536x1280 .i8) (x4 : Vec Ideal S1x1x48x2560 .i8) (hx : ∀ i, (x4 i).toNat < 250)
    (n : Fin 5) (r : Fin 32) (c : Fin 256) (d : Fin 1280) (hd : d.val = 256 * n.val + c.val) (j : Fin 2560) (hj : j.val = 2 * d.val + r.val % 2) :
    acc w (words (F := Ideal) x4) (left x0) n 11 (by omega) (ix2 r c) =
      Spec.prod (fun n => x0 (ix4 (0 : Fin 1) (⟨n.val / 128, by omega⟩ : Fin 12) (⟨r.val / 2, by omega⟩ : Fin 16) (⟨n.val % 128, by omega⟩ : Fin 128)))
        (fun n => w (ix4 (0 : Fin 1) (0 : Fin 1) n d)) ⟨r.val % 2, by omega⟩ (fun k => x4 (ix4 (0 : Fin 1) (0 : Fin 1) k j)) := by
  rw [acc_sum, Spec.prod, ← Equiv.sum_comp (finProdFinEquiv (m := 12) (n := 128)), Fintype.sum_prod_type]
  refine Finset.sum_congr rfl fun k _ => ?_
  rw [stepAt_apply x0 w x4 hx]
  refine Finset.sum_congr rfl fun q _ => ?_
  have e : ((finProdFinEquiv (k, q) : Fin (12 * 128)) : Nat) = q.val + 128 * k.val := rfl
  have hk : (k : Nat) < 12 := k.isLt
  unfold term
  refine congrArg₂ _ (congrArg x0 ?_) (congrArg₂ _ (congrArg (fun z => Spec.val4 (Tile.nibble (w z) (r.val % 2))) ?_) (congrArg (fun z => Spec.val8 (x4 z)) ?_))
  · congr 1
    · exact Fin.ext (by show k.val = ((finProdFinEquiv (k, q) : Fin (12 * 128)) : Nat) / 128; rw [e]; omega)
    · exact Fin.ext (by show q.val = ((finProdFinEquiv (k, q) : Fin (12 * 128)) : Nat) % 128; rw [e]; omega)
  · congr 1
    · exact Fin.ext (by show 128 * k.val + q.val = ((finProdFinEquiv (k, q) : Fin (12 * 128)) : Nat); rw [e]; omega)
    · exact Fin.ext hd.symm
  · congr 1
    · exact Fin.ext (by show 4 * k.val + q.val / 32 = ((finProdFinEquiv (k, q) : Fin (12 * 128)) : Nat) / 32; rw [e]; omega)
    · exact Fin.ext (by show 2 * (256 * n.val + c.val) + r.val % 2 = j.val; omega)

/-- The activation at one place, from the six windows of a point. -/
def cell (x0 : Vec Ideal S1x12x16x128 .f32) (x1 : Vec Ideal S1x32x128 .f32) (x2 : Vec Ideal S1x1x32x128 .f32) (x3 : Vec Ideal S1x1x1536x1280 .i8)
    (x4 : Vec Ideal S1x1x48x2560 .i8) (x5 : Vec Ideal S1x1x8x1280 .f32) (p : Fin 10) (r : Fin 32) (l : Fin 128) : EReal :=
  Spec.gelu (Spec.hid (Spec.prod (fun n => x0 (ix4 (0 : Fin 1) (⟨n.val / 128, by omega⟩ : Fin 12) (⟨r.val / 2, by omega⟩ : Fin 16) (⟨n.val % 128, by omega⟩ : Fin 128)))
        (fun n => x3 (ix4 (0 : Fin 1) (0 : Fin 1) n (⟨128 * p.val + l.val, by omega⟩ : Fin 1280))) ⟨r.val % 2, by omega⟩
        (fun k => x4 (ix4 (0 : Fin 1) (0 : Fin 1) k (⟨2 * (128 * p.val + l.val) + r.val % 2, by omega⟩ : Fin 2560))))
      (x1 (ix3 (0 : Fin 1) r l)) (x5 (ix4 (0 : Fin 1) (0 : Fin 1) (⟨r.val % 8, by omega⟩ : Fin 8) (⟨128 * p.val + l.val, by omega⟩ : Fin 1280))))
    (x2 (ix4 (0 : Fin 1) (0 : Fin 1) r l))

theorem bias_read (x5 : Vec Ideal S1x1x8x1280 .f32) (p : Fin 10) (k : Fin 8) (l : Fin 128) :
    View.ld (Val := Elt Ideal) x5 (rBias p) (ix4 (0 : Fin 1) (0 : Fin 1) k l) = x5 (ix4 (0 : Fin 1) (0 : Fin 1) k (⟨128 * p.val + l.val, by omega⟩ : Fin 1280)) := by
  refine View.ld_unit_apply_of _ _ _ _ _ _ ?_
  intro a
  match a with
  | ⟨0, _⟩ => rfl
  | ⟨1, _⟩ => rfl
  | ⟨2, _⟩ => show k.val = 0 + k.val; omega
  | ⟨3, _⟩ => rfl

theorem plane_apply (x0 : Vec Ideal S1x12x16x128 .f32) (x1 : Vec Ideal S1x32x128 .f32) (x2 : Vec Ideal S1x1x32x128 .f32) (x3 : Vec Ideal S1x1x1536x1280 .i8)
    (x4 : Vec Ideal S1x1x48x2560 .i8) (x5 : Vec Ideal S1x1x8x1280 .f32) (hx : ∀ i, (x4 i).toNat < 250) (p : Fin 10) (r : Fin 32) (l : Fin 128) :
    plane x3 (words (F := Ideal) x4) (left x0) x1 x2 x5 p (ix3 (0 : Fin 1) r l) = cell x0 x1 x2 x3 x4 x5 p r l := by
  unfold plane cell Spec.hid
  rcases (show p.val % 2 = 0 ∨ p.val % 2 = 1 by omega) with h | h
  · simp only [h]
    rw [act0_apply, rowScale_apply, gate_apply, bias_read, acc_apply x0 x3 x4 hx ⟨p.val / 2, by omega⟩ r ⟨l.val, by omega⟩ ⟨128 * p.val + l.val, by omega⟩
      (by show 128 * p.val + l.val = 256 * (p.val / 2) + l.val; omega) ⟨2 * (128 * p.val + l.val) + r.val % 2, by omega⟩ rfl]
  · simp only [h]
    rw [act1_apply, rowScale_apply, gate_apply, bias_read, acc_apply x0 x3 x4 hx ⟨p.val / 2, by omega⟩ r ⟨128 + l.val, by omega⟩ ⟨128 * p.val + l.val, by omega⟩
      (by show 128 * p.val + l.val = 256 * (p.val / 2) + (128 + l.val); omega) ⟨2 * (128 * p.val + l.val) + r.val % 2, by omega⟩ rfl]

end Cert.KernelIdeal.Body
-- ==== Proof.Results.lean ====
/-
  The results of one point in terms of its activations.
-/
module

public import proofs.«01_k».proof.Proof.Product

@[expose] public section

set_option maxRecDepth 4096

noncomputable section

namespace Cert.KernelIdeal.Body

open Cert.KernelIdeal Cert.KernelIdeal.Gen Idealize.ShloMosaic Idealize.ShloMosaic.TcCoe

/-- The activations of one row, its columns in order: the two rows of a pair hold its even and its odd columns. -/
def row (f : Fin 10 → Fin 32 → Fin 128 → EReal) (b : Fin 16) (j : Fin 2560) : EReal :=
  f ⟨j.val / 2 / 128, by omega⟩ ⟨2 * b.val + j.val % 2, by omega⟩ ⟨j.val / 2 % 128, by omega⟩

section
variable (P : Fin 10 → Vec Ideal S1x32x128 .f32) (f : Fin 10 → Fin 32 → Fin 128 → EReal) (hP : ∀ p r l, P p (ix3 (0 : Fin 1) r l) = f p r l)
include hP

theorem pairMax_apply (b : Fin 16) (l : Fin 128) : pairMax (rowMaxOf P) (ix2 b l) = Spec.amax (row f b) := by
  show max (rowMaxOf P (ix2 (⟨2 * b.val, by omega⟩ : Fin 32) l)) (rowMaxOf P (ix2 (⟨2 * b.val + 1, by omega⟩ : Fin 32) l)) = _
  rw [rowMax_apply, rowMax_apply]
  simp only [hP]
  unfold Spec.amax
  have up : ∀ (p : Fin 10) (r : Fin 32) (x : Fin 128), r.val / 2 = b.val → abs' (f p r x) ≤ Finset.univ.sup fun j => abs' (row f b j) := by
    intro p r x hr
    have hj : 2 * (128 * p.val + x.val) + r.val % 2 < 2560 := by omega
    have e : f p r x = row f b ⟨2 * (128 * p.val + x.val) + r.val % 2, hj⟩ := by
      unfold row
      congr 1
      · exact Fin.ext (by show p.val = (2 * (128 * p.val + x.val) + r.val % 2) / 2 / 128; omega)
      · exact Fin.ext (by show r.val = 2 * b.val + (2 * (128 * p.val + x.val) + r.val % 2) % 2; omega)
      · exact Fin.ext (by show x.val = (2 * (128 * p.val + x.val) + r.val % 2) / 2 % 128; omega)
    rw [e]
    exact Finset.le_sup (f := fun j => abs' (row f b j)) (Finset.mem_univ _)
  apply le_antisymm
  · refine max_le (Finset.sup_le fun x _ => Finset.sup_le fun p _ => up p _ x (by show 2 * b.val / 2 = b.val; omega))
      (Finset.sup_le fun x _ => Finset.sup_le fun p _ => up p _ x (by show (2 * b.val + 1) / 2 = b.val; omega))
  · refine Finset.sup_le fun j _ => ?_
    have down : ∀ (r : Fin 32), r.val = 2 * b.val + j.val % 2 →
        abs' (row f b j) ≤ Finset.univ.sup fun x : Fin 128 => Finset.univ.sup fun p : Fin 10 => abs' (f p r x) := by
      intro r hr
      have e : row f b j = f ⟨j.val / 2 / 128, by omega⟩ r ⟨j.val / 2 % 128, by omega⟩ :=
        congrArg (fun z => f ⟨j.val / 2 / 128, by omega⟩ z ⟨j.val / 2 % 128, by omega⟩) (Fin.ext hr.symm)
      rw [e]
      exact (Finset.le_sup (f := fun p : Fin 10 => abs' (f p r ⟨j.val / 2 % 128, by omega⟩)) (Finset.mem_univ _)).trans
        (Finset.le_sup (f := fun x : Fin 128 => Finset.univ.sup fun p : Fin 10 => abs' (f p r x)) (Finset.mem_univ _))
    rcases (show j.val % 2 = 0 ∨ j.val % 2 = 1 by omega) with h | h
    · exact (down ⟨2 * b.val, by omega⟩ (by show 2 * b.val = _; omega)).trans (le_max_left _ _)
    · exact (down ⟨2 * b.val + 1, by omega⟩ (by show 2 * b.val + 1 = _; omega)).trans (le_max_right _ _)

theorem out6_apply (b : Fin 16) (l : Fin 128) : out6 P (ix4 (0 : Fin 1) (0 : Fin 1) b l) = Spec.amax (row f b) := by
  rw [← pairMax_apply P f hP b l]
  unfold out6
  pointwise

theorem out7_apply (b : Fin 16) (l : Fin 128) : out7 P (ix4 (0 : Fin 1) (0 : Fin 1) b l) = Spec.scale (Spec.amax (row f b)) := by
  rw [← pairMax_apply P f hP b l, ← scaleOf_apply]
  unfold out7
  pointwise

theorem outAt_apply (q : Fin 20) (b : Fin 16) (l : Fin 128) :
    outAt P q (ix5 (0 : Fin 1) (0 : Fin 1) (0 : Fin 1) b l) = Spec.code (Spec.scale (Spec.amax (row f b))) (row f b ⟨128 * q.val + l.val, by omega⟩) := by
  have key : ∀ (off : BitVec 32) (h : off = 0#32 ∨ off = 64#32), off.toNat = 64 * (q.val % 2) →
      unpack off (codes (recip (twice (scaleOf (pairMax (rowMaxOf P))))) (P ⟨q.val / 2, by omega⟩)) (ix5 (0 : Fin 1) (0 : Fin 1) (0 : Fin 1) b l)
        = Spec.code (Spec.scale (Spec.amax (row f b))) (row f b ⟨128 * q.val + l.val, by omega⟩) := by
    intro off h ho
    rw [unpack_apply off h, codes_apply, hP]
    have hs : ∀ (r : Fin 32) (x : Fin 128), r.val / 2 = b.val → twice (scaleOf (pairMax (rowMaxOf P))) (ix2 r x) = Spec.scale (Spec.amax (row f b)) := by
      intro r x hr
      show scaleOf (pairMax (rowMaxOf P)) (ix2 (⟨r.val / 2, _⟩ : Fin 16) x) = _
      rw [scaleOf_apply]
      exact congrArg Spec.scale ((congrArg (fun z => pairMax (rowMaxOf P) (ix2 z x)) (Fin.ext hr)).trans (pairMax_apply P f hP b x))
    rw [hs _ _ (by show (2 * b.val + l.val % 2) / 2 = b.val; omega)]
    unfold row
    congr 2
    · exact Fin.ext (by show q.val / 2 = (128 * q.val + l.val) / 2 / 128; omega)
    · exact Fin.ext (by show 2 * b.val + l.val % 2 = 2 * b.val + (128 * q.val + l.val) % 2; omega)
    · exact Fin.ext (by show off.toNat + l.val / 2 = (128 * q.val + l.val) / 2 % 128; omega)
  unfold outAt
  rcases (show q.val % 2 = 0 ∨ q.val % 2 = 1 by omega) with h | h
  · simp only [h]
    exact key 0#32 (.inl rfl) (by rw [h]; rfl)
  · simp only [h]
    exact key 64#32 (.inr rfl) (by rw [h]; rfl)

end

end Cert.KernelIdeal.Body
-- ==== Proof.Points.lean ====
/-
  What every point leaves: its three results and the left operand it carries, from its own six blocks.
-/
module

public import proofs.«01_k».proof.Proof.CaseA
public import proofs.«01_k».proof.Proof.CaseB
public import proofs.«01_k».proof.Proof.Blocks
public import proofs.«01_k».proof.Proof.Results

@[expose] public section

set_option maxRecDepth 4096

noncomputable section

namespace Cert.KernelIdeal.Points

open Cert.KernelIdeal Cert.KernelIdeal.Gen Idealize.ShloMosaic Idealize.ShloMosaic.TcCoe
open Cert.KernelIdeal.Body Cert.KernelIdeal.Blocks

variable (m : (ℓ : Loc nD τ sig) → Buf (Elt Ideal) ℓ) (c : Dev nD)

/-- The planes of a point, from its blocks. -/
def planes (t : Fin cfg0.N) : Fin 10 → Vec Ideal S1x32x128 .f32 :=
  plane (F := Ideal) (iblk m c 3 t) (words (F := Ideal) (iblk m c 4 t)) (left (iblk m c 0 t)) (iblk m c 1 t) (iblk m c 2 t) (iblk m c 5 t)

/-- What a point leaves. -/
def leaves (t : Fin cfg0.N) : Vec Ideal S1x1x16x128 .f32 × Vec Ideal S1x1x16x128 .f32 × Vec Ideal S1x1x20x16x128 .f32 × Vec Ideal S16x2x3072 .bf16 :=
  (out6 (planes m c t), out7 (planes m c t), out8 (planes m c t), left (iblk m c 0 t))

/-- Points of one token read one block of codes. -/
theorem blk0_congr (t t' : Fin cfg0.N) (h : t.val / 4 = t'.val / 4) : (iblk m c 0 t : Vec Ideal S1x12x16x128 .f32) = iblk m c 0 t' := by
  funext i
  obtain ⟨z, g, b, l, rfl⟩ : ∃ (z : Fin 1) (g : Fin 12) (b : Fin 16) (l : Fin 128), i = ix4 z g b l := ⟨i 0, i 1, i 2, i 3, eq_ix4 i⟩
  obtain rfl : z = 0 := Subsingleton.elim _ _
  refine (blk0 m c t g b l).trans (Eq.trans ?_ (blk0 m c t' g b l).symm)
  exact congrArg (fun z => m ((c : Thread nD τ).loc main_arg0) (ix3 b z (⟨128 * g.val + l.val, by omega⟩ : Fin 1536))) (Fin.ext h)

theorem outs (n : Nat) : ∀ (h : n < cfg0.N), outsAt0 m c n h = leaves m c ⟨n, h⟩ := by
  induction n with
  | zero =>
    intro h
    refine (outsAt0_A m c ⟨0, h⟩ (Nat.zero_mod _)).trans ?_
    rw [CaseA.out6_eq, CaseA.out7_eq, CaseA.out8_eq, CaseA.scratch_eq]
    rfl
  | succ n ih =>
    intro h
    by_cases h0 : (n + 1) % 4 = 0
    · refine (outsAt0_A m c ⟨n + 1, h⟩ h0).trans ?_
      rw [CaseA.out6_eq, CaseA.out7_eq, CaseA.out8_eq, CaseA.scratch_eq]
      rfl
    · refine (outsAt0_B m c ⟨n + 1, h⟩ h0).trans ?_
      have hs : (outsAt0 m c (n + 1 - 1) (by omega)).2.2.2 = left (iblk m c 0 ⟨n + 1, h⟩) := by
        refine (congrArg (fun z => z.2.2.2) (ih (by omega))).trans ?_
        exact congrArg left (blk0_congr m c ⟨n, by omega⟩ ⟨n + 1, h⟩ (by show n / 4 = (n + 1) / 4; omega))
      rw [CaseB.out6_eq, CaseB.out7_eq, CaseB.out8_eq]
      unfold sout0_B_0
      dsimp only
      rw [hs]
      rfl

end Cert.KernelIdeal.Points
-- ==== Proof.Final.lean ====
/-
  The kernel's three results at an index, from the arguments.
-/
module

public import proofs.«01_k».proof.Proof.Points
public import proofs.«01_k».proof.Proof.Product

@[expose] public section

set_option maxRecDepth 4096

noncomputable section

namespace Cert.KernelIdeal.Final

open Cert.KernelIdeal Cert.KernelIdeal.Gen Idealize.ShloMosaic Idealize.ShloMosaic.TcCoe
open Cert.KernelIdeal.Body Cert.KernelIdeal.Blocks Cert.KernelIdeal.Points

variable (m : (ℓ : Loc nD τ sig) → Buf (Elt Ideal) ℓ) (c : Dev nD)

/-- The activations, from the arguments. -/
def acts (t : Fin 16) (e : Fin 4) (r : Fin 16) (j : Fin 2560) : EReal :=
  Spec.act (fun r t n => m ((c : Thread nD τ).loc main_arg0) (ix3 r t n)) (fun r t => m ((c : Thread nD τ).loc main_arg1) (ix2 r t))
    (fun r e t => m ((c : Thread nD τ).loc main_arg2) (ix3 r e t)) (fun t e n d => m ((c : Thread nD τ).loc main_arg3) (ix4 t e n d))
    (fun t e k j => m ((c : Thread nD τ).loc main_arg4) (ix4 t e k j)) (fun t e j => m ((c : Thread nD τ).loc main_arg5) (ix3 t e j)) t e r j

theorem gelu_congr {x x' : Fin 1536 → EReal} {w w' : Fin 1536 → BitVec 8} {p p' : Fin 2} {q q' : Fin 48 → BitVec 8} {s s' b b' g g' : EReal}
    (hx : x = x') (hw : w = w') (hp : p = p') (hq : q = q') (hs : s = s') (hb : b = b') (hg : g = g') :
    Spec.gelu (Spec.hid (Spec.prod x w p q) s b) g = Spec.gelu (Spec.hid (Spec.prod x' w' p' q') s' b') g' := by
  rw [hx, hw, hp, hq, hs, hb, hg]

/-- The cells of a point. -/
def cells (t : Fin cfg0.N) : Fin 10 → Fin 32 → Fin 128 → EReal :=
  cell (iblk m c 0 t) (iblk m c 1 t) (iblk m c 2 t) (iblk m c 3 t) (iblk m c 4 t) (iblk m c 5 t)

theorem row_cells (t : Fin cfg0.N) (b : Fin 16) (j : Fin 2560) : row (cells m c t) b j = acts m c (tok t) (ex t) b j := by
  unfold row cells cell acts Spec.act
  have hj := j.isLt
  refine gelu_congr ?_ ?_ ?_ ?_ ?_ ?_ ?_
  · funext n
    refine (blk0 m c t _ _ _).trans ?_
    refine congrArg₂ (fun y z => m ((c : Thread nD τ).loc main_arg0) (ix3 y (tok t) z)) (Fin.ext ?_) (Fin.ext ?_)
    · show (2 * b.val + j.val % 2) / 2 = b.val; omega
    · show 128 * (n.val / 128) + n.val % 128 = n.val; omega
  · funext n
    refine (blk3 m c t _ _).trans ?_
    refine congrArg (fun z => m ((c : Thread nD τ).loc main_arg3) (ix4 (tok t) (ex t) n z)) (Fin.ext ?_)
    show 128 * (j.val / 2 / 128) + j.val / 2 % 128 = j.val / 2; omega
  · refine Fin.ext ?_
    show (2 * b.val + j.val % 2) % 2 = j.val % 2; omega
  · funext k
    refine (blk4 m c t _ _).trans ?_
    refine congrArg (fun z => m ((c : Thread nD τ).loc main_arg4) (ix4 (tok t) (ex t) k z)) (Fin.ext ?_)
    show 2 * (128 * (j.val / 2 / 128) + j.val / 2 % 128) + (2 * b.val + j.val % 2) % 2 = j.val; omega
  · refine (blk1 m c t _ _).trans ?_
    refine congrArg (fun z => m ((c : Thread nD τ).loc main_arg1) (ix2 z (tok t))) (Fin.ext ?_)
    show (2 * b.val + j.val % 2) / 2 = b.val; omega
  · refine (blk5 m c t _ _).trans ?_
    refine congrArg (fun z => m ((c : Thread nD τ).loc main_arg5) (ix3 (tok t) (ex t) z)) (Fin.ext ?_)
    show 2 * (128 * (j.val / 2 / 128) + j.val / 2 % 128) + (2 * b.val + j.val % 2) % 8 % 2 = j.val; omega
  · refine (blk2 m c t _ _).trans ?_
    refine congrArg (fun z => m ((c : Thread nD τ).loc main_arg2) (ix3 z (ex t) (tok t))) (Fin.ext ?_)
    show (2 * b.val + j.val % 2) / 2 = b.val; omega

section
variable (hx : ∀ i, (m ((c : Thread nD τ).loc main_arg4) i : BitVec 8).toNat < 250)
include hx

theorem planes_apply (t : Fin cfg0.N) (p : Fin 10) (r : Fin 32) (l : Fin 128) : planes m c t p (ix3 (0 : Fin 1) r l) = cells m c t p r l := by
  refine plane_apply _ _ _ _ _ _ (fun i => ?_) p r l
  obtain ⟨z, y, k, j, rfl⟩ : ∃ (z : Fin 1) (y : Fin 1) (k : Fin 48) (j : Fin 2560), i = ix4 z y k j := ⟨i 0, i 1, i 2, i 3, eq_ix4 i⟩
  obtain rfl : z = 0 := Subsingleton.elim _ _
  obtain rfl : y = 0 := Subsingleton.elim _ _
  exact (congrArg BitVec.toNat (blk4 m c t k j)).trans_lt (hx _)

theorem leaves_0 (t : Fin cfg0.N) (b : Fin 16) (l : Fin 128) : (leaves m c t).1 (ix4 (0 : Fin 1) (0 : Fin 1) b l) = Spec.amax (acts m c (tok t) (ex t) b) :=
  (out6_apply (planes m c t) (cells m c t) (planes_apply m c hx t) b l).trans (congrArg Spec.amax (funext (row_cells m c t b)))

theorem leaves_1 (t : Fin cfg0.N) (b : Fin 16) (l : Fin 128) : (leaves m c t).2.1 (ix4 (0 : Fin 1) (0 : Fin 1) b l) = Spec.scale (Spec.amax (acts m c (tok t) (ex t) b)) := by
  have h := out7_apply (planes m c t) (cells m c t) (planes_apply m c hx t) b l
  have e : row (cells m c t) b = acts m c (tok t) (ex t) b := funext (row_cells m c t b)
  rw [e] at h
  exact (congrFun (show (leaves m c t).2.1 = out7 (planes m c t) by dsimp only [leaves]) _).trans h

theorem leaves_2 (t : Fin cfg0.N) (q : Fin 20) (b : Fin 16) (l : Fin 128) : (leaves m c t).2.2.1 (ix5 (0 : Fin 1) (0 : Fin 1) q b l)
    = Spec.code (Spec.scale (Spec.amax (acts m c (tok t) (ex t) b))) (acts m c (tok t) (ex t) b ⟨128 * q.val + l.val, by omega⟩) :=
  (outAt_apply (planes m c t) (cells m c t) (planes_apply m c hx t) q b l).trans
    (congrArg (fun u : Fin 2560 → EReal => Spec.code (Spec.scale (Spec.amax u)) (u ⟨128 * q.val + l.val, by omega⟩)) (funext (row_cells m c t b)))

theorem G6_apply (t : Fin 16) (e : Fin 4) (b : Fin 16) (l : Fin 128) : Value.G6 m c (ix4 t e b l) = Spec.amax (acts m c t e b) := by
  have hp : Value.pt6Of (ix4 t e b l) = 4 * t.val + e.val := by
    show 4 * (t.val / 1 - 0) + 1 * (e.val / 1 - 0) + 1 * (b.val / 16 - 0) + 1 * (l.val / 128 - 0) = _; omega
  have h : Value.pt6Of (ix4 t e b l) < cfg0.N := by rw [hp, show cfg0.N = 64 from N_0]; omega
  have hl : Value.loc6Of (ix4 t e b l) = ix4 (0 : Fin 1) (0 : Fin 1) b l := by
    refine (eq_ix4 _).trans ?_
    congr 1
    · exact Subsingleton.elim (α := Fin 1) _ _
    · exact Subsingleton.elim (α := Fin 1) _ _
    · exact Fin.ext (by show b.val % 16 = b.val; omega)
    · exact Fin.ext (by show l.val % 128 = l.val; omega)
  unfold Value.G6
  rw [dif_pos h, hl]
  refine (congrArg (fun z => z.1 (ix4 (0 : Fin 1) (0 : Fin 1) b l)) ((Value.outsAt0_sweep m c _ h).symm.trans (outs m c _ h))).trans ?_
  refine (leaves_0 m c hx _ b l).trans ?_
  refine congrArg₂ (fun y z => Spec.amax (acts m c y z b)) (Fin.ext ?_) (Fin.ext ?_)
  · show Value.pt6Of (ix4 t e b l) / 4 = t.val; rw [hp]; omega
  · show Value.pt6Of (ix4 t e b l) % 4 = e.val; rw [hp]; omega

theorem G7_apply (t : Fin 16) (e : Fin 4) (b : Fin 16) (l : Fin 128) : Value.G7 m c (ix4 t e b l) = Spec.scale (Spec.amax (acts m c t e b)) := by
  have hp : Value.pt7Of (ix4 t e b l) = 4 * t.val + e.val := by
    show 4 * (t.val / 1 - 0) + 1 * (e.val / 1 - 0) + 1 * (b.val / 16 - 0) + 1 * (l.val / 128 - 0) = _; omega
  have h : Value.pt7Of (ix4 t e b l) < cfg0.N := by rw [hp, show cfg0.N = 64 from N_0]; omega
  have hl : Value.loc7Of (ix4 t e b l) = ix4 (0 : Fin 1) (0 : Fin 1) b l := by
    refine (eq_ix4 _).trans ?_
    congr 1
    · exact Subsingleton.elim (α := Fin 1) _ _
    · exact Subsingleton.elim (α := Fin 1) _ _
    · exact Fin.ext (by show b.val % 16 = b.val; omega)
    · exact Fin.ext (by show l.val % 128 = l.val; omega)
  unfold Value.G7
  rw [dif_pos h, hl]
  refine (congrArg (fun z => z.2.1 (ix4 (0 : Fin 1) (0 : Fin 1) b l)) ((Value.outsAt0_sweep m c _ h).symm.trans (outs m c _ h))).trans ?_
  refine (leaves_1 m c hx _ b l).trans ?_
  refine congrArg₂ (fun y z => Spec.scale (Spec.amax (acts m c y z b))) (Fin.ext ?_) (Fin.ext ?_)
  · show Value.pt7Of (ix4 t e b l) / 4 = t.val; rw [hp]; omega
  · show Value.pt7Of (ix4 t e b l) % 4 = e.val; rw [hp]; omega

theorem G8_apply (t : Fin 16) (e : Fin 4) (q : Fin 20) (b : Fin 16) (l : Fin 128) : Value.G8 m c (ix5 t e q b l)
    = Spec.code (Spec.scale (Spec.amax (acts m c t e b))) (acts m c t e b ⟨128 * q.val + l.val, by omega⟩) := by
  have hp : Value.pt8Of (ix5 t e q b l) = 4 * t.val + e.val := by
    show 4 * (t.val / 1 - 0) + 1 * (e.val / 1 - 0) + 1 * (q.val / 20 - 0) + 1 * (b.val / 16 - 0) + 1 * (l.val / 128 - 0) = _; omega
  have h : Value.pt8Of (ix5 t e q b l) < cfg0.N := by rw [hp, show cfg0.N = 64 from N_0]; omega
  have hl : Value.loc8Of (ix5 t e q b l) = ix5 (0 : Fin 1) (0 : Fin 1) q b l := by
    refine (eq_ix5 _).trans ?_
    congr 1
    · exact Subsingleton.elim (α := Fin 1) _ _
    · exact Subsingleton.elim (α := Fin 1) _ _
    · exact Fin.ext (by show q.val % 20 = q.val; omega)
    · exact Fin.ext (by show b.val % 16 = b.val; omega)
    · exact Fin.ext (by show l.val % 128 = l.val; omega)
  unfold Value.G8
  rw [dif_pos h, hl]
  refine (congrArg (fun z => z.2.2.1 (ix5 (0 : Fin 1) (0 : Fin 1) q b l)) ((Value.outsAt0_sweep m c _ h).symm.trans (outs m c _ h))).trans ?_
  refine (leaves_2 m c hx _ q b l).trans ?_
  refine congrArg₂ (fun y z => Spec.code (Spec.scale (Spec.amax (acts m c y z b))) (acts m c y z b ⟨128 * q.val + l.val, by omega⟩)) (Fin.ext ?_) (Fin.ext ?_)
  · show Value.pt8Of (ix5 t e q b l) / 4 = t.val; rw [hp]; omega
  · show Value.pt8Of (ix5 t e q b l) % 4 = e.val; rw [hp]; omega

end

end Cert.KernelIdeal.Final
-- ==== Proof.Plain.lean ====
/-
  The reference's results, part by part.
-/
module

public import proofs.«01_k».proof.Proof.Gen.ReferenceIdeal
public import proofs.«01_k».proof.Proof.Values
public import Idealize.ShloMosaic.Lib.Pointwise

@[expose] public section

set_option maxRecDepth 4096

noncomputable section

namespace Cert.ReferenceIdeal.Read

open Cert.ReferenceIdeal Cert.ReferenceIdeal.Gen Idealize.ShloMosaic Idealize.ShloMosaic.TcCoe Idealize.ShloMosaic.StableHlo

variable {F : FTy → Type} [FloatOps F]

/-- A whole-number constant at every weight. -/
def kI (k : BitVec 32) : IVec S16x4x1536x1280 32 := broadcastInDim S16x4x1536x1280 ![] bcast_S_S16x4x1536x1280 (constantI S_ 32 k)
/-- A constant at every weight. -/
def kF (k : BitVec 32) : FVec F S16x4x1536x1280 .f32 := broadcastInDim S16x4x1536x1280 ![] bcast_S_S16x4x1536x1280 (constant S_ .f32 k)
/-- The low nibbles of the weight bytes. -/
def low (w : Vec F S16x4x1536x1280 .i8) : IVec S16x4x1536x1280 32 := andi (extui 32 w natLt_8_32) (kI 15#32)
/-- The high nibbles of the weight bytes. -/
def high (w : Vec F S16x4x1536x1280 .i8) : IVec S16x4x1536x1280 32 := Host.shrui (extui 32 w natLt_8_32) (kI 4#32)
/-- The magnitude of a four-bit code. -/
def mag (n : IVec S16x4x1536x1280 32) : FVec F S16x4x1536x1280 .f32 :=
  mulf (uitofp .f32 (select (cmpi .eq (andi (Host.shrui n (kI 1#32)) (kI 3#32)) (kI 0#32)) (andi n (kI 1#32)) (Host.shrui (Host.shli (addi (andi n (kI 1#32)) (kI 2#32)) (andi (Host.shrui n (kI 1#32)) (kI 3#32))) (kI 1#32)))) (kF 0x3F000000#32)
/-- The value of a four-bit code. -/
def val (n : IVec S16x4x1536x1280 32) : FVec F S16x4x1536x1280 .f32 :=
  select (cmpi .eq (andi n (kI 8#32)) (kI 0#32)) (mag n) (Host.negf (mag n))
/-- The scale bytes of the even columns. -/
def evenBytes (e : Vec F S16x4x48x2560 .i8) : IVec S16x4x48x1280 8 := Host.slice S16x4x48x1280 ![0, 0, 0, 0] ![1, 1, 1, 2] e slicesBy_S16x4x48x2560_S16x4x48x1280_0s1_0s1_0s1_0s2
/-- The scale bytes of the odd columns. -/
def oddBytes (e : Vec F S16x4x48x2560 .i8) : IVec S16x4x48x1280 8 := Host.slice S16x4x48x1280 ![0, 0, 0, 1] ![1, 1, 1, 2] e slicesBy_S16x4x48x2560_S16x4x48x1280_0s1_0s1_0s1_1s2
/-- The expert product of half the columns. -/
def product (x : Vec F S16x16x1536 .f32) (v : FVec F S16x4x1536x1280 .f32) (q : IVec S16x4x48x1280 8) : FVec F S16x4x16x1280 .f32 :=
  transpose S16x4x16x1280 [0, 1, 3, 2] (Host.dotGeneral dot_S16x4x1536x1280_S16x16x1536_S16x4x1280x16_2_2_13_1_0_0 none (shapeCast _ (mulf (shapeCast _ (truncf .bf16 (mulf v (kF 0x3C800000#32)) bitsLt_bf16_f32) shapeCasts_S16x4x1536x1280_S16x4x48x32x1280) (broadcastInDim S16x4x48x32x1280 ![0, 1, 2, 3, 4] bcast_S16x4x48x1x1280_S16x4x48x32x1280_0_1_2_3_4 (broadcastInDim S16x4x48x1x1280 ![0, 1, 2, 4] bcast_S16x4x48x1280_S16x4x48x1x1280_0_1_2_4 (truncf .bf16 (bitcastToFloat (F := F) .f32 (Host.shli (addi (extui 32 q natLt_8_32) (broadcastInDim S16x4x48x1280 ![] bcast_S_S16x4x48x1280 (constantI S_ 32 6#32))) (broadcastInDim S16x4x48x1280 ![] bcast_S_S16x4x48x1280 (constantI S_ 32 23#32)))) bitsLt_bf16_f32)))) shapeCasts_S16x4x48x32x1280_S16x4x1536x1280) (truncf .bf16 (transpose S16x16x1536 [1, 0, 2] x transposes_S16x16x1536_S16x16x1536_1_0_2) bitsLt_bf16_f32)) transposes_S16x4x1280x16_S16x4x16x1280_0_1_3_2
/-- The product, scaled and biased. -/
def hidden (x : Vec F S16x16x1536 .f32) (s : Vec F S16x16 .f32) (w : Vec F S16x4x1536x1280 .i8) (e : Vec F S16x4x48x2560 .i8) (b : Vec F S16x4x2560 .f32) : FVec F S16x4x16x2560 .f32 :=
  addf (mulf (shapeCast _ (concatenate S16x4x16x1280x2 4 [⟨S16x4x16x1280x1, (broadcastInDim S16x4x16x1280x1 ![0, 1, 2, 3] bcast_S16x4x16x1280_S16x4x16x1280x1_0_1_2_3 (product x (val (low w)) (evenBytes e)))⟩, ⟨S16x4x16x1280x1, (broadcastInDim S16x4x16x1280x1 ![0, 1, 2, 3] bcast_S16x4x16x1280_S16x4x16x1280x1_0_1_2_3 (product x (val (high w)) (oddBytes e)))⟩] concatenates_S16x4x16x1280x1_S16x4x16x1280x1_S16x4x16x1280x2_d4) shapeCasts_S16x4x16x1280x2_S16x4x16x2560) (broadcastInDim S16x4x16x2560 ![0, 1, 2, 3] bcast_S16x1x16x1_S16x4x16x2560_0_1_2_3 (broadcastInDim S16x1x16x1 ![0, 2] bcast_S16x16_S16x1x16x1_0_2 (transpose S16x16 [1, 0] s transposes_S16x16_S16x16_1_0)))) (broadcastInDim S16x4x16x2560 ![0, 1, 2, 3] bcast_S16x4x1x2560_S16x4x16x2560_0_1_2_3 (broadcastInDim S16x4x1x2560 ![0, 1, 3] bcast_S16x4x2560_S16x4x1x2560_0_1_3 b))
/-- The activations. -/
def act (x : Vec F S16x16x1536 .f32) (s : Vec F S16x16 .f32) (g : Vec F S16x4x16 .f32) (w : Vec F S16x4x1536x1280 .i8) (e : Vec F S16x4x48x2560 .i8) (b : Vec F S16x4x2560 .f32) : FVec F S16x4x16x2560 .f32 :=
  mulf (mulf (mulf (broadcastInDim S16x4x16x2560 ![] bcast_S_S16x4x16x2560 (constant S_ .f32 0x3F000000#32)) (hidden x s w e b)) (addf (broadcastInDim S16x4x16x2560 ![] bcast_S_S16x4x16x2560 (constant S_ .f32 0x3F800000#32)) (Host.erf (Host.divf (hidden x s w e b) (broadcastInDim S16x4x16x2560 ![] bcast_S_S16x4x16x2560 (Host.sqrt (constant S_ .f32 0x40000000#32))))))) (broadcastInDim S16x4x16x2560 ![0, 1, 2, 3] bcast_S16x4x16x1_S16x4x16x2560_0_1_2_3 (broadcastInDim S16x4x16x1 ![0, 1, 2] bcast_S16x4x16_S16x4x16x1_0_1_2 (transpose S16x4x16 [2, 1, 0] g transposes_S16x4x16_S16x4x16_2_1_0)))
/-- The largest magnitude of each row. -/
def rowMax (u : FVec F S16x4x16x2560 .f32) : FVec F S16x4x16 .f32 :=
  Host.reduce FloatOps.maximumf (Host.absf u) (constant S_ .f32 0xFF800000#32) reducesTo_S16x4x16x2560_S16x4x16_d3 h_S_
/-- The scales of the rows. -/
def scale (a : FVec F S16x4x16 .f32) : FVec F S16x4x16 .f32 :=
  select (cmpf .oeq a (broadcastInDim S16x4x16 ![] bcast_S_S16x4x16 (constant S_ .f32 0x00000000#32))) (broadcastInDim S16x4x16 ![] bcast_S_S16x4x16 (id (constant S_ .f32 0x3F800000#32))) (Host.divf a (broadcastInDim S16x4x16 ![] bcast_S_S16x4x16 (constant S_ .f32 0x43E00000#32)))
/-- The codes. -/
def codes (u : FVec F S16x4x16x2560 .f32) : FVec F S16x4x16x2560 .f32 :=
  minimumf (broadcastInDim S16x4x16x2560 ![] bcast_S_S16x4x16x2560 (id (constant S_ .f32 0x43E00000#32))) (maximumf (broadcastInDim S16x4x16x2560 ![] bcast_S_S16x4x16x2560 (id (constant S_ .f32 0xC3E00000#32))) (Host.divf u (broadcastInDim S16x4x16x2560 ![0, 1, 2, 3] bcast_S16x4x16x1_S16x4x16x2560_0_1_2_3 (broadcastInDim S16x4x16x1 ![0, 1, 2] bcast_S16x4x16_S16x4x16x1_0_1_2 (scale (rowMax u))))))

/-- The first result. -/
def res0 (x : Vec F S16x16x1536 .f32) (s : Vec F S16x16 .f32) (g : Vec F S16x4x16 .f32) (w : Vec F S16x4x1536x1280 .i8) (e : Vec F S16x4x48x2560 .i8) (b : Vec F S16x4x2560 .f32) : FVec F S16x4x16x128 .f32 :=
  broadcastInDim S16x4x16x128 ![0, 1, 2, 3] bcast_S16x4x16x1_S16x4x16x128_0_1_2_3 (broadcastInDim S16x4x16x1 ![0, 1, 2] bcast_S16x4x16_S16x4x16x1_0_1_2 (rowMax (act x s g w e b)))
/-- The second result. -/
def res1 (x : Vec F S16x16x1536 .f32) (s : Vec F S16x16 .f32) (g : Vec F S16x4x16 .f32) (w : Vec F S16x4x1536x1280 .i8) (e : Vec F S16x4x48x2560 .i8) (b : Vec F S16x4x2560 .f32) : FVec F S16x4x16x128 .f32 :=
  broadcastInDim S16x4x16x128 ![0, 1, 2, 3] bcast_S16x4x16x1_S16x4x16x128_0_1_2_3 (broadcastInDim S16x4x16x1 ![0, 1, 2] bcast_S16x4x16_S16x4x16x1_0_1_2 (scale (rowMax (act x s g w e b))))
/-- The third result. -/
def res2 (x : Vec F S16x16x1536 .f32) (s : Vec F S16x16 .f32) (g : Vec F S16x4x16 .f32) (w : Vec F S16x4x1536x1280 .i8) (e : Vec F S16x4x48x2560 .i8) (b : Vec F S16x4x2560 .f32) : FVec F S16x4x20x16x128 .f32 :=
  transpose S16x4x20x16x128 [0, 1, 3, 2, 4] (shapeCast _ (codes (act x s g w e b)) shapeCasts_S16x4x16x2560_S16x4x16x20x128) transposes_S16x4x16x20x128_S16x4x20x16x128_0_1_3_2_4

end Cert.ReferenceIdeal.Read
-- ==== Proof.PlainVal.lean ====
/-
  The reference's decoded weights at an index.
-/
module

public import proofs.«01_k».proof.Proof.Plain

@[expose] public section

set_option maxRecDepth 4096

noncomputable section

namespace Cert.ReferenceIdeal.Read

open Cert.ReferenceIdeal Cert.ReferenceIdeal.Gen Idealize.ShloMosaic Idealize.ShloMosaic.TcCoe
open Cert.Spec Cert.KernelIdeal.Tile Cert.KernelIdeal.Scales

theorem val_low (w : Vec Ideal S16x4x1536x1280 .i8) (t : Fin 16) (e : Fin 4) (n : Fin 1536) (c : Fin 1280) :
    val (F := Ideal) (low w) (ix4 t e n c) = val4 (nibble (w (ix4 t e n c)) 0) := by
  rw [← refVal_low]
  unfold val mag low kI kF refVal magInt
  pointwise

theorem val_high (w : Vec Ideal S16x4x1536x1280 .i8) (t : Fin 16) (e : Fin 4) (n : Fin 1536) (c : Fin 1280) :
    val (F := Ideal) (high w) (ix4 t e n c) = val4 (nibble (w (ix4 t e n c)) 1) := by
  rw [← refVal_high]
  unfold val mag high kI kF refVal magInt
  pointwise

theorem even_apply (e : Vec Ideal S16x4x48x2560 .i8) (t : Fin 16) (ex : Fin 4) (k : Fin 48) (c : Fin 1280) :
    evenBytes e (ix4 t ex k c) = e (ix4 t ex k (⟨2 * c.val, by omega⟩ : Fin 2560)) := by
  unfold evenBytes
  pointwise

theorem odd_apply (e : Vec Ideal S16x4x48x2560 .i8) (t : Fin 16) (ex : Fin 4) (k : Fin 48) (c : Fin 1280) :
    oddBytes e (ix4 t ex k c) = e (ix4 t ex k (⟨2 * c.val + 1, by omega⟩ : Fin 2560)) := by
  unfold oddBytes
  pointwise
  exact congrArg (fun z => e (ix4 t ex k z)) (Fin.ext (Nat.add_comm 1 (2 * c.val)))

end Cert.ReferenceIdeal.Read
-- ==== Proof.PlainProduct.lean ====
/-
  The reference's expert product at an index.
-/
module

public import proofs.«01_k».proof.Proof.Plain

@[expose] public section

set_option maxRecDepth 4096

noncomputable section

namespace Cert.ReferenceIdeal.Read

open Cert.ReferenceIdeal Cert.ReferenceIdeal.Gen Idealize.ShloMosaic Idealize.ShloMosaic.TcCoe
open Cert.Spec Cert.KernelIdeal.Tile Cert.KernelIdeal.Scales

theorem product_apply (x : Vec Ideal S16x16x1536 .f32) (v : FVec Ideal S16x4x1536x1280 .f32) (q : IVec S16x4x48x1280 8) (t : Fin 16) (e : Fin 4) (r : Fin 16) (c : Fin 1280) :
    product x v q (ix4 t e r c) = ∑ n : Fin 1536, v (ix4 t e n c) * inv64 *
      Ideal.ofBits .f32 (refScale (q (ix4 t e (⟨n.val / 32, by omega⟩ : Fin 48) c))) * x (ix3 r t n) := by
  unfold product kF inv64 refScale
  pointwise

end Cert.ReferenceIdeal.Read
-- ==== Proof.PlainRead.lean ====
/-
  The reference's results at an index.
-/
module

public import proofs.«01_k».proof.Proof.PlainVal
public import proofs.«01_k».proof.Proof.PlainProduct

@[expose] public section

set_option maxRecDepth 4096

noncomputable section

namespace Cert.ReferenceIdeal.Read

open Cert.ReferenceIdeal Cert.ReferenceIdeal.Gen Idealize.ShloMosaic Idealize.ShloMosaic.TcCoe
open Cert.Spec Cert.KernelIdeal.Tile Cert.KernelIdeal.Scales

theorem hidden_apply (x : Vec Ideal S16x16x1536 .f32) (s : Vec Ideal S16x16 .f32) (w : Vec Ideal S16x4x1536x1280 .i8) (e : Vec Ideal S16x4x48x2560 .i8) (b : Vec Ideal S16x4x2560 .f32)
    (he : ∀ i, (e i).toNat < 250) (t : Fin 16) (ex : Fin 4) (r : Fin 16) (j : Fin 2560) :
    hidden x s w e b (ix4 t ex r j) = hid (prod (fun n => x (ix3 r t n)) (fun n => w (ix4 t ex n (⟨j.val / 2, by omega⟩ : Fin 1280))) ⟨j.val % 2, by omega⟩ (fun k => e (ix4 t ex k j)))
      (s (ix2 r t)) (b (ix3 t ex j)) := by
  unfold hidden hid
  pointwise
  rw [← prod_inside]
  by_cases hj : j.val % 2 < 1
  · rw [dif_pos hj, product_apply]
    congr 2
    refine Finset.sum_congr rfl fun n _ => ?_
    have hq : (⟨2 * (j.val / 2), by omega⟩ : Fin 2560) = j := Fin.ext (by show 2 * (j.val / 2) = j.val; omega)
    rw [val_low, even_apply, hq, refScale_eq _ (he _)]
    simp only [show j.val % 2 = 0 by omega]
  · rw [dif_neg hj, product_apply]
    congr 2
    refine Finset.sum_congr rfl fun n _ => ?_
    have hq : (⟨2 * (j.val / 2) + 1, by omega⟩ : Fin 2560) = j := Fin.ext (by show 2 * (j.val / 2) + 1 = j.val; omega)
    rw [val_high, odd_apply, hq, refScale_eq _ (he _)]
    simp only [show j.val % 2 = 1 by omega]

theorem act_read (x : Vec Ideal S16x16x1536 .f32) (s : Vec Ideal S16x16 .f32) (g : Vec Ideal S16x4x16 .f32) (w : Vec Ideal S16x4x1536x1280 .i8) (e : Vec Ideal S16x4x48x2560 .i8) (b : Vec Ideal S16x4x2560 .f32)
    (t : Fin 16) (ex : Fin 4) (r : Fin 16) (j : Fin 2560) :
    act x s g w e b (ix4 t ex r j) = gelu (hidden x s w e b (ix4 t ex r j)) (g (ix3 r ex t)) := by
  unfold act gelu
  pointwise
  rw [div_sqrt_two, add_comm 1, mul_comm (Ideal.ofBits .f32 1056964608#32)]

theorem act_apply (x : Vec Ideal S16x16x1536 .f32) (s : Vec Ideal S16x16 .f32) (g : Vec Ideal S16x4x16 .f32) (w : Vec Ideal S16x4x1536x1280 .i8) (e : Vec Ideal S16x4x48x2560 .i8) (b : Vec Ideal S16x4x2560 .f32)
    (he : ∀ i, (e i).toNat < 250) (t : Fin 16) (ex : Fin 4) (r : Fin 16) (j : Fin 2560) :
    act x s g w e b (ix4 t ex r j) = Spec.act (fun r t n => x (ix3 r t n)) (fun r t => s (ix2 r t)) (fun r e t => g (ix3 r e t))
      (fun t e n c => w (ix4 t e n c)) (fun t ex k j => e (ix4 t ex k j)) (fun t e j => b (ix3 t e j)) t ex r j := by
  rw [act_read, hidden_apply x s w e b he]
  rfl

theorem rowMax_apply (u : FVec Ideal S16x4x16x2560 .f32) (t : Fin 16) (ex : Fin 4) (r : Fin 16) :
    rowMax u (ix3 t ex r) = amax fun j => u (ix4 t ex r j) := by
  unfold rowMax amax
  pointwise
  rw [bot_eq]
  rfl

theorem scale_apply (a : FVec Ideal S16x4x16 .f32) (t : Fin 16) (ex : Fin 4) (r : Fin 16) :
    scale a (ix3 t ex r) = Spec.scale (a (ix3 t ex r)) := by
  unfold scale Spec.scale
  simp only [id]
  pointwise
  rw [div_448]

theorem clip_read (hi lo u v : FVec Ideal S16x4x16x2560 .f32) (i : S16x4x16x2560.Idx) :
    minimumf hi (maximumf lo (Host.divf u v)) i = min (hi i) (max (lo i) (Ideal.div (u i) (v i))) := rfl

theorem spread_const (b : BitVec 32) (t : Fin 16) (ex : Fin 4) (r : Fin 16) (j : Fin 2560) :
    (broadcastInDim S16x4x16x2560 ![] bcast_S_S16x4x16x2560 (constant (F := Ideal) S_ .f32 b) : FVec Ideal S16x4x16x2560 .f32) (ix4 t ex r j) = Ideal.ofBits .f32 b := by
  pointwise

theorem spread_rows (z : FVec Ideal S16x4x16 .f32) (t : Fin 16) (ex : Fin 4) (r : Fin 16) (j : Fin 2560) :
    (broadcastInDim S16x4x16x2560 ![0, 1, 2, 3] bcast_S16x4x16x1_S16x4x16x2560_0_1_2_3 (broadcastInDim S16x4x16x1 ![0, 1, 2] bcast_S16x4x16_S16x4x16x1_0_1_2 z) : FVec Ideal S16x4x16x2560 .f32) (ix4 t ex r j) = z (ix3 t ex r) := by
  pointwise

theorem codes_apply (u : FVec Ideal S16x4x16x2560 .f32) (t : Fin 16) (ex : Fin 4) (r : Fin 16) (j : Fin 2560) :
    codes u (ix4 t ex r j) = code (Spec.scale (amax fun j => u (ix4 t ex r j))) (u (ix4 t ex r j)) := by
  unfold code
  rw [← div_scale, ← rowMax_apply, ← scale_apply]
  unfold codes
  simp only [id]
  rw [clip_read, spread_const, spread_const, spread_rows]

theorem res0_read (x : Vec Ideal S16x16x1536 .f32) (s : Vec Ideal S16x16 .f32) (g : Vec Ideal S16x4x16 .f32) (w : Vec Ideal S16x4x1536x1280 .i8) (e : Vec Ideal S16x4x48x2560 .i8) (b : Vec Ideal S16x4x2560 .f32)
    (t : Fin 16) (ex : Fin 4) (r : Fin 16) (l : Fin 128) :
    res0 x s g w e b (ix4 t ex r l) = amax fun j => act x s g w e b (ix4 t ex r j) := by
  rw [← rowMax_apply]
  unfold res0
  pointwise

theorem res1_read (x : Vec Ideal S16x16x1536 .f32) (s : Vec Ideal S16x16 .f32) (g : Vec Ideal S16x4x16 .f32) (w : Vec Ideal S16x4x1536x1280 .i8) (e : Vec Ideal S16x4x48x2560 .i8) (b : Vec Ideal S16x4x2560 .f32)
    (t : Fin 16) (ex : Fin 4) (r : Fin 16) (l : Fin 128) :
    res1 x s g w e b (ix4 t ex r l) = Spec.scale (amax fun j => act x s g w e b (ix4 t ex r j)) := by
  rw [← rowMax_apply, ← scale_apply]
  unfold res1
  pointwise

theorem res2_read (x : Vec Ideal S16x16x1536 .f32) (s : Vec Ideal S16x16 .f32) (g : Vec Ideal S16x4x16 .f32) (w : Vec Ideal S16x4x1536x1280 .i8) (e : Vec Ideal S16x4x48x2560 .i8) (b : Vec Ideal S16x4x2560 .f32)
    (t : Fin 16) (ex : Fin 4) (q : Fin 20) (r : Fin 16) (l : Fin 128) :
    res2 x s g w e b (ix5 t ex q r l) = code (Spec.scale (amax fun j => act x s g w e b (ix4 t ex r j))) (act x s g w e b (ix4 t ex r (⟨128 * q.val + l.val, by omega⟩ : Fin 2560))) := by
  rw [← codes_apply]
  unfold res2
  pointwise
  exact congrArg (fun z => codes (act x s g w e b) (ix4 t ex r z)) (Fin.ext (by show q.val * 128 + l.val = 128 * q.val + l.val; omega))

end Cert.ReferenceIdeal.Read
-- ==== Proof.PlainRun.lean ====
/-
  The reference's three results, as its run states them, and the range of the scale bytes.
-/
module

public import proofs.«01_k».proof.Defs
public import proofs.«01_k».proof.Proof.PlainRead
public import proofs.«01_k».proof.Proof.Gen.ReferenceIdeal.Run
public import proofs.«01_k».proof.Proof.Gen.Pre_scales_in_range
public import Idealize.ShloMosaic.Lib.ReduceAll

@[expose] public section

set_option maxRecDepth 8192

noncomputable section

namespace Cert.ReferenceIdeal.Read

open Cert.ReferenceIdeal Cert.ReferenceIdeal.Gen Idealize.ShloMosaic Idealize.ShloMosaic.TcCoe

variable (m : (ℓ : Loc nD τ sig) → Buf (Elt Ideal) ℓ) (c : Dev nD)

theorem run0 : Value.res_main_v127 m c = res0 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_main_v127; rfl

theorem run1 : Value.res_main_v129 m c = res1 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_main_v129; rfl

theorem run2 : Value.res_main_v125 m c = res2 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_main_v125; rfl

/-- The precondition says every scale byte is below 250. -/
theorem in_range (x : FVec Ideal Cert.Pre_scales_in_range.S16x16x1536 .f32) (s : FVec Ideal Cert.Pre_scales_in_range.S16x16 .f32) (g : FVec Ideal Cert.Pre_scales_in_range.S16x4x16 .f32)
    (w : IVec Cert.Pre_scales_in_range.S16x4x1536x1280 8) (e : IVec Cert.Pre_scales_in_range.S16x4x48x2560 8) (b : FVec Ideal Cert.Pre_scales_in_range.S16x4x2560 .f32)
    (h : Cert.Pre_scales_in_range.fn (F := Ideal) x s g w e b = fun _ => 1#1) (i : Cert.Pre_scales_in_range.S16x4x48x2560.Idx) : (e i).toNat < 250 := by
  haveI : Subsingleton Cert.Pre_scales_in_range.S_.Idx := ⟨fun _ _ => funext fun a => a.elim0⟩
  have key := Host.reduce_andi_all _ _ _ _ (fun a => a.elim0) (congrFun h fun a => a.elim0) i
  have key' : IntOp.cmpi .ult (e i) 250#8 = 1#1 := key
  simpa using IntOp.cmpi_ult.1 key'

end Cert.ReferenceIdeal.Read
-- ==== Proof.Value.lean ====
/-
  The kernel's three results are the reference's.
-/
module

public import proofs.«01_k».proof.Proof.Final
public import proofs.«01_k».proof.Proof.PlainRun
public import Idealize.ShloMosaic.Lib.Quiescent

@[expose] public section

set_option maxRecDepth 4096

noncomputable section

namespace Cert.Proof

open Idealize.ShloMosaic Idealize.ShloMosaic.TcCoe Cert.KernelIdeal.Final Cert.ReferenceIdeal.Read

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (hx : ∀ i, (m ((c.tc : Thread Cert.KernelIdeal.nD Cert.KernelIdeal.τ).loc Cert.KernelIdeal.main_arg4) i : BitVec 8).toNat < 250)
include h0 h1 h2 h3 h4 h5 hx

theorem first : Cert.ReferenceIdeal.Value.res_main_v127 m' c = Cert.KernelIdeal.Value.G6 m c := by
  rw [run0, h0, h1, h2, h3, h4, h5]
  funext i
  obtain ⟨t, e, b, l, rfl⟩ : ∃ (t : Fin 16) (e : Fin 4) (b : Fin 16) (l : Fin 128), i = ix4 t e b l := ⟨i 0, i 1, i 2, i 3, eq_ix4 i⟩
  refine (res0_read _ _ _ _ _ _ t e b l).trans (Eq.trans ?_ (G6_apply m c hx t e b l).symm)
  exact congrArg Spec.amax (funext fun j => act_apply _ _ _ _ _ _ hx t e b j)

theorem second : Cert.ReferenceIdeal.Value.res_main_v129 m' c = Cert.KernelIdeal.Value.G7 m c := by
  rw [run1, h0, h1, h2, h3, h4, h5]
  funext i
  obtain ⟨t, e, b, l, rfl⟩ : ∃ (t : Fin 16) (e : Fin 4) (b : Fin 16) (l : Fin 128), i = ix4 t e b l := ⟨i 0, i 1, i 2, i 3, eq_ix4 i⟩
  refine (res1_read _ _ _ _ _ _ t e b l).trans (Eq.trans ?_ (G7_apply m c hx t e b l).symm)
  exact congrArg Spec.scale (congrArg Spec.amax (funext fun j => act_apply _ _ _ _ _ _ hx t e b j))

theorem third : Cert.ReferenceIdeal.Value.res_main_v125 m' c = Cert.KernelIdeal.Value.G8 m c := by
  rw [run2, h0, h1, h2, h3, h4, h5]
  funext i
  obtain ⟨t, e, q, b, l, rfl⟩ : ∃ (t : Fin 16) (e : Fin 4) (q : Fin 20) (b : Fin 16) (l : Fin 128), i = ix5 t e q b l := ⟨i 0, i 1, i 2, i 3, i 4, eq_ix5 i⟩
  refine (res2_read _ _ _ _ _ _ t e q b l).trans (Eq.trans ?_ (G8_apply m c hx t e q b l).symm)
  exact congrArg (fun u : Fin 2560 → EReal => Spec.code (Spec.scale (Spec.amax u)) (u ⟨128 * q.val + l.val, by omega⟩)) (funext fun j => act_apply _ _ _ _ _ _ hx t e b j)

end

/-- The reference leaves its arguments as they were; it has no semaphore. -/
theorem referenceFrame : Cert.quiescent_ReferenceIdeal := fun m g _ =>
  (θ_run Cert.ReferenceIdeal.defs _ _).mono (fun r h => ⟨fun c => (h c).2.2.2, sem_eq_zero_of_no_sems (by decide) r.2⟩) (Cert.ReferenceIdeal.Value.run m g)

theorem algebraic : Cert.algebraic_KernelIdeal_ReferenceIdeal_pre_scales_in_range := by
  intro m g m' g' hp h
  have hx : ∀ (c : Dev Cert.KernelIdeal.nD) i, (m ((c.tc : Thread Cert.KernelIdeal.nD Cert.KernelIdeal.τ).loc Cert.KernelIdeal.main_arg4) i : BitVec 8).toNat < 250 :=
    fun c i => in_range _ _ _ _ _ _ (hp c) i
  refine ⟨fun c => Cert.KernelIdeal.Value.G6 m c, fun c => Cert.KernelIdeal.Value.G7 m c, fun c => Cert.KernelIdeal.Value.G8 m c, Cert.KernelIdeal.Value.run m g, ?_⟩
  refine (θ_run Cert.ReferenceIdeal.defs _ _).mono (fun r k c => ?_) (Cert.ReferenceIdeal.Value.run m' g')
  obtain ⟨k0, k1, k2, ka⟩ := k c
  obtain ⟨h0, h1, h2, h3, h4, h5⟩ := h c
  exact ⟨k0.trans (first m m' c h0 h1 h2 h3 h4 h5 (hx c)), k1.trans (second m m' c h0 h1 h2 h3 h4 h5 (hx c)), k2.trans (third m m' c h0 h1 h2 h3 h4 h5 (hx c)), ka⟩

end Cert.Proof
-- ==== Proof.Scales2.lean ====
/-
  The scale words of the second kernel: the exponent bytes of a block, spread over pairs of bfloat16 bit patterns.
-/
module

public import proofs.«01_k».proof.Proof.Gen.Kernel2Ideal
public import proofs.«01_k».proof.Proof.Scales
public import Idealize.ShloMosaic.Lib.Pointwise
public import Idealize.ShloMosaic.Lib.BitcastFour

@[expose] public section

noncomputable section

namespace Cert.Kernel2Ideal.Scales

open Cert.Kernel2Ideal Cert.Kernel2Ideal.Gen Idealize.ShloMosaic Idealize.ShloMosaic.TcCoe

open Cert.KernelIdeal.Scales (bump join1 scaleBits four four_getLsbD bump_append join1_half)

variable {F : FTy → Type} [FloatOps F] [Named F]

/-- The lane number of a 20×128 vector. -/
def lane : IVec S20x128 32 := iota .tc S20x128 32 [1] iota_S20x128_d1_w32

/-- Twice the lane number, modulo 128. -/
def base : IVec S20x128 32 :=
  let b : BitVec 32 := Scalar.select (Scalar.cmpi .eq 128#32 0#32) 1#32 128#32
  let r : IVec S20x128 32 := remsi (muli (broadcast S20x128 2#32) lane) (broadcast S20x128 b)
  select (andi (xori (cmpi .slt r (broadcast S20x128 0#32)) (broadcastTo S20x128 (broadcast S20x128 (Scalar.cmpi .slt b 0#32)) broadcasts_S20x128_S20x128)) (cmpi .ne r (broadcast S20x128 0#32)))
    (addi r (broadcast S20x128 b)) r

/-- A lane index, negative ones counted from the end. -/
def wrap (i : IVec S20x128 32) : IVec S20x128 32 :=
  shapeCast S20x128 (shapeCast S20x128x1 (select (cmpi .slt i (broadcast S20x128 0#32)) (addi i (broadcast S20x128 128#32)) i) shapeCasts_S20x128_S20x128x1) shapeCasts_S20x128x1_S20x128

/-- The lanes `i` of `a` in the low half, of `b` in the high half. -/
def pick (a b i : IVec S20x128 32) : IVec S20x128 32 :=
  select (cmpi .slt lane (broadcast S20x128 64#32)) (dynamicGather 1 a (wrap i)) (dynamicGather 1 b (wrap i))

/-- Six added to each byte of the even lanes. -/
def even (a b : IVec S20x128 32) : IVec S20x128 32 := addi (pick a b base) (broadcast S20x128 101058054#32)

/-- Six added to each byte of the odd lanes. -/
def odd (a b : IVec S20x128 32) : IVec S20x128 32 := addi (pick a b (addi base (broadcast S20x128 1#32))) (broadcast S20x128 101058054#32)

/-- The two masked halves as one word. -/
def join (e o : IVec S20x128 32) : IVec S1x20x128 32 :=
  shapeCast S1x20x128 (ori (andi e (broadcast S20x128 32640#32)) (andi o (broadcast S20x128 2139095040#32))) shapeCasts_S20x128_S1x20x128

/-- The words of byte 0. -/
def row0 (e o : IVec S20x128 32) : IVec S1x20x128 32 := join (shli e (broadcast S20x128 7#32)) (shli o (broadcast S20x128 23#32))
/-- The words of byte 1. -/
def row1 (e o : IVec S20x128 32) : IVec S1x20x128 32 := join (shrui e (broadcast S20x128 1#32)) (shli o (broadcast S20x128 15#32))
/-- The words of byte 2. -/
def row2 (e o : IVec S20x128 32) : IVec S1x20x128 32 := join (shrui e (broadcast S20x128 9#32)) (shli o (broadcast S20x128 7#32))
/-- The words of byte 3. -/
def row3 (e o : IVec S20x128 32) : IVec S1x20x128 32 := join (shrui e (broadcast S20x128 17#32)) (shrui o (broadcast S20x128 1#32))

theorem base_apply (k : Fin 20) (l : Fin 128) : base (ix2 k l) = BitVec.ofNat 32 (2 * l.val % 128) := by
  unfold base lane
  pointwise
  revert l
  decide +kernel

theorem pick_apply (a b i : IVec S20x128 32) (k : Fin 20) (l n : Fin 128) (h : i (ix2 k l) = BitVec.ofNat 32 n) :
    pick a b i (ix2 k l) = if l.val < 64 then a (ix2 k n) else b (ix2 k n) := by
  unfold pick wrap lane
  pointwise
  have e : ∀ n : Fin 128, (Scalar.select (IntOp.cmpi CmpIPredicate.slt (BitVec.ofNat 32 n.val) 0#32) (IntOp.addi (BitVec.ofNat 32 n.val) 128#32)
                  (BitVec.ofNat 32 n.val)).toNat % 128 = n.val := by decide +kernel
  have f : ∀ l : Fin 128, IntOp.cmpi CmpIPredicate.slt (BitVec.ofNat 32 l.val) 64#32 = if l.val < 64 then 1#1 else 0#1 := by decide +kernel
  have g : ∀ y : Fin 128, y.val = (Scalar.select (IntOp.cmpi CmpIPredicate.slt (i (ix2 k l)) 0#32) (IntOp.addi (i (ix2 k l)) 128#32) (i (ix2 k l))).toNat % 128 →
      y = n := fun y hy => Fin.ext (by rw [hy, h]; exact e n)
  rw [f l]
  by_cases hl : l.val < 64
  · rw [if_pos hl, if_pos hl]
    exact (if_pos rfl).trans (congrArg a (congrArg (ix2 k) (g _ rfl)))
  · rw [if_neg hl, if_neg hl]
    exact (if_neg (by decide)).trans (congrArg b (congrArg (ix2 k) (g _ rfl)))

/-- The exponent bytes as words of four rows. -/
def dwords (x : Vec F S1x1x80x1536 .i8) : IVec S20x1536 32 :=
  bitcast S20x1536 32 (shapeCast S80x1536 x shapeCasts_S1x1x80x1536_S80x1536) bitcasts_S80x1536_w8_S20x1536_w32

/-- The 128 columns from `off` on. -/
def cut (w : IVec S20x1536 32) (off : Nat) (h : S20x1536.Slices ![0, off] S20x128) : IVec S20x128 32 :=
  extractStridedSlice S20x128 ![0, off] w h

theorem cut_apply (w : IVec S20x1536 32) (off : Nat) (h : S20x1536.Slices ![0, off] S20x128) (k : Fin 20) (l : Fin 128) (ho : off + l.val < 1536) :
    cut w off h (ix2 k l) = w (ix2 k ⟨off + l.val, ho⟩) := by
  unfold cut
  pointwise

theorem even_apply (a b : IVec S20x128 32) (k : Fin 20) (l : Fin 128) :
    even a b (ix2 k l) = bump (if l.val < 64 then a (ix2 k ⟨2 * l.val % 128, by omega⟩) else b (ix2 k ⟨2 * l.val % 128, by omega⟩)) := by
  unfold even bump
  pointwise
  rw [pick_apply a b base k l ⟨2 * l.val % 128, by omega⟩ (base_apply k l)]

theorem odd_apply (a b : IVec S20x128 32) (k : Fin 20) (l : Fin 128) :
    odd a b (ix2 k l) = bump (if l.val < 64 then a (ix2 k ⟨2 * l.val % 128 + 1, by omega⟩) else b (ix2 k ⟨2 * l.val % 128 + 1, by omega⟩)) := by
  unfold odd bump
  pointwise
  rw [pick_apply a b _ k l ⟨2 * l.val % 128 + 1, by omega⟩]
  pointwise
  rw [base_apply]
  revert l
  decide +kernel

/-- The scale word of byte row `q`, word row `k` and word column `c`. -/
def sword (w : IVec S20x1536 32) (q : Fin 4) (k : Fin 20) (c : Fin 768) : BitVec 32 :=
  join1 q (bump (w (ix2 k ⟨2 * c.val, by omega⟩))) (bump (w (ix2 k ⟨2 * c.val + 1, by omega⟩)))

section
variable (w : IVec S20x1536 32) (off off' : Nat) (h : S20x1536.Slices ![0, off] S20x128) (h' : S20x1536.Slices ![0, off'] S20x128)
  (k : Fin 20) (l : Fin 128) (c : Fin 768)

theorem evenCut (ho : off' = off + 128) (hc : off + 2 * l.val = 2 * c.val) :
    even (cut w off h) (cut w off' h') (ix2 k l) = bump (w (ix2 k ⟨2 * c.val, by omega⟩)) := by
  rw [even_apply, cut_apply w off h _ _ (by show off + 2 * l.val % 128 < 1536; omega)]
  by_cases hl : l.val < 64
  · rw [if_pos hl]; congr 3; exact Fin.ext (by show off + 2 * l.val % 128 = 2 * c.val; omega)
  · rw [if_neg hl, cut_apply w off' h' _ _ (by show off' + 2 * l.val % 128 < 1536; omega)]
    congr 3; exact Fin.ext (by show off' + 2 * l.val % 128 = 2 * c.val; omega)

theorem oddCut (ho : off' = off + 128) (hc : off + 2 * l.val = 2 * c.val) :
    odd (cut w off h) (cut w off' h') (ix2 k l) = bump (w (ix2 k ⟨2 * c.val + 1, by omega⟩)) := by
  rw [odd_apply, cut_apply w off h _ _ (by show off + (2 * l.val % 128 + 1) < 1536; omega)]
  by_cases hl : l.val < 64
  · rw [if_pos hl]; congr 3; exact Fin.ext (by show off + (2 * l.val % 128 + 1) = 2 * c.val + 1; omega)
  · rw [if_neg hl, cut_apply w off' h' _ _ (by show off' + (2 * l.val % 128 + 1) < 1536; omega)]
    congr 3; exact Fin.ext (by show off' + (2 * l.val % 128 + 1) = 2 * c.val + 1; omega)

theorem row0_apply (ho : off' = off + 128) (hc : off + 2 * l.val = 2 * c.val) :
    row0 (even (cut w off h) (cut w off' h')) (odd (cut w off h) (cut w off' h')) (ix3 0 k l) = sword w 0 k c := by
  unfold row0 join
  pointwise
  rw [evenCut w off off' h h' k l c ho hc, oddCut w off off' h h' k l c ho hc]
  rfl

theorem row1_apply (ho : off' = off + 128) (hc : off + 2 * l.val = 2 * c.val) :
    row1 (even (cut w off h) (cut w off' h')) (odd (cut w off h) (cut w off' h')) (ix3 0 k l) = sword w 1 k c := by
  unfold row1 join
  pointwise
  rw [evenCut w off off' h h' k l c ho hc, oddCut w off off' h h' k l c ho hc]
  rfl

theorem row2_apply (ho : off' = off + 128) (hc : off + 2 * l.val = 2 * c.val) :
    row2 (even (cut w off h) (cut w off' h')) (odd (cut w off h) (cut w off' h')) (ix3 0 k l) = sword w 2 k c := by
  unfold row2 join
  pointwise
  rw [evenCut w off off' h h' k l c ho hc, oddCut w off off' h h' k l c ho hc]
  rfl

theorem row3_apply (ho : off' = off + 128) (hc : off + 2 * l.val = 2 * c.val) :
    row3 (even (cut w off h) (cut w off' h')) (odd (cut w off h) (cut w off' h')) (ix3 0 k l) = sword w 3 k c := by
  unfold row3 join
  pointwise
  rw [evenCut w off off' h h' k l c ho hc, oddCut w off off' h h' k l c ho hc]
  rfl

end

theorem dwords_apply (x : Vec F S1x1x80x1536 .i8) (k : Fin 20) (c : Fin 1536) :
    dwords x (ix2 k c) = four fun q => x (ix4 0 0 (⟨4 * k.val + q.val, by omega⟩ : Fin 80) c) := by
  apply BitVec.eq_of_getLsbD_eq
  intro i hi
  rw [four_getLsbD _ _ hi]
  unfold dwords
  refine (bitcast_8_32_getLsbD_ix2 (shapeCast S80x1536 x shapeCasts_S1x1x80x1536_S80x1536) bitcasts_S80x1536_w8_S20x1536_w32 k c i hi ⟨4 * k.val + i / 8, by omega⟩ rfl).trans ?_
  exact congrArg (fun b : BitVec 8 => b.getLsbD (i % 8)) (by pointwise)

/-- Half `p` of a scale word: the bits of the exponent byte of its row and column, where no byte is 250 or more. -/
theorem sword_half (x : Vec F S1x1x80x1536 .i8) (hx : ∀ i, (x i).toNat < 250) (q : Fin 4) (k : Fin 20) (c : Fin 768) (p : Fin 2) :
    (sword (dwords x) q k c).extractLsb' (16 * p.val) 16
      = scaleBits (x (ix4 0 0 (⟨4 * k.val + q.val, by omega⟩ : Fin 80) (⟨2 * c.val + p.val, by omega⟩ : Fin 1536))) := by
  have key : ∀ d : Fin 1536, bump (dwords x (ix2 k d)) =
      four (fun q : Fin 4 => x (ix4 0 0 (⟨4 * k.val + q.val, by omega⟩ : Fin 80) d) + 6#8) := fun d => by
    rw [dwords_apply]; unfold four; rw [bump_append _ _ _ _ (hx _) (hx _) (hx _)]
  unfold sword
  rw [key, key, join1_half]
  unfold scaleBits
  match p with
  | 0 => rfl
  | 1 => rfl

end Cert.Kernel2Ideal.Scales
-- ==== Proof.Parts2.lean ====
/-
  The parts of the second kernel's body, as functions of what they read, the rectangles it stores through, and what a
  list of stores over them holds.
-/
module

public import proofs.«01_k».proof.Proof.Parts
public import proofs.«01_k».proof.Proof.Scales2

@[expose] public section

set_option maxRecDepth 4096

noncomputable section

namespace Cert.Kernel2Ideal.Body

open Cert.Kernel2Ideal Cert.Kernel2Ideal.Gen Idealize.ShloMosaic Idealize.ShloMosaic.TcCoe
open Cert.KernelIdeal.Body (down mem_down canon_down_at wrap16 spread16 evenLane lane16)

/-- An element of a piece no other piece overlaps is what the piece wrote, whatever was stored before. -/
theorem canon_tail {Val : EltTy → Type} [∀ e, Nonempty (Val e)] {S : Shape} {e : EltTy} (T : List (View.Piece Val S e)) : ∀ (n : Nat) (R : Fin n → Rect S)
    (P : (k : Fin n) → (R k).shape.Idx → Val e) (i : Fin n) (x : (R i).shape.Idx)
    (_ : ∀ (j : Fin n) (y : (R j).shape.Idx), (R j).emb y = (R i).emb x → j = i),
    View.canon (down n (fun k => (⟨R k, P k⟩ : View.Piece Val S e)) ++ T) ((R i).emb x) = P i x := by
  intro n
  induction n with
  | zero => intro R P i; exact i.elim0
  | succ n ih =>
    intro R P i
    induction i using Fin.lastCases with
    | last => intro x _; exact View.canon_cons_emb _ _ _ _
    | cast i =>
      intro x hu
      refine (View.canon_cons_of_not_mem _ _ ?_).trans (ih (fun k => R k.castSucc) (fun k => P k.castSucc) i x fun j y h => Fin.castSucc_injective n (hu _ y h))
      intro hm
      obtain ⟨y, hy⟩ := LoadRect.exists_idx_of_mem _ hm
      exact absurd (hu (Fin.last n) y hy) (fun h => by have := congrArg Fin.val h; simp at this; omega)

section
variable {F : FTy → Type} [FloatOps F] [Named F]

/-! ## The left operand -/

/-- The sign test by which the kernel rounds a quotient by four downwards. -/
def fourSign : BitVec 32 := Scalar.subi (Scalar.extui (Scalar.cmpi .sgt 4#32 0#32)) (Scalar.extui (Scalar.cmpi .slt 4#32 0#32))

/-- A quarter of the lane number plus `off`. -/
def spread4 (off : BitVec 32) : IVec S16x128 32 :=
  addi (broadcast S16x128 off)
    (select (andi (cmpi .ne (subi (extui 32 (cmpi .sgt lane16 (broadcast S16x128 0#32)) natLt_1_32) (extui 32 (cmpi .slt lane16 (broadcast S16x128 0#32)) natLt_1_32)) (broadcast S16x128 fourSign))
        (cmpi .ne (remsi lane16 (broadcast S16x128 4#32)) (broadcast S16x128 0#32)))
      (subi (divsi lane16 (broadcast S16x128 4#32)) (broadcast S16x128 1#32)) (divsi lane16 (broadcast S16x128 4#32)))

/-- The lane number modulo four. -/
def lane4 : IVec S16x128 32 :=
  let b : BitVec 32 := Scalar.select (Scalar.cmpi .eq 4#32 0#32) 1#32 4#32
  let r : IVec S16x128 32 := remsi lane16 (broadcast S16x128 b)
  select (andi (xori (cmpi .slt r (broadcast S16x128 0#32)) (broadcastTo S16x128 (broadcast S16x128 (Scalar.cmpi .slt b 0#32)) broadcasts_S16x128_S16x128)) (cmpi .ne r (broadcast S16x128 0#32)))
    (addi r (broadcast S16x128 b)) r

/-- One 128-wide block of the left operand: each value next to a zero, in the half and lane its column says. -/
def block (off : BitVec 32) (e o : Vec F S1x1x1x16x128 .f32) : Vec F S16x2x128 .bf16 :=
  let ge : FVec F S16x128 .f32 := dynamicGather 1 (shapeCast S16x128 e shapeCasts_S1x1x1x16x128_S16x128) (wrap16 (spread4 off))
  let go : FVec F S16x128 .f32 := dynamicGather 1 (shapeCast S16x128 o shapeCasts_S1x1x1x16x128_S16x128) (wrap16 (spread4 off))
  let z : FVec F S16x128 .f32 := broadcast S16x128 (Scalar.ofBits .f32 0x00000000#32)
  interleaveRows S16x2x128 (shapeCast S16x1x128 (truncf .bf16 (select (cmpi .eq lane4 (broadcast S16x128 0#32)) ge (select (cmpi .eq lane4 (broadcast S16x128 2#32)) go z)) (by decide)) shapeCasts_S16x128_S16x1x128)
    (shapeCast S16x1x128 (truncf .bf16 (select (cmpi .eq lane4 (broadcast S16x128 1#32)) ge (select (cmpi .eq lane4 (broadcast S16x128 3#32)) go z)) (by decide)) shapeCasts_S16x128_S16x1x128) bitcasts_S16x2x128_w16_S16x1x128_w32

theorem inb_codes (p : Fin 10) (r : Fin 2) : ∀ a, S1x1x1x16x128.size a = 0 ∨ (![0, 0, p.val, r.val, 0] : Fin 5 → Nat) a + (![1, 1, 1, 2, 1] : Fin 5 → Nat) a * (S1x1x1x16x128.size a - 1) < S1x1x10x32x128.size a := by
  revert p r; decide
/-- The rows of parity `r` of plane `p`. -/
abbrev rCodes (p : Fin 10) (r : Fin 2) : LoadRect S1x1x10x32x128 := ⟨![0, 0, p.val, r.val, 0], S1x1x1x16x128.size, ![1, 1, 1, 2, 1], inb_codes p r⟩

theorem inb_block (t : Fin 40) : ∀ a, (![0, 0, 128 * t.val] : Fin 3 → Nat) a + S16x2x128.size a ≤ S16x2x5120.size a := by
  revert t; decide
abbrev rBlock (t : Fin 40) : Rect S16x2x5120 := Rect.unit ![0, 0, 128 * t.val] S16x2x128.size (inb_block t)

theorem rBlock_inj (i j : Fin 40) (x : (rBlock i).shape.Idx) (y : (rBlock j).shape.Idx) (h : (rBlock j).emb y = (rBlock i).emb x) : j = i := by
  have h2 := congrArg (fun z : S16x2x5120.Idx => (z 2).val) h
  have hx2 : (x 2).val < 128 := (x 2).isLt
  have hy2 : (y 2).val < 128 := (y 2).isLt
  have h3 : 128 * j.val + 1 * (y 2).val = 128 * i.val + 1 * (x 2).val := h2
  exact Fin.ext (by omega)

/-- The offset of store `t`'s lanes. -/
def offOf (t : Nat) : BitVec 32 := match t with | 0 => 0#32 | 1 => 32#32 | 2 => 64#32 | _ => 96#32

/-- The block store `t` writes. -/
def blockAt (x : Vec F S1x1x10x32x128 .f32) (t : Fin 40) : Vec F S16x2x128 .bf16 :=
  block (offOf (t.val % 4)) (fun i => x ((rCodes ⟨t.val / 4, by omega⟩ 0).idx i)) (fun i => x ((rCodes ⟨t.val / 4, by omega⟩ 1).idx i))

/-- The stores of the left operand. -/
abbrev leftPieces (x : Vec F S1x1x10x32x128 .f32) : List (View.Piece (Elt F) S16x2x5120 .bf16) :=
  down 40 fun t => ⟨rBlock t, blockAt x t⟩

/-- The left operand. -/
def left (x : Vec F S1x1x10x32x128 .f32) : Vec F S16x2x5120 .bf16 := fun i =>
  blockAt x ⟨(i 2).val / 128, by have : (i 2).val < 5120 := (i 2).isLt; omega⟩ (ix3 (i 0) (i 1) (⟨(i 2).val % 128, by omega⟩ : Fin 128))

theorem canon_left (x : Vec F S1x1x10x32x128 .f32) : View.canon (leftPieces x) = left x := by
  funext i
  obtain ⟨q, k, c, rfl⟩ : ∃ (q : Fin 16) (k : Fin 2) (c : Fin 5120), i = ix3 q k c := ⟨i 0, i 1, i 2, eq_ix3 i⟩
  have ht : c.val / 128 < 40 := by omega
  have e : ix3 q k c = (rBlock ⟨c.val / 128, ht⟩).emb (ix3 q k (⟨c.val % 128, by omega⟩ : Fin 128)) := by
    funext a
    apply Fin.ext
    match a with
    | ⟨0, _⟩ => show q.val = 0 + 1 * q.val; omega
    | ⟨1, _⟩ => show k.val = 0 + 1 * k.val; omega
    | ⟨2, _⟩ => show c.val = 128 * (c.val / 128) + 1 * (c.val % 128); omega
  rw [e, canon_down_at rBlock (fun t => blockAt x t) _ _ fun j y h => rBlock_inj _ j _ y h, ← e]
  rfl

/-! ## The scale words -/

theorem inb_row (t : Fin 24) : ∀ a, (![t.val % 4, 0, 128 * (t.val / 4)] : Fin 3 → Nat) a + S1x20x128.size a ≤ S4x20x768.size a := by
  revert t; decide
abbrev rRow (t : Fin 24) : Rect S4x20x768 := Rect.unit ![t.val % 4, 0, 128 * (t.val / 4)] S1x20x128.size (inb_row t)

theorem rRow_inj (i j : Fin 24) (x : (rRow i).shape.Idx) (y : (rRow j).shape.Idx) (h : (rRow j).emb y = (rRow i).emb x) : j = i := by
  have h0 := congrArg (fun z : S4x20x768.Idx => (z 0).val) h
  have h2 := congrArg (fun z : S4x20x768.Idx => (z 2).val) h
  have hx : (x 0).val = 0 := Nat.lt_one_iff.mp (x 0).isLt
  have hy : (y 0).val = 0 := Nat.lt_one_iff.mp (y 0).isLt
  have hx2 : (x 2).val < 128 := (x 2).isLt
  have hy2 : (y 2).val < 128 := (y 2).isLt
  have h1 : j.val % 4 + 1 * (y 0).val = i.val % 4 + 1 * (x 0).val := h0
  have h3 : 128 * (j.val / 4) + 1 * (y 2).val = 128 * (i.val / 4) + 1 * (x 2).val := h2
  exact Fin.ext (by omega)

theorem slices_cut (j : Fin 6) : S20x1536.Slices ![0, 256 * j.val] S20x128 := by revert j; decide
theorem slices_cut' (j : Fin 6) : S20x1536.Slices ![0, 256 * j.val + 128] S20x128 := by revert j; decide

/-- The row of scale words of byte `q`. -/
def rowSel (q : Nat) (e o : IVec S20x128 32) : IVec S1x20x128 32 :=
  match q with
  | 0 => Scales.row0 e o
  | 1 => Scales.row1 e o
  | 2 => Scales.row2 e o
  | _ => Scales.row3 e o

/-- The row of scale words store `t` writes. -/
def rowAt (w : IVec S20x1536 32) (t : Fin 24) : IVec S1x20x128 32 :=
  rowSel (t.val % 4)
    (Scales.even (Scales.cut w (256 * (t.val / 4)) (slices_cut ⟨t.val / 4, by omega⟩)) (Scales.cut w (256 * (t.val / 4) + 128) (slices_cut' ⟨t.val / 4, by omega⟩)))
    (Scales.odd (Scales.cut w (256 * (t.val / 4)) (slices_cut ⟨t.val / 4, by omega⟩)) (Scales.cut w (256 * (t.val / 4) + 128) (slices_cut' ⟨t.val / 4, by omega⟩)))

/-- The stores of the scale words. -/
abbrev wordPieces (w : IVec S20x1536 32) : List (View.Piece (Elt F) S4x20x768 .i32) :=
  down 24 fun t => ⟨rRow t, rowAt w t⟩

/-- The scale words of every step and column. -/
def words (x : Vec F S1x1x80x1536 .i8) : Vec F S4x20x768 .i32 := fun i => Scales.sword (Scales.dwords x) (i 0) (i 1) (i 2)

theorem rowAt_apply (w : IVec S20x1536 32) (t : Fin 24) (k : Fin 20) (l : Fin 128) (q : Fin 4) (c : Fin 768)
    (hq : q.val = t.val % 4) (hc : c.val = 128 * (t.val / 4) + l.val) : rowAt w t (ix3 0 k l) = Scales.sword w q k c := by
  unfold rowAt
  have hoff : 256 * (t.val / 4) + 2 * l.val = 2 * c.val := by omega
  rcases (show t.val % 4 = 0 ∨ t.val % 4 = 1 ∨ t.val % 4 = 2 ∨ t.val % 4 = 3 by omega) with h | h | h | h <;> rw [h]
  · obtain rfl : q = 0 := Fin.ext (by show q.val = 0; omega)
    exact Scales.row0_apply _ _ _ _ _ k l c rfl hoff
  · obtain rfl : q = 1 := Fin.ext (by show q.val = 1; omega)
    exact Scales.row1_apply _ _ _ _ _ k l c rfl hoff
  · obtain rfl : q = 2 := Fin.ext (by show q.val = 2; omega)
    exact Scales.row2_apply _ _ _ _ _ k l c rfl hoff
  · obtain rfl : q = 3 := Fin.ext (by show q.val = 3; omega)
    exact Scales.row3_apply _ _ _ _ _ k l c rfl hoff

theorem canon_words (x : Vec F S1x1x80x1536 .i8) : View.canon (wordPieces (F := F) (Scales.dwords x)) = words x := by
  funext i
  obtain ⟨q, k, c, rfl⟩ : ∃ (q : Fin 4) (k : Fin 20) (c : Fin 768), i = ix3 q k c := ⟨i 0, i 1, i 2, eq_ix3 i⟩
  have ht : 4 * (c.val / 128) + q.val < 24 := by omega
  have e : ix3 q k c = (rRow ⟨4 * (c.val / 128) + q.val, ht⟩).emb (ix3 (0 : Fin 1) k (⟨c.val % 128, by omega⟩ : Fin 128)) := by
    funext a
    apply Fin.ext
    match a with
    | ⟨0, _⟩ => show q.val = (4 * (c.val / 128) + q.val) % 4 + 1 * 0; omega
    | ⟨1, _⟩ => show k.val = 0 + 1 * k.val; omega
    | ⟨2, _⟩ => show c.val = 128 * ((4 * (c.val / 128) + q.val) / 4) + 1 * (c.val % 128); omega
  rw [e, canon_down_at (Val := Elt F) (e := .i32) rRow (fun t => rowAt (Scales.dwords x) t) _ _ fun j y h => rRow_inj _ j _ y h, ← e]
  exact rowAt_apply _ _ k _ q c (by show q.val = (4 * (c.val / 128) + q.val) % 4; omega)
    (by show c.val = 128 * ((4 * (c.val / 128) + q.val) / 4) + (c.val % 128); omega)

/-! ## The matrix product as 20 steps -/

theorem inb_bytes (n : Fin 3) (k : Fin 20) : ∀ a, (![0, 0, 128 * k.val, 256 * n.val] : Fin 4 → Nat) a + S1x1x128x256.size a ≤ S1x1x2560x768.size a := by
  revert n k; decide
theorem inb_words (q : Fin 4) (n : Fin 3) (k : Fin 20) : ∀ a, (![q.val, k.val, 256 * n.val] : Fin 3 → Nat) a + S1x1x256.size a ≤ S4x20x768.size a := by
  revert q n k; decide
theorem inb_left (k : Fin 20) : ∀ a, (![0, 0, 256 * k.val] : Fin 3 → Nat) a + S16x2x256.size a ≤ S16x2x5120.size a := by
  revert k; decide

/-- The weight bytes of step `k` of column tile `n`. -/
abbrev rBytes (n : Fin 3) (k : Fin 20) : Rect S1x1x2560x768 := Rect.unit ![0, 0, 128 * k.val, 256 * n.val] S1x1x128x256.size (inb_bytes n k)
/-- Its scale words of byte `q`. -/
abbrev rWords (q : Fin 4) (n : Fin 3) (k : Fin 20) : Rect S4x20x768 := Rect.unit ![q.val, k.val, 256 * n.val] S1x1x256.size (inb_words q n k)
/-- Its part of the left operand. -/
abbrev rLeft (k : Fin 20) : Rect S16x2x5120 := Rect.unit ![0, 0, 256 * k.val] S16x2x256.size (inb_left k)

/-- Step `k` of column tile `n`: a product of 256 columns of the left operand and 256 rows of the weights. -/
def stepAt (w : Vec F S1x1x2560x768 .i8) (S : Vec F S4x20x768 .i32) (X : Vec F S16x2x5120 .bf16) (n : Fin 3) (k : Fin 20) : FVec F S32x256 .f32 :=
  Cert.KernelIdeal.Tile.step (View.ld (Val := Elt F) w (rBytes n k)) (View.ld (Val := Elt F) S (rWords 0 n k)) (View.ld (Val := Elt F) S (rWords 1 n k))
    (View.ld (Val := Elt F) S (rWords 2 n k)) (View.ld (Val := Elt F) S (rWords 3 n k)) (View.ld (Val := Elt F) X (rLeft k))

/-- The first `k + 1` of the steps `f`, added up from the first. -/
def sums (f : Fin 20 → FVec F S32x256 .f32) : (k : Nat) → k < 20 → FVec F S32x256 .f32
  | 0, h => f ⟨0, h⟩
  | k + 1, h => addf (sums f k (by omega)) (f ⟨k + 1, h⟩)

/-- All steps of column tile `n`. -/
def acc (w : Vec F S1x1x2560x768 .i8) (S : Vec F S4x20x768 .i32) (X : Vec F S16x2x5120 .bf16) (n : Fin 3) : FVec F S32x256 .f32 :=
  sums (stepAt w S X n) 19 (by omega)

/-! ## The sums over the experts -/

/-- The row scale. -/
def rowScale (x : Vec F S1x1x32x128 .f32) : FVec F S32x128 .f32 :=
  mulf (shapeCast S32x128 x shapeCasts_S1x1x32x128_S32x128) (broadcast S32x128 (Scalar.ofBits .f32 0x3C800000#32))

/-- The scaled product `v` added to what the plane held, or put in its place at the first expert. -/
def add (e : BitVec 32) (v : FVec F S32x128 .f32) (us : FVec F S32x128 .f32) (m : Vec F S1x32x128 .f32) : FVec F S1x32x128 .f32 :=
  shapeCast S1x32x128 (Scalar.select (Scalar.cmpi .eq e 0#32) (mulf v us) (addf (shapeCast S32x128 m shapeCasts_S1x32x128_S32x128) (mulf v us))) shapeCasts_S32x128_S1x32x128

/-- Half `h` of a product. -/
def half (h : Nat) (a : FVec F S32x256 .f32) : FVec F S32x128 .f32 :=
  match h with
  | 0 => extractStridedSlice S32x128 ![0, 0] a slices_S32x256_o0_0_S32x128
  | _ => extractStridedSlice S32x128 ![0, 128] a slices_S32x256_o0_128_S32x128

theorem inb_plane (p : Fin 6) : ∀ a, (![p.val, 0, 0] : Fin 3 → Nat) a + S1x32x128.size a ≤ S6x32x128.size a := by
  revert p; decide
abbrev rPlane (p : Fin 6) : Rect S6x32x128 := Rect.unit ![p.val, 0, 0] S1x32x128.size (inb_plane p)

theorem rPlane_inj (i j : Fin 6) (x : (rPlane i).shape.Idx) (y : (rPlane j).shape.Idx) (h : (rPlane j).emb y = (rPlane i).emb x) : j = i := by
  have h0 := congrArg (fun z : S6x32x128.Idx => (z 0).val) h
  have hx : (x 0).val = 0 := Nat.lt_one_iff.mp (x 0).isLt
  have hy : (y 0).val = 0 := Nat.lt_one_iff.mp (y 0).isLt
  have h1 : j.val + 1 * (y 0).val = i.val + 1 * (x 0).val := h0
  exact Fin.ext (by omega)

/-- The stores of the planes. -/
abbrev planePieces (P : Fin 6 → Vec F S1x32x128 .f32) : List (View.Piece (Elt F) S6x32x128 .f32) :=
  down 6 fun p => ⟨rPlane p, P p⟩

/-- The planes as one array. -/
def stack (P : Fin 6 → Vec F S1x32x128 .f32) : Vec F S6x32x128 .f32 := fun i => P (i 0) (ix3 (0 : Fin 1) (i 1) (i 2))

theorem canon_planes (P : Fin 6 → Vec F S1x32x128 .f32) (T : List (View.Piece (Elt F) S6x32x128 .f32)) : View.canon (planePieces P ++ T) = stack P := by
  funext i
  obtain ⟨p, r, l, rfl⟩ : ∃ (p : Fin 6) (r : Fin 32) (l : Fin 128), i = ix3 p r l := ⟨i 0, i 1, i 2, eq_ix3 i⟩
  have e : ix3 p r l = (rPlane p).emb (ix3 (0 : Fin 1) r l) := by
    funext a
    apply Fin.ext
    match a with
    | ⟨0, _⟩ => show p.val = p.val + 1 * 0; omega
    | ⟨1, _⟩ => show r.val = 0 + 1 * r.val; omega
    | ⟨2, _⟩ => show l.val = 0 + 1 * l.val; omega
  exact (congrArg _ e).trans (canon_tail T 6 rPlane P p _ fun j y h => rPlane_inj p j _ y h)

/-- What a plane holds after a point. -/
def plane (e : BitVec 32) (w : Vec F S1x1x2560x768 .i8) (S : Vec F S4x20x768 .i32) (X : Vec F S16x2x5120 .bf16) (x1 : Vec F S1x1x32x128 .f32) (m : Vec F S6x32x128 .f32)
    (p : Fin 6) : Vec F S1x32x128 .f32 :=
  add e (half (p.val % 2) (acc w S X ⟨p.val / 2, by omega⟩)) (rowScale x1) (View.ld (Val := Elt F) m (rPlane p))

/-! ## The result -/

/-- The two rows of each pair of a plane, spread over alternating lanes from lane `off` on. -/
def pick (off : BitVec 32) (e o : Vec F S1x16x128 .f32) : FVec F S1x1x16x128 .f32 :=
  shapeCast S1x1x16x128 (select evenLane (dynamicGather 1 (shapeCast S16x128 e shapeCasts_S1x16x128_S16x128) (wrap16 (spread16 off)))
    (dynamicGather 1 (shapeCast S16x128 o shapeCasts_S1x16x128_S16x128) (wrap16 (spread16 off)))) shapeCasts_S16x128_S1x1x16x128

theorem inb_rows (p : Fin 6) (r : Fin 2) : ∀ a, S1x16x128.size a = 0 ∨ (![p.val, r.val, 0] : Fin 3 → Nat) a + (![1, 2, 1] : Fin 3 → Nat) a * (S1x16x128.size a - 1) < S6x32x128.size a := by
  revert p r; decide
/-- The rows of parity `r` of plane `p`. -/
abbrev rRows (p : Fin 6) (r : Fin 2) : LoadRect S6x32x128 := ⟨![p.val, r.val, 0], S1x16x128.size, ![1, 2, 1], inb_rows p r⟩

theorem inb_out (g : Fin 12) : ∀ a, (![0, g.val, 0, 0] : Fin 4 → Nat) a + S1x1x16x128.size a ≤ S1x12x16x128.size a := by
  revert g; decide
abbrev rOut (g : Fin 12) : Rect S1x12x16x128 := Rect.unit ![0, g.val, 0, 0] S1x1x16x128.size (inb_out g)

theorem rOut_inj (i j : Fin 12) (x : (rOut i).shape.Idx) (y : (rOut j).shape.Idx) (h : (rOut j).emb y = (rOut i).emb x) : j = i := by
  have h0 := congrArg (fun z : S1x12x16x128.Idx => (z 1).val) h
  have hx : (x 1).val = 0 := Nat.lt_one_iff.mp (x 1).isLt
  have hy : (y 1).val = 0 := Nat.lt_one_iff.mp (y 1).isLt
  have h1 : j.val + 1 * (y 1).val = i.val + 1 * (x 1).val := h0
  exact Fin.ext (by omega)

/-- Output plane `g`. -/
def outAt (M : Vec F S6x32x128 .f32) (g : Fin 12) : Vec F S1x1x16x128 .f32 :=
  pick (match g.val % 2 with | 0 => 0#32 | _ => 64#32) (fun i => M ((rRows ⟨g.val / 2, by omega⟩ 0).idx i)) (fun i => M ((rRows ⟨g.val / 2, by omega⟩ 1).idx i))

/-- The stores of the result. -/
abbrev outPieces (M : Vec F S6x32x128 .f32) : List (View.Piece (Elt F) S1x12x16x128 .f32) :=
  down 12 fun g => ⟨rOut g, outAt M g⟩

/-- The result. -/
def out (M : Vec F S6x32x128 .f32) : Vec F S1x12x16x128 .f32 := fun i => outAt M (i 1) (ix4 (0 : Fin 1) (0 : Fin 1) (i 2) (i 3))

theorem canon_out (M : Vec F S6x32x128 .f32) : View.canon (outPieces M) = out M := by
  funext i
  obtain ⟨z, g, b, l, rfl⟩ : ∃ (z : Fin 1) (g : Fin 12) (b : Fin 16) (l : Fin 128), i = ix4 z g b l := ⟨i 0, i 1, i 2, i 3, eq_ix4 i⟩
  have e : ix4 z g b l = (rOut g).emb (ix4 (0 : Fin 1) (0 : Fin 1) b l) := by
    funext a
    apply Fin.ext
    match a with
    | ⟨0, _⟩ => show z.val = 0 + 1 * 0; omega
    | ⟨1, _⟩ => show g.val = g.val + 1 * 0; omega
    | ⟨2, _⟩ => show b.val = 0 + 1 * b.val; omega
    | ⟨3, _⟩ => show l.val = 0 + 1 * l.val; omega
  rw [e, canon_down_at rOut (fun t => outAt M t) _ _ fun j y h => rOut_inj _ j _ y h, ← e]
  rfl

end
end Cert.Kernel2Ideal.Body
-- ==== Proof.Case2A.lean ====
/-
  The run of the second kernel at the first expert of a token: the planes hold the scaled product, whatever
  they held before.
-/
module

public import proofs.«01_k».proof.Proof.Gen.Kernel2Ideal.Value
public import proofs.«01_k».proof.Proof.Parts2

@[expose] public section

set_option maxRecDepth 16384

noncomputable section

namespace Cert.Kernel2Ideal.CaseA

open Cert.Kernel2Ideal Cert.Kernel2Ideal.Gen Idealize.ShloMosaic Idealize.ShloMosaic.TcCoe
open Cert.Kernel2Ideal.Body
open Cert.KernelIdeal.Body (down)

variable {F : FTy → Type} [FloatOps F] [Named F]

variable (c : Dev nD) (i : grid0.Coords) (arg1 : Memref sig .tc .vmem S1x1x10x32x128 .f32) (harg1 : arg1.IsWhole) (arg2 : Memref sig .tc .vmem S1x1x32x128 .f32) (harg2 : arg2.IsWhole) (arg3 : Memref sig .tc .vmem S1x1x2560x768 .i8) (harg3 : arg3.IsWhole) (arg4 : Memref sig .tc .vmem S1x1x80x1536 .i8) (harg4 : arg4.IsWhole) (arg5 : Memref sig .tc .vmem S1x12x16x128 .f32) (harg5 : arg5.IsWhole) (arg6 : Memref sig .tc .vmem S4x20x768 .i32) (harg6 : arg6.IsWhole) (arg7 : Memref sig .tc .vmem S16x2x5120 .bf16) (harg7 : arg7.IsWhole) (arg8 : Memref sig .tc .vmem S6x32x128 .f32) (harg8 : arg8.IsWhole)
  (x0 : Vec F S1x1x10x32x128 .f32) (x1 : Vec F S1x1x32x128 .f32) (x2 : Vec F S1x1x2560x768 .i8) (x3 : Vec F S1x1x80x1536 .i8) (xs2 : Vec F S6x32x128 .f32)

/-- The stores of the scale words. -/
theorem wordsList : (kernelRun0_A.sl.HS0_24 c arg4 harg4 x3) = wordPieces (F := F) (Scales.dwords (View.ld (Val := Elt F) x3 (Rect.unit ![0, 0, 0, 0] S1x1x80x1536.size inb_S1x1x80x1536_S1x1x80x1536_0_0_0_0))) := by
  rw [← harg4.read_unread (Val := Elt F) x3, ← View.readAt_eq_ld, harg4.read_unread]
  rfl

theorem wordsCanon : View.canon (kernelRun0_A.sl.HS0_24 c arg4 harg4 x3) = words x3 := by
  rw [wordsList, canon_words, View.ld_unit_lit _ _ (by decide)]

/-- The stores of the reordered left operand. -/
theorem leftList : (kernelRun0_A.sl.HS1_40 c arg1 harg1 x0) = leftPieces x0 := by
  refine Eq.trans (b := leftPieces (arg1.view.read (Elt F) (harg1.unread x0))) rfl ?_
  rw [harg1.read_unread]

theorem leftCanon : View.canon (kernelRun0_A.sl.HS1_40 c arg1 harg1 x0) = left x0 := by
  rw [leftList]; exact canon_left x0

/-- One step of the product, as the run reads its operands. -/
def stepWord (n : Fin 3) (k : Fin 20) : FVec F S32x256 .f32 :=
  Cert.KernelIdeal.Tile.step (View.readAt (Elt F) arg3.view (rBytes n k).toLoadRect (harg3.unread x2)) (arg6.view.readCov (kernelRun0_A.sl.HS0_24 c arg4 harg4 x3) (rWords 0 n k).toLoadRect)
    (arg6.view.readCov (kernelRun0_A.sl.HS0_24 c arg4 harg4 x3) (rWords 1 n k).toLoadRect) (arg6.view.readCov (kernelRun0_A.sl.HS0_24 c arg4 harg4 x3) (rWords 2 n k).toLoadRect) (arg6.view.readCov (kernelRun0_A.sl.HS0_24 c arg4 harg4 x3) (rWords 3 n k).toLoadRect)
    (arg7.view.readCov (kernelRun0_A.sl.HS1_40 c arg1 harg1 x0) (rLeft k).toLoadRect)

theorem stepWord_eq (n : Fin 3) (k : Fin 20) : stepWord c arg1 harg1 arg3 harg3 arg4 harg4 arg6 arg7 x0 x2 x3 n k = stepAt x2 (words x3) (left x0) n k := by
  unfold stepWord
  rw [View.readAt_eq_ld, harg3.read_unread, View.readCov_eq_canon', View.readCov_eq_canon', View.readCov_eq_canon', View.readCov_eq_canon', View.readCov_eq_canon', wordsCanon, leftCanon]
  rfl

theorem accWord (n : Fin 3) : sums (stepWord c arg1 harg1 arg3 harg3 arg4 harg4 arg6 arg7 x0 x2 x3 n) 19 (by omega) = acc x2 (words x3) (left x0) n := by
  unfold acc
  rw [funext (stepWord_eq c arg1 harg1 arg3 harg3 arg4 harg4 arg6 arg7 x0 x2 x3 n)]

theorem acc_0 : (kernelRun0_A.sl.r_131 c arg1 harg1 arg3 harg3 arg4 harg4 arg6 arg7 x0 x2 x3) = sums (stepWord c arg1 harg1 arg3 harg3 arg4 harg4 arg6 arg7 x0 x2 x3 0) 19 (by omega) := rfl

theorem acc_1 : addf (kernelRun0_A.sl.r_266 c arg1 harg1 arg3 harg3 arg4 harg4 arg6 arg7 x0 x2 x3) (stepWord c arg1 harg1 arg3 harg3 arg4 harg4 arg6 arg7 x0 x2 x3 1 19) = sums (stepWord c arg1 harg1 arg3 harg3 arg4 harg4 arg6 arg7 x0 x2 x3 1) 19 (by omega) := rfl

theorem acc_2 : (kernelRun0_A.sl.r_292 c arg1 harg1 arg3 harg3 arg4 harg4 arg6 arg7 x0 x2 x3) = sums (stepWord c arg1 harg1 arg3 harg3 arg4 harg4 arg6 arg7 x0 x2 x3 2) 19 (by omega) := rfl

theorem rowScaleWord : (kernelRun0_A.sl.r_51 c arg2 harg2 x1) = rowScale x1 := by
  refine Eq.trans (b := rowScale (View.ld (Val := Elt F) (arg2.view.read (Elt F) (harg2.unread x1)) (Rect.unit ![0, 0, 0, 0] S1x1x32x128.size inb_S1x1x32x128_S1x1x32x128_0_0_0_0))) rfl ?_
  rw [harg2.read_unread, View.ld_unit_lit _ _ (by decide)]

/-- What the run reads of a plane before it stores it. -/
def before (p : Fin 6) : Vec F S1x32x128 .f32 :=
  match p with
  | 0 => arg8.view.readCov (kernelRun0_A.sl.HS2_1) (rPlane 0).toLoadRect
  | 1 => arg8.view.readCov (kernelRun0_A.sl.HS2_2 c i arg1 harg1 arg2 harg2 arg3 harg3 arg4 harg4 arg6 arg7 arg8 x0 x1 x2 x3) (rPlane 1).toLoadRect
  | 2 => arg8.view.readCov (kernelRun0_A.sl.HS2_3 c i arg1 harg1 arg2 harg2 arg3 harg3 arg4 harg4 arg6 arg7 arg8 x0 x1 x2 x3) (rPlane 2).toLoadRect
  | 3 => arg8.view.readCov (kernelRun0_A.sl.HS2_4 c i arg1 harg1 arg2 harg2 arg3 harg3 arg4 harg4 arg6 arg7 arg8 x0 x1 x2 x3) (rPlane 3).toLoadRect
  | 4 => arg8.view.readCov (kernelRun0_A.sl.HS2_5 c i arg1 harg1 arg2 harg2 arg3 harg3 arg4 harg4 arg6 arg7 arg8 x0 x1 x2 x3) (rPlane 4).toLoadRect
  | 5 => arg8.view.readCov (kernelRun0_A.sl.HS2_6 c i arg1 harg1 arg2 harg2 arg3 harg3 arg4 harg4 arg6 arg7 arg8 x0 x1 x2 x3) (rPlane 5).toLoadRect

/-- What the run stores into a plane. -/
def planeWord (p : Fin 6) : Vec F S1x32x128 .f32 :=
  add (kernelRun0_A.sl.v9 i) (half (p.val % 2) (sums (stepWord c arg1 harg1 arg3 harg3 arg4 harg4 arg6 arg7 x0 x2 x3 ⟨p.val / 2, by omega⟩) 19 (by omega))) (kernelRun0_A.sl.r_51 c arg2 harg2 x1) (before c i arg1 harg1 arg2 harg2 arg3 harg3 arg4 harg4 arg6 arg7 arg8 x0 x1 x2 x3 p)

theorem add_any (v us : FVec F S32x128 .f32) (m m' : Vec F S1x32x128 .f32) : add 0#32 v us m = add 0#32 v us m' := rfl

theorem planeWord_eq (he : (kernelRun0_A.sl.v9 i) = 0#32) (m : Vec F S6x32x128 .f32) (p : Fin 6) :
    planeWord c i arg1 harg1 arg2 harg2 arg3 harg3 arg4 harg4 arg6 arg7 arg8 x0 x1 x2 x3 p = plane 0#32 x2 (words x3) (left x0) x1 m p := by
  unfold planeWord plane
  rw [accWord, rowScaleWord, he]
  exact add_any _ _ _ _

theorem store_0 : k0_pay518 (kernelRun0_A.sl.r_132 c i arg1 harg1 arg2 harg2 arg3 harg3 arg4 harg4 arg6 arg7 arg8 x0 x1 x2 x3) = planeWord c i arg1 harg1 arg2 harg2 arg3 harg3 arg4 harg4 arg6 arg7 arg8 x0 x1 x2 x3 0 := rfl

theorem store_1 : k0_pay519 (kernelRun0_A.sl.v9 i) (kernelRun0_A.sl.r_51 c arg2 harg2 x1) (kernelRun0_A.sl.r_131 c arg1 harg1 arg3 harg3 arg4 harg4 arg6 arg7 x0 x2 x3) (kernelRun0_A.sl.v5071 c i arg1 harg1 arg2 harg2 arg3 harg3 arg4 harg4 arg6 arg7 arg8 x0 x1 x2 x3) = planeWord c i arg1 harg1 arg2 harg2 arg3 harg3 arg4 harg4 arg6 arg7 arg8 x0 x1 x2 x3 1 := rfl

theorem store_2 : k0_pay661 (kernelRun0_A.sl.v9 i) (kernelRun0_A.sl.r_51 c arg2 harg2 x1) (kernelRun0_A.sl.r_266 c arg1 harg1 arg3 harg3 arg4 harg4 arg6 arg7 x0 x2 x3) (kernelRun0_A.sl.r_269 c arg3 harg3 x2) (kernelRun0_A.sl.r_270 c arg3 harg3 arg4 harg4 arg6 x2 x3) (kernelRun0_A.sl.r_271 c arg3 harg3 arg4 harg4 arg6 x2 x3) (kernelRun0_A.sl.r_272 c arg4 harg4 arg6 x3) (kernelRun0_A.sl.v6665 c arg4 harg4 arg6 x3) (kernelRun0_A.sl.v5054_raw c arg1 harg1 arg7 x0) (kernelRun0_A.sl.v6680 c i arg1 harg1 arg2 harg2 arg3 harg3 arg4 harg4 arg6 arg7 arg8 x0 x1 x2 x3) = planeWord c i arg1 harg1 arg2 harg2 arg3 harg3 arg4 harg4 arg6 arg7 arg8 x0 x1 x2 x3 2 := rfl

theorem store_3 : k0_pay662 (kernelRun0_A.sl.v9 i) (kernelRun0_A.sl.r_51 c arg2 harg2 x1) (kernelRun0_A.sl.r_266 c arg1 harg1 arg3 harg3 arg4 harg4 arg6 arg7 x0 x2 x3) (kernelRun0_A.sl.r_269 c arg3 harg3 x2) (kernelRun0_A.sl.r_270 c arg3 harg3 arg4 harg4 arg6 x2 x3) (kernelRun0_A.sl.r_271 c arg3 harg3 arg4 harg4 arg6 x2 x3) (kernelRun0_A.sl.r_272 c arg4 harg4 arg6 x3) (kernelRun0_A.sl.v6665 c arg4 harg4 arg6 x3) (kernelRun0_A.sl.v5054_raw c arg1 harg1 arg7 x0) (kernelRun0_A.sl.v6690 c i arg1 harg1 arg2 harg2 arg3 harg3 arg4 harg4 arg6 arg7 arg8 x0 x1 x2 x3) = planeWord c i arg1 harg1 arg2 harg2 arg3 harg3 arg4 harg4 arg6 arg7 arg8 x0 x1 x2 x3 3 := rfl

theorem store_4 : k0_pay824 (kernelRun0_A.sl.v9 i) (kernelRun0_A.sl.r_51 c arg2 harg2 x1) (kernelRun0_A.sl.r_293 c arg1 harg1 arg3 harg3 arg4 harg4 arg6 arg7 x0 x2 x3) (kernelRun0_A.sl.v8299 c i arg1 harg1 arg2 harg2 arg3 harg3 arg4 harg4 arg6 arg7 arg8 x0 x1 x2 x3) = planeWord c i arg1 harg1 arg2 harg2 arg3 harg3 arg4 harg4 arg6 arg7 arg8 x0 x1 x2 x3 4 := rfl

theorem store_5 : k0_pay1 (kernelRun0_A.sl.r_294 c i arg1 harg1 arg2 harg2 arg3 harg3 arg4 harg4 arg6 arg7 arg8 x0 x1 x2 x3) = planeWord c i arg1 harg1 arg2 harg2 arg3 harg3 arg4 harg4 arg6 arg7 arg8 x0 x1 x2 x3 5 := rfl

variable (hc0 : cond0_0 i) (hc1 : ¬cond0_1 i)

theorem planesCanon : View.canon (kernelRun0_A c i arg1 harg1 arg2 harg2 arg3 harg3 arg4 harg4 arg5 harg5 arg6 harg6 arg7 harg7 arg8 harg8 hc0 hc1 x0 x1 x2 x3).2.1 = stack (planeWord c i arg1 harg1 arg2 harg2 arg3 harg3 arg4 harg4 arg6 arg7 arg8 x0 x1 x2 x3) := by
  refine Eq.trans (b := View.canon (planePieces (planeWord c i arg1 harg1 arg2 harg2 arg3 harg3 arg4 harg4 arg6 arg7 arg8 x0 x1 x2 x3) ++ (kernelRun0_A.sl.HS2_1))) ?_ (canon_planes _ _)
  refine congrArg View.canon (Eq.trans (b := ([⟨rPlane 5, k0_pay1 (kernelRun0_A.sl.r_294 c i arg1 harg1 arg2 harg2 arg3 harg3 arg4 harg4 arg6 arg7 arg8 x0 x1 x2 x3)⟩, ⟨rPlane 4, k0_pay824 (kernelRun0_A.sl.v9 i) (kernelRun0_A.sl.r_51 c arg2 harg2 x1) (kernelRun0_A.sl.r_293 c arg1 harg1 arg3 harg3 arg4 harg4 arg6 arg7 x0 x2 x3) (kernelRun0_A.sl.v8299 c i arg1 harg1 arg2 harg2 arg3 harg3 arg4 harg4 arg6 arg7 arg8 x0 x1 x2 x3)⟩, ⟨rPlane 3, k0_pay662 (kernelRun0_A.sl.v9 i) (kernelRun0_A.sl.r_51 c arg2 harg2 x1) (kernelRun0_A.sl.r_266 c arg1 harg1 arg3 harg3 arg4 harg4 arg6 arg7 x0 x2 x3) (kernelRun0_A.sl.r_269 c arg3 harg3 x2) (kernelRun0_A.sl.r_270 c arg3 harg3 arg4 harg4 arg6 x2 x3) (kernelRun0_A.sl.r_271 c arg3 harg3 arg4 harg4 arg6 x2 x3) (kernelRun0_A.sl.r_272 c arg4 harg4 arg6 x3) (kernelRun0_A.sl.v6665 c arg4 harg4 arg6 x3) (kernelRun0_A.sl.v5054_raw c arg1 harg1 arg7 x0) (kernelRun0_A.sl.v6690 c i arg1 harg1 arg2 harg2 arg3 harg3 arg4 harg4 arg6 arg7 arg8 x0 x1 x2 x3)⟩, ⟨rPlane 2, k0_pay661 (kernelRun0_A.sl.v9 i) (kernelRun0_A.sl.r_51 c arg2 harg2 x1) (kernelRun0_A.sl.r_266 c arg1 harg1 arg3 harg3 arg4 harg4 arg6 arg7 x0 x2 x3) (kernelRun0_A.sl.r_269 c arg3 harg3 x2) (kernelRun0_A.sl.r_270 c arg3 harg3 arg4 harg4 arg6 x2 x3) (kernelRun0_A.sl.r_271 c arg3 harg3 arg4 harg4 arg6 x2 x3) (kernelRun0_A.sl.r_272 c arg4 harg4 arg6 x3) (kernelRun0_A.sl.v6665 c arg4 harg4 arg6 x3) (kernelRun0_A.sl.v5054_raw c arg1 harg1 arg7 x0) (kernelRun0_A.sl.v6680 c i arg1 harg1 arg2 harg2 arg3 harg3 arg4 harg4 arg6 arg7 arg8 x0 x1 x2 x3)⟩, ⟨rPlane 1, k0_pay519 (kernelRun0_A.sl.v9 i) (kernelRun0_A.sl.r_51 c arg2 harg2 x1) (kernelRun0_A.sl.r_131 c arg1 harg1 arg3 harg3 arg4 harg4 arg6 arg7 x0 x2 x3) (kernelRun0_A.sl.v5071 c i arg1 harg1 arg2 harg2 arg3 harg3 arg4 harg4 arg6 arg7 arg8 x0 x1 x2 x3)⟩, ⟨rPlane 0, k0_pay518 (kernelRun0_A.sl.r_132 c i arg1 harg1 arg2 harg2 arg3 harg3 arg4 harg4 arg6 arg7 arg8 x0 x1 x2 x3)⟩] : List (View.Piece (Elt F) S6x32x128 .f32)) ++ (kernelRun0_A.sl.HS2_1)) rfl ?_)
  rw [store_0, store_1, store_2, store_3, store_4, store_5]
  rfl

/-- The planes after the point. -/
theorem planes_eq (he : (kernelRun0_A.sl.v9 i) = 0#32) (m : Vec F S6x32x128 .f32) : sout0_A_2 c i arg1 harg1 arg2 harg2 arg3 harg3 arg4 harg4 arg5 harg5 arg6 harg6 arg7 harg7 arg8 harg8 hc0 hc1 x0 x1 x2 x3 = stack (plane 0#32 x2 (words x3) (left x0) x1 m) := by
  unfold sout0_A_2
  rw [View.read_writes_eq_canon _ _ _ (scover0_A_2 c i arg1 harg1 arg2 harg2 arg3 harg3 arg4 harg4 arg5 harg5 arg6 harg6 arg7 harg7 arg8 harg8 hc0 hc1 x0 x1 x2 x3), planesCanon]
  exact congrArg stack (funext (planeWord_eq c i arg1 harg1 arg2 harg2 arg3 harg3 arg4 harg4 arg6 arg7 arg8 x0 x1 x2 x3 he m))

end Cert.Kernel2Ideal.CaseA
-- ==== Proof.Case2B.lean ====
/-
  The run of the second kernel at an expert that is neither the first nor the last: the scaled product is
  added to the planes.
-/
module

public import proofs.«01_k».proof.Proof.Gen.Kernel2Ideal.Value
public import proofs.«01_k».proof.Proof.Parts2

@[expose] public section

set_option maxRecDepth 16384

noncomputable section

namespace Cert.Kernel2Ideal.CaseB

open Cert.Kernel2Ideal Cert.Kernel2Ideal.Gen Idealize.ShloMosaic Idealize.ShloMosaic.TcCoe
open Cert.Kernel2Ideal.Body
open Cert.KernelIdeal.Body (down)

variable {F : FTy → Type} [FloatOps F] [Named F]

variable (c : Dev nD) (i : grid0.Coords) (arg1 : Memref sig .tc .vmem S1x1x10x32x128 .f32) (harg1 : arg1.IsWhole) (arg2 : Memref sig .tc .vmem S1x1x32x128 .f32) (harg2 : arg2.IsWhole) (arg3 : Memref sig .tc .vmem S1x1x2560x768 .i8) (harg3 : arg3.IsWhole) (arg4 : Memref sig .tc .vmem S1x1x80x1536 .i8) (harg4 : arg4.IsWhole) (arg5 : Memref sig .tc .vmem S1x12x16x128 .f32) (harg5 : arg5.IsWhole) (arg6 : Memref sig .tc .vmem S4x20x768 .i32) (harg6 : arg6.IsWhole) (arg7 : Memref sig .tc .vmem S16x2x5120 .bf16) (harg7 : arg7.IsWhole) (arg8 : Memref sig .tc .vmem S6x32x128 .f32) (harg8 : arg8.IsWhole)
  (x0 : Vec F S1x1x10x32x128 .f32) (x1 : Vec F S1x1x32x128 .f32) (x2 : Vec F S1x1x2560x768 .i8) (x3 : Vec F S1x1x80x1536 .i8) (xs2 : Vec F S6x32x128 .f32)

/-- The stores of the scale words. -/
theorem wordsList : (kernelRun0_B.sl.HS0_24 c arg4 harg4 x3) = wordPieces (F := F) (Scales.dwords (View.ld (Val := Elt F) x3 (Rect.unit ![0, 0, 0, 0] S1x1x80x1536.size inb_S1x1x80x1536_S1x1x80x1536_0_0_0_0))) := by
  rw [← harg4.read_unread (Val := Elt F) x3, ← View.readAt_eq_ld, harg4.read_unread]
  rfl

theorem wordsCanon : View.canon (kernelRun0_B.sl.HS0_24 c arg4 harg4 x3) = words x3 := by
  rw [wordsList, canon_words, View.ld_unit_lit _ _ (by decide)]

/-- The stores of the reordered left operand. -/
theorem leftList : (kernelRun0_B.sl.HS1_40 c arg1 harg1 x0) = leftPieces x0 := by
  refine Eq.trans (b := leftPieces (arg1.view.read (Elt F) (harg1.unread x0))) rfl ?_
  rw [harg1.read_unread]

theorem leftCanon : View.canon (kernelRun0_B.sl.HS1_40 c arg1 harg1 x0) = left x0 := by
  rw [leftList]; exact canon_left x0

/-- One step of the product, as the run reads its operands. -/
def stepWord (n : Fin 3) (k : Fin 20) : FVec F S32x256 .f32 :=
  Cert.KernelIdeal.Tile.step (View.readAt (Elt F) arg3.view (rBytes n k).toLoadRect (harg3.unread x2)) (arg6.view.readCov (kernelRun0_B.sl.HS0_24 c arg4 harg4 x3) (rWords 0 n k).toLoadRect)
    (arg6.view.readCov (kernelRun0_B.sl.HS0_24 c arg4 harg4 x3) (rWords 1 n k).toLoadRect) (arg6.view.readCov (kernelRun0_B.sl.HS0_24 c arg4 harg4 x3) (rWords 2 n k).toLoadRect) (arg6.view.readCov (kernelRun0_B.sl.HS0_24 c arg4 harg4 x3) (rWords 3 n k).toLoadRect)
    (arg7.view.readCov (kernelRun0_B.sl.HS1_40 c arg1 harg1 x0) (rLeft k).toLoadRect)

theorem stepWord_eq (n : Fin 3) (k : Fin 20) : stepWord c arg1 harg1 arg3 harg3 arg4 harg4 arg6 arg7 x0 x2 x3 n k = stepAt x2 (words x3) (left x0) n k := by
  unfold stepWord
  rw [View.readAt_eq_ld, harg3.read_unread, View.readCov_eq_canon', View.readCov_eq_canon', View.readCov_eq_canon', View.readCov_eq_canon', View.readCov_eq_canon', wordsCanon, leftCanon]
  rfl

theorem accWord (n : Fin 3) : sums (stepWord c arg1 harg1 arg3 harg3 arg4 harg4 arg6 arg7 x0 x2 x3 n) 19 (by omega) = acc x2 (words x3) (left x0) n := by
  unfold acc
  rw [funext (stepWord_eq c arg1 harg1 arg3 harg3 arg4 harg4 arg6 arg7 x0 x2 x3 n)]

theorem acc_0 : (kernelRun0_B.sl.r_131 c arg1 harg1 arg3 harg3 arg4 harg4 arg6 arg7 x0 x2 x3) = sums (stepWord c arg1 harg1 arg3 harg3 arg4 harg4 arg6 arg7 x0 x2 x3 0) 19 (by omega) := rfl

theorem acc_1 : addf (kernelRun0_B.sl.r_266 c arg1 harg1 arg3 harg3 arg4 harg4 arg6 arg7 x0 x2 x3) (stepWord c arg1 harg1 arg3 harg3 arg4 harg4 arg6 arg7 x0 x2 x3 1 19) = sums (stepWord c arg1 harg1 arg3 harg3 arg4 harg4 arg6 arg7 x0 x2 x3 1) 19 (by omega) := rfl

theorem acc_2 : (kernelRun0_B.sl.r_292 c arg1 harg1 arg3 harg3 arg4 harg4 arg6 arg7 x0 x2 x3) = sums (stepWord c arg1 harg1 arg3 harg3 arg4 harg4 arg6 arg7 x0 x2 x3 2) 19 (by omega) := rfl

theorem rowScaleWord : (kernelRun0_B.sl.r_51 c arg2 harg2 x1) = rowScale x1 := by
  refine Eq.trans (b := rowScale (View.ld (Val := Elt F) (arg2.view.read (Elt F) (harg2.unread x1)) (Rect.unit ![0, 0, 0, 0] S1x1x32x128.size inb_S1x1x32x128_S1x1x32x128_0_0_0_0))) rfl ?_
  rw [harg2.read_unread, View.ld_unit_lit _ _ (by decide)]

/-- What the run stores into a plane. -/
def planeWord (p : Fin 6) : Vec F S1x32x128 .f32 :=
  add (kernelRun0_B.sl.v9 i) (half (p.val % 2) (sums (stepWord c arg1 harg1 arg3 harg3 arg4 harg4 arg6 arg7 x0 x2 x3 ⟨p.val / 2, by omega⟩) 19 (by omega))) (kernelRun0_B.sl.r_51 c arg2 harg2 x1) (View.readAt (Elt F) arg8.view (rPlane p).toLoadRect (harg8.unread xs2))

theorem planeWord_eq (p : Fin 6) : planeWord c i arg1 harg1 arg2 harg2 arg3 harg3 arg4 harg4 arg6 arg7 arg8 harg8 x0 x1 x2 x3 xs2 p = plane (kernelRun0_B.sl.v9 i) x2 (words x3) (left x0) x1 xs2 p := by
  unfold planeWord plane
  rw [accWord, rowScaleWord, View.readAt_eq_ld, harg8.read_unread]

theorem store_0 : k0_pay518 (kernelRun0_B.sl.r_132 c i arg1 harg1 arg2 harg2 arg3 harg3 arg4 harg4 arg6 arg7 arg8 harg8 x0 x1 x2 x3 xs2) = planeWord c i arg1 harg1 arg2 harg2 arg3 harg3 arg4 harg4 arg6 arg7 arg8 harg8 x0 x1 x2 x3 xs2 0 := rfl

theorem store_1 : k0_pay519 (kernelRun0_B.sl.v9 i) (kernelRun0_B.sl.r_51 c arg2 harg2 x1) (kernelRun0_B.sl.r_131 c arg1 harg1 arg3 harg3 arg4 harg4 arg6 arg7 x0 x2 x3) (kernelRun0_B.sl.v5071 c arg8 harg8 xs2) = planeWord c i arg1 harg1 arg2 harg2 arg3 harg3 arg4 harg4 arg6 arg7 arg8 harg8 x0 x1 x2 x3 xs2 1 := rfl

theorem store_2 : k0_pay661 (kernelRun0_B.sl.v9 i) (kernelRun0_B.sl.r_51 c arg2 harg2 x1) (kernelRun0_B.sl.r_266 c arg1 harg1 arg3 harg3 arg4 harg4 arg6 arg7 x0 x2 x3) (kernelRun0_B.sl.r_269 c arg3 harg3 x2) (kernelRun0_B.sl.r_270 c arg3 harg3 arg4 harg4 arg6 x2 x3) (kernelRun0_B.sl.r_271 c arg3 harg3 arg4 harg4 arg6 x2 x3) (kernelRun0_B.sl.r_272 c arg4 harg4 arg6 x3) (kernelRun0_B.sl.v6665 c arg4 harg4 arg6 x3) (kernelRun0_B.sl.v5054_raw c arg1 harg1 arg7 x0) (kernelRun0_B.sl.v6680 c arg8 harg8 xs2) = planeWord c i arg1 harg1 arg2 harg2 arg3 harg3 arg4 harg4 arg6 arg7 arg8 harg8 x0 x1 x2 x3 xs2 2 := rfl

theorem store_3 : k0_pay662 (kernelRun0_B.sl.v9 i) (kernelRun0_B.sl.r_51 c arg2 harg2 x1) (kernelRun0_B.sl.r_266 c arg1 harg1 arg3 harg3 arg4 harg4 arg6 arg7 x0 x2 x3) (kernelRun0_B.sl.r_269 c arg3 harg3 x2) (kernelRun0_B.sl.r_270 c arg3 harg3 arg4 harg4 arg6 x2 x3) (kernelRun0_B.sl.r_271 c arg3 harg3 arg4 harg4 arg6 x2 x3) (kernelRun0_B.sl.r_272 c arg4 harg4 arg6 x3) (kernelRun0_B.sl.v6665 c arg4 harg4 arg6 x3) (kernelRun0_B.sl.v5054_raw c arg1 harg1 arg7 x0) (kernelRun0_B.sl.v6690 c arg8 harg8 xs2) = planeWord c i arg1 harg1 arg2 harg2 arg3 harg3 arg4 harg4 arg6 arg7 arg8 harg8 x0 x1 x2 x3 xs2 3 := rfl

theorem store_4 : k0_pay824 (kernelRun0_B.sl.v9 i) (kernelRun0_B.sl.r_51 c arg2 harg2 x1) (kernelRun0_B.sl.r_293 c arg1 harg1 arg3 harg3 arg4 harg4 arg6 arg7 x0 x2 x3) (kernelRun0_B.sl.v8299 c arg8 harg8 xs2) = planeWord c i arg1 harg1 arg2 harg2 arg3 harg3 arg4 harg4 arg6 arg7 arg8 harg8 x0 x1 x2 x3 xs2 4 := rfl

theorem store_5 : k0_pay1 (kernelRun0_B.sl.r_294 c i arg1 harg1 arg2 harg2 arg3 harg3 arg4 harg4 arg6 arg7 arg8 harg8 x0 x1 x2 x3 xs2) = planeWord c i arg1 harg1 arg2 harg2 arg3 harg3 arg4 harg4 arg6 arg7 arg8 harg8 x0 x1 x2 x3 xs2 5 := rfl

variable (hc0 : ¬cond0_0 i) (hc1 : ¬cond0_1 i)

theorem planesCanon : View.canon (kernelRun0_B c i arg1 harg1 arg2 harg2 arg3 harg3 arg4 harg4 arg5 harg5 arg6 harg6 arg7 harg7 arg8 harg8 hc0 hc1 x0 x1 x2 x3 xs2).2.1 = stack (planeWord c i arg1 harg1 arg2 harg2 arg3 harg3 arg4 harg4 arg6 arg7 arg8 harg8 x0 x1 x2 x3 xs2) := by
  refine Eq.trans (b := View.canon (planePieces (planeWord c i arg1 harg1 arg2 harg2 arg3 harg3 arg4 harg4 arg6 arg7 arg8 harg8 x0 x1 x2 x3 xs2) ++ [])) ?_ (canon_planes _ _)
  refine congrArg View.canon (Eq.trans (b := ([⟨rPlane 5, k0_pay1 (kernelRun0_B.sl.r_294 c i arg1 harg1 arg2 harg2 arg3 harg3 arg4 harg4 arg6 arg7 arg8 harg8 x0 x1 x2 x3 xs2)⟩, ⟨rPlane 4, k0_pay824 (kernelRun0_B.sl.v9 i) (kernelRun0_B.sl.r_51 c arg2 harg2 x1) (kernelRun0_B.sl.r_293 c arg1 harg1 arg3 harg3 arg4 harg4 arg6 arg7 x0 x2 x3) (kernelRun0_B.sl.v8299 c arg8 harg8 xs2)⟩, ⟨rPlane 3, k0_pay662 (kernelRun0_B.sl.v9 i) (kernelRun0_B.sl.r_51 c arg2 harg2 x1) (kernelRun0_B.sl.r_266 c arg1 harg1 arg3 harg3 arg4 harg4 arg6 arg7 x0 x2 x3) (kernelRun0_B.sl.r_269 c arg3 harg3 x2) (kernelRun0_B.sl.r_270 c arg3 harg3 arg4 harg4 arg6 x2 x3) (kernelRun0_B.sl.r_271 c arg3 harg3 arg4 harg4 arg6 x2 x3) (kernelRun0_B.sl.r_272 c arg4 harg4 arg6 x3) (kernelRun0_B.sl.v6665 c arg4 harg4 arg6 x3) (kernelRun0_B.sl.v5054_raw c arg1 harg1 arg7 x0) (kernelRun0_B.sl.v6690 c arg8 harg8 xs2)⟩, ⟨rPlane 2, k0_pay661 (kernelRun0_B.sl.v9 i) (kernelRun0_B.sl.r_51 c arg2 harg2 x1) (kernelRun0_B.sl.r_266 c arg1 harg1 arg3 harg3 arg4 harg4 arg6 arg7 x0 x2 x3) (kernelRun0_B.sl.r_269 c arg3 harg3 x2) (kernelRun0_B.sl.r_270 c arg3 harg3 arg4 harg4 arg6 x2 x3) (kernelRun0_B.sl.r_271 c arg3 harg3 arg4 harg4 arg6 x2 x3) (kernelRun0_B.sl.r_272 c arg4 harg4 arg6 x3) (kernelRun0_B.sl.v6665 c arg4 harg4 arg6 x3) (kernelRun0_B.sl.v5054_raw c arg1 harg1 arg7 x0) (kernelRun0_B.sl.v6680 c arg8 harg8 xs2)⟩, ⟨rPlane 1, k0_pay519 (kernelRun0_B.sl.v9 i) (kernelRun0_B.sl.r_51 c arg2 harg2 x1) (kernelRun0_B.sl.r_131 c arg1 harg1 arg3 harg3 arg4 harg4 arg6 arg7 x0 x2 x3) (kernelRun0_B.sl.v5071 c arg8 harg8 xs2)⟩, ⟨rPlane 0, k0_pay518 (kernelRun0_B.sl.r_132 c i arg1 harg1 arg2 harg2 arg3 harg3 arg4 harg4 arg6 arg7 arg8 harg8 x0 x1 x2 x3 xs2)⟩] : List (View.Piece (Elt F) S6x32x128 .f32)) ++ []) rfl ?_)
  rw [store_0, store_1, store_2, store_3, store_4, store_5]
  rfl

/-- The planes after the point. -/
theorem planes_eq : sout0_B_2 c i arg1 harg1 arg2 harg2 arg3 harg3 arg4 harg4 arg5 harg5 arg6 harg6 arg7 harg7 arg8 harg8 hc0 hc1 x0 x1 x2 x3 xs2 = stack (plane (kernelRun0_B.sl.v9 i) x2 (words x3) (left x0) x1 xs2) := by
  unfold sout0_B_2
  rw [View.read_writes_eq_canon _ _ _ (scover0_B_2 c i arg1 harg1 arg2 harg2 arg3 harg3 arg4 harg4 arg5 harg5 arg6 harg6 arg7 harg7 arg8 harg8 hc0 hc1 x0 x1 x2 x3 xs2), planesCanon]
  exact congrArg stack (funext (planeWord_eq c i arg1 harg1 arg2 harg2 arg3 harg3 arg4 harg4 arg6 arg7 arg8 harg8 x0 x1 x2 x3 xs2))

end Cert.Kernel2Ideal.CaseB
-- ==== Proof.Case2C.lean ====
/-
  The run of the second kernel at the last expert of a token: the scaled product is added to the planes and
  the result is written from them.
-/
module

public import proofs.«01_k».proof.Proof.Gen.Kernel2Ideal.Value
public import proofs.«01_k».proof.Proof.Parts2

@[expose] public section

set_option maxRecDepth 16384

noncomputable section

namespace Cert.Kernel2Ideal.CaseC

open Cert.Kernel2Ideal Cert.Kernel2Ideal.Gen Idealize.ShloMosaic Idealize.ShloMosaic.TcCoe
open Cert.Kernel2Ideal.Body
open Cert.KernelIdeal.Body (down)

variable {F : FTy → Type} [FloatOps F] [Named F]

variable (c : Dev nD) (i : grid0.Coords) (arg1 : Memref sig .tc .vmem S1x1x10x32x128 .f32) (harg1 : arg1.IsWhole) (arg2 : Memref sig .tc .vmem S1x1x32x128 .f32) (harg2 : arg2.IsWhole) (arg3 : Memref sig .tc .vmem S1x1x2560x768 .i8) (harg3 : arg3.IsWhole) (arg4 : Memref sig .tc .vmem S1x1x80x1536 .i8) (harg4 : arg4.IsWhole) (arg5 : Memref sig .tc .vmem S1x12x16x128 .f32) (harg5 : arg5.IsWhole) (arg6 : Memref sig .tc .vmem S4x20x768 .i32) (harg6 : arg6.IsWhole) (arg7 : Memref sig .tc .vmem S16x2x5120 .bf16) (harg7 : arg7.IsWhole) (arg8 : Memref sig .tc .vmem S6x32x128 .f32) (harg8 : arg8.IsWhole)
  (x0 : Vec F S1x1x10x32x128 .f32) (x1 : Vec F S1x1x32x128 .f32) (x2 : Vec F S1x1x2560x768 .i8) (x3 : Vec F S1x1x80x1536 .i8) (xs2 : Vec F S6x32x128 .f32)

/-- The stores of the scale words. -/
theorem wordsList : (kernelRun0_C.sl.HS0_24 c arg4 harg4 x3) = wordPieces (F := F) (Scales.dwords (View.ld (Val := Elt F) x3 (Rect.unit ![0, 0, 0, 0] S1x1x80x1536.size inb_S1x1x80x1536_S1x1x80x1536_0_0_0_0))) := by
  rw [← harg4.read_unread (Val := Elt F) x3, ← View.readAt_eq_ld, harg4.read_unread]
  rfl

theorem wordsCanon : View.canon (kernelRun0_C.sl.HS0_24 c arg4 harg4 x3) = words x3 := by
  rw [wordsList, canon_words, View.ld_unit_lit _ _ (by decide)]

/-- The stores of the reordered left operand. -/
theorem leftList : (kernelRun0_C.sl.HS1_40 c arg1 harg1 x0) = leftPieces x0 := by
  refine Eq.trans (b := leftPieces (arg1.view.read (Elt F) (harg1.unread x0))) rfl ?_
  rw [harg1.read_unread]

theorem leftCanon : View.canon (kernelRun0_C.sl.HS1_40 c arg1 harg1 x0) = left x0 := by
  rw [leftList]; exact canon_left x0

/-- One step of the product, as the run reads its operands. -/
def stepWord (n : Fin 3) (k : Fin 20) : FVec F S32x256 .f32 :=
  Cert.KernelIdeal.Tile.step (View.readAt (Elt F) arg3.view (rBytes n k).toLoadRect (harg3.unread x2)) (arg6.view.readCov (kernelRun0_C.sl.HS0_24 c arg4 harg4 x3) (rWords 0 n k).toLoadRect)
    (arg6.view.readCov (kernelRun0_C.sl.HS0_24 c arg4 harg4 x3) (rWords 1 n k).toLoadRect) (arg6.view.readCov (kernelRun0_C.sl.HS0_24 c arg4 harg4 x3) (rWords 2 n k).toLoadRect) (arg6.view.readCov (kernelRun0_C.sl.HS0_24 c arg4 harg4 x3) (rWords 3 n k).toLoadRect)
    (arg7.view.readCov (kernelRun0_C.sl.HS1_40 c arg1 harg1 x0) (rLeft k).toLoadRect)

theorem stepWord_eq (n : Fin 3) (k : Fin 20) : stepWord c arg1 harg1 arg3 harg3 arg4 harg4 arg6 arg7 x0 x2 x3 n k = stepAt x2 (words x3) (left x0) n k := by
  unfold stepWord
  rw [View.readAt_eq_ld, harg3.read_unread, View.readCov_eq_canon', View.readCov_eq_canon', View.readCov_eq_canon', View.readCov_eq_canon', View.readCov_eq_canon', wordsCanon, leftCanon]
  rfl

theorem accWord (n : Fin 3) : sums (stepWord c arg1 harg1 arg3 harg3 arg4 harg4 arg6 arg7 x0 x2 x3 n) 19 (by omega) = acc x2 (words x3) (left x0) n := by
  unfold acc
  rw [funext (stepWord_eq c arg1 harg1 arg3 harg3 arg4 harg4 arg6 arg7 x0 x2 x3 n)]

theorem acc_0 : (kernelRun0_C.sl.r_131 c arg1 harg1 arg3 harg3 arg4 harg4 arg6 arg7 x0 x2 x3) = sums (stepWord c arg1 harg1 arg3 harg3 arg4 harg4 arg6 arg7 x0 x2 x3 0) 19 (by omega) := rfl

theorem acc_1 : addf (kernelRun0_C.sl.r_266 c arg1 harg1 arg3 harg3 arg4 harg4 arg6 arg7 x0 x2 x3) (stepWord c arg1 harg1 arg3 harg3 arg4 harg4 arg6 arg7 x0 x2 x3 1 19) = sums (stepWord c arg1 harg1 arg3 harg3 arg4 harg4 arg6 arg7 x0 x2 x3 1) 19 (by omega) := rfl

theorem acc_2 : (kernelRun0_C.sl.r_292 c arg1 harg1 arg3 harg3 arg4 harg4 arg6 arg7 x0 x2 x3) = sums (stepWord c arg1 harg1 arg3 harg3 arg4 harg4 arg6 arg7 x0 x2 x3 2) 19 (by omega) := rfl

theorem rowScaleWord : (kernelRun0_C.sl.r_51 c arg2 harg2 x1) = rowScale x1 := by
  refine Eq.trans (b := rowScale (View.ld (Val := Elt F) (arg2.view.read (Elt F) (harg2.unread x1)) (Rect.unit ![0, 0, 0, 0] S1x1x32x128.size inb_S1x1x32x128_S1x1x32x128_0_0_0_0))) rfl ?_
  rw [harg2.read_unread, View.ld_unit_lit _ _ (by decide)]

/-- What the run stores into a plane. -/
def planeWord (p : Fin 6) : Vec F S1x32x128 .f32 :=
  add (kernelRun0_C.sl.v9 i) (half (p.val % 2) (sums (stepWord c arg1 harg1 arg3 harg3 arg4 harg4 arg6 arg7 x0 x2 x3 ⟨p.val / 2, by omega⟩) 19 (by omega))) (kernelRun0_C.sl.r_51 c arg2 harg2 x1) (View.readAt (Elt F) arg8.view (rPlane p).toLoadRect (harg8.unread xs2))

theorem planeWord_eq (p : Fin 6) : planeWord c i arg1 harg1 arg2 harg2 arg3 harg3 arg4 harg4 arg6 arg7 arg8 harg8 x0 x1 x2 x3 xs2 p = plane (kernelRun0_C.sl.v9 i) x2 (words x3) (left x0) x1 xs2 p := by
  unfold planeWord plane
  rw [accWord, rowScaleWord, View.readAt_eq_ld, harg8.read_unread]

theorem store_0 : k0_pay518 (kernelRun0_C.sl.r_132 c i arg1 harg1 arg2 harg2 arg3 harg3 arg4 harg4 arg6 arg7 arg8 harg8 x0 x1 x2 x3 xs2) = planeWord c i arg1 harg1 arg2 harg2 arg3 harg3 arg4 harg4 arg6 arg7 arg8 harg8 x0 x1 x2 x3 xs2 0 := rfl

theorem store_1 : k0_pay519 (kernelRun0_C.sl.v9 i) (kernelRun0_C.sl.r_51 c arg2 harg2 x1) (kernelRun0_C.sl.r_131 c arg1 harg1 arg3 harg3 arg4 harg4 arg6 arg7 x0 x2 x3) (kernelRun0_C.sl.v5071 c arg8 harg8 xs2) = planeWord c i arg1 harg1 arg2 harg2 arg3 harg3 arg4 harg4 arg6 arg7 arg8 harg8 x0 x1 x2 x3 xs2 1 := rfl

theorem store_2 : k0_pay661 (kernelRun0_C.sl.v9 i) (kernelRun0_C.sl.r_51 c arg2 harg2 x1) (kernelRun0_C.sl.r_266 c arg1 harg1 arg3 harg3 arg4 harg4 arg6 arg7 x0 x2 x3) (kernelRun0_C.sl.r_269 c arg3 harg3 x2) (kernelRun0_C.sl.r_270 c arg3 harg3 arg4 harg4 arg6 x2 x3) (kernelRun0_C.sl.r_271 c arg3 harg3 arg4 harg4 arg6 x2 x3) (kernelRun0_C.sl.r_272 c arg4 harg4 arg6 x3) (kernelRun0_C.sl.v6665 c arg4 harg4 arg6 x3) (kernelRun0_C.sl.v5054_raw c arg1 harg1 arg7 x0) (kernelRun0_C.sl.v6680 c arg8 harg8 xs2) = planeWord c i arg1 harg1 arg2 harg2 arg3 harg3 arg4 harg4 arg6 arg7 arg8 harg8 x0 x1 x2 x3 xs2 2 := rfl

theorem store_3 : k0_pay662 (kernelRun0_C.sl.v9 i) (kernelRun0_C.sl.r_51 c arg2 harg2 x1) (kernelRun0_C.sl.r_266 c arg1 harg1 arg3 harg3 arg4 harg4 arg6 arg7 x0 x2 x3) (kernelRun0_C.sl.r_269 c arg3 harg3 x2) (kernelRun0_C.sl.r_270 c arg3 harg3 arg4 harg4 arg6 x2 x3) (kernelRun0_C.sl.r_271 c arg3 harg3 arg4 harg4 arg6 x2 x3) (kernelRun0_C.sl.r_272 c arg4 harg4 arg6 x3) (kernelRun0_C.sl.v6665 c arg4 harg4 arg6 x3) (kernelRun0_C.sl.v5054_raw c arg1 harg1 arg7 x0) (kernelRun0_C.sl.v6690 c arg8 harg8 xs2) = planeWord c i arg1 harg1 arg2 harg2 arg3 harg3 arg4 harg4 arg6 arg7 arg8 harg8 x0 x1 x2 x3 xs2 3 := rfl

theorem store_4 : k0_pay824 (kernelRun0_C.sl.v9 i) (kernelRun0_C.sl.r_51 c arg2 harg2 x1) (kernelRun0_C.sl.r_293 c arg1 harg1 arg3 harg3 arg4 harg4 arg6 arg7 x0 x2 x3) (kernelRun0_C.sl.v8299 c arg8 harg8 xs2) = planeWord c i arg1 harg1 arg2 harg2 arg3 harg3 arg4 harg4 arg6 arg7 arg8 harg8 x0 x1 x2 x3 xs2 4 := rfl

theorem store_5 : k0_pay1 (kernelRun0_C.sl.r_294 c i arg1 harg1 arg2 harg2 arg3 harg3 arg4 harg4 arg6 arg7 arg8 harg8 x0 x1 x2 x3 xs2) = planeWord c i arg1 harg1 arg2 harg2 arg3 harg3 arg4 harg4 arg6 arg7 arg8 harg8 x0 x1 x2 x3 xs2 5 := rfl

theorem storesCanon : View.canon (kernelRun0_C.sl.HS2_6 c i arg1 harg1 arg2 harg2 arg3 harg3 arg4 harg4 arg6 arg7 arg8 harg8 x0 x1 x2 x3 xs2) = stack (planeWord c i arg1 harg1 arg2 harg2 arg3 harg3 arg4 harg4 arg6 arg7 arg8 harg8 x0 x1 x2 x3 xs2) := by
  refine Eq.trans (b := View.canon (planePieces (planeWord c i arg1 harg1 arg2 harg2 arg3 harg3 arg4 harg4 arg6 arg7 arg8 harg8 x0 x1 x2 x3 xs2) ++ [])) ?_ (canon_planes _ _)
  refine congrArg View.canon (Eq.trans (b := ([⟨rPlane 5, k0_pay1 (kernelRun0_C.sl.r_294 c i arg1 harg1 arg2 harg2 arg3 harg3 arg4 harg4 arg6 arg7 arg8 harg8 x0 x1 x2 x3 xs2)⟩, ⟨rPlane 4, k0_pay824 (kernelRun0_C.sl.v9 i) (kernelRun0_C.sl.r_51 c arg2 harg2 x1) (kernelRun0_C.sl.r_293 c arg1 harg1 arg3 harg3 arg4 harg4 arg6 arg7 x0 x2 x3) (kernelRun0_C.sl.v8299 c arg8 harg8 xs2)⟩, ⟨rPlane 3, k0_pay662 (kernelRun0_C.sl.v9 i) (kernelRun0_C.sl.r_51 c arg2 harg2 x1) (kernelRun0_C.sl.r_266 c arg1 harg1 arg3 harg3 arg4 harg4 arg6 arg7 x0 x2 x3) (kernelRun0_C.sl.r_269 c arg3 harg3 x2) (kernelRun0_C.sl.r_270 c arg3 harg3 arg4 harg4 arg6 x2 x3) (kernelRun0_C.sl.r_271 c arg3 harg3 arg4 harg4 arg6 x2 x3) (kernelRun0_C.sl.r_272 c arg4 harg4 arg6 x3) (kernelRun0_C.sl.v6665 c arg4 harg4 arg6 x3) (kernelRun0_C.sl.v5054_raw c arg1 harg1 arg7 x0) (kernelRun0_C.sl.v6690 c arg8 harg8 xs2)⟩, ⟨rPlane 2, k0_pay661 (kernelRun0_C.sl.v9 i) (kernelRun0_C.sl.r_51 c arg2 harg2 x1) (kernelRun0_C.sl.r_266 c arg1 harg1 arg3 harg3 arg4 harg4 arg6 arg7 x0 x2 x3) (kernelRun0_C.sl.r_269 c arg3 harg3 x2) (kernelRun0_C.sl.r_270 c arg3 harg3 arg4 harg4 arg6 x2 x3) (kernelRun0_C.sl.r_271 c arg3 harg3 arg4 harg4 arg6 x2 x3) (kernelRun0_C.sl.r_272 c arg4 harg4 arg6 x3) (kernelRun0_C.sl.v6665 c arg4 harg4 arg6 x3) (kernelRun0_C.sl.v5054_raw c arg1 harg1 arg7 x0) (kernelRun0_C.sl.v6680 c arg8 harg8 xs2)⟩, ⟨rPlane 1, k0_pay519 (kernelRun0_C.sl.v9 i) (kernelRun0_C.sl.r_51 c arg2 harg2 x1) (kernelRun0_C.sl.r_131 c arg1 harg1 arg3 harg3 arg4 harg4 arg6 arg7 x0 x2 x3) (kernelRun0_C.sl.v5071 c arg8 harg8 xs2)⟩, ⟨rPlane 0, k0_pay518 (kernelRun0_C.sl.r_132 c i arg1 harg1 arg2 harg2 arg3 harg3 arg4 harg4 arg6 arg7 arg8 harg8 x0 x1 x2 x3 xs2)⟩] : List (View.Piece (Elt F) S6x32x128 .f32)) ++ []) rfl ?_)
  rw [store_0, store_1, store_2, store_3, store_4, store_5]
  rfl

variable (hc0 : ¬cond0_0 i) (hc1 : cond0_1 i)

theorem planesCanon : View.canon (kernelRun0_C c i arg1 harg1 arg2 harg2 arg3 harg3 arg4 harg4 arg5 harg5 arg6 harg6 arg7 harg7 arg8 harg8 hc0 hc1 x0 x1 x2 x3 xs2).2.1 = stack (planeWord c i arg1 harg1 arg2 harg2 arg3 harg3 arg4 harg4 arg6 arg7 arg8 harg8 x0 x1 x2 x3 xs2) := by
  refine Eq.trans (b := View.canon (planePieces (planeWord c i arg1 harg1 arg2 harg2 arg3 harg3 arg4 harg4 arg6 arg7 arg8 harg8 x0 x1 x2 x3 xs2) ++ [])) ?_ (canon_planes _ _)
  refine congrArg View.canon (Eq.trans (b := ([⟨rPlane 5, k0_pay1 (kernelRun0_C.sl.r_294 c i arg1 harg1 arg2 harg2 arg3 harg3 arg4 harg4 arg6 arg7 arg8 harg8 x0 x1 x2 x3 xs2)⟩, ⟨rPlane 4, k0_pay824 (kernelRun0_C.sl.v9 i) (kernelRun0_C.sl.r_51 c arg2 harg2 x1) (kernelRun0_C.sl.r_293 c arg1 harg1 arg3 harg3 arg4 harg4 arg6 arg7 x0 x2 x3) (kernelRun0_C.sl.v8299 c arg8 harg8 xs2)⟩, ⟨rPlane 3, k0_pay662 (kernelRun0_C.sl.v9 i) (kernelRun0_C.sl.r_51 c arg2 harg2 x1) (kernelRun0_C.sl.r_266 c arg1 harg1 arg3 harg3 arg4 harg4 arg6 arg7 x0 x2 x3) (kernelRun0_C.sl.r_269 c arg3 harg3 x2) (kernelRun0_C.sl.r_270 c arg3 harg3 arg4 harg4 arg6 x2 x3) (kernelRun0_C.sl.r_271 c arg3 harg3 arg4 harg4 arg6 x2 x3) (kernelRun0_C.sl.r_272 c arg4 harg4 arg6 x3) (kernelRun0_C.sl.v6665 c arg4 harg4 arg6 x3) (kernelRun0_C.sl.v5054_raw c arg1 harg1 arg7 x0) (kernelRun0_C.sl.v6690 c arg8 harg8 xs2)⟩, ⟨rPlane 2, k0_pay661 (kernelRun0_C.sl.v9 i) (kernelRun0_C.sl.r_51 c arg2 harg2 x1) (kernelRun0_C.sl.r_266 c arg1 harg1 arg3 harg3 arg4 harg4 arg6 arg7 x0 x2 x3) (kernelRun0_C.sl.r_269 c arg3 harg3 x2) (kernelRun0_C.sl.r_270 c arg3 harg3 arg4 harg4 arg6 x2 x3) (kernelRun0_C.sl.r_271 c arg3 harg3 arg4 harg4 arg6 x2 x3) (kernelRun0_C.sl.r_272 c arg4 harg4 arg6 x3) (kernelRun0_C.sl.v6665 c arg4 harg4 arg6 x3) (kernelRun0_C.sl.v5054_raw c arg1 harg1 arg7 x0) (kernelRun0_C.sl.v6680 c arg8 harg8 xs2)⟩, ⟨rPlane 1, k0_pay519 (kernelRun0_C.sl.v9 i) (kernelRun0_C.sl.r_51 c arg2 harg2 x1) (kernelRun0_C.sl.r_131 c arg1 harg1 arg3 harg3 arg4 harg4 arg6 arg7 x0 x2 x3) (kernelRun0_C.sl.v5071 c arg8 harg8 xs2)⟩, ⟨rPlane 0, k0_pay518 (kernelRun0_C.sl.r_132 c i arg1 harg1 arg2 harg2 arg3 harg3 arg4 harg4 arg6 arg7 arg8 harg8 x0 x1 x2 x3 xs2)⟩] : List (View.Piece (Elt F) S6x32x128 .f32)) ++ []) rfl ?_)
  rw [store_0, store_1, store_2, store_3, store_4, store_5]
  rfl

/-- The planes after the point. -/
theorem planes_eq : sout0_C_2 c i arg1 harg1 arg2 harg2 arg3 harg3 arg4 harg4 arg5 harg5 arg6 harg6 arg7 harg7 arg8 harg8 hc0 hc1 x0 x1 x2 x3 xs2 = stack (plane (kernelRun0_C.sl.v9 i) x2 (words x3) (left x0) x1 xs2) := by
  unfold sout0_C_2
  rw [View.read_writes_eq_canon _ _ _ (scover0_C_2 c i arg1 harg1 arg2 harg2 arg3 harg3 arg4 harg4 arg5 harg5 arg6 harg6 arg7 harg7 arg8 harg8 hc0 hc1 x0 x1 x2 x3 xs2), planesCanon]
  exact congrArg stack (funext (planeWord_eq c i arg1 harg1 arg2 harg2 arg3 harg3 arg4 harg4 arg6 arg7 arg8 harg8 x0 x1 x2 x3 xs2))

/-- The rows of parity `r` of plane `p`, as the run reads them to write the result. -/
theorem rowsRead (H : View.canon (kernelRun0_C.sl.HS2_6 c i arg1 harg1 arg2 harg2 arg3 harg3 arg4 harg4 arg6 arg7 arg8 harg8 x0 x1 x2 x3 xs2) = (stack (plane (kernelRun0_C.sl.v9 i) x2 (words x3) (left x0) x1 xs2))) (p : Fin 6) (r : Fin 2) :
    arg8.view.readCov (kernelRun0_C.sl.HS2_6 c i arg1 harg1 arg2 harg2 arg3 harg3 arg4 harg4 arg6 arg7 arg8 harg8 x0 x1 x2 x3 xs2) (rRows p r) = fun i' => (stack (plane (kernelRun0_C.sl.v9 i) x2 (words x3) (left x0) x1 xs2)) ((rRows p r).idx i') := by
  rw [View.readCov_eq_canon', H]

theorem result_0 : (kernelRun0_C.sl.v8387 c i arg1 harg1 arg2 harg2 arg3 harg3 arg4 harg4 arg6 arg7 arg8 harg8 x0 x1 x2 x3 xs2) = pick 0#32 (arg8.view.readCov (kernelRun0_C.sl.HS2_6 c i arg1 harg1 arg2 harg2 arg3 harg3 arg4 harg4 arg6 arg7 arg8 harg8 x0 x1 x2 x3 xs2) (rRows 0 0)) (arg8.view.readCov (kernelRun0_C.sl.HS2_6 c i arg1 harg1 arg2 harg2 arg3 harg3 arg4 harg4 arg6 arg7 arg8 harg8 x0 x1 x2 x3 xs2) (rRows 0 1)) := rfl

theorem result_1 : (kernelRun0_C.sl.v8456 c i arg1 harg1 arg2 harg2 arg3 harg3 arg4 harg4 arg6 arg7 arg8 harg8 x0 x1 x2 x3 xs2) = pick 64#32 (arg8.view.readCov (kernelRun0_C.sl.HS2_6 c i arg1 harg1 arg2 harg2 arg3 harg3 arg4 harg4 arg6 arg7 arg8 harg8 x0 x1 x2 x3 xs2) (rRows 0 0)) (arg8.view.readCov (kernelRun0_C.sl.HS2_6 c i arg1 harg1 arg2 harg2 arg3 harg3 arg4 harg4 arg6 arg7 arg8 harg8 x0 x1 x2 x3 xs2) (rRows 0 1)) := rfl

theorem result_2 : (kernelRun0_C.sl.v8525 c i arg1 harg1 arg2 harg2 arg3 harg3 arg4 harg4 arg6 arg7 arg8 harg8 x0 x1 x2 x3 xs2) = pick 0#32 (arg8.view.readCov (kernelRun0_C.sl.HS2_6 c i arg1 harg1 arg2 harg2 arg3 harg3 arg4 harg4 arg6 arg7 arg8 harg8 x0 x1 x2 x3 xs2) (rRows 1 0)) (arg8.view.readCov (kernelRun0_C.sl.HS2_6 c i arg1 harg1 arg2 harg2 arg3 harg3 arg4 harg4 arg6 arg7 arg8 harg8 x0 x1 x2 x3 xs2) (rRows 1 1)) := rfl

theorem result_3 : (kernelRun0_C.sl.v8594 c i arg1 harg1 arg2 harg2 arg3 harg3 arg4 harg4 arg6 arg7 arg8 harg8 x0 x1 x2 x3 xs2) = pick 64#32 (arg8.view.readCov (kernelRun0_C.sl.HS2_6 c i arg1 harg1 arg2 harg2 arg3 harg3 arg4 harg4 arg6 arg7 arg8 harg8 x0 x1 x2 x3 xs2) (rRows 1 0)) (arg8.view.readCov (kernelRun0_C.sl.HS2_6 c i arg1 harg1 arg2 harg2 arg3 harg3 arg4 harg4 arg6 arg7 arg8 harg8 x0 x1 x2 x3 xs2) (rRows 1 1)) := rfl

theorem result_4 : (kernelRun0_C.sl.v8663 c i arg1 harg1 arg2 harg2 arg3 harg3 arg4 harg4 arg6 arg7 arg8 harg8 x0 x1 x2 x3 xs2) = pick 0#32 (arg8.view.readCov (kernelRun0_C.sl.HS2_6 c i arg1 harg1 arg2 harg2 arg3 harg3 arg4 harg4 arg6 arg7 arg8 harg8 x0 x1 x2 x3 xs2) (rRows 2 0)) (arg8.view.readCov (kernelRun0_C.sl.HS2_6 c i arg1 harg1 arg2 harg2 arg3 harg3 arg4 harg4 arg6 arg7 arg8 harg8 x0 x1 x2 x3 xs2) (rRows 2 1)) := rfl

theorem result_5 : (kernelRun0_C.sl.v8732 c i arg1 harg1 arg2 harg2 arg3 harg3 arg4 harg4 arg6 arg7 arg8 harg8 x0 x1 x2 x3 xs2) = pick 64#32 (arg8.view.readCov (kernelRun0_C.sl.HS2_6 c i arg1 harg1 arg2 harg2 arg3 harg3 arg4 harg4 arg6 arg7 arg8 harg8 x0 x1 x2 x3 xs2) (rRows 2 0)) (arg8.view.readCov (kernelRun0_C.sl.HS2_6 c i arg1 harg1 arg2 harg2 arg3 harg3 arg4 harg4 arg6 arg7 arg8 harg8 x0 x1 x2 x3 xs2) (rRows 2 1)) := rfl

theorem result_6 : (kernelRun0_C.sl.v8801 c i arg1 harg1 arg2 harg2 arg3 harg3 arg4 harg4 arg6 arg7 arg8 harg8 x0 x1 x2 x3 xs2) = pick 0#32 (arg8.view.readCov (kernelRun0_C.sl.HS2_6 c i arg1 harg1 arg2 harg2 arg3 harg3 arg4 harg4 arg6 arg7 arg8 harg8 x0 x1 x2 x3 xs2) (rRows 3 0)) (arg8.view.readCov (kernelRun0_C.sl.HS2_6 c i arg1 harg1 arg2 harg2 arg3 harg3 arg4 harg4 arg6 arg7 arg8 harg8 x0 x1 x2 x3 xs2) (rRows 3 1)) := rfl

theorem result_7 : (kernelRun0_C.sl.v8870 c i arg1 harg1 arg2 harg2 arg3 harg3 arg4 harg4 arg6 arg7 arg8 harg8 x0 x1 x2 x3 xs2) = pick 64#32 (arg8.view.readCov (kernelRun0_C.sl.HS2_6 c i arg1 harg1 arg2 harg2 arg3 harg3 arg4 harg4 arg6 arg7 arg8 harg8 x0 x1 x2 x3 xs2) (rRows 3 0)) (arg8.view.readCov (kernelRun0_C.sl.HS2_6 c i arg1 harg1 arg2 harg2 arg3 harg3 arg4 harg4 arg6 arg7 arg8 harg8 x0 x1 x2 x3 xs2) (rRows 3 1)) := rfl

theorem result_8 : (kernelRun0_C.sl.v8939 c i arg1 harg1 arg2 harg2 arg3 harg3 arg4 harg4 arg6 arg7 arg8 harg8 x0 x1 x2 x3 xs2) = pick 0#32 (arg8.view.readCov (kernelRun0_C.sl.HS2_6 c i arg1 harg1 arg2 harg2 arg3 harg3 arg4 harg4 arg6 arg7 arg8 harg8 x0 x1 x2 x3 xs2) (rRows 4 0)) (arg8.view.readCov (kernelRun0_C.sl.HS2_6 c i arg1 harg1 arg2 harg2 arg3 harg3 arg4 harg4 arg6 arg7 arg8 harg8 x0 x1 x2 x3 xs2) (rRows 4 1)) := rfl

theorem result_9 : (kernelRun0_C.sl.v9008 c i arg1 harg1 arg2 harg2 arg3 harg3 arg4 harg4 arg6 arg7 arg8 harg8 x0 x1 x2 x3 xs2) = pick 64#32 (arg8.view.readCov (kernelRun0_C.sl.HS2_6 c i arg1 harg1 arg2 harg2 arg3 harg3 arg4 harg4 arg6 arg7 arg8 harg8 x0 x1 x2 x3 xs2) (rRows 4 0)) (arg8.view.readCov (kernelRun0_C.sl.HS2_6 c i arg1 harg1 arg2 harg2 arg3 harg3 arg4 harg4 arg6 arg7 arg8 harg8 x0 x1 x2 x3 xs2) (rRows 4 1)) := rfl

theorem result_10 : (kernelRun0_C.sl.v9077 c i arg1 harg1 arg2 harg2 arg3 harg3 arg4 harg4 arg6 arg7 arg8 harg8 x0 x1 x2 x3 xs2) = pick 0#32 (arg8.view.readCov (kernelRun0_C.sl.HS2_6 c i arg1 harg1 arg2 harg2 arg3 harg3 arg4 harg4 arg6 arg7 arg8 harg8 x0 x1 x2 x3 xs2) (rRows 5 0)) (arg8.view.readCov (kernelRun0_C.sl.HS2_6 c i arg1 harg1 arg2 harg2 arg3 harg3 arg4 harg4 arg6 arg7 arg8 harg8 x0 x1 x2 x3 xs2) (rRows 5 1)) := rfl

theorem result_11 : k0_pay2 (kernelRun0_C.sl.r_295 c i arg1 harg1 arg2 harg2 arg3 harg3 arg4 harg4 arg6 arg7 arg8 harg8 x0 x1 x2 x3 xs2) = pick 64#32 (arg8.view.readCov (kernelRun0_C.sl.HS2_6 c i arg1 harg1 arg2 harg2 arg3 harg3 arg4 harg4 arg6 arg7 arg8 harg8 x0 x1 x2 x3 xs2) (rRows 5 0)) (arg8.view.readCov (kernelRun0_C.sl.HS2_6 c i arg1 harg1 arg2 harg2 arg3 harg3 arg4 harg4 arg6 arg7 arg8 harg8 x0 x1 x2 x3 xs2) (rRows 5 1)) := rfl

theorem carriedCanon : View.canon (kernelRun0_C.sl.HS2_6 c i arg1 harg1 arg2 harg2 arg3 harg3 arg4 harg4 arg6 arg7 arg8 harg8 x0 x1 x2 x3 xs2) = (stack (plane (kernelRun0_C.sl.v9 i) x2 (words x3) (left x0) x1 xs2)) := by
  rw [storesCanon]
  exact congrArg stack (funext (planeWord_eq c i arg1 harg1 arg2 harg2 arg3 harg3 arg4 harg4 arg6 arg7 arg8 harg8 x0 x1 x2 x3 xs2))

/-- The result. -/
theorem out_eq : out0_C_4 c i arg1 harg1 arg2 harg2 arg3 harg3 arg4 harg4 arg5 harg5 arg6 harg6 arg7 harg7 arg8 harg8 hc0 hc1 x0 x1 x2 x3 xs2 = out (stack (plane (kernelRun0_C.sl.v9 i) x2 (words x3) (left x0) x1 xs2)) := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs2)]
  have H := carriedCanon c i arg1 harg1 arg2 harg2 arg3 harg3 arg4 harg4 arg6 arg7 arg8 harg8 x0 x1 x2 x3 xs2
  refine Eq.trans (b := View.canon ([⟨rOut 11, k0_pay2 (kernelRun0_C.sl.r_295 c i arg1 harg1 arg2 harg2 arg3 harg3 arg4 harg4 arg6 arg7 arg8 harg8 x0 x1 x2 x3 xs2)⟩, ⟨rOut 10, (kernelRun0_C.sl.v9077 c i arg1 harg1 arg2 harg2 arg3 harg3 arg4 harg4 arg6 arg7 arg8 harg8 x0 x1 x2 x3 xs2)⟩, ⟨rOut 9, (kernelRun0_C.sl.v9008 c i arg1 harg1 arg2 harg2 arg3 harg3 arg4 harg4 arg6 arg7 arg8 harg8 x0 x1 x2 x3 xs2)⟩, ⟨rOut 8, (kernelRun0_C.sl.v8939 c i arg1 harg1 arg2 harg2 arg3 harg3 arg4 harg4 arg6 arg7 arg8 harg8 x0 x1 x2 x3 xs2)⟩, ⟨rOut 7, (kernelRun0_C.sl.v8870 c i arg1 harg1 arg2 harg2 arg3 harg3 arg4 harg4 arg6 arg7 arg8 harg8 x0 x1 x2 x3 xs2)⟩, ⟨rOut 6, (kernelRun0_C.sl.v8801 c i arg1 harg1 arg2 harg2 arg3 harg3 arg4 harg4 arg6 arg7 arg8 harg8 x0 x1 x2 x3 xs2)⟩, ⟨rOut 5, (kernelRun0_C.sl.v8732 c i arg1 harg1 arg2 harg2 arg3 harg3 arg4 harg4 arg6 arg7 arg8 harg8 x0 x1 x2 x3 xs2)⟩, ⟨rOut 4, (kernelRun0_C.sl.v8663 c i arg1 harg1 arg2 harg2 arg3 harg3 arg4 harg4 arg6 arg7 arg8 harg8 x0 x1 x2 x3 xs2)⟩, ⟨rOut 3, (kernelRun0_C.sl.v8594 c i arg1 harg1 arg2 harg2 arg3 harg3 arg4 harg4 arg6 arg7 arg8 harg8 x0 x1 x2 x3 xs2)⟩, ⟨rOut 2, (kernelRun0_C.sl.v8525 c i arg1 harg1 arg2 harg2 arg3 harg3 arg4 harg4 arg6 arg7 arg8 harg8 x0 x1 x2 x3 xs2)⟩, ⟨rOut 1, (kernelRun0_C.sl.v8456 c i arg1 harg1 arg2 harg2 arg3 harg3 arg4 harg4 arg6 arg7 arg8 harg8 x0 x1 x2 x3 xs2)⟩, ⟨rOut 0, (kernelRun0_C.sl.v8387 c i arg1 harg1 arg2 harg2 arg3 harg3 arg4 harg4 arg6 arg7 arg8 harg8 x0 x1 x2 x3 xs2)⟩] : List (View.Piece (Elt F) S1x12x16x128 .f32))) rfl ?_
  rw [result_0, result_1, result_2, result_3, result_4, result_5, result_6, result_7, result_8, result_9, result_10, result_11]
  rw [rowsRead (H := H), rowsRead (H := H), rowsRead (H := H), rowsRead (H := H), rowsRead (H := H), rowsRead (H := H), rowsRead (H := H), rowsRead (H := H), rowsRead (H := H), rowsRead (H := H), rowsRead (H := H), rowsRead (H := H)]
  exact canon_out (stack (plane (kernelRun0_C.sl.v9 i) x2 (words x3) (left x0) x1 xs2))

end Cert.Kernel2Ideal.CaseC
-- ==== Proof.Blocks2.lean ====
/-
  The blocks the four input windows of the second kernel hand a point, read from the arguments.
-/
module

public import proofs.«01_k».proof.Proof.Gen.Kernel2Ideal.Value
public import Idealize.ShloMosaic.Lib.Pipeline.ValueKit
public import Idealize.ShloMosaic.Lib.Pipeline.ValueKit.Point
public import Idealize.ShloMosaic.Lib.Claim
public import Idealize.ShloMosaic.Lib.Pointwise

@[expose] public section

set_option maxRecDepth 4096

noncomputable section

namespace Cert.Kernel2Ideal.Blocks

open Cert.Kernel2Ideal Cert.Kernel2Ideal.Gen Idealize.ShloMosaic Idealize.ShloMosaic.TcCoe

variable (m : (ℓ : Loc nD τ sig) → Buf (Elt Ideal) ℓ) (c : Dev nD)

theorem idx : ∀ t : Fin cfg0.N, win0_0.index t = ![t.val / 4, t.val % 4, 0, 0, 0] ∧ win0_1.index t = ![t.val / 4, t.val % 4, 0, 0]
    ∧ win0_2.index t = ![t.val / 4, t.val % 4, 0, 0] ∧ win0_3.index t = ![t.val / 4, t.val % 4, 0, 0] :=
  (by decide +kernel : ∀ t : Fin grid0.N, _)

/-- The token of a point. -/
abbrev tok (t : Fin cfg0.N) : Fin 16 := ⟨t.val / 4, by have := lt_of_lt_of_eq t.isLt (show cfg0.N = 64 from N_0); omega⟩
/-- The expert of a point. -/
abbrev ex (t : Fin cfg0.N) : Fin 4 := ⟨t.val % 4, by omega⟩

theorem blk2 (t : Fin cfg0.N) (n : Fin 2560) (d : Fin 768) :
    iblk m c 2 t (ix4 (0 : Fin 1) (0 : Fin 1) n d) = m ((c : Thread nD τ).loc main_arg2) (ix4 (tok t) (ex t) n d) := by
  blk_ext [iblk, V, idx t]

theorem blk3 (t : Fin cfg0.N) (k : Fin 80) (j : Fin 1536) :
    iblk m c 3 t (ix4 (0 : Fin 1) (0 : Fin 1) k j) = m ((c : Thread nD τ).loc main_arg3) (ix4 (tok t) (ex t) k j) := by
  blk_ext [iblk, V, idx t]

theorem blk0 (t : Fin cfg0.N) (p : Fin 10) (r : Fin 32) (l : Fin 128) :
    iblk m c 0 t (ix5 (0 : Fin 1) (0 : Fin 1) p r l)
      = m ((c : Thread nD τ).loc main_arg0) (ix4 (⟨r.val / 2, by omega⟩ : Fin 16) (tok t) (ex t) (⟨256 * p.val + 2 * l.val + r.val % 2, by omega⟩ : Fin 2560)) := by
  have h : iblk m c 0 t (ix5 (0 : Fin 1) (0 : Fin 1) p r l) = V m c main_v2 (ix5 (tok t) (ex t) p r l) := by
    blk_ext [iblk, idx t]
  rw [h]
  entry_read
  pointwise
  exact congrArg (fun z => m (c, Proc.tc.devRef main_arg0) (ix4 (⟨r.val / 2, by omega⟩ : Fin 16) (tok t) (ex t) z)) (Fin.ext (by show p.val * 256 + l.val * 2 + r.val % 2 = 256 * p.val + 2 * l.val + r.val % 2; omega))

theorem blk1 (t : Fin cfg0.N) (r : Fin 32) (l : Fin 128) :
    iblk m c 1 t (ix4 (0 : Fin 1) (0 : Fin 1) r l) = m ((c : Thread nD τ).loc main_arg1) (ix3 (⟨r.val / 2, by omega⟩ : Fin 16) (tok t) (ex t)) := by
  have h : iblk m c 1 t (ix4 (0 : Fin 1) (0 : Fin 1) r l) = V m c main_v6 (ix4 (tok t) (ex t) r l) := by
    blk_ext [iblk, idx t]
  rw [h]
  entry_read
  pointwise

end Cert.Kernel2Ideal.Blocks
-- ==== Proof.Product2.lean ====
/-
  The parts of the second kernel's body at an index over the extended reals.
-/
module

public import proofs.«01_k».proof.Proof.Parts2
public import proofs.«01_k».proof.Proof.Product

@[expose] public section

set_option maxRecDepth 4096

noncomputable section

namespace Cert.Spec

open Idealize.ShloMosaic Cert.KernelIdeal.Tile

/-- A row of codes times a column of scaled four-bit weights, of the second layer. -/
def prod2 (x : Fin 2560 → EReal) (w : Fin 2560 → BitVec 8) (p : Fin 2) (e : Fin 80 → BitVec 8) : EReal :=
  ∑ n : Fin 2560, x n * (val4 (nibble (w n) p.val) * val8 (e ⟨n.val / 32, by omega⟩))

/-- The product with the sixty-fourth inside the weights. -/
theorem prod2_inside (x : Fin 2560 → EReal) (w : Fin 2560 → BitVec 8) (p : Fin 2) (e : Fin 80 → BitVec 8) (s : EReal) :
    (∑ n : Fin 2560, val4 (nibble (w n) p.val) * inv64 * val8 (e ⟨n.val / 32, by omega⟩) * x n) * s = prod2 x w p e * (s * inv64) := by
  have h : (∑ n : Fin 2560, val4 (nibble (w n) p.val) * inv64 * val8 (e ⟨n.val / 32, by omega⟩) * x n) = inv64 * prod2 x w p e := by
    rw [prod2, inv64_eq, mul_sum_real _ _ _ (by norm_num)]
    refine Finset.sum_congr rfl fun n _ => ?_
    ac_rfl
  rw [h]
  ac_rfl

end Cert.Spec

namespace Cert.Kernel2Ideal.Body

open Cert.Kernel2Ideal Cert.Kernel2Ideal.Gen Idealize.ShloMosaic Idealize.ShloMosaic.TcCoe
open Cert.KernelIdeal.Body (wrap16 spread16 evenLane lane16 evenLane_apply spread16_nat sum_half)

/-! ## The left operand -/

/-- An offset of a quarter of the lanes. -/
def Quarter (off : BitVec 32) : Prop := off = 0#32 ∨ off = 32#32 ∨ off = 64#32 ∨ off = 96#32

theorem Quarter.le {off : BitVec 32} (h : Quarter off) : off.toNat ≤ 96 := by
  rcases h with rfl | rfl | rfl | rfl <;> decide

theorem spread4_apply (off : BitVec 32) (h : Quarter off) (r : Fin 16) (l : Fin 128) :
    wrap16 (spread4 off) (ix2 r l) = BitVec.ofNat 32 (off.toNat + l.val / 4) := by
  unfold wrap16 spread4 lane16 fourSign
  pointwise
  rcases h with rfl | rfl | rfl | rfl <;> revert l <;> decide +kernel

theorem spread4_nat (off : BitVec 32) (h : Quarter off) (r : Fin 16) (l : Fin 128) (hn) :
    (⟨(wrap16 (spread4 off) (ix2 r l)).toNat % 128, hn⟩ : Fin 128) = ⟨off.toNat + l.val / 4, by have := h.le; omega⟩ := by
  apply Fin.ext
  show (wrap16 (spread4 off) (ix2 r l)).toNat % 128 = off.toNat + l.val / 4
  rw [spread4_apply off h]
  rcases h with rfl | rfl | rfl | rfl <;> simp <;> omega

theorem lane4_apply (r : Fin 16) (l : Fin 128) : lane4 (ix2 r l) = BitVec.ofNat 32 (l.val % 4) := by
  unfold lane4 lane16
  pointwise
  revert l
  decide +kernel

theorem sel4 (l : Fin 128) (k : Nat) (hk : k < 4) (x y : EReal) :
    Scalar.select (IntOp.cmpi CmpIPredicate.eq (BitVec.ofNat 32 (l.val % 4)) (BitVec.ofNat 32 k)) x y = if l.val % 4 = k then x else y := by
  have h : l.val % 4 < 4 := Nat.mod_lt _ (by decide)
  revert h
  generalize l.val % 4 = q
  intro h
  interval_cases q <;> interval_cases k <;> rfl

theorem block_apply (off : BitVec 32) (h : Quarter off) (e o : Vec Ideal S1x1x1x16x128 .f32) (b : Fin 16) (p : Fin 2) (l : Fin 128) :
    block off e o (ix3 b p l) = if l.val % 2 = p.val then
      (if l.val / 2 % 2 = 0 then e else o) (ix5 (0 : Fin 1) (0 : Fin 1) (0 : Fin 1) b (⟨off.toNat + l.val / 4, by have := h.le; omega⟩ : Fin 128)) else 0 := by
  unfold block
  pointwise
  rw [lane4_apply, spread4_nat off h]
  rw [sel4 l 0 (by decide), sel4 l 2 (by decide), sel4 l 1 (by decide), sel4 l 3 (by decide)]
  have hp := p.isLt
  rcases (show l.val % 4 = 0 ∨ l.val % 4 = 1 ∨ l.val % 4 = 2 ∨ l.val % 4 = 3 by omega) with hl | hl | hl | hl <;> rw [hl] <;>
    rcases (show p.val = 0 ∨ p.val = 1 by omega) with hq | hq <;> rw [hq]
  · rw [if_pos rfl, if_pos rfl, if_pos (by omega), if_pos (by omega)]
  · rw [if_neg (by decide), if_neg (by decide), if_neg (by decide), if_neg (by omega)]
  · rw [if_pos rfl, if_neg (by decide), if_neg (by decide), if_neg (by omega)]
  · rw [if_neg (by decide), if_pos rfl, if_pos (by omega), if_pos (by omega)]
  · rw [if_pos rfl, if_neg (by decide), if_pos rfl, if_pos (by omega), if_neg (by omega)]
  · rw [if_neg (by decide), if_neg (by decide), if_neg (by decide), if_neg (by omega)]
  · rw [if_pos rfl, if_neg (by decide), if_neg (by decide), if_neg (by omega)]
  · rw [if_neg (by decide), if_neg (by decide), if_pos rfl, if_pos (by omega), if_neg (by omega)]

theorem codes_read (x : Vec Ideal S1x1x10x32x128 .f32) (p : Fin 10) (q : Fin 2) (b : Fin 16) (l : Fin 128) :
    x ((rCodes p q).idx (ix5 (0 : Fin 1) (0 : Fin 1) (0 : Fin 1) b l)) = x (ix5 (0 : Fin 1) (0 : Fin 1) p (⟨2 * b.val + q.val, by omega⟩ : Fin 32) l) := by
  congr 1
  funext a
  apply Fin.ext
  match a with
  | ⟨0, _⟩ => rfl
  | ⟨1, _⟩ => rfl
  | ⟨2, _⟩ => show p.val + 1 * 0 = p.val; omega
  | ⟨3, _⟩ => show q.val + 2 * b.val = 2 * b.val + q.val; omega
  | ⟨4, _⟩ => show 0 + 1 * l.val = l.val; omega

theorem offOf_quarter (t : Nat) (h : t < 4) : Quarter (offOf t) ∧ (offOf t).toNat = 32 * t := by
  unfold Quarter
  interval_cases t <;> decide

theorem left_apply (x : Vec Ideal S1x1x10x32x128 .f32) (b : Fin 16) (p : Fin 2) (c : Fin 5120) :
    left x (ix3 b p c) = if c.val % 2 = p.val then x (ix5 (0 : Fin 1) (0 : Fin 1) (⟨c.val / 512, by omega⟩ : Fin 10) (⟨2 * b.val + c.val / 2 % 2, by omega⟩ : Fin 32) (⟨c.val % 512 / 4, by omega⟩ : Fin 128)) else 0 := by
  show blockAt x ⟨c.val / 128, by omega⟩ (ix3 b p (⟨c.val % 128, by omega⟩ : Fin 128)) = _
  obtain ⟨h, ho⟩ := offOf_quarter (c.val / 128 % 4) (by omega)
  unfold blockAt
  rw [block_apply _ h]
  by_cases hp : c.val % 2 = p.val
  · rw [if_pos hp, if_pos (by show c.val % 128 % 2 = p.val; omega)]
    by_cases hq : c.val % 128 / 2 % 2 = 0
    · rw [if_pos hq]
      refine (codes_read x _ _ _ _).trans (congrArg x ?_)
      congr 1
      · exact Fin.ext (by show c.val / 128 / 4 = c.val / 512; omega)
      · exact Fin.ext (by show 2 * b.val + 0 = 2 * b.val + c.val / 2 % 2; omega)
      · exact Fin.ext (by show (offOf (c.val / 128 % 4)).toNat + c.val % 128 / 4 = c.val % 512 / 4; omega)
    · rw [if_neg hq]
      refine (codes_read x _ _ _ _).trans (congrArg x ?_)
      congr 1
      · exact Fin.ext (by show c.val / 128 / 4 = c.val / 512; omega)
      · exact Fin.ext (by show 2 * b.val + 1 = 2 * b.val + c.val / 2 % 2; omega)
      · exact Fin.ext (by show (offOf (c.val / 128 % 4)).toNat + c.val % 128 / 4 = c.val % 512 / 4; omega)
  · rw [if_neg hp, if_neg (by show ¬ c.val % 128 % 2 = p.val; omega)]

/-! ## The product -/

/-- One term of the expert product. -/
def term (x0 : Vec Ideal S1x1x10x32x128 .f32) (w : Vec Ideal S1x1x2560x768 .i8) (x3 : Vec Ideal S1x1x80x1536 .i8) (b : Fin 16) (c : Fin 768)
    (k : Fin 20) (j : Fin 128) (p : Fin 2) : EReal :=
  x0 (ix5 (0 : Fin 1) (0 : Fin 1) (⟨(128 * k.val + j.val) / 256, by omega⟩ : Fin 10) (⟨2 * b.val + j.val % 2, by omega⟩ : Fin 32) (⟨(128 * k.val + j.val) % 256 / 2, by omega⟩ : Fin 128)) *
    (Spec.val4 (Cert.KernelIdeal.Tile.nibble (w (ix4 (0 : Fin 1) (0 : Fin 1) (⟨128 * k.val + j.val, by omega⟩ : Fin 2560) c)) p.val) *
    Spec.val8 (x3 (ix4 (0 : Fin 1) (0 : Fin 1) (⟨4 * k.val + j.val / 32, by omega⟩ : Fin 80) (⟨2 * c.val + p.val, by omega⟩ : Fin 1536))))

theorem stepAt_apply (x0 : Vec Ideal S1x1x10x32x128 .f32) (w : Vec Ideal S1x1x2560x768 .i8) (x3 : Vec Ideal S1x1x80x1536 .i8) (hx : ∀ i, (x3 i).toNat < 250)
    (n : Fin 3) (k : Fin 20) (r : Fin 32) (c : Fin 256) :
    stepAt w (words (F := Ideal) x3) (left x0) n k (ix2 r c) = ∑ j : Fin 128, term x0 w x3 ⟨r.val / 2, by omega⟩ ⟨256 * n.val + c.val, by omega⟩ k j ⟨r.val % 2, by omega⟩ := by
  unfold stepAt
  rw [Cert.KernelIdeal.Tile.step_apply _ (fun q => View.ld (Val := Elt Ideal) (words (F := Ideal) x3) (rWords q n k))]
  refine sum_half (fun j p => term x0 w x3 ⟨r.val / 2, by omega⟩ ⟨256 * n.val + c.val, by omega⟩ k j p) ⟨r.val % 2, by omega⟩ _ ?_
  intro i
  have hl : View.ld (Val := Elt Ideal) (left x0) (rLeft k) (ix3 (⟨r.val / 2, by omega⟩ : Fin 16) (⟨r.val % 2, by omega⟩ : Fin 2) i)
      = left x0 (ix3 (⟨r.val / 2, by omega⟩ : Fin 16) (⟨r.val % 2, by omega⟩ : Fin 2) (⟨256 * k.val + i.val, by omega⟩ : Fin 5120)) := by
    refine View.ld_unit_apply_of _ _ _ _ _ _ ?_
    intro a
    match a with
    | ⟨0, _⟩ => show r.val / 2 = 0 + r.val / 2; omega
    | ⟨1, _⟩ => show r.val % 2 = 0 + r.val % 2; omega
    | ⟨2, _⟩ => rfl
  have hw : View.ld (Val := Elt Ideal) w (rBytes n k) (ix4 (0 : Fin 1) (0 : Fin 1) (⟨i.val / 2, by omega⟩ : Fin 128) c)
      = w (ix4 (0 : Fin 1) (0 : Fin 1) (⟨128 * k.val + i.val / 2, by omega⟩ : Fin 2560) (⟨256 * n.val + c.val, by omega⟩ : Fin 768)) := by
    refine View.ld_unit_apply_of _ _ _ _ _ _ ?_
    intro a
    match a with
    | ⟨0, _⟩ => rfl
    | ⟨1, _⟩ => rfl
    | ⟨2, _⟩ => rfl
    | ⟨3, _⟩ => rfl
  have hs : ∀ q : Fin 4, View.ld (Val := Elt Ideal) (words (F := Ideal) x3) (rWords q n k) (ix3 (0 : Fin 1) (0 : Fin 1) c)
      = Scales.sword (Scales.dwords (F := Ideal) x3) q k ⟨256 * n.val + c.val, by omega⟩ := by
    intro q
    refine (View.ld_unit_apply_of (words (F := Ideal) x3) _ _ _ _ (ix3 q k (⟨256 * n.val + c.val, by omega⟩ : Fin 768)) ?_).trans rfl
    intro a
    match a with
    | ⟨0, _⟩ => rfl
    | ⟨1, _⟩ => rfl
    | ⟨2, _⟩ => rfl
  rw [hl, hw, hs, left_apply]
  by_cases hi : i.val % 2 = r.val % 2
  · rw [if_pos (by show (256 * k.val + i.val) % 2 = r.val % 2; omega), if_pos hi]
    have h2 := Scales.sword_half (F := Ideal) x3 hx ⟨i.val / 64, by omega⟩ k ⟨256 * n.val + c.val, by omega⟩ ⟨i.val % 2, by omega⟩
    unfold term Spec.val4 Spec.val8
    refine congrArg₂ _ (congrArg x0 ?_) (congrArg₂ _ rfl (congrArg _ (h2.trans (congrArg _ (congrArg x3 ?_)))))
    · congr 1
      · exact Fin.ext (by show (256 * k.val + i.val) / 512 = (128 * k.val + i.val / 2) / 256; omega)
      · exact Fin.ext (by show 2 * (r.val / 2) + (256 * k.val + i.val) / 2 % 2 = 2 * (r.val / 2) + i.val / 2 % 2; omega)
      · exact Fin.ext (by show (256 * k.val + i.val) % 512 / 4 = (128 * k.val + i.val / 2) % 256 / 2; omega)
    · congr 1
      exact Fin.ext (by show 4 * k.val + i.val / 64 = 4 * k.val + i.val / 2 / 32; omega)
  · rw [if_neg (by show ¬(256 * k.val + i.val) % 2 = r.val % 2; omega), if_neg hi, zero_mul]

theorem sums_apply (f : Fin 20 → FVec Ideal S32x256 .f32) (i : S32x256.Idx) :
    ∀ (k : Nat) (h : k < 20), sums f k h i = ∑ q : Fin (k + 1), f ⟨q.val, by omega⟩ i := by
  intro k
  induction k with
  | zero => intro h; rw [Fin.sum_univ_one]; rfl
  | succ k ih =>
    intro h
    rw [Fin.sum_univ_castSucc]
    exact congrArg₂ (· + ·) (ih (by omega)) rfl

/-- Input `n` of row `b`. -/
def input (x0 : Vec Ideal S1x1x10x32x128 .f32) (b : Fin 16) (n : Fin 2560) : EReal :=
  x0 (ix5 (0 : Fin 1) (0 : Fin 1) (⟨n.val / 256, by omega⟩ : Fin 10) (⟨2 * b.val + n.val % 2, by omega⟩ : Fin 32) (⟨n.val % 256 / 2, by omega⟩ : Fin 128))

theorem acc_apply (x0 : Vec Ideal S1x1x10x32x128 .f32) (w : Vec Ideal S1x1x2560x768 .i8) (x3 : Vec Ideal S1x1x80x1536 .i8) (hx : ∀ i, (x3 i).toNat < 250)
    (n : Fin 3) (r : Fin 32) (c : Fin 256) (d : Fin 768) (hd : d.val = 256 * n.val + c.val) (j : Fin 1536) (hj : j.val = 2 * d.val + r.val % 2) :
    acc w (words (F := Ideal) x3) (left x0) n (ix2 r c) =
      Spec.prod2 (input x0 ⟨r.val / 2, by omega⟩) (fun n => w (ix4 (0 : Fin 1) (0 : Fin 1) n d)) ⟨r.val % 2, by omega⟩ (fun k => x3 (ix4 (0 : Fin 1) (0 : Fin 1) k j)) := by
  rw [acc, sums_apply, Spec.prod2, ← Equiv.sum_comp (finProdFinEquiv (m := 20) (n := 128)), Fintype.sum_prod_type]
  refine Finset.sum_congr rfl fun k _ => ?_
  rw [stepAt_apply x0 w x3 hx]
  refine Finset.sum_congr rfl fun q _ => ?_
  have e : ((finProdFinEquiv (k, q) : Fin (20 * 128)) : Nat) = q.val + 128 * k.val := rfl
  have hk : (k : Nat) < 20 := k.isLt
  unfold term input
  refine congrArg₂ _ (congrArg x0 ?_) (congrArg₂ _ (congrArg (fun z => Spec.val4 (Cert.KernelIdeal.Tile.nibble (w z) (r.val % 2))) ?_) (congrArg (fun z => Spec.val8 (x3 z)) ?_))
  · congr 1
    · exact Fin.ext (by show (128 * k.val + q.val) / 256 = ((finProdFinEquiv (k, q) : Fin (20 * 128)) : Nat) / 256; rw [e]; omega)
    · exact Fin.ext (by show 2 * (r.val / 2) + q.val % 2 = 2 * (r.val / 2) + ((finProdFinEquiv (k, q) : Fin (20 * 128)) : Nat) % 2; rw [e]; omega)
    · exact Fin.ext (by show (128 * k.val + q.val) % 256 / 2 = ((finProdFinEquiv (k, q) : Fin (20 * 128)) : Nat) % 256 / 2; rw [e]; omega)
  · congr 1
    · exact Fin.ext (by show 128 * k.val + q.val = ((finProdFinEquiv (k, q) : Fin (20 * 128)) : Nat); rw [e]; omega)
    · exact Fin.ext hd.symm
  · congr 1
    · exact Fin.ext (by show 4 * k.val + q.val / 32 = ((finProdFinEquiv (k, q) : Fin (20 * 128)) : Nat) / 32; rw [e]; omega)
    · exact Fin.ext (by show 2 * (256 * n.val + c.val) + r.val % 2 = j.val; omega)

/-! ## The planes -/

theorem rowScale_apply (x : Vec Ideal S1x1x32x128 .f32) (r : Fin 32) (l : Fin 128) : rowScale x (ix2 r l) = x (ix4 (0 : Fin 1) (0 : Fin 1) r l) * Spec.inv64 := by
  unfold rowScale Spec.inv64
  pointwise

theorem add_first (v us : FVec Ideal S32x128 .f32) (m : Vec Ideal S1x32x128 .f32) (r : Fin 32) (l : Fin 128) :
    add 0#32 v us m (ix3 (0 : Fin 1) r l) = v (ix2 r l) * us (ix2 r l) := by
  unfold add
  pointwise

theorem select_ne (e : BitVec 32) (h : e ≠ 0#32) (x y : FVec Ideal S32x128 .f32) : Scalar.select (Scalar.cmpi .eq e 0#32) x y = y := by
  have hb : Scalar.cmpi .eq e 0#32 = 0#1 := by
    unfold Scalar.cmpi IntOp.cmpi
    rw [beq_false_of_ne h]
    rfl
  rw [hb]
  rfl

theorem add_next (e : BitVec 32) (h : e ≠ 0#32) (v us : FVec Ideal S32x128 .f32) (m : Vec Ideal S1x32x128 .f32) (r : Fin 32) (l : Fin 128) :
    add e v us m (ix3 (0 : Fin 1) r l) = m (ix3 (0 : Fin 1) r l) + v (ix2 r l) * us (ix2 r l) := by
  unfold add
  rw [select_ne e h]
  pointwise

theorem half0_apply (a : FVec Ideal S32x256 .f32) (r : Fin 32) (l : Fin 128) : half 0 a (ix2 r l) = a (ix2 r (⟨l.val, by omega⟩ : Fin 256)) := by
  unfold half
  pointwise

theorem half1_apply (a : FVec Ideal S32x256 .f32) (r : Fin 32) (l : Fin 128) : half 1 a (ix2 r l) = a (ix2 r (⟨128 + l.val, by omega⟩ : Fin 256)) := by
  unfold half
  pointwise

/-- One expert's contribution at one place, from the four windows of a point. -/
def cell (x0 : Vec Ideal S1x1x10x32x128 .f32) (x1 : Vec Ideal S1x1x32x128 .f32) (x2 : Vec Ideal S1x1x2560x768 .i8) (x3 : Vec Ideal S1x1x80x1536 .i8)
    (p : Fin 6) (r : Fin 32) (l : Fin 128) : EReal :=
  Spec.prod2 (input x0 ⟨r.val / 2, by omega⟩) (fun n => x2 (ix4 (0 : Fin 1) (0 : Fin 1) n (⟨128 * p.val + l.val, by omega⟩ : Fin 768))) ⟨r.val % 2, by omega⟩
    (fun k => x3 (ix4 (0 : Fin 1) (0 : Fin 1) k (⟨2 * (128 * p.val + l.val) + r.val % 2, by omega⟩ : Fin 1536))) * (x1 (ix4 (0 : Fin 1) (0 : Fin 1) r l) * Spec.inv64)

theorem half_apply (x0 : Vec Ideal S1x1x10x32x128 .f32) (x2 : Vec Ideal S1x1x2560x768 .i8) (x3 : Vec Ideal S1x1x80x1536 .i8) (hx : ∀ i, (x3 i).toNat < 250)
    (p : Fin 6) (r : Fin 32) (l : Fin 128) :
    half (p.val % 2) (acc x2 (words (F := Ideal) x3) (left x0) ⟨p.val / 2, by omega⟩) (ix2 r l) =
      Spec.prod2 (input x0 ⟨r.val / 2, by omega⟩) (fun n => x2 (ix4 (0 : Fin 1) (0 : Fin 1) n (⟨128 * p.val + l.val, by omega⟩ : Fin 768))) ⟨r.val % 2, by omega⟩
    (fun k => x3 (ix4 (0 : Fin 1) (0 : Fin 1) k (⟨2 * (128 * p.val + l.val) + r.val % 2, by omega⟩ : Fin 1536))) := by
  rcases (show p.val % 2 = 0 ∨ p.val % 2 = 1 by omega) with h | h
  · rw [h, half0_apply, acc_apply x0 x2 x3 hx ⟨p.val / 2, by omega⟩ r ⟨l.val, by omega⟩ ⟨128 * p.val + l.val, by omega⟩
      (by show 128 * p.val + l.val = 256 * (p.val / 2) + l.val; omega) ⟨2 * (128 * p.val + l.val) + r.val % 2, by omega⟩ rfl]
  · rw [h, half1_apply, acc_apply x0 x2 x3 hx ⟨p.val / 2, by omega⟩ r ⟨128 + l.val, by omega⟩ ⟨128 * p.val + l.val, by omega⟩
      (by show 128 * p.val + l.val = 256 * (p.val / 2) + (128 + l.val); omega) ⟨2 * (128 * p.val + l.val) + r.val % 2, by omega⟩ rfl]

theorem plane_read (m : Vec Ideal S6x32x128 .f32) (p : Fin 6) (r : Fin 32) (l : Fin 128) :
    View.ld (Val := Elt Ideal) m (rPlane p) (ix3 (0 : Fin 1) r l) = m (ix3 p r l) := by
  refine View.ld_unit_apply_of _ _ _ _ _ _ ?_
  intro a
  match a with
  | ⟨0, _⟩ => rfl
  | ⟨1, _⟩ => show r.val = 0 + r.val; omega
  | ⟨2, _⟩ => show l.val = 0 + l.val; omega

theorem plane_first (x0 : Vec Ideal S1x1x10x32x128 .f32) (x1 : Vec Ideal S1x1x32x128 .f32) (x2 : Vec Ideal S1x1x2560x768 .i8) (x3 : Vec Ideal S1x1x80x1536 .i8)
    (hx : ∀ i, (x3 i).toNat < 250) (m : Vec Ideal S6x32x128 .f32) (p : Fin 6) (r : Fin 32) (l : Fin 128) :
    stack (plane 0#32 x2 (words (F := Ideal) x3) (left x0) x1 m) (ix3 p r l) = cell x0 x1 x2 x3 p r l := by
  show plane 0#32 x2 (words (F := Ideal) x3) (left x0) x1 m p (ix3 (0 : Fin 1) r l) = _
  unfold plane cell
  rw [add_first, half_apply x0 x2 x3 hx, rowScale_apply]

theorem plane_next (e : BitVec 32) (he : e ≠ 0#32) (x0 : Vec Ideal S1x1x10x32x128 .f32) (x1 : Vec Ideal S1x1x32x128 .f32) (x2 : Vec Ideal S1x1x2560x768 .i8) (x3 : Vec Ideal S1x1x80x1536 .i8)
    (hx : ∀ i, (x3 i).toNat < 250) (m : Vec Ideal S6x32x128 .f32) (p : Fin 6) (r : Fin 32) (l : Fin 128) :
    stack (plane e x2 (words (F := Ideal) x3) (left x0) x1 m) (ix3 p r l) = m (ix3 p r l) + cell x0 x1 x2 x3 p r l := by
  show plane e x2 (words (F := Ideal) x3) (left x0) x1 m p (ix3 (0 : Fin 1) r l) = _
  unfold plane cell
  rw [add_next e he, half_apply x0 x2 x3 hx, rowScale_apply, plane_read]

/-! ## The result -/

theorem pick_apply (off : BitVec 32) (h : off = 0#32 ∨ off = 64#32) (e o : Vec Ideal S1x16x128 .f32) (b : Fin 16) (l : Fin 128) :
    pick off e o (ix4 (0 : Fin 1) (0 : Fin 1) b l) = (if l.val % 2 = 0 then e else o) (ix3 (0 : Fin 1) b (⟨off.toNat + l.val / 2, by rcases h with rfl | rfl <;> simp <;> omega⟩ : Fin 128)) := by
  unfold pick
  pointwise
  rw [evenLane_apply, spread16_nat off h]
  by_cases hl : l.val % 2 = 0
  · rw [if_pos hl, if_pos hl]; rfl
  · rw [if_neg hl, if_neg hl]; rfl

theorem rows_read (M : Vec Ideal S6x32x128 .f32) (p : Fin 6) (q : Fin 2) (b : Fin 16) (l : Fin 128) :
    M ((rRows p q).idx (ix3 (0 : Fin 1) b l)) = M (ix3 p (⟨2 * b.val + q.val, by omega⟩ : Fin 32) l) := by
  congr 1
  funext a
  apply Fin.ext
  match a with
  | ⟨0, _⟩ => show p.val + 1 * 0 = p.val; omega
  | ⟨1, _⟩ => show q.val + 2 * b.val = 2 * b.val + q.val; omega
  | ⟨2, _⟩ => show 0 + 1 * l.val = l.val; omega

theorem out_apply (M : Vec Ideal S6x32x128 .f32) (g : Fin 12) (b : Fin 16) (l : Fin 128) :
    out M (ix4 (0 : Fin 1) g b l) = M (ix3 (⟨g.val / 2, by omega⟩ : Fin 6) (⟨2 * b.val + l.val % 2, by omega⟩ : Fin 32) (⟨64 * (g.val % 2) + l.val / 2, by omega⟩ : Fin 128)) := by
  show outAt M g (ix4 (0 : Fin 1) (0 : Fin 1) b l) = _
  have key : ∀ (off : BitVec 32) (h : off = 0#32 ∨ off = 64#32), off.toNat = 64 * (g.val % 2) →
      pick off (fun i => M ((rRows ⟨g.val / 2, by omega⟩ 0).idx i)) (fun i => M ((rRows ⟨g.val / 2, by omega⟩ 1).idx i)) (ix4 (0 : Fin 1) (0 : Fin 1) b l)
        = M (ix3 (⟨g.val / 2, by omega⟩ : Fin 6) (⟨2 * b.val + l.val % 2, by omega⟩ : Fin 32) (⟨64 * (g.val % 2) + l.val / 2, by omega⟩ : Fin 128)) := by
    intro off h ho
    rw [pick_apply off h]
    by_cases hl : l.val % 2 = 0
    · rw [if_pos hl]
      refine (rows_read M _ _ _ _).trans (congrArg M ?_)
      congr 1
      · exact Fin.ext (by show 2 * b.val + 0 = 2 * b.val + l.val % 2; omega)
      · exact Fin.ext (by show off.toNat + l.val / 2 = 64 * (g.val % 2) + l.val / 2; omega)
    · rw [if_neg hl]
      refine (rows_read M _ _ _ _).trans (congrArg M ?_)
      congr 1
      · exact Fin.ext (by show 2 * b.val + 1 = 2 * b.val + l.val % 2; omega)
      · exact Fin.ext (by show off.toNat + l.val / 2 = 64 * (g.val % 2) + l.val / 2; omega)
  unfold outAt
  rcases (show g.val % 2 = 0 ∨ g.val % 2 = 1 by omega) with h | h
  · simp only [h] at key ⊢
    exact key 0#32 (.inl rfl) rfl
  · simp only [h] at key ⊢
    exact key 64#32 (.inr rfl) rfl

end Cert.Kernel2Ideal.Body
-- ==== Proof.Points2.lean ====
/-
  What the points of the second kernel leave in the carried planes and in the result.
-/
module

public import proofs.«01_k».proof.Proof.Case2A
public import proofs.«01_k».proof.Proof.Case2B
public import proofs.«01_k».proof.Proof.Case2C
public import proofs.«01_k».proof.Proof.Blocks2
public import proofs.«01_k».proof.Proof.Product2

@[expose] public section

set_option maxRecDepth 4096

noncomputable section

namespace Cert.Kernel2Ideal.Points

open Cert.Kernel2Ideal Cert.Kernel2Ideal.Gen Idealize.ShloMosaic Idealize.ShloMosaic.TcCoe
open Cert.Kernel2Ideal.Body Cert.Kernel2Ideal.Blocks Cert

variable (m : (ℓ : Loc nD τ sig) → Buf (Elt Ideal) ℓ) (c : Dev nD)

theorem expert_A : ∀ t : Fin cfg0.N, t.val % 4 = 0 → kernelRun0_A.sl.v9 (grid0.coords t) = 0#32 :=
  (by decide +kernel : ∀ t : Fin grid0.N, _)

theorem expert_B : ∀ t : Fin cfg0.N, ¬t.val % 4 = 0 → kernelRun0_B.sl.v9 (grid0.coords t) ≠ 0#32 :=
  (by decide +kernel : ∀ t : Fin grid0.N, _)

theorem expert_C : ∀ t : Fin cfg0.N, ¬t.val % 4 = 0 → kernelRun0_C.sl.v9 (grid0.coords t) ≠ 0#32 :=
  (by decide +kernel : ∀ t : Fin grid0.N, _)

/-- A product times its row's scale. -/
def term (x : Fin 2560 → EReal) (w : Fin 2560 → BitVec 8) (p : Fin 2) (q : Fin 80 → BitVec 8) (s : EReal) : EReal := Spec.prod2 x w p q * (s * Spec.inv64)

/-- What one expert adds to a result, from the arguments. -/
def part (t : Fin 16) (e : Fin 4) (r : Fin 16) (j : Fin 1536) : EReal :=
  term (fun n => m ((c : Thread nD τ).loc main_arg0) (ix4 r t e n)) (fun n => m ((c : Thread nD τ).loc main_arg2) (ix4 t e n (⟨j.val / 2, by omega⟩ : Fin 768)))
    ⟨j.val % 2, by omega⟩ (fun k => m ((c : Thread nD τ).loc main_arg3) (ix4 t e k j)) (m ((c : Thread nD τ).loc main_arg1) (ix3 r t e))

theorem part_congr {x x' : Fin 2560 → EReal} {w w' : Fin 2560 → BitVec 8} {p p' : Fin 2} {q q' : Fin 80 → BitVec 8} {s s' : EReal}
    (hx : x = x') (hw : w = w') (hp : p = p') (hq : q = q') (hs : s = s')  : Spec.prod2 x w p q * (s * Spec.inv64) = term x' w' p' q' s' := by
  rw [hx, hw, hp, hq, hs, term]

theorem cell_eq (t : Fin cfg0.N) (p : Fin 6) (r : Fin 32) (l : Fin 128) :
    cell (iblk m c 0 t) (iblk m c 1 t) (iblk m c 2 t) (iblk m c 3 t) p r l
      = part m c (tok t) (ex t) (⟨r.val / 2, by omega⟩ : Fin 16) (⟨2 * (128 * p.val + l.val) + r.val % 2, by omega⟩ : Fin 1536) := by
  unfold cell part
  refine part_congr ?_ ?_ ?_ ?_ ?_
  · funext n
    unfold input
    refine (blk0 m c t _ _ _).trans ?_
    refine congrArg₂ (fun y z => m ((c : Thread nD τ).loc main_arg0) (ix4 y (tok t) (ex t) z)) (Fin.ext ?_) (Fin.ext ?_)
    · show (2 * (r.val / 2) + n.val % 2) / 2 = r.val / 2; omega
    · show 256 * (n.val / 256) + 2 * (n.val % 256 / 2) + (2 * (r.val / 2) + n.val % 2) % 2 = n.val; omega
  · funext n
    refine (blk2 m c t _ _).trans ?_
    refine congrArg (fun z => m ((c : Thread nD τ).loc main_arg2) (ix4 (tok t) (ex t) n z)) (Fin.ext ?_)
    show 128 * p.val + l.val = (2 * (128 * p.val + l.val) + r.val % 2) / 2; omega
  · refine Fin.ext ?_
    show r.val % 2 = (2 * (128 * p.val + l.val) + r.val % 2) % 2; omega
  · funext k
    exact blk3 m c t _ _
  · exact blk1 m c t _ _

/-- The first `e + 1` terms, added in order. -/
def upTo (f : Fin 4 → EReal) : Nat → EReal
  | 0 => f 0
  | e + 1 => upTo f e + f ⟨(e + 1) % 4, by omega⟩

section
variable (hx : ∀ i, (m ((c : Thread nD τ).loc main_arg3) i : BitVec 8).toNat < 250)
include hx

theorem bytes (t : Fin cfg0.N) (i : S1x1x80x1536.Idx) : ((iblk m c 3 t : Vec Ideal S1x1x80x1536 .i8) i : BitVec 8).toNat < 250 := by
  obtain ⟨z, y, k, j, rfl⟩ : ∃ (z : Fin 1) (y : Fin 1) (k : Fin 80) (j : Fin 1536), i = ix4 z y k j := ⟨i 0, i 1, i 2, i 3, eq_ix4 i⟩
  obtain rfl : z = 0 := Subsingleton.elim _ _
  obtain rfl : y = 0 := Subsingleton.elim _ _
  exact (congrArg BitVec.toNat (blk3 m c t k j)).trans_lt (hx _)

/-- The planes after a first expert. -/
theorem first (t : Fin cfg0.N) (h0 : t.val % 4 = 0) (p : Fin 6) (r : Fin 32) (l : Fin 128) :
    (outsAt0 m c t.val t.isLt).2 (ix3 p r l) = part m c (tok t) (ex t) (⟨r.val / 2, by omega⟩ : Fin 16) (⟨2 * (128 * p.val + l.val) + r.val % 2, by omega⟩ : Fin 1536) := by
  rw [outsAt0_A m c t h0 (by omega)]
  dsimp only
  rw [CaseA.planes_eq (he := expert_A t h0) (m := fun _ => 0)]
  exact (plane_first _ _ _ _ (bytes m c hx t) _ p r l).trans (cell_eq m c t p r l)

/-- The planes after a later expert. -/
theorem next (t : Fin cfg0.N) (h0 : ¬t.val % 4 = 0) (p : Fin 6) (r : Fin 32) (l : Fin 128) :
    (outsAt0 m c t.val t.isLt).2 (ix3 p r l) = (outsAt0 m c (t.val - 1) (Nat.lt_of_le_of_lt (Nat.sub_le _ _) t.isLt)).2 (ix3 p r l)
      + part m c (tok t) (ex t) (⟨r.val / 2, by omega⟩ : Fin 16) (⟨2 * (128 * p.val + l.val) + r.val % 2, by omega⟩ : Fin 1536) := by
  by_cases h1 : t.val % 4 = 3
  · rw [outsAt0_C m c t h0 h1]
    dsimp only
    rw [CaseC.planes_eq]
    exact (plane_next _ (expert_C t h0) _ _ _ _ (bytes m c hx t) _ p r l).trans (congrArg _ (cell_eq m c t p r l))
  · rw [outsAt0_B m c t h0 h1]
    dsimp only
    rw [CaseB.planes_eq]
    exact (plane_next _ (expert_B t h0) _ _ _ _ (bytes m c hx t) _ p r l).trans (congrArg _ (cell_eq m c t p r l))

theorem carried (t : Fin 16) (p : Fin 6) (r : Fin 32) (l : Fin 128) (e : Nat) : ∀ (he : e < 4) (h : 4 * t.val + e < cfg0.N),
    (outsAt0 m c (4 * t.val + e) h).2 (ix3 p r l)
      = upTo (fun e => part m c t e (⟨r.val / 2, by omega⟩ : Fin 16) (⟨2 * (128 * p.val + l.val) + r.val % 2, by omega⟩ : Fin 1536)) e := by
  induction e with
  | zero =>
    intro he h
    refine (first m c hx ⟨4 * t.val + 0, h⟩ (by show (4 * t.val + 0) % 4 = 0; omega) p r l).trans ?_
    exact congrArg₂ (fun y z => part m c y z _ _) (Fin.ext (by show (4 * t.val + 0) / 4 = t.val; omega)) (Fin.ext (by show (4 * t.val + 0) % 4 = 0; omega))
  | succ e ih =>
    intro he h
    refine (next m c hx ⟨4 * t.val + (e + 1), h⟩ (by show ¬(4 * t.val + (e + 1)) % 4 = 0; omega) p r l).trans ?_
    refine congrArg₂ (fun a b : EReal => a + b) (ih (by omega) (by omega)) ?_
    exact congrArg₂ (fun y z => part m c y z _ _) (Fin.ext (by show (4 * t.val + (e + 1)) / 4 = t.val; omega)) (Fin.ext (by show (4 * t.val + (e + 1)) % 4 = (e + 1) % 4; omega))

end

/-- The result is read from the planes the last expert leaves. -/
theorem written (t : Fin cfg0.N) (h1 : t.val % 4 = 3) : (outsAt0 m c t.val t.isLt).1 = out (outsAt0 m c t.val t.isLt).2 := by
  rw [outsAt0_C m c t (by omega) h1]
  dsimp only
  rw [CaseC.planes_eq, CaseC.out_eq]

end Cert.Kernel2Ideal.Points
-- ==== Proof.Final2.lean ====
/-
  The second kernel's result at an index, from the arguments.
-/
module

public import proofs.«01_k».proof.Proof.Points2

@[expose] public section

set_option maxRecDepth 4096

noncomputable section

namespace Cert.Kernel2Ideal.Final

open Cert.Kernel2Ideal Cert.Kernel2Ideal.Gen Idealize.ShloMosaic Idealize.ShloMosaic.TcCoe
open Cert.Kernel2Ideal.Body Cert.Kernel2Ideal.Points

variable (m : (ℓ : Loc nD τ sig) → Buf (Elt Ideal) ℓ) (c : Dev nD)

theorem upTo_sum (f : Fin 4 → EReal) : upTo f 3 = ∑ e : Fin 4, f e := by
  rw [Fin.sum_univ_four]
  rfl

theorem G4_apply (hx : ∀ i, (m ((c : Thread nD τ).loc main_arg3) i : BitVec 8).toNat < 250) (t : Fin 16) (g : Fin 12) (b : Fin 16) (l : Fin 128) :
    Value.G4 m c (ix4 t g b l) = ∑ e : Fin 4, part m c t e b (⟨128 * g.val + l.val, by omega⟩ : Fin 1536) := by
  have hp : Value.pt4Of (ix4 t g b l) = 4 * t.val + 3 := by
    show 4 * (1 * (t.val / 1 - 0) + 1 * (g.val / 12 - 0) + 1 * (b.val / 16 - 0) + 1 * (l.val / 128 - 0)) + 3 = _; omega
  have h : Value.pt4Of (ix4 t g b l) < cfg0.N := by rw [hp, show cfg0.N = 64 from N_0]; omega
  have h' : 4 * t.val + 3 < cfg0.N := hp ▸ h
  have hl : Value.loc4Of (ix4 t g b l) = ix4 (0 : Fin 1) g b l := by
    refine (eq_ix4 _).trans ?_
    congr 1
    · exact Subsingleton.elim (α := Fin 1) _ _
    · exact Fin.ext (by show g.val % 12 = g.val; omega)
    · exact Fin.ext (by show b.val % 16 = b.val; omega)
    · exact Fin.ext (by show l.val % 128 = l.val; omega)
  have at_pt : ∀ (n : Nat) (hn : n < cfg0.N), n = 4 * t.val + 3 → outsAt0 m c n hn = outsAt0 m c (4 * t.val + 3) h' := by
    intro n hn e; subst e; rfl
  unfold Value.G4
  rw [dif_pos h, hl]
  refine (congrArg (fun z => z.1 (ix4 (0 : Fin 1) g b l)) ((Value.outsAt0_sweep m c _ h).symm.trans (at_pt _ h hp))).trans ?_
  refine (congrFun (written m c ⟨4 * t.val + 3, h'⟩ (by show (4 * t.val + 3) % 4 = 3; omega)) _).trans ?_
  refine (out_apply _ g b l).trans ?_
  refine (carried m c hx t _ _ _ 3 (by omega) h').trans ?_
  rw [upTo_sum]
  refine Finset.sum_congr rfl fun e _ => ?_
  refine congrArg₂ (fun y z => part m c t e y z) (Fin.ext ?_) (Fin.ext ?_)
  · show (2 * b.val + l.val % 2) / 2 = b.val; omega
  · show 2 * (128 * (g.val / 2) + (64 * (g.val % 2) + l.val / 2)) + (2 * b.val + l.val % 2) % 2 = 128 * g.val + l.val; omega

end Cert.Kernel2Ideal.Final
-- ==== Proof.Plain2.lean ====
/-
  The second reference's result, part by part and at an index.
-/
module

public import proofs.«01_k».proof.Proof.Gen.Reference2Ideal
public import proofs.«01_k».proof.Proof.Product2
public import proofs.«01_k».proof.Proof.Values
public import Idealize.ShloMosaic.Lib.Pointwise

@[expose] public section

set_option maxRecDepth 4096

noncomputable section

namespace Cert.Reference2Ideal.Read

open Cert.Reference2Ideal Cert.Reference2Ideal.Gen Idealize.ShloMosaic Idealize.ShloMosaic.TcCoe Idealize.ShloMosaic.StableHlo
open Cert.Spec Cert.KernelIdeal.Tile Cert.KernelIdeal.Scales

section
variable {F : FTy → Type} [FloatOps F]

/-- A whole-number constant at every weight. -/
def kI (k : BitVec 32) : IVec S16x4x2560x768 32 := broadcastInDim S16x4x2560x768 ![] bcast_S_S16x4x2560x768 (constantI S_ 32 k)
/-- A constant at every weight. -/
def kF (k : BitVec 32) : FVec F S16x4x2560x768 .f32 := broadcastInDim S16x4x2560x768 ![] bcast_S_S16x4x2560x768 (constant S_ .f32 k)
/-- The low nibbles of the weight bytes. -/
def low (w : Vec F S16x4x2560x768 .i8) : IVec S16x4x2560x768 32 := andi (extui 32 w natLt_8_32) (kI 15#32)
/-- The high nibbles of the weight bytes. -/
def high (w : Vec F S16x4x2560x768 .i8) : IVec S16x4x2560x768 32 := Host.shrui (extui 32 w natLt_8_32) (kI 4#32)
/-- The magnitude of a four-bit code. -/
def mag (n : IVec S16x4x2560x768 32) : FVec F S16x4x2560x768 .f32 :=
  mulf (uitofp .f32 (select (cmpi .eq (andi (Host.shrui n (kI 1#32)) (kI 3#32)) (kI 0#32)) (andi n (kI 1#32)) (Host.shrui (Host.shli (addi (andi n (kI 1#32)) (kI 2#32)) (andi (Host.shrui n (kI 1#32)) (kI 3#32))) (kI 1#32)))) (kF 0x3F000000#32)
/-- The value of a four-bit code. -/
def val (n : IVec S16x4x2560x768 32) : FVec F S16x4x2560x768 .f32 :=
  select (cmpi .eq (andi n (kI 8#32)) (kI 0#32)) (mag n) (Host.negf (mag n))
/-- The scale bytes of the even columns. -/
def evenBytes (e : Vec F S16x4x80x1536 .i8) : IVec S16x4x80x768 8 := Host.slice S16x4x80x768 ![0, 0, 0, 0] ![1, 1, 1, 2] e slicesBy_S16x4x80x1536_S16x4x80x768_0s1_0s1_0s1_0s2
/-- The scale bytes of the odd columns. -/
def oddBytes (e : Vec F S16x4x80x1536 .i8) : IVec S16x4x80x768 8 := Host.slice S16x4x80x768 ![0, 0, 0, 1] ![1, 1, 1, 2] e slicesBy_S16x4x80x1536_S16x4x80x768_0s1_0s1_0s1_1s2
/-- The expert product of half the columns. -/
def product (x : Vec F S16x16x4x2560 .f32) (v : FVec F S16x4x2560x768 .f32) (q : IVec S16x4x80x768 8) : FVec F S16x4x16x768 .f32 :=
  Host.dotGeneral dot_S16x4x16x2560_S16x4x2560x768_S16x4x16x768_3_2_2_3_01_01 none (truncf .bf16 (transpose S16x4x16x2560 [1, 2, 0, 3] x transposes_S16x16x4x2560_S16x4x16x2560_1_2_0_3) bitsLt_bf16_f32)
    (shapeCast _ (mulf (shapeCast _ (truncf .bf16 (mulf v (kF 0x3C800000#32)) bitsLt_bf16_f32) shapeCasts_S16x4x2560x768_S16x4x80x32x768) (broadcastInDim S16x4x80x32x768 ![0, 1, 2, 3, 4] bcast_S16x4x80x1x768_S16x4x80x32x768_0_1_2_3_4 (broadcastInDim S16x4x80x1x768 ![0, 1, 2, 4] bcast_S16x4x80x768_S16x4x80x1x768_0_1_2_4 (truncf .bf16 (bitcastToFloat (F := F) .f32 (Host.shli (addi (extui 32 q natLt_8_32) (broadcastInDim S16x4x80x768 ![] bcast_S_S16x4x80x768 (constantI S_ 32 6#32))) (broadcastInDim S16x4x80x768 ![] bcast_S_S16x4x80x768 (constantI S_ 32 23#32)))) bitsLt_bf16_f32)))) shapeCasts_S16x4x80x32x768_S16x4x2560x768)
/-- The scaled products. -/
def scaled (x : Vec F S16x16x4x2560 .f32) (s : Vec F S16x16x4 .f32) (w : Vec F S16x4x2560x768 .i8) (e : Vec F S16x4x80x1536 .i8) : FVec F S16x4x16x1536 .f32 :=
  mulf (shapeCast _ (concatenate S16x4x16x768x2 4 [⟨S16x4x16x768x1, (broadcastInDim S16x4x16x768x1 ![0, 1, 2, 3] bcast_S16x4x16x768_S16x4x16x768x1_0_1_2_3 (product x (val (low w)) (evenBytes e)))⟩, ⟨S16x4x16x768x1, (broadcastInDim S16x4x16x768x1 ![0, 1, 2, 3] bcast_S16x4x16x768_S16x4x16x768x1_0_1_2_3 (product x (val (high w)) (oddBytes e)))⟩] concatenates_S16x4x16x768x1_S16x4x16x768x1_S16x4x16x768x2_d4) shapeCasts_S16x4x16x768x2_S16x4x16x1536) (broadcastInDim S16x4x16x1536 ![0, 1, 2, 3] bcast_S16x4x16x1_S16x4x16x1536_0_1_2_3 (broadcastInDim S16x4x16x1 ![0, 1, 2] bcast_S16x4x16_S16x4x16x1_0_1_2 (transpose S16x4x16 [1, 2, 0] s transposes_S16x16x4_S16x4x16_1_2_0)))
/-- Their sum over the experts. -/
def total (u : FVec F S16x4x16x1536 .f32) : FVec F S16x16x1536 .f32 := Host.reduceAdd u (constant S_ .f32 0x00000000#32) reducesTo_S16x4x16x1536_S16x16x1536_d1 h_S_
/-- The result. -/
def res (x : Vec F S16x16x4x2560 .f32) (s : Vec F S16x16x4 .f32) (w : Vec F S16x4x2560x768 .i8) (e : Vec F S16x4x80x1536 .i8) : FVec F S16x12x16x128 .f32 :=
  transpose S16x12x16x128 [0, 2, 1, 3] (shapeCast _ (total (scaled x s w e)) shapeCasts_S16x16x1536_S16x16x12x128) transposes_S16x16x12x128_S16x12x16x128_0_2_1_3

end

/-! ## At an index -/

theorem val_low (w : Vec Ideal S16x4x2560x768 .i8) (t : Fin 16) (e : Fin 4) (n : Fin 2560) (c : Fin 768) :
    val (F := Ideal) (low w) (ix4 t e n c) = val4 (nibble (w (ix4 t e n c)) 0) := by
  rw [← refVal_low]
  unfold val mag low kI kF refVal magInt
  pointwise

theorem val_high (w : Vec Ideal S16x4x2560x768 .i8) (t : Fin 16) (e : Fin 4) (n : Fin 2560) (c : Fin 768) :
    val (F := Ideal) (high w) (ix4 t e n c) = val4 (nibble (w (ix4 t e n c)) 1) := by
  rw [← refVal_high]
  unfold val mag high kI kF refVal magInt
  pointwise

theorem even_apply (e : Vec Ideal S16x4x80x1536 .i8) (t : Fin 16) (ex : Fin 4) (k : Fin 80) (c : Fin 768) :
    evenBytes e (ix4 t ex k c) = e (ix4 t ex k (⟨2 * c.val, by omega⟩ : Fin 1536)) := by
  unfold evenBytes
  pointwise

theorem odd_apply (e : Vec Ideal S16x4x80x1536 .i8) (t : Fin 16) (ex : Fin 4) (k : Fin 80) (c : Fin 768) :
    oddBytes e (ix4 t ex k c) = e (ix4 t ex k (⟨2 * c.val + 1, by omega⟩ : Fin 1536)) := by
  unfold oddBytes
  pointwise
  exact congrArg (fun z => e (ix4 t ex k z)) (Fin.ext (Nat.add_comm 1 (2 * c.val)))

theorem product_apply (x : Vec Ideal S16x16x4x2560 .f32) (v : FVec Ideal S16x4x2560x768 .f32) (q : IVec S16x4x80x768 8) (t : Fin 16) (e : Fin 4) (r : Fin 16) (c : Fin 768) :
    product x v q (ix4 t e r c) = ∑ n : Fin 2560, v (ix4 t e n c) * inv64 *
      Ideal.ofBits .f32 (refScale (q (ix4 t e (⟨n.val / 32, by omega⟩ : Fin 80) c))) * x (ix4 r t e n) := by
  have h : product x v q (ix4 t e r c) = ∑ n : Fin 2560, x (ix4 r t e n) * (v (ix4 t e n c) * inv64 *
      Ideal.ofBits .f32 (refScale (q (ix4 t e (⟨n.val / 32, by omega⟩ : Fin 80) c)))) := by
    unfold product kF inv64 refScale
    pointwise
  exact h.trans (Finset.sum_congr rfl fun n _ => mul_comm _ _)

theorem scaled_apply (x : Vec Ideal S16x16x4x2560 .f32) (s : Vec Ideal S16x16x4 .f32) (w : Vec Ideal S16x4x2560x768 .i8) (e : Vec Ideal S16x4x80x1536 .i8)
    (he : ∀ i, (e i).toNat < 250) (t : Fin 16) (ex : Fin 4) (r : Fin 16) (j : Fin 1536) :
    scaled x s w e (ix4 t ex r j) = prod2 (fun n => x (ix4 r t ex n)) (fun n => w (ix4 t ex n (⟨j.val / 2, by omega⟩ : Fin 768))) ⟨j.val % 2, by omega⟩ (fun k => e (ix4 t ex k j))
      * (s (ix3 r t ex) * inv64) := by
  unfold scaled
  pointwise
  rw [← prod2_inside]
  by_cases hj : j.val % 2 < 1
  · rw [dif_pos hj, product_apply]
    congr 1
    refine Finset.sum_congr rfl fun n _ => ?_
    have hq : (⟨2 * (j.val / 2), by omega⟩ : Fin 1536) = j := Fin.ext (by show 2 * (j.val / 2) = j.val; omega)
    rw [val_low, even_apply, hq, refScale_eq _ (he _)]
    simp only [show j.val % 2 = 0 by omega]
  · rw [dif_neg hj, product_apply]
    congr 1
    refine Finset.sum_congr rfl fun n _ => ?_
    have hq : (⟨2 * (j.val / 2) + 1, by omega⟩ : Fin 1536) = j := Fin.ext (by show 2 * (j.val / 2) + 1 = j.val; omega)
    rw [val_high, odd_apply, hq, refScale_eq _ (he _)]
    simp only [show j.val % 2 = 1 by omega]

theorem total_apply (u : FVec Ideal S16x4x16x1536 .f32) (t : Fin 16) (r : Fin 16) (j : Fin 1536) :
    total u (ix3 t r j) = ∑ ex : Fin 4, u (ix4 t ex r j) := by
  unfold total
  pointwise

theorem res_apply (x : Vec Ideal S16x16x4x2560 .f32) (s : Vec Ideal S16x16x4 .f32) (w : Vec Ideal S16x4x2560x768 .i8) (e : Vec Ideal S16x4x80x1536 .i8)
    (t : Fin 16) (g : Fin 12) (r : Fin 16) (l : Fin 128) :
    res x s w e (ix4 t g r l) = ∑ ex : Fin 4, scaled x s w e (ix4 t ex r (⟨128 * g.val + l.val, by omega⟩ : Fin 1536)) := by
  rw [← total_apply]
  unfold res
  pointwise
  exact congrArg (fun z => total (scaled x s w e) (ix3 t r z)) (Fin.ext (by show g.val * 128 + l.val = 128 * g.val + l.val; omega))

end Cert.Reference2Ideal.Read
-- ==== Proof.PlainRun2.lean ====
/-
  The second reference's result, as its run states it, and the range of the scale bytes.
-/
module

public import proofs.«01_k».proof.Defs
public import proofs.«01_k».proof.Proof.Plain2
public import proofs.«01_k».proof.Proof.Gen.Reference2Ideal.Run
public import proofs.«01_k».proof.Proof.Gen.Pre_scales2_in_range
public import Idealize.ShloMosaic.Lib.ReduceAll

@[expose] public section

set_option maxRecDepth 8192

noncomputable section

namespace Cert.Reference2Ideal.Read

open Cert.Reference2Ideal Cert.Reference2Ideal.Gen Idealize.ShloMosaic Idealize.ShloMosaic.TcCoe

variable (m : (ℓ : Loc nD τ sig) → Buf (Elt Ideal) ℓ) (c : Dev nD)

theorem run0 : Value.res_main_v97 m c = res (F := Ideal) (m ((c.tc : Thread nD τ).loc main_arg0)) (m ((c.tc : Thread nD τ).loc main_arg1)) (m ((c.tc : Thread nD τ).loc main_arg2))
    (m ((c.tc : Thread nD τ).loc main_arg3)) := by
  unfold Value.res_main_v97; rfl

/-- The precondition says every scale byte is below 250. -/
theorem in_range (x : FVec Ideal Cert.Pre_scales2_in_range.S16x16x4x2560 .f32) (s : FVec Ideal Cert.Pre_scales2_in_range.S16x16x4 .f32)
    (w : IVec Cert.Pre_scales2_in_range.S16x4x2560x768 8) (e : IVec Cert.Pre_scales2_in_range.S16x4x80x1536 8)
    (h : Cert.Pre_scales2_in_range.fn (F := Ideal) x s w e = fun _ => 1#1) (i : Cert.Pre_scales2_in_range.S16x4x80x1536.Idx) : (e i).toNat < 250 := by
  haveI : Subsingleton Cert.Pre_scales2_in_range.S_.Idx := ⟨fun _ _ => funext fun a => a.elim0⟩
  have key := Host.reduce_andi_all _ _ _ _ (fun a => a.elim0) (congrFun h fun a => a.elim0) i
  have key' : IntOp.cmpi .ult (e i) 250#8 = 1#1 := key
  simpa using IntOp.cmpi_ult.1 key'

end Cert.Reference2Ideal.Read
-- ==== Proof.Value2.lean ====
/-
  The second kernel's result is its reference's.
-/
module

public import proofs.«01_k».proof.Proof.Final2
public import proofs.«01_k».proof.Proof.PlainRun2
public import Idealize.ShloMosaic.Lib.Quiescent

@[expose] public section

set_option maxRecDepth 4096

noncomputable section

namespace Cert.Proof.Second

open Idealize.ShloMosaic Idealize.ShloMosaic.TcCoe Cert.Kernel2Ideal.Final Cert.Reference2Ideal.Read

theorem result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (hx : ∀ i, (m ((c.tc : Thread Cert.Kernel2Ideal.nD Cert.Kernel2Ideal.τ).loc Cert.Kernel2Ideal.main_arg3) i : BitVec 8).toNat < 250) :
    Cert.Reference2Ideal.Value.res_main_v97 m' c = Cert.Kernel2Ideal.Value.G4 m c := by
  rw [run0, h0, h1, h2, h3]
  funext i
  obtain ⟨t, g, b, l, rfl⟩ : ∃ (t : Fin 16) (g : Fin 12) (b : Fin 16) (l : Fin 128), i = ix4 t g b l := ⟨i 0, i 1, i 2, i 3, eq_ix4 i⟩
  refine (res_apply _ _ _ _ t g b l).trans (Eq.trans ?_ (G4_apply m c hx t g b l).symm)
  exact Finset.sum_congr rfl fun e _ => scaled_apply _ _ _ _ hx t e b _

/-- The second reference leaves its arguments as they were; it has no semaphore. -/
theorem referenceFrame : Cert.quiescent_Reference2Ideal := fun m g _ =>
  (θ_run Cert.Reference2Ideal.defs _ _).mono (fun r h => ⟨fun c => (h c).2, sem_eq_zero_of_no_sems (by decide) r.2⟩) (Cert.Reference2Ideal.Value.run m g)

theorem algebraic : Cert.algebraic_Kernel2Ideal_Reference2Ideal_pre_scales2_in_range := by
  intro m g m' g' hp h
  have hx : ∀ (c : Dev Cert.Kernel2Ideal.nD) i, (m ((c.tc : Thread Cert.Kernel2Ideal.nD Cert.Kernel2Ideal.τ).loc Cert.Kernel2Ideal.main_arg3) i : BitVec 8).toNat < 250 :=
    fun c i => in_range _ _ _ _ (hp c) i
  refine ⟨fun c => Cert.Kernel2Ideal.Value.G4 m c, Cert.Kernel2Ideal.Value.run m g, ?_⟩
  refine (θ_run Cert.Reference2Ideal.defs _ _).mono (fun r k c => ?_) (Cert.Reference2Ideal.Value.run m' g')
  obtain ⟨k0, ka⟩ := k c
  obtain ⟨h0, h1, h2, h3⟩ := h c
  exact ⟨k0.trans (result m m' c h0 h1 h2 h3 (hx c)), ka⟩

end Cert.Proof.Second
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scales_in_range
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_scales2_in_range
public import proofs.«01_k».proof.Proof.Gen.Kernel2Ideal.Value
public import proofs.«01_k».proof.Proof.Gen.Reference2Ideal.Run
public import proofs.«01_k».proof.Proof.Preserves
public import proofs.«01_k».proof.Proof.Value
public import proofs.«01_k».proof.Proof.Value2
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_scales_in_range.Gen.facts, Cert.Pre_scales2_in_range.Gen.facts,
  fun m ρ _ => Cert.Kernel.Gen.frame m ρ,
  fun m ρ _ => Cert.KernelIdeal.Gen.frame m ρ,
  fun m ρ _ => Cert.KernelIdeal.Gen.frame m ρ,
  fun m ρ _ => Cert.Proof.referenceFrame m ρ trivial,
  fun m ρ _ => Cert.Proof.referenceFrame m ρ trivial,
  fun m ρ _ => Cert.Kernel2.Gen.frame m ρ,
  fun m ρ _ => Cert.Kernel2Ideal.Gen.frame m ρ,
  fun m ρ _ => Cert.Kernel2Ideal.Gen.frame m ρ,
  fun m ρ _ => Cert.Proof.Second.referenceFrame m ρ trivial,
  fun m ρ _ => Cert.Proof.Second.referenceFrame m ρ trivial,
  Cert.Proof.preserves,
  Cert.Proof.algebraic,
  Cert.Proof.preserves2,
  Cert.Proof.Second.algebraic⟩

end Cert.Proof

end
